-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v73_1)) (v2 : (c : Dev Cert.KernelIdeal.nD) → Buf (Elt Ideal) ((c.tc : Thread Cert.KernelIdeal.nD Cert.KernelIdeal.τ).loc Cert.KernelIdeal.main_v73_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_v73_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v37) = v3 c
          ∧ r.2.mem ((c.tc : Thread Cert.Reference3Ideal.nD Cert.Reference3Ideal.τ).loc Cert.Reference3Ideal.main_v60) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_v32) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)) (v5 : (c : Dev Cert.Kernel5Ideal.nD) → Buf (Elt Ideal) ((c.tc : Thread Cert.Kernel5Ideal.nD Cert.Kernel5Ideal.τ).loc Cert.Kernel5Ideal.main_v2_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_v2_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v31) = v3 c
          ∧ r.2.mem ((c.tc : Thread Cert.Reference5Ideal.nD Cert.Reference5Ideal.τ).loc Cert.Reference5Ideal.main_v32) = v4 c
          ∧ r.2.mem ((c.tc : Thread Cert.Reference5Ideal.nD Cert.Reference5Ideal.τ).loc Cert.Reference5Ideal.main_v48) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_v23) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8x4096x96 : Shape := ⟨3, ![8, 4096, 96]⟩
abbrev S8x4096x64 : Shape := ⟨3, ![8, 4096, 64]⟩
abbrev S_ : Shape := ⟨0, ![]⟩

class Facts : Prop where
  bcast_S_S8x4096x96 : S_.BroadcastsInDim S8x4096x96 (![] : Fin 0 → Fin S8x4096x96.rank)
  bcast_S_S8x4096x64 : S_.BroadcastsInDim S8x4096x64 (![] : Fin 0 → Fin S8x4096x64.rank)

variable [Facts]

def fn {F : FTy → Type} [FloatOps F] (main_arg0 : FVec F S8x4096x96 .f32) (main_arg1 : FVec F S8x4096x96 .f32) (main_arg2 : FVec F S8x4096x64 .f32) (main_arg3 : FVec F S8x4096x64 .f32) : IVec S8x4096x96 1 × IVec S8x4096x96 1 × IVec S8x4096x64 1 × IVec S8x4096x64 1 :=
  let main_v0 : FVec F S8x4096x96 .f32 := Host.absf main_arg0
  let main_cst : FVec F S_ .f32 := constant S_ .f32 0x7F800000#32
  let main_v1 : FVec F S8x4096x96 .f32 := broadcastInDim S8x4096x96 ![] bcast_S_S8x4096x96 main_cst
  let main_v2 : IVec S8x4096x96 1 := cmpf .olt main_v0 main_v1
  let main_v3 : FVec F S8x4096x96 .f32 := Host.absf main_arg1
  let main_cst_0 : FVec F S_ .f32 := constant S_ .f32 0x7F800000#32
  let main_v4 : FVec F S8x4096x96 .f32 := broadcastInDim S8x4096x96 ![] bcast_S_S8x4096x96 main_cst_0
  let main_v5 : IVec S8x4096x96 1 := cmpf .olt main_v3 main_v4
  let main_v6 : FVec F S8x4096x64 .f32 := Host.absf main_arg2
  let main_cst_1 : FVec F S_ .f32 := constant S_ .f32 0x7F800000#32
  let main_v7 : FVec F S8x4096x64 .f32 := broadcastInDim S8x4096x64 ![] bcast_S_S8x4096x64 main_cst_1
  let main_v8 : IVec S8x4096x64 1 := cmpf .olt main_v6 main_v7
  let main_v9 : FVec F S8x4096x64 .f32 := Host.absf main_arg3
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  (main_v2, main_v5, main_v8, main_v11)
-- ==== Kernel.lean ====
abbrev S8x4096x96 : Shape := ⟨3, ![8, 4096, 96]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S1x1x128 : Shape := ⟨3, ![1, 1, 128]⟩
abbrev S8x4096x128 : Shape := ⟨3, ![8, 4096, 128]⟩
abbrev S4x4096x128 : Shape := ⟨3, ![4, 4096, 128]⟩
abbrev S4x512x128 : Shape := ⟨3, ![4, 512, 128]⟩
abbrev S4x512x64 : Shape := ⟨3, ![4, 512, 64]⟩
abbrev S1x256x128 : Shape := ⟨3, ![1, 256, 128]⟩
abbrev S256x128 : Shape := ⟨2, ![256, 128]⟩
abbrev S256x256 : Shape := ⟨2, ![256, 256]⟩
abbrev S1x512x128 : Shape := ⟨3, ![1, 512, 128]⟩
abbrev S512x128 : Shape := ⟨2, ![512, 128]⟩
abbrev S256x512 : Shape := ⟨2, ![256, 512]⟩
abbrev S512x512 : Shape := ⟨2, ![512, 512]⟩

abbrev nBuf : Space → Nat
  | .hbm => 116
  | .vmem => 15
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S8x4096x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x64, .f32⟩
  | .hbm, ⟨37, _⟩ => ⟨S8x4096x64, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S1x1x128, .i32⟩
  | .hbm, ⟨42, _⟩ => ⟨S8x4096x1, .bf16⟩
  | .hbm, ⟨43, _⟩ => ⟨S8x4096x1, .f32⟩
  | .hbm, ⟨44, _⟩ => ⟨S8x4096x1, .f32⟩
  | .hbm, ⟨45, _⟩ => ⟨S8x4096x1, .bf16⟩
  | .hbm, ⟨46, _⟩ => ⟨S_, .i32⟩
  | .hbm, ⟨47, _⟩ => ⟨S1x1x128, .i32⟩
  | .hbm, ⟨48, _⟩ => ⟨S1x1x128, .i1⟩
  | .hbm, ⟨49, _⟩ => ⟨S8x4096x1, .bf16⟩
  | .hbm, ⟨50, _⟩ => ⟨S_, .i32⟩
  | .hbm, ⟨51, _⟩ => ⟨S1x1x128, .i32⟩
  | .hbm, ⟨52, _⟩ => ⟨S1x1x128, .i1⟩
  | .hbm, ⟨53, _⟩ => ⟨S8x4096x1, .bf16⟩
  | .hbm, ⟨54, _⟩ => ⟨S_, .f32⟩
  | .hbm, ⟨55, _⟩ => ⟨S8x4096x96, .f32⟩
  | .hbm, ⟨56, _⟩ => ⟨S8x4096x96, .f32⟩
  | .hbm, ⟨57, _⟩ => ⟨S_, .f32⟩
  | .hbm, ⟨58, _⟩ => ⟨S_, .f32⟩
  | .hbm, ⟨59, _⟩ => ⟨S8x4096x96, .f32⟩
  | .hbm, ⟨60, _⟩ => ⟨S8x4096x96, .f32⟩
  | .hbm, ⟨61, _⟩ => ⟨S_, .i32⟩
  | .hbm, ⟨62, _⟩ => ⟨S_, .f32⟩
  | .hbm, ⟨63, _⟩ => ⟨S8x4096x128, .f32⟩
  | .hbm, ⟨64, _⟩ => ⟨S8x4096x128, .bf16⟩
  | .hbm, ⟨65, _⟩ => ⟨S8x4096x128, .i1⟩
  | .hbm, ⟨66, _⟩ => ⟨S8x4096x128, .bf16⟩
  | .hbm, ⟨67, _⟩ => ⟨S8x4096x128, .bf16⟩
  | .hbm, ⟨68, _⟩ => ⟨S8x4096x128, .i1⟩
  | .hbm, ⟨69, _⟩ => ⟨S8x4096x128, .bf16⟩
  | .hbm, ⟨70, _⟩ => ⟨S8x4096x128, .bf16⟩
  | .hbm, ⟨71, _⟩ => ⟨S_, .i32⟩
  | .hbm, ⟨72, _⟩ => ⟨S1x1x128, .i32⟩
  | .hbm, ⟨73, _⟩ => ⟨S1x1x128, .i1⟩
  | .hbm, ⟨74, _⟩ => ⟨S_, .i32⟩
  | .hbm, ⟨75, _⟩ => ⟨S1x1x128, .i32⟩
  | .hbm, ⟨76, _⟩ => ⟨S1x1x128, .i1⟩
  | .hbm, ⟨77, _⟩ => ⟨S1x1x128, .i1⟩
  | .hbm, ⟨78, _⟩ => ⟨S_, .i32⟩
  | .hbm, ⟨79, _⟩ => ⟨S_, .f32⟩
  | .hbm, ⟨80, _⟩ => ⟨S8x4096x128, .f32⟩
  | .hbm, ⟨81, _⟩ => ⟨S_, .f32⟩
  | .hbm, ⟨82, _⟩ => ⟨S_, .f32⟩
  | .hbm, ⟨83, _⟩ => ⟨S8x4096x128, .i1⟩
  | .hbm, ⟨84, _⟩ => ⟨S8x4096x128, .f32⟩
  | .hbm, ⟨85, _⟩ => ⟨S8x4096x128, .f32⟩
  | .hbm, ⟨86, _⟩ => ⟨S8x4096x128, .bf16⟩
  | .hbm, ⟨87, _⟩ => ⟨S_, .f32⟩
  | .hbm, ⟨88, _⟩ => ⟨S8x4096x64, .f32⟩
  | .hbm, ⟨89, _⟩ => ⟨S8x4096x128, .f32⟩
  | .hbm, ⟨90, _⟩ => ⟨S8x4096x128, .bf16⟩
  | .hbm, ⟨91, _⟩ => ⟨S8x4096x1, .bf16⟩
  | .hbm, ⟨92, _⟩ => ⟨S8x4096x1, .f32⟩
  | .hbm, ⟨93, _⟩ => ⟨S8x4096x1, .f32⟩
  | .hbm, ⟨94, _⟩ => ⟨S8x4096x1, .bf16⟩
  | .hbm, ⟨95, _⟩ => ⟨S_, .i32⟩
  | .hbm, ⟨96, _⟩ => ⟨S1x1x128, .i32⟩
  | .hbm, ⟨97, _⟩ => ⟨S1x1x128, .i1⟩
  | .hbm, ⟨98, _⟩ => ⟨S8x4096x1, .bf16⟩
  | .hbm, ⟨99, _⟩ => ⟨S_, .i32⟩
  | .hbm, ⟨100, _⟩ => ⟨S1x1x128, .i32⟩
  | .hbm, ⟨101, _⟩ => ⟨S1x1x128, .i1⟩
  | .hbm, ⟨102, _⟩ => ⟨S8x4096x1, .bf16⟩
  | .hbm, ⟨103, _⟩ => ⟨S_, .i32⟩
  | .hbm, ⟨104, _⟩ => ⟨S_, .f32⟩
  | .hbm, ⟨105, _⟩ => ⟨S8x4096x128, .f32⟩
  | .hbm, ⟨106, _⟩ => ⟨S8x4096x128, .bf16⟩
  | .hbm, ⟨107, _⟩ => ⟨S8x4096x128, .i1⟩
  | .hbm, ⟨108, _⟩ => ⟨S8x4096x128, .bf16⟩
  | .hbm, ⟨109, _⟩ => ⟨S8x4096x128, .bf16⟩
  | .hbm, ⟨110, _⟩ => ⟨S8x4096x128, .i1⟩
  | .hbm, ⟨111, _⟩ => ⟨S8x4096x128, .bf16⟩
  | .hbm, ⟨112, _⟩ => ⟨S8x4096x128, .bf16⟩
  | .hbm, ⟨113, _⟩ => ⟨S8x4096x128, .f32⟩
  | .hbm, ⟨114, _⟩ => ⟨S8x4096x128, .f32⟩
  | .hbm, ⟨115, _⟩ => ⟨S8x4096x64, .f32⟩
  | .local _ .vmem, ⟨0, _⟩ => ⟨S4x4096x128, .bf16⟩
  | .local _ .vmem, ⟨1, _⟩ => ⟨S4x4096x128, .bf16⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S4x4096x128, .bf16⟩
  | .local _ .vmem, ⟨7, _⟩ => ⟨S4x4096x128, .bf16⟩
  | .local _ .vmem, ⟨8, _⟩ => ⟨S4x4096x128, .f32⟩
  | .local _ .vmem, ⟨9, _⟩ => ⟨S4x4096x128, .f32⟩
  | .local _ .vmem, ⟨10, _⟩ => ⟨S4x512x128, .f32⟩
  | .local _ .vmem, ⟨11, _⟩ => ⟨S4x512x128, .f32⟩
  | .local _ .vmem, ⟨12, _⟩ => ⟨S4x512x64, .f32⟩
  | .local _ .vmem, ⟨13, _⟩ => ⟨S4x512x64, .f32⟩
  | .local _ .vmem, ⟨14, _⟩ => ⟨S4x512x128, .f32⟩
  | _, _ => ⟨S8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_call1_v0 : Ref sig .tc := ⟨.hbm, 62, rfl⟩
abbrev main_v44 : Ref sig .tc := ⟨.hbm, 63, rfl⟩
abbrev main_v45 : Ref sig .tc := ⟨.hbm, 64, rfl⟩
abbrev main_call2_v0 : Ref sig .tc := ⟨.hbm, 65, rfl⟩
abbrev main_call2_v1 : Ref sig .tc := ⟨.hbm, 66, rfl⟩
abbrev main_v46 : Ref sig .tc := ⟨.hbm, 67, rfl⟩
abbrev main_call3_v0 : Ref sig .tc := ⟨.hbm, 68, rfl⟩
abbrev main_call3_v1 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_call4_v0 : Ref sig .tc := ⟨.hbm, 79, rfl⟩
abbrev main_v53 : Ref sig .tc := ⟨.hbm, 80, rfl⟩
abbrev main_cst_12 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_call6_v0 : Ref sig .tc := ⟨.hbm, 104, rfl⟩
abbrev main_v69 : Ref sig .tc := ⟨.hbm, 105, rfl⟩
abbrev main_v70 : Ref sig .tc := ⟨.hbm, 106, rfl⟩
abbrev main_call7_v0 : Ref sig .tc := ⟨.hbm, 107, rfl⟩
abbrev main_call7_v1 : Ref sig .tc := ⟨.hbm, 108, rfl⟩
abbrev main_v71 : Ref sig .tc := ⟨.hbm, 109, rfl⟩
abbrev main_call8_v0 : Ref sig .tc := ⟨.hbm, 110, rfl⟩
abbrev main_call8_v1 : Ref sig .tc := ⟨.hbm, 111, rfl⟩
abbrev main_v72 : Ref sig .tc := ⟨.hbm, 112, rfl⟩
abbrev main_v73_0 : Ref sig .tc := ⟨.hbm, 113, rfl⟩
abbrev main_v73_1 : Ref sig .tc := ⟨.hbm, 114, rfl⟩
abbrev main_v73_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) (c0_i32_7 : BitVec 32) : Fin 3 → Nat :=
  let c0_8 : Index := 0#32
  let arg1 : BitVec 32 := BitVec.ofNat 32 (i 1).val
  let c512_i32 : BitVec 32 := 512#32
  let v9 : BitVec 32 := Scalar.muli arg1 c512_i32
  let v10 : BitVec 32 := v9
  let v11 : BitVec 32 := Scalar.addi v10 c0_i32_7
  let v12 : Index := Scalar.indexCast v11
  let c0_9 : Index := 0#32
  ![0, v12.toNat, 0]
def k0_off2 (i : grid0.Coords) (c0_i32_63 : BitVec 32) : Fin 3 → Nat :=
  let c1 : Index := 1#32
  let arg1 : BitVec 32 := BitVec.ofNat 32 (i 1).val
  let c512_i32 : BitVec 32 := 512#32
  let v9 : BitVec 32 := Scalar.muli arg1 c512_i32
  let v10 : BitVec 32 := v9
  let v87 : BitVec 32 := Scalar.addi v10 c0_i32_63
  let v88 : Index := Scalar.indexCast v87
  let c0_64 : Index := 0#32
  ![1, v88.toNat, 0]
def k0_off3 (i : grid0.Coords) (c0_i32_146 : BitVec 32) : Fin 3 → Nat :=
  let c2 : Index := 2#32
  let arg1 : BitVec 32 := BitVec.ofNat 32 (i 1).val
  let c512_i32 : BitVec 32 := 512#32
  let v9 : BitVec 32 := Scalar.muli arg1 c512_i32
  let v10 : BitVec 32 := v9
  let v199 : BitVec 32 := Scalar.addi v10 c0_i32_146
  let v200 : Index := Scalar.indexCast v199
  let c0_147 : Index := 0#32
  ![2, v200.toNat, 0]
def k0_off4 (i : grid0.Coords) (c0_i32_229 : BitVec 32) : Fin 3 → Nat :=
  let c3 : Index := 3#32
  let arg1 : BitVec 32 := BitVec.ofNat 32 (i 1).val
  let c512_i32 : BitVec 32 := 512#32
  let v9 : BitVec 32 := Scalar.muli arg1 c512_i32
  let v10 : BitVec 32 := v9
  let v311 : BitVec 32 := Scalar.addi v10 c0_i32_229
  let v312 : Index := Scalar.indexCast v311
  let c0_230 : Index := 0#32
  ![3, v312.toNat, 0]
@[reducible] def k0_t1_loop (i : grid0.Coords) : Scf.Loop 32 :=
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_341 : BitVec 32 := 1#32
  ⟨v459, v464, c1_i32_341⟩
def k0_mult2 (i : grid0.Coords) (k0_t1 : Fin (k0_t1_loop i).trips) : BitVec 32 :=
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  v482
def k0_off5 (i : grid0.Coords) (k0_t1 : Fin (k0_t1_loop i).trips) : Fin 3 → Nat :=
  let c0_360 : Index := 0#32
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  let v483 : BitVec 32 := v482
  let c0_i32_359 : BitVec 32 := 0#32
  let v484 : BitVec 32 := Scalar.addi v483 c0_i32_359
  let v485 : Index := Scalar.indexCast v484
  let c0_361 : Index := 0#32
  ![0, v485.toNat, 0]
def k0_off6 (i : grid0.Coords) (k0_t1 : Fin (k0_t1_loop i).trips) : Fin 3 → Nat :=
  let c1_373 : Index := 1#32
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  let v483 : BitVec 32 := v482
  let c0_i32_372 : BitVec 32 := 0#32
  let v497 : BitVec 32 := Scalar.addi v483 c0_i32_372
  let v498 : Index := Scalar.indexCast v497
  let c0_374 : Index := 0#32
  ![1, v498.toNat, 0]
def k0_off7 (i : grid0.Coords) (k0_t1 : Fin (k0_t1_loop i).trips) : Fin 3 → Nat :=
  let c2_413 : Index := 2#32
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  let v483 : BitVec 32 := v482
  let c0_i32_412 : BitVec 32 := 0#32
  let v546 : BitVec 32 := Scalar.addi v483 c0_i32_412
  let v547 : Index := Scalar.indexCast v546
  let c0_414 : Index := 0#32
  ![2, v547.toNat, 0]
def k0_off8 (i : grid0.Coords) (k0_t1 : Fin (k0_t1_loop i).trips) : Fin 3 → Nat :=
  let c3_453 : Index := 3#32
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  let v483 : BitVec 32 := v482
  let c0_i32_452 : BitVec 32 := 0#32
  let v595 : BitVec 32 := Scalar.addi v483 c0_i32_452
  let v596 : Index := Scalar.indexCast v595
  let c0_454 : Index := 0#32
  ![3, v596.toNat, 0]
@[reducible] def k0_t2_loop (i : grid0.Coords) : Scf.Loop 32 :=
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let v461 : BitVec 32 := Scalar.addi v459 v460
  let c1_i32_342 : BitVec 32 := 1#32
  ⟨v464, v461, c1_i32_342⟩
def k0_mult3 (i : grid0.Coords) (k0_t2 : Fin (k0_t2_loop i).trips) : BitVec 32 :=
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  v482
def k0_off9 (i : grid0.Coords) (k0_t2 : Fin (k0_t2_loop i).trips) : Fin 3 → Nat :=
  let c0_360 : Index := 0#32
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  let v483 : BitVec 32 := v482
  let c0_i32_359 : BitVec 32 := 0#32
  let v484 : BitVec 32 := Scalar.addi v483 c0_i32_359
  let v485 : Index := Scalar.indexCast v484
  let c0_361 : Index := 0#32
  ![0, v485.toNat, 0]
def k0_off10 (i : grid0.Coords) (k0_t2 : Fin (k0_t2_loop i).trips) : Fin 3 → Nat :=
  let c1_373 : Index := 1#32
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  let v483 : BitVec 32 := v482
  let c0_i32_372 : BitVec 32 := 0#32
  let v497 : BitVec 32 := Scalar.addi v483 c0_i32_372
  let v498 : Index := Scalar.indexCast v497
  let c0_374 : Index := 0#32
  ![1, v498.toNat, 0]
def k0_off11 (i : grid0.Coords) (k0_t2 : Fin (k0_t2_loop i).trips) : Fin 3 → Nat :=
  let c2_413 : Index := 2#32
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  let v483 : BitVec 32 := v482
  let c0_i32_412 : BitVec 32 := 0#32
  let v546 : BitVec 32 := Scalar.addi v483 c0_i32_412
  let v547 : Index := Scalar.indexCast v546
  let c0_414 : Index := 0#32
  ![2, v547.toNat, 0]
def k0_off12 (i : grid0.Coords) (k0_t2 : Fin (k0_t2_loop i).trips) : Fin 3 → Nat :=
  let c3_453 : Index := 3#32
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  let v483 : BitVec 32 := v482
  let c0_i32_452 : BitVec 32 := 0#32
  let v595 : BitVec 32 := Scalar.addi v483 c0_i32_452
  let v596 : Index := Scalar.indexCast v595
  let c0_454 : Index := 0#32
  ![3, v596.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8x4096x96 : Shape := ⟨3, ![8, 4096, 96]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x128 : Shape := ⟨3, ![8, 4096, 128]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S8x4096x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x64, .f32⟩
  | .hbm, ⟨60, _⟩ => ⟨S8x64x4096, .f32⟩
  | .hbm, ⟨61, _⟩ => ⟨S8x4096x64, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S_, .f32⟩
  | .hbm, ⟨73, _⟩ => ⟨S8x4096, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096x4096, .f32⟩
  | .hbm, ⟨82, _⟩ => ⟨S8x4096x4096, .f32⟩
  | .hbm, ⟨83, _⟩ => ⟨S8x4096x96, .f32⟩
  | .hbm, ⟨84, _⟩ => ⟨S8x4096x96, .f32⟩
  | .hbm, ⟨85, _⟩ => ⟨S_, .f32⟩
  | .hbm, ⟨86, _⟩ => ⟨S8x4096x96, .f32⟩
  | .hbm, ⟨87, _⟩ => ⟨S8x4096x96, .f32⟩
  | .hbm, ⟨88, _⟩ => ⟨S_, .f32⟩
  | .hbm, ⟨89, _⟩ => ⟨S_, .f32⟩
  | .hbm, ⟨90, _⟩ => ⟨S8x4096x96, .f32⟩
  | .hbm, ⟨91, _⟩ => ⟨S8x4096x96, .f32⟩
  | .hbm, ⟨92, _⟩ => ⟨S_, .i32⟩
  | .hbm, ⟨93, _⟩ => ⟨S_, .f32⟩
  | .hbm, ⟨94, _⟩ => ⟨S8x4096x128, .f32⟩
  | .hbm, ⟨95, _⟩ => ⟨S_, .i32⟩
  | .hbm, ⟨96, _⟩ => ⟨S_, .f32⟩
  | .hbm, ⟨97, _⟩ => ⟨S8x4096x128, .f32⟩
  | _, _ => ⟨S8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c : Ref sig .tc := ⟨.hbm, 92, rfl⟩
abbrev main_call2_v0 : Ref sig .tc := ⟨.hbm, 93, rfl⟩
abbrev main_v64 : Ref sig .tc := ⟨.hbm, 94, rfl⟩
abbrev main_c_16 : Ref sig .tc := ⟨.hbm, 95, rfl⟩
abbrev main_call3_v0 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S8x704x1024 : Shape := ⟨3, ![8, 704, 1024]⟩
abbrev S4x704x1024 : Shape := ⟨3, ![4, 704, 1024]⟩
abbrev S4x704x4096 : Shape := ⟨3, ![4, 704, 4096]⟩
abbrev S4x4096x704 : Shape := ⟨3, ![4, 4096, 704]⟩
abbrev S4x4096x1024 : Shape := ⟨3, ![4, 4096, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S1x1024x1024 : Shape := ⟨3, ![1, 1024, 1024]⟩
abbrev S704x1024 : Shape := ⟨2, ![704, 1024]⟩
abbrev S1024x704 : Shape := ⟨2, ![1024, 704]⟩
abbrev S1x256x704 : Shape := ⟨3, ![1, 256, 704]⟩
abbrev S256x704 : Shape := ⟨2, ![256, 704]⟩
abbrev S256x1024 : Shape := ⟨2, ![256, 1024]⟩
abbrev S1x256x1024 : Shape := ⟨3, ![1, 256, 1024]⟩

abbrev nBuf : Space → Nat
  | .hbm => 20
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S8x704x1024, .f32⟩
  | .hbm, ⟨4, _⟩ => ⟨S4x704x1024, .f32⟩
  | .hbm, ⟨5, _⟩ => ⟨S4x704x1024, .f32⟩
  | .hbm, ⟨6, _⟩ => ⟨S4x704x4096, .f32⟩
  | .hbm, ⟨7, _⟩ => ⟨S4x4096x704, .f32⟩
  | .hbm, ⟨8, _⟩ => ⟨S4x4096x704, .bf16⟩
  | .hbm, ⟨9, _⟩ => ⟨S4x704x1024, .f32⟩
  | .hbm, ⟨10, _⟩ => ⟨S4x704x4096, .f32⟩
  | .hbm, ⟨11, _⟩ => ⟨S4x4096x704, .f32⟩
  | .hbm, ⟨12, _⟩ => ⟨S4x4096x704, .bf16⟩
  | .hbm, ⟨13, _⟩ => ⟨S4096x1024, .bf16⟩
  | .hbm, ⟨14, _⟩ => ⟨S8x704x1024, .bf16⟩
  | .hbm, ⟨15, _⟩ => ⟨S4x704x1024, .bf16⟩
  | .hbm, ⟨16, _⟩ => ⟨S4x4096x1024, .bf16⟩
  | .hbm, ⟨17, _⟩ => ⟨S4x704x1024, .bf16⟩
  | .hbm, ⟨18, _⟩ => ⟨S4x704x1024, .bf16⟩
  | .hbm, ⟨19, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024, .f32⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S704x1024, .f32⟩
  | .local _ .vmem, ⟨18, _⟩ => ⟨S704x1024, .f32⟩
  | .local _ .vmem, ⟨19, _⟩ => ⟨S704x1024, .f32⟩
  | .local _ .vmem, ⟨20, _⟩ => ⟨S1024x704, .bf16⟩
  | .local _ .vmem, ⟨21, _⟩ => ⟨S1024x704, .bf16⟩
  | .local _ .vmem, ⟨22, _⟩ => ⟨S1024x704, .bf16⟩
  | .local _ .vmem, ⟨23, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v197 : BitVec 1 := Scalar.cmpi .eq arg1 c3_i32
  let v203 : BitVec 32 := Scalar.extui v197
  let c0_i32_113 : BitVec 32 := 0#32
  let v204 : BitVec 1 := Scalar.cmpi .ne v203 c0_i32_113
  v204

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x704x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x704x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== Reference2Ideal.lean ====
abbrev S4096x1024 : Shape := ⟨2, ![4096, 1024]⟩
abbrev S1x1024 : Shape := ⟨2, ![1, 1024]⟩
abbrev S8x704x1024 : Shape := ⟨3, ![8, 704, 1024]⟩
abbrev S4x704x1024 : Shape := ⟨3, ![4, 704, 1024]⟩
abbrev S4x4096x1024 : Shape := ⟨3, ![4, 4096, 1024]⟩
abbrev S4x4096x704 : Shape := ⟨3, ![4, 4096, 704]⟩
abbrev S_ : Shape := ⟨0, ![]⟩
abbrev S1024x4x704 : Shape := ⟨3, ![1024, 4, 704]⟩
abbrev S4096x4x704 : Shape := ⟨3, ![4096, 4, 704]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S8x704x1024, .f32⟩
  | .hbm, ⟨4, _⟩ => ⟨S4x704x1024, .f32⟩
  | .hbm, ⟨5, _⟩ => ⟨S4x4096x1024, .f32⟩
  | .hbm, ⟨6, _⟩ => ⟨S4x704x1024, .f32⟩
  | .hbm, ⟨7, _⟩ => ⟨S4x704x1024, .f32⟩
  | .hbm, ⟨8, _⟩ => ⟨S4x4096x704, .f32⟩
  | .hbm, ⟨9, _⟩ => ⟨S4x4096x704, .f32⟩
  | .hbm, ⟨10, _⟩ => ⟨S4x4096x704, .f32⟩
  | .hbm, ⟨11, _⟩ => ⟨S4x4096x704, .f32⟩
  | .hbm, ⟨12, _⟩ => ⟨S_, .f32⟩
  | .hbm, ⟨13, _⟩ => ⟨S4x4096x704, .f32⟩
  | .hbm, ⟨14, _⟩ => ⟨S4x4096x704, .f32⟩
  | .hbm, ⟨15, _⟩ => ⟨S_, .f32⟩
  | .hbm, ⟨16, _⟩ => ⟨S4x4096x704, .f32⟩
  | .hbm, ⟨17, _⟩ => ⟨S4x4096x704, .f32⟩
  | .hbm, ⟨18, _⟩ => ⟨S_, .f32⟩
  | .hbm, ⟨19, _⟩ => ⟨S4x4096x704, .f32⟩
  | .hbm, ⟨20, _⟩ => ⟨S4x4096x704, .f32⟩
  | .hbm, ⟨21, _⟩ => ⟨S4x4096x704, .f32⟩
  | .hbm, ⟨22, _⟩ => ⟨S4x4096x704, .f32⟩
  | .hbm, ⟨23, _⟩ => ⟨S4x4096x704, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x4x704, .f32⟩
  | .hbm, ⟨30, _⟩ => ⟨S4x704x1024, .f32⟩
  | .hbm, ⟨31, _⟩ => ⟨S4096x4x704, .f32⟩
  | .hbm, ⟨32, _⟩ => ⟨S4x4096x704, .f32⟩
  | .hbm, ⟨33, _⟩ => ⟨S4x4096x704, .f32⟩
  | .hbm, ⟨34, _⟩ => ⟨S4x4096x704, .f32⟩
  | .hbm, ⟨35, _⟩ => ⟨S4x4096x704, .f32⟩
  | .hbm, ⟨36, _⟩ => ⟨S4x4096x704, .f32⟩
  | .hbm, ⟨37, _⟩ => ⟨S4x4096x704, .f32⟩
  | .hbm, ⟨38, _⟩ => ⟨S4x4096x704, .f32⟩
  | .hbm, ⟨39, _⟩ => ⟨S4x704x1024, .f32⟩
  | .hbm, ⟨40, _⟩ => ⟨S4x4096x1024, .f32⟩
  | .hbm, ⟨41, _⟩ => ⟨S4x704x1024, .f32⟩
  | .hbm, ⟨42, _⟩ => ⟨S4x4096x1024, .f32⟩
  | .hbm, ⟨43, _⟩ => ⟨S4x4096x1024, .f32⟩
  | .hbm, ⟨44, _⟩ => ⟨S4x4096x1024, .bf16⟩
  | .hbm, ⟨45, _⟩ => ⟨S4x704x1024, .bf16⟩
  | .hbm, ⟨46, _⟩ => ⟨S4x704x1024, .bf16⟩
  | .hbm, ⟨47, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S2048x1024 : Shape := ⟨2, ![2048, 1024]⟩
abbrev S4096x384 : Shape := ⟨2, ![4096, 384]⟩
abbrev S4096x512 : Shape := ⟨2, ![4096, 512]⟩
abbrev S4096x128 : Shape := ⟨2, ![4096, 128]⟩
abbrev S512x1024 : Shape := ⟨2, ![512, 1024]⟩
abbrev S512x384 : Shape := ⟨2, ![512, 384]⟩
abbrev S512x512 : Shape := ⟨2, ![512, 512]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1024 : Shape := ⟨1, ![1024]⟩

abbrev nBuf : Space → Nat
  | .hbm => 17
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S4096x384, .f32⟩
  | .hbm, ⟨6, _⟩ => ⟨S4096x512, .f32⟩
  | .hbm, ⟨7, _⟩ => ⟨S4096x1024, .f32⟩
  | .hbm, ⟨8, _⟩ => ⟨S4096x128, .f32⟩
  | .hbm, ⟨9, _⟩ => ⟨S4096x128, .f32⟩
  | .hbm, ⟨10, _⟩ => ⟨S4096x1024, .f32⟩
  | .hbm, ⟨11, _⟩ => ⟨S2048x1024, .bf16⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2048x1024, .bf16⟩
  | .local _ .vmem, ⟨6, _⟩ => ⟨S512x384, .f32⟩
  | .local _ .vmem, ⟨7, _⟩ => ⟨S512x384, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S2048x1024, .bf16⟩
  | .local _ .vmem, ⟨24, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_35 : BitVec 32 := 0#32
  let v71 : BitVec 1 := Scalar.cmpi .ne v70 c0_i32_35
  v71

def k0_cond2 (i : grid0.Coords) : BitVec 1 :=
  let arg0 : BitVec 32 := BitVec.ofNat 32 (i 0).val
  let c0_i32 : BitVec 32 := 0#32
  let v69 : BitVec 1 := Scalar.cmpi .eq arg0 c0_i32
  let v_true : BitVec 1 := 1#1
  let v72 : BitVec 1 := Scalar.xori v69 v_true
  let v73 : BitVec 32 := Scalar.extui v72
  let c0_i32_36 : BitVec 32 := 0#32
  let v74 : BitVec 1 := Scalar.cmpi .ne v73 c0_i32_36
  v74

def k0_cond5 (i : grid0.Coords) : BitVec 1 :=
  let arg0 : BitVec 32 := BitVec.ofNat 32 (i 0).val
  let c7_i32 : BitVec 32 := 7#32
  let v76 : BitVec 1 := Scalar.cmpi .eq arg0 c7_i32
  let v82 : BitVec 32 := Scalar.extui v76
  let c0_i32_41 : BitVec 32 := 0#32
  let v83 : BitVec 1 := Scalar.cmpi .ne v82 c0_i32_41
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S4096x1024 : Shape := ⟨2, ![4096, 1024]⟩
abbrev S1x1024 : Shape := ⟨2, ![1, 1024]⟩
abbrev S2048x1024 : Shape := ⟨2, ![2048, 1024]⟩
abbrev S4096x384 : Shape := ⟨2, ![4096, 384]⟩
abbrev S4096x512 : Shape := ⟨2, ![4096, 512]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S4096x2048 : Shape := ⟨2, ![4096, 2048]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S4096x384, .f32⟩
  | .hbm, ⟨6, _⟩ => ⟨S4096x512, .f32⟩
  | .hbm, ⟨7, _⟩ => ⟨S4096x1024, .f32⟩
  | .hbm, ⟨8, _⟩ => ⟨S4096x128, .f32⟩
  | .hbm, ⟨9, _⟩ => ⟨S4096x128, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x2048, .f32⟩
  | .hbm, ⟨38, _⟩ => ⟨S4096x2048, .f32⟩
  | .hbm, ⟨39, _⟩ => ⟨S4096x384, .f32⟩
  | .hbm, ⟨40, _⟩ => ⟨S4096x512, .f32⟩
  | .hbm, ⟨41, _⟩ => ⟨S4096x1024, .f32⟩
  | .hbm, ⟨42, _⟩ => ⟨S4096x128, .f32⟩
  | .hbm, ⟨43, _⟩ => ⟨S4096x128, .f32⟩
  | .hbm, ⟨44, _⟩ => ⟨S4096x2048, .f32⟩
  | .hbm, ⟨45, _⟩ => ⟨S2048x1024, .f32⟩
  | .hbm, ⟨46, _⟩ => ⟨S1024x2048, .f32⟩
  | .hbm, ⟨47, _⟩ => ⟨S4096x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S2048x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S8x704x1024 : Shape := ⟨3, ![8, 704, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S512x1024 : Shape := ⟨2, ![512, 1024]⟩
abbrev S512x704 : Shape := ⟨2, ![512, 704]⟩
abbrev S1x512x704 : Shape := ⟨3, ![1, 512, 704]⟩

abbrev nBuf : Space → Nat
  | .hbm => 14
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8x704x1024, .f32⟩
  | .hbm, ⟨6, _⟩ => ⟨S4x704x1024, .f32⟩
  | .hbm, ⟨7, _⟩ => ⟨S8x704x1024, .bf16⟩
  | .hbm, ⟨8, _⟩ => ⟨S4x704x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4x4096x704, .bf16⟩
  | .hbm, ⟨13, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_41 : BitVec 32 := 0#32
  let v57 : BitVec 1 := Scalar.cmpi .ne v56 c0_i32_41
  v57

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S4096x1024 : Shape := ⟨2, ![4096, 1024]⟩
abbrev S1x1024 : Shape := ⟨2, ![1, 1024]⟩
abbrev S8x704x1024 : Shape := ⟨3, ![8, 704, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S4x704x4096 : Shape := ⟨3, ![4, 704, 4096]⟩
abbrev S4x4096x704 : Shape := ⟨3, ![4, 4096, 704]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8x704x1024, .f32⟩
  | .hbm, ⟨6, _⟩ => ⟨S4x704x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4x704x1024, .f32⟩
  | .hbm, ⟨30, _⟩ => ⟨S4x704x4096, .f32⟩
  | .hbm, ⟨31, _⟩ => ⟨S4x4096x704, .f32⟩
  | .hbm, ⟨32, _⟩ => ⟨S4x704x1024, .f32⟩
  | .hbm, ⟨33, _⟩ => ⟨S4x704x4096, .f32⟩
  | .hbm, ⟨34, _⟩ => ⟨S4x4096x704, .f32⟩
  | .hbm, ⟨35, _⟩ => ⟨S4x4096x704, .f32⟩
  | .hbm, ⟨36, _⟩ => ⟨S4x4096x704, .f32⟩
  | .hbm, ⟨37, _⟩ => ⟨S_, .f32⟩
  | .hbm, ⟨38, _⟩ => ⟨S4x4096x704, .f32⟩
  | .hbm, ⟨39, _⟩ => ⟨S4x4096x704, .f32⟩
  | .hbm, ⟨40, _⟩ => ⟨S_, .f32⟩
  | .hbm, ⟨41, _⟩ => ⟨S4x4096x704, .f32⟩
  | .hbm, ⟨42, _⟩ => ⟨S4x4096x704, .f32⟩
  | .hbm, ⟨43, _⟩ => ⟨S4x4096x704, .f32⟩
  | .hbm, ⟨44, _⟩ => ⟨S4x4096x704, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4x4096x704, .bf16⟩
  | .hbm, ⟨51, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S8x704x1024 : Shape := ⟨3, ![8, 704, 1024]⟩
abbrev S4x704x1024 : Shape := ⟨3, ![4, 704, 1024]⟩
abbrev S4x4096x704 : Shape := ⟨3, ![4, 4096, 704]⟩
abbrev S8x128 : Shape := ⟨2, ![8, 128]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S512x1024 : Shape := ⟨2, ![512, 1024]⟩
abbrev S512x704 : Shape := ⟨2, ![512, 704]⟩
abbrev S1x512x704 : Shape := ⟨3, ![1, 512, 704]⟩
abbrev S1 : Shape := ⟨1, ![1]⟩
abbrev S1x1 : Shape := ⟨2, ![1, 1]⟩

abbrev nBuf : Space → Nat
  | .hbm => 16
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8x704x1024, .f32⟩
  | .hbm, ⟨6, _⟩ => ⟨S4x704x1024, .f32⟩
  | .hbm, ⟨7, _⟩ => ⟨S4096x1024, .f32⟩
  | .hbm, ⟨8, _⟩ => ⟨S8x704x1024, .bf16⟩
  | .hbm, ⟨9, _⟩ => ⟨S4x704x1024, .bf16⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4x4096x704, .bf16⟩
  | .hbm, ⟨14, _⟩ => ⟨S4x4096x704, .bf16⟩
  | .hbm, ⟨15, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v56 : BitVec 1 := Scalar.cmpi .eq arg1 c3_i32
  let v57 : BitVec 32 := Scalar.extui v56
  let c0_i32_42 : BitVec 32 := 0#32
  let v58 : BitVec 1 := Scalar.cmpi .ne v57 c0_i32_42
  v58

def k0_cond1 (i : grid0.Coords) : BitVec 1 :=
  let arg1 : BitVec 32 := BitVec.ofNat 32 (i 1).val
  let c0_i32_0 : BitVec 32 := 0#32
  let v1 : BitVec 1 := Scalar.cmpi .eq arg1 c0_i32_0
  let v2 : BitVec 32 := Scalar.extui v1
  let c0_i32_1 : BitVec 32 := 0#32
  let v3 : BitVec 1 := Scalar.cmpi .ne v2 c0_i32_1
  v3

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v82 : BitVec 32 := Scalar.extui v0
  let c0_i32_58 : BitVec 32 := 0#32
  let v83 : BitVec 1 := Scalar.cmpi .ne v82 c0_i32_58
  v83

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v84 : BitVec 1 := Scalar.xori v0 v_true
  let v85 : BitVec 32 := Scalar.extui v84
  let c0_i32_59 : BitVec 32 := 0#32
  let v86 : BitVec 1 := Scalar.cmpi .ne v85 c0_i32_59
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference5Ideal.lean ====
abbrev S4096x1024 : Shape := ⟨2, ![4096, 1024]⟩
abbrev S1x1024 : Shape := ⟨2, ![1, 1024]⟩
abbrev S8x704x1024 : Shape := ⟨3, ![8, 704, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S4x704x4096 : Shape := ⟨3, ![4, 704, 4096]⟩
abbrev S4x4096x704 : Shape := ⟨3, ![4, 4096, 704]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8x704x1024, .f32⟩
  | .hbm, ⟨6, _⟩ => ⟨S4x704x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4x704x1024, .f32⟩
  | .hbm, ⟨31, _⟩ => ⟨S4x704x4096, .f32⟩
  | .hbm, ⟨32, _⟩ => ⟨S4x4096x704, .f32⟩
  | .hbm, ⟨33, _⟩ => ⟨S4x704x1024, .f32⟩
  | .hbm, ⟨34, _⟩ => ⟨S4x704x4096, .f32⟩
  | .hbm, ⟨35, _⟩ => ⟨S4x4096x704, .f32⟩
  | .hbm, ⟨36, _⟩ => ⟨S4x4096x704, .f32⟩
  | .hbm, ⟨37, _⟩ => ⟨S4x4096x704, .f32⟩
  | .hbm, ⟨38, _⟩ => ⟨S_, .f32⟩
  | .hbm, ⟨39, _⟩ => ⟨S4x4096x704, .f32⟩
  | .hbm, ⟨40, _⟩ => ⟨S4x4096x704, .f32⟩
  | .hbm, ⟨41, _⟩ => ⟨S_, .f32⟩
  | .hbm, ⟨42, _⟩ => ⟨S4x4096x704, .f32⟩
  | .hbm, ⟨43, _⟩ => ⟨S4x4096x704, .f32⟩
  | .hbm, ⟨44, _⟩ => ⟨S4x4096x704, .f32⟩
  | .hbm, ⟨45, _⟩ => ⟨S4x4096x704, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S4x4096x704, .bf16⟩
  | .hbm, ⟨52, _⟩ => ⟨S4x4096x704, .bf16⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S2048x1024 : Shape := ⟨2, ![2048, 1024]⟩
abbrev S4096x384 : Shape := ⟨2, ![4096, 384]⟩
abbrev S4096x512 : Shape := ⟨2, ![4096, 512]⟩
abbrev S4096x128 : Shape := ⟨2, ![4096, 128]⟩
abbrev S512x1024 : Shape := ⟨2, ![512, 1024]⟩
abbrev S512x384 : Shape := ⟨2, ![512, 384]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S4096x384, .f32⟩
  | .hbm, ⟨7, _⟩ => ⟨S4096x512, .f32⟩
  | .hbm, ⟨8, _⟩ => ⟨S4096x1024, .f32⟩
  | .hbm, ⟨9, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2048x1024, .bf16⟩
  | .local _ .vmem, ⟨6, _⟩ => ⟨S512x384, .f32⟩
  | .local _ .vmem, ⟨7, _⟩ => ⟨S512x384, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4096x1024 : Shape := ⟨2, ![4096, 1024]⟩
abbrev S1x1024 : Shape := ⟨2, ![1, 1024]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S4096x2048 : Shape := ⟨2, ![4096, 2048]⟩
abbrev S4096x384 : Shape := ⟨2, ![4096, 384]⟩
abbrev S4096x512 : Shape := ⟨2, ![4096, 512]⟩
abbrev S4096x128 : Shape := ⟨2, ![4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x2048, .f32⟩
  | .hbm, ⟨28, _⟩ => ⟨S4096x2048, .f32⟩
  | .hbm, ⟨29, _⟩ => ⟨S4096x384, .f32⟩
  | .hbm, ⟨30, _⟩ => ⟨S4096x512, .f32⟩
  | .hbm, ⟨31, _⟩ => ⟨S4096x1024, .f32⟩
  | .hbm, ⟨32, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel7.lean ====
abbrev S4096x1024 : Shape := ⟨2, ![4096, 1024]⟩
abbrev S8x4096x64 : Shape := ⟨3, ![8, 4096, 64]⟩
abbrev S4096x512 : Shape := ⟨2, ![4096, 512]⟩
abbrev S1x1024 : Shape := ⟨2, ![1, 1024]⟩
abbrev S1024x1024 : Shape := ⟨2, ![1024, 1024]⟩
abbrev S512x1024 : Shape := ⟨2, ![512, 1024]⟩
abbrev S8x512x64 : Shape := ⟨3, ![8, 512, 64]⟩
abbrev S512x512 : Shape := ⟨2, ![512, 512]⟩
abbrev S1x512x64 : Shape := ⟨3, ![1, 512, 64]⟩
abbrev S512x64 : Shape := ⟨2, ![512, 64]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S8x4096x64, .f32⟩
  | .hbm, ⟨2, _⟩ => ⟨S4096x512, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S8x512x64, .f32⟩
  | .local _ .vmem, ⟨3, _⟩ => ⟨S8x512x64, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x1024 : Shape := ⟨2, ![4096, 1024]⟩
abbrev S8x4096x64 : Shape := ⟨3, ![8, 4096, 64]⟩
abbrev S4096x512 : Shape := ⟨2, ![4096, 512]⟩
abbrev S1x1024 : Shape := ⟨2, ![1, 1024]⟩
abbrev S1024x1024 : Shape := ⟨2, ![1024, 1024]⟩
abbrev S4096x8x64 : Shape := ⟨3, ![4096, 8, 64]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x4096x64, .f32⟩
  | .hbm, ⟨2, _⟩ => ⟨S4096x512, .f32⟩
  | .hbm, ⟨3, _⟩ => ⟨S1x1024, .f32⟩
  | .hbm, ⟨4, _⟩ => ⟨S1024x1024, .f32⟩
  | .hbm, ⟨5, _⟩ => ⟨S4096x8x64, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.WordFrame.lean ====
/-
  The frame of the gradient kernel with its constants as printed, at any float values, nothing said of the three outputs' contents.
-/
module

public import proofs.«01_k».proof.Proof.WordRun
public import proofs.«01_k».proof.Proof.Gen.Kernel.Frame
public import Idealize.ShloMosaic.Lib.Claim

@[expose] public section

set_option maxRecDepth 16384

noncomputable section

namespace Cert.AttnWord

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt16 (t : Fin cfg0.N) : t.val < 16 := Nat.lt_of_lt_of_eq t.isLt N_0

theorem first_iff : ∀ t : Fin cfg0.N, isFirst (grid0.coords t) ↔ t.val % 8 = 0 :=
  (fun t => by
    have ht : t.val < 16 := Nat.lt_of_lt_of_eq t.isLt N_0
    have e1 : (grid0.coords t 1).val = t.val / 1 % 8 := Pipeline.Grid.coords_val t 1 (by decide) rfl
    simp only [isFirst, e1]
    word_cmp
   : ∀ t : Fin grid0.N, isFirst (grid0.coords t) ↔ t.val % 8 = 0)

theorem last_iff : ∀ t : Fin cfg0.N, isLast (grid0.coords t) ↔ t.val % 8 = 7 :=
  (fun t => by
    have ht : t.val < 16 := Nat.lt_of_lt_of_eq t.isLt N_0
    have e1 : (grid0.coords t 1).val = t.val / 1 % 8 := Pipeline.Grid.coords_val t 1 (by decide) rfl
    simp only [isLast, e1]
    word_cmp
   : ∀ t : Fin grid0.N, isLast (grid0.coords t) ↔ t.val % 8 = 7)

abbrev mem0 (t : Fin cfg0.N) : Memref sig .tc .vmem S4x4096x128 .bf16 := win0_0.stage (cfg0.slots t 0)
abbrev mem1 (t : Fin cfg0.N) : Memref sig .tc .vmem S4x512x128 .bf16 := win0_1.stage (cfg0.slots t 1)
abbrev mem2 (t : Fin cfg0.N) : Memref sig .tc .vmem S4x512x128 .bf16 := win0_2.stage (cfg0.slots t 2)
abbrev mem3 (t : Fin cfg0.N) : Memref sig .tc .vmem S4x4096x128 .bf16 := win0_3.stage (cfg0.slots t 3)
abbrev mem4 (t : Fin cfg0.N) : Memref sig .tc .vmem S4x4096x128 .f32 := win0_4.stage (cfg0.slots t 4)
abbrev mem5 (t : Fin cfg0.N) : Memref sig .tc .vmem S4x512x128 .f32 := win0_5.stage (cfg0.slots t 5)
abbrev mem6 (t : Fin cfg0.N) : Memref sig .tc .vmem S4x512x64 .f32 := win0_6.stage (cfg0.slots t 6)
/-- The scratch block of the values' gradient. -/
abbrev mem7 : Memref sig .tc .vmem S4x512x128 .f32 := Memref.whole cc0_scratch0

/-- The outputs, of whose contents nothing is said. -/
def out (w : Fin 7) : Bool := decide (4 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
    | ⟨5, h⟩ => Dat.unnamed (cfg := cfg0) ⟨5, h⟩ t
    | ⟨6, h⟩ => Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem scratch (c : Dev nD) :
    (Pipeline.ΦA spec0 c : sProp 𝕄) = iprop(iprop((∃ d, owns (c : Thread nD τ) mem7 fullShare d)) ∗ (∃ r, prngReg c r)) := by
  unfold Pipeline.ΦA; rw [scopedRest0_eq]; simp only [mem7, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare d)
    ∗ (∃ d, owns (c : Thread nD τ) (mem5 t) fullShare d)
    ∗ (∃ d, owns (c : Thread nD τ) (mem6 t) fullShare d))

def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ (∃ d, owns (c : Thread nD τ) (mem4 t) fullShare d)
    ∗ (∃ d, owns (c : Thread nD τ) (mem5 t) fullShare d)
    ∗ (∃ d, owns (c : Thread nD τ) (mem6 t) fullShare d))

/-- Reading a buffer after the run's writes gives its owner again, at some contents. -/
theorem some_read {sh : Shape} {φ : EltTy} (c : Dev nD) (r : Memref sig .tc .vmem sh φ) (g : r.view.ty.Contents (Elt F)) :
    (r.view.loc (c : Thread nD τ) ↦[r.view.set]{fullShare} g : sProp 𝕄) ⊢ iprop(∃ d, owns (c : Thread nD τ) r fullShare d) := by
  iintro H
  unfold owns
  iexists _, _; isplitr; swap; · iexact H
  ipureintro; rfl

/-- What the body leaves beside the outputs is what it found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl, after_0, after_1, after_2, after_3]
  rw [show (dats m 0 c).Φ t.castSucc = Pipeline.ΦA spec0 c from rfl, scratch]
  have hN : t.val < 16 := lt16 t
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  by_cases h0 : t.val % 8 = 0
  · have h1 : ¬t.val % 8 = 7 := by omega
    iapply ((runFirst c (grid0.coords t) _ _ _ _ _ _ _ _ _ _ _ _ _ _ _ _ ((first_iff t).mpr h0) (fun h => h1 ((last_iff t).mp h)) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, ⟨%f4, H4⟩, ⟨%f5, H5⟩, ⟨%f6, H6⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (some_read c _ _) $$ H4
    isplitl [H5]; · iapply (some_read c _ _) $$ H5
    iapply (some_read c _ _) $$ H6
  · by_cases h1 : t.val % 8 = 7
    · iapply ((runLast c (grid0.coords t) _ _ _ _ _ _ _ _ _ _ _ _ _ _ _ _ (fun h => h0 ((first_iff t).mp h)) ((last_iff t).mpr h1) (iblk m c 0 t) (iblk m c 1 t) (iblk m c 2 t) (iblk m c 3 t) d4).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%f5, H5⟩, ⟨%f6, H6⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iapply (some_read c _ _) $$ H4
      isplitl [H5]; · iapply (some_read c _ _) $$ H5
      iapply (some_read c _ _) $$ H6
    · iapply ((runMiddle c (grid0.coords t) _ _ _ _ _ _ _ _ _ _ _ _ _ _ _ _ (fun h => h0 ((first_iff t).mp h)) (fun h => h1 ((last_iff t).mp h)) (iblk m c 0 t) (iblk m c 1 t) (iblk m c 2 t) (iblk m c 3 t) d4).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%f5, H5⟩, ⟨%f6, H6⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iapply (some_read c _ _) $$ H4
      isplitl [H5]; · iapply (some_read c _ _) $$ H5
      iapply (some_read c _ _) $$ H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ out := fun t => by
  rw [bigSep_W0, bigSep_W0, defs₀_row]
  exact triple_restated (sound_body m c t) rfl .rfl fun _ => .rfl

set_option backward.isDefEq.respectTransparency.types false in
/-- The program runs, its inputs are kept, and every counter is zero at the end. -/
theorem run_main_quiescent : θ_run defs (onTc (τ := τ) (main (F := F))) (s₀ m ρ) (fun r => (Pipeline.RDat.FramePost (cfgs 0) (fun c => (dats m 0 c).toRForget out) (V m)) r ∧ r.2.sem = fun _ => 0) :=
  Pipeline.θ_run_frame_track_forget (Q' := _) cfgs (dats m) (0 : Fin 1) launch0 defs₀ Variants.none out m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments end unchanged and every counter is zero. -/
theorem run_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (h.1 c).2 main_arg2 (Pipeline.mem_restRefs_of main_arg2 (by decide) (by decide)) |>.trans (V_main_arg2 m c),
      (h.1 c).2 main_arg3 (Pipeline.mem_restRefs_of main_arg3 (by decide) (by decide)) |>.trans (V_main_arg3 m c)⟩, h.2⟩)
    (run_main_quiescent m ρ)

end Cert.AttnWord

end
-- ==== Proof.AttnRun.lean ====
/-
  What one grid point of the attention gradient's kernel leaves in its buffers, over the idealized program: the body run
  once per control case (first key block, a middle one, the last), the written buffers' contents found by the run as
  lists of stores.
-/
module

public import proofs.«01_k».proof.Proof.Gen.KernelIdeal.Frame
public import proofs.«01_k».proof.Proof.Gen.KernelIdeal.Loops
public import Idealize.ShloMosaic.Lib.LoopRemainder

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point is its head block's first: the key block number is zero. -/
abbrev isFirst (i : grid0.Coords) : Prop :=
  (Scalar.cmpi .ne (Scalar.extui (Scalar.cmpi .eq (BitVec.ofNat 32 (i 1).val) 0#32)) 0#32) = 1#1
/-- The point is its head block's last: the key block number is seven. -/
abbrev isLast (i : grid0.Coords) : Prop :=
  (Scalar.cmpi .ne (Scalar.extui (Scalar.cmpi .eq (BitVec.ofNat 32 (i 1).val) 7#32)) 0#32) = 1#1

set_option maxHeartbeats 1600000 in
/-- The body at a head block's first key block: the query gradient's block is zeroed first. -/
noncomputable def runFirst (c : Dev nD) (i : grid0.Coords) (arg2 : Memref sig .tc .vmem S4x4096x128 .bf16) (harg2 : arg2.IsWhole)
    (arg3 : Memref sig .tc .vmem S4x512x128 .bf16) (harg3 : arg3.IsWhole) (arg4 : Memref sig .tc .vmem S4x512x128 .bf16) (harg4 : arg4.IsWhole)
    (arg5 : Memref sig .tc .vmem S4x4096x128 .bf16) (harg5 : arg5.IsWhole) (arg6 : Memref sig .tc .vmem S4x4096x128 .f32) (harg6 : arg6.IsWhole)
    (arg7 : Memref sig .tc .vmem S4x512x128 .f32) (harg7 : arg7.IsWhole) (arg8 : Memref sig .tc .vmem S4x512x64 .f32) (harg8 : arg8.IsWhole)
    (arg9 : Memref sig .tc .vmem S4x512x128 .f32) (harg9 : arg9.IsWhole)
    (hc0 : isFirst i) (hc1 : ¬isLast i)
    (x0 : Vec F S4x4096x128 .bf16) (x1 : Vec F S4x512x128 .bf16) (x2 : Vec F S4x512x128 .bf16) (x3 : Vec F S4x4096x128 .bf16) :
    Σ' (L6 : List (View.Piece (Elt F) S4x4096x128 .f32)) (L7 : List (View.Piece (Elt F) S4x512x128 .f32)),
      { L8 : List (View.Piece (Elt F) S4x512x64 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (∃ f, arg6.view.loc (c : Thread nD τ) ↦[arg6.view.set]{fullShare} arg6.view.writes (Elt F) f L6)
              ∗ (∃ f, arg7.view.loc (c : Thread nD τ) ↦[arg7.view.set]{fullShare} arg7.view.writes (Elt F) f L7)
              ∗ (∃ f, arg8.view.loc (c : Thread nD τ) ↦[arg8.view.set]{fullShare} arg8.view.writes (Elt F) f L8)
              ∗ (∃ d, owns (c : Thread nD τ) arg9 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9) K } := by
  refine ⟨?_, ?_, ?_, fun E K => ?run⟩
  case run =>
    simp only [cc0_attn_bwd_eq_skeleton]; unfold cc0_attn_bwd_skel
    simp only [k0_part27_eq_skeleton, k0_part13_eq_skeleton, k0_part14_eq_skeleton, k0_part15_eq_skeleton, k0_part16_eq_skeleton,
      k0_part17_eq_skeleton, k0_part18_eq_skeleton, k0_part19_eq_skeleton, k0_part20_eq_skeleton, k0_part21_eq_skeleton,
      k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _, _; isplitr; swap; · iexact HS0
    ipureintro; rfl

set_option maxHeartbeats 1600000 in
/-- The body at a key block between the first and the last: the query gradient's block is added to. -/
noncomputable def runMiddle (c : Dev nD) (i : grid0.Coords) (arg2 : Memref sig .tc .vmem S4x4096x128 .bf16) (harg2 : arg2.IsWhole)
    (arg3 : Memref sig .tc .vmem S4x512x128 .bf16) (harg3 : arg3.IsWhole) (arg4 : Memref sig .tc .vmem S4x512x128 .bf16) (harg4 : arg4.IsWhole)
    (arg5 : Memref sig .tc .vmem S4x4096x128 .bf16) (harg5 : arg5.IsWhole) (arg6 : Memref sig .tc .vmem S4x4096x128 .f32) (harg6 : arg6.IsWhole)
    (arg7 : Memref sig .tc .vmem S4x512x128 .f32) (harg7 : arg7.IsWhole) (arg8 : Memref sig .tc .vmem S4x512x64 .f32) (harg8 : arg8.IsWhole)
    (arg9 : Memref sig .tc .vmem S4x512x128 .f32) (harg9 : arg9.IsWhole)
    (hc0 : ¬isFirst i) (hc1 : ¬isLast i)
    (x0 : Vec F S4x4096x128 .bf16) (x1 : Vec F S4x512x128 .bf16) (x2 : Vec F S4x512x128 .bf16) (x3 : Vec F S4x4096x128 .bf16) (y : Vec F S4x4096x128 .f32) :
    Σ' (L6 : List (View.Piece (Elt F) S4x4096x128 .f32)) (L7 : List (View.Piece (Elt F) S4x512x128 .f32)),
      { L8 : List (View.Piece (Elt F) S4x512x64 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (arg6.view.loc (c : Thread nD τ) ↦[arg6.view.set]{fullShare} arg6.view.writes (Elt F) (harg6.unread y) L6)
              ∗ (∃ f, arg7.view.loc (c : Thread nD τ) ↦[arg7.view.set]{fullShare} arg7.view.writes (Elt F) f L7)
              ∗ (∃ f, arg8.view.loc (c : Thread nD τ) ↦[arg8.view.set]{fullShare} arg8.view.writes (Elt F) f L8)
              ∗ (∃ d, owns (c : Thread nD τ) arg9 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9) K } := by
  refine ⟨?_, ?_, ?_, fun E K => ?run⟩
  case run =>
    simp only [cc0_attn_bwd_eq_skeleton]; unfold cc0_attn_bwd_skel
    simp only [k0_part27_eq_skeleton, k0_part13_eq_skeleton, k0_part14_eq_skeleton, k0_part15_eq_skeleton, k0_part16_eq_skeleton,
      k0_part17_eq_skeleton, k0_part18_eq_skeleton, k0_part19_eq_skeleton, k0_part20_eq_skeleton, k0_part21_eq_skeleton,
      k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexists _; iexact H5
    isplitl [H6]; · iexists _; iexact H6
    iexists _, _; isplitr; swap; · iexact HS0
    ipureintro; rfl

set_option maxHeartbeats 1600000 in
/-- The body at the last key block: the query gradient's block is added to and then scaled and cut to its lanes. -/
noncomputable def runLast (c : Dev nD) (i : grid0.Coords) (arg2 : Memref sig .tc .vmem S4x4096x128 .bf16) (harg2 : arg2.IsWhole)
    (arg3 : Memref sig .tc .vmem S4x512x128 .bf16) (harg3 : arg3.IsWhole) (arg4 : Memref sig .tc .vmem S4x512x128 .bf16) (harg4 : arg4.IsWhole)
    (arg5 : Memref sig .tc .vmem S4x4096x128 .bf16) (harg5 : arg5.IsWhole) (arg6 : Memref sig .tc .vmem S4x4096x128 .f32) (harg6 : arg6.IsWhole)
    (arg7 : Memref sig .tc .vmem S4x512x128 .f32) (harg7 : arg7.IsWhole) (arg8 : Memref sig .tc .vmem S4x512x64 .f32) (harg8 : arg8.IsWhole)
    (arg9 : Memref sig .tc .vmem S4x512x128 .f32) (harg9 : arg9.IsWhole)
    (hc0 : ¬isFirst i) (hc1 : isLast i)
    (x0 : Vec F S4x4096x128 .bf16) (x1 : Vec F S4x512x128 .bf16) (x2 : Vec F S4x512x128 .bf16) (x3 : Vec F S4x4096x128 .bf16) (y : Vec F S4x4096x128 .f32) :
    Σ' (L6 : List (View.Piece (Elt F) S4x4096x128 .f32)) (L7 : List (View.Piece (Elt F) S4x512x128 .f32)),
      { L8 : List (View.Piece (Elt F) S4x512x64 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare y ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (arg6.view.loc (c : Thread nD τ) ↦[arg6.view.set]{fullShare} arg6.view.writes (Elt F) (harg6.unread y) L6)
              ∗ (∃ f, arg7.view.loc (c : Thread nD τ) ↦[arg7.view.set]{fullShare} arg7.view.writes (Elt F) f L7)
              ∗ (∃ f, arg8.view.loc (c : Thread nD τ) ↦[arg8.view.set]{fullShare} arg8.view.writes (Elt F) f L8)
              ∗ (∃ d, owns (c : Thread nD τ) arg9 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9) K } := by
  refine ⟨?_, ?_, ?_, fun E K => ?run⟩
  case run =>
    simp only [cc0_attn_bwd_eq_skeleton]; unfold cc0_attn_bwd_skel
    simp only [k0_part27_eq_skeleton, k0_part13_eq_skeleton, k0_part14_eq_skeleton, k0_part15_eq_skeleton, k0_part16_eq_skeleton,
      k0_part17_eq_skeleton, k0_part18_eq_skeleton, k0_part19_eq_skeleton, k0_part20_eq_skeleton, k0_part21_eq_skeleton,
      k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexists _; iexact H5
    isplitl [H6]; · iexists _; iexact H6
    iexists _, _; isplitr; swap; · iexact HS0
    ipureintro; rfl

end Cert.Attn

end
-- ==== Proof.AttnTile.lean ====
/-
  Reading and storing windows of one head, in coordinates that are plain numbers: a three-axis block as a function of three
  naturals (zero outside its bounds), a load of a window as that function at shifted coordinates, and a store into one head's
  rows as the old function with the window replaced.
-/
module

public import proofs.«01_k».proof.Proof.AttnRun
public import Idealize.ShloMosaic.Lib.WritesUnit
public import Idealize.ShloMosaic.Lib.VecWindow
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe Idealize.ShloMosaic.Tactic

/-- A block of three axes at three numbers: its element there, or zero outside its bounds. -/
def at3 {A B C : ℕ} (x : (⟨3, ![A, B, C]⟩ : Shape).Idx → EReal) (h r l : ℕ) : EReal :=
  if p : h < A ∧ r < B ∧ l < C then x (ix3 ⟨h, p.1⟩ ⟨r, p.2.1⟩ ⟨l, p.2.2⟩) else 0

theorem at3_ix {A B C : ℕ} (x : (⟨3, ![A, B, C]⟩ : Shape).Idx → EReal) (h : Fin A) (r : Fin B) (l : Fin C) :
    at3 x h.val r.val l.val = x (ix3 h r l) := by
  unfold at3; rw [dif_pos ⟨h.isLt, r.isLt, l.isLt⟩]

theorem at3_of {A B C : ℕ} (x : (⟨3, ![A, B, C]⟩ : Shape).Idx → EReal) {h r l : ℕ} (hh : h < A) (hr : r < B) (hl : l < C) :
    at3 x h r l = x (ix3 ⟨h, hh⟩ ⟨r, hr⟩ ⟨l, hl⟩) := by
  unfold at3; rw [dif_pos ⟨hh, hr, hl⟩]

/-- A load of a window, element by element, of sixteen-bit elements. -/
theorem readAt_bf16 {κ : Kind} {sp : Space} {A B C a b c : ℕ}
    (v : View sig κ sp ⟨3, ![A, B, C]⟩ .bf16) (f : v.ty.Contents (Elt Ideal)) (off : Fin 3 → ℕ)
    (inb : ∀ d, off d + (![a, b, c] : Fin 3 → ℕ) d ≤ (⟨3, ![A, B, C]⟩ : Shape).size d) (x : Fin a) (y : Fin b) (z : Fin c) :
    v.readAt (Elt Ideal) (Rect.unit (s := ⟨3, ![A, B, C]⟩) off ![a, b, c] inb).toLoadRect f (ix3 x y z)
      = at3 (v.read (Elt Ideal) f) (off 0 + x.val) (off 1 + y.val) (off 2 + z.val) := by
  have h0 := inb 0; have h1 := inb 1; have h2 := inb 2
  simp only [Matrix.cons_val_zero, Matrix.cons_val_one, Matrix.cons_val] at h0 h1 h2
  rw [at3_of _ (by have := x.isLt; omega) (by have := y.isLt; omega) (by have := z.isLt; omega)]
  refine congrArg (v.read (Elt Ideal) f) (funext fun d => ?_)
  match d with
  | ⟨0, _⟩ => exact Fin.ext (by show off 0 + 1 * x.val = _; rw [Nat.one_mul]; rfl)
  | ⟨1, _⟩ => exact Fin.ext (by show off 1 + 1 * y.val = _; rw [Nat.one_mul]; rfl)
  | ⟨2, _⟩ => exact Fin.ext (by show off 2 + 1 * z.val = _; rw [Nat.one_mul]; rfl)

/-- A load of a window, element by element, of thirty-two-bit elements. -/
theorem readAt_f32 {κ : Kind} {sp : Space} {A B C a b c : ℕ}
    (v : View sig κ sp ⟨3, ![A, B, C]⟩ .f32) (f : v.ty.Contents (Elt Ideal)) (off : Fin 3 → ℕ)
    (inb : ∀ d, off d + (![a, b, c] : Fin 3 → ℕ) d ≤ (⟨3, ![A, B, C]⟩ : Shape).size d) (x : Fin a) (y : Fin b) (z : Fin c) :
    v.readAt (Elt Ideal) (Rect.unit (s := ⟨3, ![A, B, C]⟩) off ![a, b, c] inb).toLoadRect f (ix3 x y z)
      = at3 (v.read (Elt Ideal) f) (off 0 + x.val) (off 1 + y.val) (off 2 + z.val) := by
  have h0 := inb 0; have h1 := inb 1; have h2 := inb 2
  simp only [Matrix.cons_val_zero, Matrix.cons_val_one, Matrix.cons_val] at h0 h1 h2
  rw [at3_of _ (by have := x.isLt; omega) (by have := y.isLt; omega) (by have := z.isLt; omega)]
  refine congrArg (v.read (Elt Ideal) f) (funext fun d => ?_)
  match d with
  | ⟨0, _⟩ => exact Fin.ext (by show off 0 + 1 * x.val = _; rw [Nat.one_mul]; rfl)
  | ⟨1, _⟩ => exact Fin.ext (by show off 1 + 1 * y.val = _; rw [Nat.one_mul]; rfl)
  | ⟨2, _⟩ => exact Fin.ext (by show off 2 + 1 * z.val = _; rw [Nat.one_mul]; rfl)

/-- A store into the rows `o … o + b` of head `g`, whose value at each of them is `V` there: the block after it. -/
theorem at3_writes {κ : Kind} {sp : Space} {A B C b : ℕ} (v : View sig κ sp ⟨3, ![A, B, C]⟩ .f32) (f : v.ty.Contents (Elt Ideal))
    (off : Fin 3 → ℕ) (g o : ℕ) (hoff : off = ![g, o, 0])
    (inb : ∀ d, off d + (![1, b, C] : Fin 3 → ℕ) d ≤ (⟨3, ![A, B, C]⟩ : Shape).size d)
    (w : (Rect.unit (s := ⟨3, ![A, B, C]⟩) off ![1, b, C] inb).shape.Idx → Elt Ideal .f32)
    (L : List (View.Piece (Elt Ideal) ⟨3, ![A, B, C]⟩ .f32)) (V : ℕ → ℕ → EReal)
    (hw : ∀ (y : Fin b) (z : Fin C), w (ix3 (0 : Fin 1) y z) = V (o + y.val) z.val) (h r l : ℕ) (hl : l < C) :
    at3 (v.read (Elt Ideal) (v.writes (Elt Ideal) f (⟨Rect.unit (s := ⟨3, ![A, B, C]⟩) off ![1, b, C] inb, w⟩ :: L))) h r l
      = if h = g ∧ o ≤ r ∧ r < o + b then V r l else at3 (v.read (Elt Ideal) (v.writes (Elt Ideal) f L)) h r l := by
  have h0 := inb 0; have h1 := inb 1; have h2 := inb 2
  subst hoff
  simp only [Matrix.cons_val_zero, Matrix.cons_val_one, Matrix.cons_val] at h0 h1 h2
  split_ifs with hc
  · obtain ⟨rfl, hr, hr'⟩ := hc
    rw [at3_of _ (by omega) (by omega) hl]
    have e := hw ⟨r - o, by omega⟩ ⟨l, hl⟩
    simp only [Nat.add_sub_cancel' hr] at e
    rw [← e]
    refine View.read_writes_cons_unit_of_mem (v := v) (f := f) inb w L _ _ rfl fun d => ?_
    match d with
    | ⟨0, _⟩ => show h = h + 0; rfl
    | ⟨1, _⟩ => show r = o + (r - o); omega
    | ⟨2, _⟩ => show l = 0 + l; omega
  · unfold at3
    split_ifs with p
    · by_cases hg : h = g
      · refine View.read_writes_cons_unit_of_not_mem (v := v) (f := f) inb w L _ rfl 1 ?_
        show r < o ∨ o + b ≤ r
        by_contra hn; exact hc ⟨hg, by omega, by omega⟩
      · refine View.read_writes_cons_unit_of_not_mem (v := v) (f := f) inb w L _ rfl 0 ?_
        show h < g ∨ g + 1 ≤ h
        omega
    · rfl

end Cert.Attn

end
-- ==== Proof.AttnLoop.lean ====
/-
  The loop of the gradient body over the query blocks below the diagonal: what one trip adds to each head's rows of the three
  blocks it keeps, element by element, and what all the trips add together.
-/
module

public import proofs.«01_k».proof.Proof.AttnTile

@[expose] public section

set_option maxRecDepth 16384

noncomputable section

namespace Cert.Attn

open Cert.KernelIdeal Cert.KernelIdeal.Gen
open Idealize.ShloMosaic Idealize.ShloMosaic.TcCoe Idealize.ShloMosaic.Tactic

/-- The score of query row `i` of head `h` against key row `j`: the sum of the products along the 128 lanes. -/
def scr (Q K : ℕ → ℕ → ℕ → EReal) (h i j : ℕ) : EReal := ∑ x : Fin 128, Q h i x.val * K h j x.val

/-- The weight of query row `i` on key row `j` before the mask: two to the power of the score. -/
def pr (Q K : ℕ → ℕ → ℕ → EReal) (h i j : ℕ) : EReal := Ideal.exp2 (scr Q K h i j)

/-- The gradient of the score: the weight times the product of the output's gradient with the value row. -/
def ds (Q K W D : ℕ → ℕ → ℕ → EReal) (h i j : ℕ) : EReal := pr Q K h i j * scr D W h i j

variable (c : Dev nD) (i : grid0.Coords)
  (arg2 : Memref sig .tc .vmem S4x4096x128 .bf16) (harg2 : arg2.IsWhole)
  (arg3 : Memref sig .tc .vmem S4x512x128 .bf16) (harg3 : arg3.IsWhole)
  (arg4 : Memref sig .tc .vmem S4x512x128 .bf16) (harg4 : arg4.IsWhole)
  (arg5 : Memref sig .tc .vmem S4x4096x128 .bf16) (harg5 : arg5.IsWhole)
  (arg6 : Memref sig .tc .vmem S4x4096x128 .f32) (harg6 : arg6.IsWhole)
  (arg7 : Memref sig .tc .vmem S4x512x128 .f32) (harg7 : arg7.IsWhole)
  (arg8 : Memref sig .tc .vmem S4x512x64 .f32) (harg8 : arg8.IsWhole)
  (arg9 : Memref sig .tc .vmem S4x512x128 .f32) (harg9 : arg9.IsWhole)
  (v459 : BitVec 32) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)

/-- The pieces one trip stores, at given entry contents of the three blocks. -/
abbrev tripL (k : Fin (k0_t1_loop i).trips) (f6 : BufTy.Contents (Elt Ideal) arg6.view.ty)
    (f7 : BufTy.Contents (Elt Ideal) arg7.view.ty) (f9 : BufTy.Contents (Elt Ideal) arg9.view.ty) :=
  tripL_k0_t1 (F := Ideal) Variants.none c none i arg2 harg2 arg3 harg3 arg4 harg4 arg5 harg5 arg6 harg6 arg7 harg7 arg8 harg8 arg9 harg9
    v459 X2 X3 X4 X5 k f6 f7 f9

/-- One trip on the values' gradient: the old element and the sum over the block's query rows. -/
theorem trip_dv (k : Fin (k0_t1_loop i).trips) (f6 : BufTy.Contents (Elt Ideal) arg6.view.ty)
    (f7 : BufTy.Contents (Elt Ideal) arg7.view.ty) (f9 : BufTy.Contents (Elt Ideal) arg9.view.ty) (h r l : ℕ) (hh : h < 4) (hr : r < 512) (hl : l < 128) :
    at3 (arg9.view.read (Elt Ideal) (arg9.view.writes (Elt Ideal) f9 (tripL c i arg2 harg2 arg3 harg3 arg4 harg4 arg5 harg5 arg6 harg6 arg7 harg7 arg8 harg8 arg9 harg9 v459 X2 X3 X4 X5 k f6 f7 f9).2.2)) h r l
      = at3 (arg9.view.read (Elt Ideal) f9) h r l + ∑ y : Fin 512, pr (at3 (arg2.view.read (Elt Ideal) X2)) (at3 (arg3.view.read (Elt Ideal) X3)) h (512 * (i 1).val + 512 * k.val + 512 + y.val) r * (at3 (arg5.view.read (Elt Ideal) X5)) h (512 * (i 1).val + 512 * k.val + 512 + y.val) l := by
  unfold tripL tripL_k0_t1 trip_k0_t1; dsimp only
  rw [at3_writes arg9.view f9 _ 3 0 rfl _ _ _ (fun r l => at3 (arg9.view.read (Elt Ideal) f9) 3 r l + ∑ y : Fin 512, pr (at3 (arg2.view.read (Elt Ideal) X2)) (at3 (arg3.view.read (Elt Ideal) X3)) 3 (512 * (i 1).val + 512 * k.val + 512 + y.val) r * (at3 (arg5.view.read (Elt Ideal) X5)) 3 (512 * (i 1).val + 512 * k.val + 512 + y.val) l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [at3_writes arg9.view f9 _ 2 0 rfl _ _ _ (fun r l => at3 (arg9.view.read (Elt Ideal) f9) 2 r l + ∑ y : Fin 512, pr (at3 (arg2.view.read (Elt Ideal) X2)) (at3 (arg3.view.read (Elt Ideal) X3)) 2 (512 * (i 1).val + 512 * k.val + 512 + y.val) r * (at3 (arg5.view.read (Elt Ideal) X5)) 2 (512 * (i 1).val + 512 * k.val + 512 + y.val) l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [at3_writes arg9.view f9 _ 1 0 rfl _ _ _ (fun r l => at3 (arg9.view.read (Elt Ideal) f9) 1 r l + ∑ y : Fin 512, pr (at3 (arg2.view.read (Elt Ideal) X2)) (at3 (arg3.view.read (Elt Ideal) X3)) 1 (512 * (i 1).val + 512 * k.val + 512 + y.val) r * (at3 (arg5.view.read (Elt Ideal) X5)) 1 (512 * (i 1).val + 512 * k.val + 512 + y.val) l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [at3_writes arg9.view f9 _ 0 0 rfl _ _ _ (fun r l => at3 (arg9.view.read (Elt Ideal) f9) 0 r l + ∑ y : Fin 512, pr (at3 (arg2.view.read (Elt Ideal) X2)) (at3 (arg3.view.read (Elt Ideal) X3)) 0 (512 * (i 1).val + 512 * k.val + 512 + y.val) r * (at3 (arg5.view.read (Elt Ideal) X5)) 0 (512 * (i 1).val + 512 * k.val + 512 + y.val) l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [View.writes_nil]
  interval_cases h <;> simp [hr]

/-- One trip on the keys' gradient. -/
theorem trip_dk (k : Fin (k0_t1_loop i).trips) (f6 : BufTy.Contents (Elt Ideal) arg6.view.ty)
    (f7 : BufTy.Contents (Elt Ideal) arg7.view.ty) (f9 : BufTy.Contents (Elt Ideal) arg9.view.ty) (h r l : ℕ) (hh : h < 4) (hr : r < 512) (hl : l < 128) :
    at3 (arg7.view.read (Elt Ideal) (arg7.view.writes (Elt Ideal) f7 (tripL c i arg2 harg2 arg3 harg3 arg4 harg4 arg5 harg5 arg6 harg6 arg7 harg7 arg8 harg8 arg9 harg9 v459 X2 X3 X4 X5 k f6 f7 f9).2.1)) h r l
      = at3 (arg7.view.read (Elt Ideal) f7) h r l + ∑ y : Fin 512, ds (at3 (arg2.view.read (Elt Ideal) X2)) (at3 (arg3.view.read (Elt Ideal) X3)) (at3 (arg4.view.read (Elt Ideal) X4)) (at3 (arg5.view.read (Elt Ideal) X5)) h (512 * (i 1).val + 512 * k.val + 512 + y.val) r * (at3 (arg2.view.read (Elt Ideal) X2)) h (512 * (i 1).val + 512 * k.val + 512 + y.val) l := by
  unfold tripL tripL_k0_t1 trip_k0_t1; dsimp only
  rw [at3_writes arg7.view f7 _ 3 0 rfl _ _ _ (fun r l => at3 (arg7.view.read (Elt Ideal) f7) 3 r l + ∑ y : Fin 512, ds (at3 (arg2.view.read (Elt Ideal) X2)) (at3 (arg3.view.read (Elt Ideal) X3)) (at3 (arg4.view.read (Elt Ideal) X4)) (at3 (arg5.view.read (Elt Ideal) X5)) 3 (512 * (i 1).val + 512 * k.val + 512 + y.val) r * (at3 (arg2.view.read (Elt Ideal) X2)) 3 (512 * (i 1).val + 512 * k.val + 512 + y.val) l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [at3_writes arg7.view f7 _ 2 0 rfl _ _ _ (fun r l => at3 (arg7.view.read (Elt Ideal) f7) 2 r l + ∑ y : Fin 512, ds (at3 (arg2.view.read (Elt Ideal) X2)) (at3 (arg3.view.read (Elt Ideal) X3)) (at3 (arg4.view.read (Elt Ideal) X4)) (at3 (arg5.view.read (Elt Ideal) X5)) 2 (512 * (i 1).val + 512 * k.val + 512 + y.val) r * (at3 (arg2.view.read (Elt Ideal) X2)) 2 (512 * (i 1).val + 512 * k.val + 512 + y.val) l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [at3_writes arg7.view f7 _ 1 0 rfl _ _ _ (fun r l => at3 (arg7.view.read (Elt Ideal) f7) 1 r l + ∑ y : Fin 512, ds (at3 (arg2.view.read (Elt Ideal) X2)) (at3 (arg3.view.read (Elt Ideal) X3)) (at3 (arg4.view.read (Elt Ideal) X4)) (at3 (arg5.view.read (Elt Ideal) X5)) 1 (512 * (i 1).val + 512 * k.val + 512 + y.val) r * (at3 (arg2.view.read (Elt Ideal) X2)) 1 (512 * (i 1).val + 512 * k.val + 512 + y.val) l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [at3_writes arg7.view f7 _ 0 0 rfl _ _ _ (fun r l => at3 (arg7.view.read (Elt Ideal) f7) 0 r l + ∑ y : Fin 512, ds (at3 (arg2.view.read (Elt Ideal) X2)) (at3 (arg3.view.read (Elt Ideal) X3)) (at3 (arg4.view.read (Elt Ideal) X4)) (at3 (arg5.view.read (Elt Ideal) X5)) 0 (512 * (i 1).val + 512 * k.val + 512 + y.val) r * (at3 (arg2.view.read (Elt Ideal) X2)) 0 (512 * (i 1).val + 512 * k.val + 512 + y.val) l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [View.writes_nil]
  interval_cases h <;> simp [hr]

/-- One trip on the queries' gradient: the rows of its own query block gain the sum over the key rows. -/
theorem trip_dq (k : Fin (k0_t1_loop i).trips) (f6 : BufTy.Contents (Elt Ideal) arg6.view.ty)
    (f7 : BufTy.Contents (Elt Ideal) arg7.view.ty) (f9 : BufTy.Contents (Elt Ideal) arg9.view.ty) (h r l : ℕ) (hh : h < 4) (hl : l < 128) :
    at3 (arg6.view.read (Elt Ideal) (arg6.view.writes (Elt Ideal) f6 (tripL c i arg2 harg2 arg3 harg3 arg4 harg4 arg5 harg5 arg6 harg6 arg7 harg7 arg8 harg8 arg9 harg9 v459 X2 X3 X4 X5 k f6 f7 f9).1)) h r l
      = if 512 * (i 1).val + 512 * k.val + 512 ≤ r ∧ r < 512 * (i 1).val + 512 * k.val + 512 + 512 then at3 (arg6.view.read (Elt Ideal) f6) h r l + ∑ j : Fin 512, ds (at3 (arg2.view.read (Elt Ideal) X2)) (at3 (arg3.view.read (Elt Ideal) X3)) (at3 (arg4.view.read (Elt Ideal) X4)) (at3 (arg5.view.read (Elt Ideal) X5)) h r j.val * (at3 (arg3.view.read (Elt Ideal) X3)) h j.val l
        else at3 (arg6.view.read (Elt Ideal) f6) h r l := by
  unfold tripL tripL_k0_t1 trip_k0_t1; dsimp only
  rw [at3_writes arg6.view f6 _ 3 (512 * (i 1).val + 512 * k.val + 512) (k0_off8_eq i k) _ _ _ (fun r l => at3 (arg6.view.read (Elt Ideal) f6) 3 r l + ∑ j : Fin 512, ds (at3 (arg2.view.read (Elt Ideal) X2)) (at3 (arg3.view.read (Elt Ideal) X3)) (at3 (arg4.view.read (Elt Ideal) X4)) (at3 (arg5.view.read (Elt Ideal) X5)) 3 r j.val * (at3 (arg3.view.read (Elt Ideal) X3)) 3 j.val l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [at3_writes arg6.view f6 _ 2 (512 * (i 1).val + 512 * k.val + 512) (k0_off7_eq i k) _ _ _ (fun r l => at3 (arg6.view.read (Elt Ideal) f6) 2 r l + ∑ j : Fin 512, ds (at3 (arg2.view.read (Elt Ideal) X2)) (at3 (arg3.view.read (Elt Ideal) X3)) (at3 (arg4.view.read (Elt Ideal) X4)) (at3 (arg5.view.read (Elt Ideal) X5)) 2 r j.val * (at3 (arg3.view.read (Elt Ideal) X3)) 2 j.val l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [at3_writes arg6.view f6 _ 1 (512 * (i 1).val + 512 * k.val + 512) (k0_off6_eq i k) _ _ _ (fun r l => at3 (arg6.view.read (Elt Ideal) f6) 1 r l + ∑ j : Fin 512, ds (at3 (arg2.view.read (Elt Ideal) X2)) (at3 (arg3.view.read (Elt Ideal) X3)) (at3 (arg4.view.read (Elt Ideal) X4)) (at3 (arg5.view.read (Elt Ideal) X5)) 1 r j.val * (at3 (arg3.view.read (Elt Ideal) X3)) 1 j.val l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [at3_writes arg6.view f6 _ 0 (512 * (i 1).val + 512 * k.val + 512) (k0_off5_eq i k) _ _ _ (fun r l => at3 (arg6.view.read (Elt Ideal) f6) 0 r l + ∑ j : Fin 512, ds (at3 (arg2.view.read (Elt Ideal) X2)) (at3 (arg3.view.read (Elt Ideal) X3)) (at3 (arg4.view.read (Elt Ideal) X4)) (at3 (arg5.view.read (Elt Ideal) X5)) 0 r j.val * (at3 (arg3.view.read (Elt Ideal) X3)) 0 j.val l) (hl := hl) (hw := by
    intro y z
    pointwise [trip_k0_t1.sl.cst_365, trip_k0_t1.sl.cst_391, trip_k0_t1.sl.v487, trip_k0_t1.sl.v489, trip_k0_t1.sl.v490,
      trip_k0_t1.sl.v493, trip_k0_t1.sl.v495, trip_k0_t1.sl.v496, trip_k0_t1.sl.v500, trip_k0_t1.sl.v502, trip_k0_t1.sl.v503,
      trip_k0_t1.sl.v506, trip_k0_t1.sl.v508, trip_k0_t1.sl.v509, trip_k0_t1.sl.v511, trip_k0_t1.sl.v512, trip_k0_t1.sl.v513,
      trip_k0_t1.sl.v515, trip_k0_t1.sl.v516, trip_k0_t1.sl.v520, trip_k0_t1.sl.v521, trip_k0_t1.sl.v524, trip_k0_t1.sl.v526,
      trip_k0_t1.sl.v530, trip_k0_t1.sl.v531, trip_k0_t1.sl.v534, trip_k0_t1.sl.v537, trip_k0_t1.sl.v540, trip_k0_t1.sl.v541,
      trip_k0_t1.sl.v545, trip_k0_t1.sl.v549, trip_k0_t1.sl.v551, trip_k0_t1.sl.v552, trip_k0_t1.sl.v555, trip_k0_t1.sl.v557,
      trip_k0_t1.sl.v558, trip_k0_t1.sl.v560, trip_k0_t1.sl.v561, trip_k0_t1.sl.v562, trip_k0_t1.sl.v563, trip_k0_t1.sl.v564,
      trip_k0_t1.sl.v565, trip_k0_t1.sl.v569, trip_k0_t1.sl.v570, trip_k0_t1.sl.v573, trip_k0_t1.sl.v574, trip_k0_t1.sl.v575,
      trip_k0_t1.sl.v579, trip_k0_t1.sl.v580, trip_k0_t1.sl.v583, trip_k0_t1.sl.v585, trip_k0_t1.sl.v586, trip_k0_t1.sl.v589,
      trip_k0_t1.sl.v590, trip_k0_t1.sl.v594, trip_k0_t1.sl.v598, trip_k0_t1.sl.v600, trip_k0_t1.sl.v601, trip_k0_t1.sl.v604,
      trip_k0_t1.sl.v606, trip_k0_t1.sl.v607, trip_k0_t1.sl.v609, trip_k0_t1.sl.v610, trip_k0_t1.sl.v611, trip_k0_t1.sl.v612,
      trip_k0_t1.sl.v613, trip_k0_t1.sl.v614, trip_k0_t1.sl.v618, trip_k0_t1.sl.v619, trip_k0_t1.sl.v622, trip_k0_t1.sl.v623,
      trip_k0_t1.sl.v624, trip_k0_t1.sl.v628, trip_k0_t1.sl.v629, trip_k0_t1.sl.v632, trip_k0_t1.sl.v634, trip_k0_t1.sl.v635,
      trip_k0_t1.sl.v638, trip_k0_t1.sl.v639, trip_k0_t1.sl.v643, trip_k0_t1.sl.v645, trip_k0_t1.sl.v646, trip_k0_t1.sl.v647,
      trip_k0_t1.sl.v648, trip_k0_t1.sl.v649, trip_k0_t1.sl.v650, trip_k0_t1.sl.v654, trip_k0_t1.sl.v655, trip_k0_t1.sl.v658,
      trip_k0_t1.sl.v659, trip_k0_t1.sl.v660, trip_k0_t1.sl.v664, trip_k0_t1.sl.v665, trip_k0_t1.sl.v668, trip_k0_t1.sl.v670,
      trip_k0_t1.sl.v671, k0_pay137]
    simp only [readAt_f32, readAt_bf16, scr, pr, ds, k0_off5_eq, k0_off6_eq, k0_off7_eq, k0_off8_eq, Matrix.cons_val_zero, Matrix.cons_val_one, Matrix.cons_val,
      Fin.val_zero, Nat.zero_add, Nat.add_zero]
    rfl)]
  rw [View.writes_nil]
  interval_cases h <;> simp

/-- The loop makes one trip for each query block below the diagonal. -/
theorem trips_eq : ∀ i : grid0.Coords, (k0_t1_loop i).trips = 7 - (i 1).val := by decide +kernel

section Loop

variable (G6 : BufTy.Contents (Elt Ideal) arg6.view.ty) (G7 : BufTy.Contents (Elt Ideal) arg7.view.ty)
  (G9 : BufTy.Contents (Elt Ideal) arg9.view.ty)

/-- The pieces the first `n` trips store, at given contents before the loop. -/
abbrev loopL (n : ℕ) :=
  pb_k0_t1 (F := Ideal) Variants.none c none i arg2 harg2 arg3 harg3 arg4 harg4 arg5 harg5 arg6 harg6 arg7 harg7 arg8 harg8 arg9 harg9
    v459 X2 X3 X4 X5 G6 G7 G9 n

/-- A sum over one block of 512 numbers, after the sum over the blocks before it. -/
theorem sum_block (n : ℕ) (a : EReal) (f : ℕ → EReal) :
    a + (∑ y ∈ Finset.range (512 * n), f y) + ∑ y : Fin 512, f (512 * n + y.val) = a + ∑ y ∈ Finset.range (512 * (n + 1)), f y := by
  rw [Nat.mul_succ, Finset.sum_range_add, ← Finset.sum_range (fun y => f (512 * n + y)), add_assoc]

theorem loop_dv (n : ℕ) (hn : n ≤ (k0_t1_loop i).trips) (h r l : ℕ) (hh : h < 4) (hr : r < 512) (hl : l < 128) :
    at3 (arg9.view.read (Elt Ideal) (arg9.view.writes (Elt Ideal) G9 (loopL c i arg2 harg2 arg3 harg3 arg4 harg4 arg5 harg5 arg6 harg6 arg7 harg7 arg8 harg8 arg9 harg9 v459 X2 X3 X4 X5 G6 G7 G9 n).2.2)) h r l
      = at3 (arg9.view.read (Elt Ideal) G9) h r l + ∑ y ∈ Finset.range (512 * n),
          pr (at3 (arg2.view.read (Elt Ideal) X2)) (at3 (arg3.view.read (Elt Ideal) X3)) h (512 * (i 1).val + 512 + y) r * (at3 (arg5.view.read (Elt Ideal) X5)) h (512 * (i 1).val + 512 + y) l := by
  induction n with
  | zero =>
    rw [Nat.mul_zero, Finset.sum_range_zero, add_zero]; rfl
  | succ n ih =>
    unfold loopL at ih ⊢
    have e := pb_k0_t1_succ (F := Ideal) Variants.none c none i arg2 harg2 arg3 harg3 arg4 harg4 arg5 harg5 arg6 harg6 arg7 harg7 arg8 harg8 arg9 harg9
      v459 X2 X3 X4 X5 G6 G7 G9 ⟨n, hn⟩
    dsimp only at e
    rw [e, View.writes_append, trip_dv c i arg2 harg2 arg3 harg3 arg4 harg4 arg5 harg5 arg6 harg6 arg7 harg7 arg8 harg8 arg9 harg9 v459 X2 X3 X4 X5 ⟨n, hn⟩ _ _ _ h r l hh hr hl, ih (by omega), ← sum_block]
    congr 1
    refine Finset.sum_congr rfl fun y _ => ?_
    have e' : 512 * (i 1).val + 512 * n + 512 + y.val = 512 * (i 1).val + 512 + (512 * n + y.val) := by omega
    simp only [e']

theorem loop_dk (n : ℕ) (hn : n ≤ (k0_t1_loop i).trips) (h r l : ℕ) (hh : h < 4) (hr : r < 512) (hl : l < 128) :
    at3 (arg7.view.read (Elt Ideal) (arg7.view.writes (Elt Ideal) G7 (loopL c i arg2 harg2 arg3 harg3 arg4 harg4 arg5 harg5 arg6 harg6 arg7 harg7 arg8 harg8 arg9 harg9 v459 X2 X3 X4 X5 G6 G7 G9 n).2.1)) h r l
      = at3 (arg7.view.read (Elt Ideal) G7) h r l + ∑ y ∈ Finset.range (512 * n),
          ds (at3 (arg2.view.read (Elt Ideal) X2)) (at3 (arg3.view.read (Elt Ideal) X3)) (at3 (arg4.view.read (Elt Ideal) X4)) (at3 (arg5.view.read (Elt Ideal) X5)) h (512 * (i 1).val + 512 + y) r * (at3 (arg2.view.read (Elt Ideal) X2)) h (512 * (i 1).val + 512 + y) l := by
  induction n with
  | zero =>
    rw [Nat.mul_zero, Finset.sum_range_zero, add_zero]; rfl
  | succ n ih =>
    unfold loopL at ih ⊢
    have e := pb_k0_t1_succ (F := Ideal) Variants.none c none i arg2 harg2 arg3 harg3 arg4 harg4 arg5 harg5 arg6 harg6 arg7 harg7 arg8 harg8 arg9 harg9
      v459 X2 X3 X4 X5 G6 G7 G9 ⟨n, hn⟩
    dsimp only at e
    rw [e, View.writes_append, trip_dk c i arg2 harg2 arg3 harg3 arg4 harg4 arg5 harg5 arg6 harg6 arg7 harg7 arg8 harg8 arg9 harg9 v459 X2 X3 X4 X5 ⟨n, hn⟩ _ _ _ h r l hh hr hl, ih (by omega), ← sum_block]
    congr 1
    refine Finset.sum_congr rfl fun y _ => ?_
    have e' : 512 * (i 1).val + 512 * n + 512 + y.val = 512 * (i 1).val + 512 + (512 * n + y.val) := by omega
    simp only [e']

theorem loop_dq (n : ℕ) (hn : n ≤ (k0_t1_loop i).trips) (h r l : ℕ) (hh : h < 4) (hl : l < 128) :
    at3 (arg6.view.read (Elt Ideal) (arg6.view.writes (Elt Ideal) G6 (loopL c i arg2 harg2 arg3 harg3 arg4 harg4 arg5 harg5 arg6 harg6 arg7 harg7 arg8 harg8 arg9 harg9 v459 X2 X3 X4 X5 G6 G7 G9 n).1)) h r l
      = if 512 * (i 1).val + 512 ≤ r ∧ r < 512 * (i 1).val + 512 + 512 * n then
          at3 (arg6.view.read (Elt Ideal) G6) h r l + ∑ j : Fin 512, ds (at3 (arg2.view.read (Elt Ideal) X2)) (at3 (arg3.view.read (Elt Ideal) X3)) (at3 (arg4.view.read (Elt Ideal) X4)) (at3 (arg5.view.read (Elt Ideal) X5)) h r j.val * (at3 (arg3.view.read (Elt Ideal) X3)) h j.val l
        else at3 (arg6.view.read (Elt Ideal) G6) h r l := by
  induction n with
  | zero =>
    rw [if_neg (by omega)]; rfl
  | succ n ih =>
    unfold loopL at ih ⊢
    have e := pb_k0_t1_succ (F := Ideal) Variants.none c none i arg2 harg2 arg3 harg3 arg4 harg4 arg5 harg5 arg6 harg6 arg7 harg7 arg8 harg8 arg9 harg9
      v459 X2 X3 X4 X5 G6 G7 G9 ⟨n, hn⟩
    dsimp only at e
    rw [e, View.writes_append, trip_dq c i arg2 harg2 arg3 harg3 arg4 harg4 arg5 harg5 arg6 harg6 arg7 harg7 arg8 harg8 arg9 harg9 v459 X2 X3 X4 X5 ⟨n, hn⟩ _ _ _ h r l hh hl, ih (by omega)]
    dsimp only
    by_cases c1 : 512 * (i 1).val + 512 * n + 512 ≤ r ∧ r < 512 * (i 1).val + 512 * n + 512 + 512
    · rw [if_pos c1, if_neg (by omega), if_pos (by omega)]
    · rw [if_neg c1]
      by_cases c2 : 512 * (i 1).val + 512 ≤ r ∧ r < 512 * (i 1).val + 512 + 512 * n
      · rw [if_pos c2, if_pos (by omega)]
      · rw [if_neg c2, if_neg (by omega)]

end Loop

end Cert.Attn

end
-- ==== Proof.AttnDiag.lean ====
/-
  The diagonal step of the gradient body: the query block against the key block of its own number, in two halves of the query
  rows per head. Each store's value element by element, and what the eight of them together leave in the three blocks.
-/
module

public import proofs.«01_k».proof.Proof.AttnLoop
public import Idealize.ShloMosaic.Lib.WordCmp

@[expose] public section

set_option maxRecDepth 16384

noncomputable section

namespace Cert.Attn

open Cert.KernelIdeal Cert.KernelIdeal.Gen
open Idealize.ShloMosaic Idealize.ShloMosaic.TcCoe Idealize.ShloMosaic.Tactic

theorem off1_0 (i : grid0.Coords) : k0_off1 i 0#32 = ![0, 512 * (i 1).val, 0] := k0_off1_eq i ⟨0, by decide⟩
theorem off1_1 (i : grid0.Coords) : k0_off1 i 256#32 = ![0, 512 * (i 1).val + 256, 0] := k0_off1_eq i ⟨1, by decide⟩
theorem off2_0 (i : grid0.Coords) : k0_off2 i 0#32 = ![1, 512 * (i 1).val, 0] := k0_off2_eq i ⟨0, by decide⟩
theorem off2_1 (i : grid0.Coords) : k0_off2 i 256#32 = ![1, 512 * (i 1).val + 256, 0] := k0_off2_eq i ⟨1, by decide⟩
theorem off3_0 (i : grid0.Coords) : k0_off3 i 0#32 = ![2, 512 * (i 1).val, 0] := k0_off3_eq i ⟨0, by decide⟩
theorem off3_1 (i : grid0.Coords) : k0_off3 i 256#32 = ![2, 512 * (i 1).val + 256, 0] := k0_off3_eq i ⟨1, by decide⟩
theorem off4_0 (i : grid0.Coords) : k0_off4 i 0#32 = ![3, 512 * (i 1).val, 0] := k0_off4_eq i ⟨0, by decide⟩
theorem off4_1 (i : grid0.Coords) : k0_off4 i 256#32 = ![3, 512 * (i 1).val + 256, 0] := k0_off4_eq i ⟨1, by decide⟩

/-- The weight with the mask: key row `j` of the block is row `o + j` of the array, and a query row before it has weight zero. -/
def pm (o : ℕ) (Q K : ℕ → ℕ → ℕ → EReal) (h i j : ℕ) : EReal := if o + j ≤ i then pr Q K h i j else 0

/-- The gradient of the score with the mask. -/
def dm (o : ℕ) (Q K W D : ℕ → ℕ → ℕ → EReal) (h i j : ℕ) : EReal := pm o Q K h i j * scr D W h i j

/-- Two to the power of a score under the mask: the power where the mask's bit is set, and zero where it is not. -/
theorem mask_sel (c : BitVec 1) (a : EReal) :
    (FloatOps.exp2 (F := Ideal) (φ := .f32) (Scalar.select c a (Named.named (φ := .f32) κ "mask" 4048155338#32)) : EReal)
      = if c = 1#1 then Ideal.exp2 a else 0 := by
  by_cases hc : c = 1#1
  · rw [if_pos hc]; subst hc; rfl
  · rw [if_neg hc]
    have e : Scalar.select c a (Named.named (F := Ideal) (φ := .f32) κ "mask" 4048155338#32) = ⊥ := if_neg hc
    rw [e]; exact Ideal.exp2_bot

theorem bit_lo (x : Fin 256) (y : Fin 256) : (IntOp.cmpi .sge (BitVec.ofNat 32 x.val) (BitVec.ofNat 32 y.val) = 1#1) ↔ y.val ≤ x.val :=
  WordCmp.cmpi_sge_ofNat_eq_one_iff (by have := x.isLt; omega) (by have := y.isLt; omega)

theorem bit_lo' (x : Fin 256) (y : Fin 256) :
    (IntOp.cmpi .sge (IntOp.addi 0#32 (BitVec.ofNat 32 x.val)) (BitVec.ofNat 32 y.val) = 1#1) ↔ y.val ≤ x.val := by
  have e : IntOp.addi 0#32 (BitVec.ofNat 32 x.val) = BitVec.ofNat 32 x.val := BitVec.zero_add _
  rw [e]; exact bit_lo x y

theorem bit_hi (x : Fin 256) (y : Fin 512) :
    (IntOp.cmpi .sge (IntOp.addi 256#32 (BitVec.ofNat 32 x.val)) (BitVec.ofNat 32 y.val) = 1#1) ↔ y.val ≤ 256 + x.val := by
  have e : IntOp.addi 256#32 (BitVec.ofNat 32 x.val) = BitVec.ofNat 32 (256 + x.val) := (BitVec.ofNat_add 256 x.val).symm
  rw [e]; exact WordCmp.cmpi_sge_ofNat_eq_one_iff (by have := x.isLt; omega) (by have := y.isLt; omega)

variable {c : Dev nD} {i : grid0.Coords}
  {arg2 : Memref sig .tc .vmem S4x4096x128 .bf16} {harg2 : arg2.IsWhole}
  {arg3 : Memref sig .tc .vmem S4x512x128 .bf16} {harg3 : arg3.IsWhole}
  {arg4 : Memref sig .tc .vmem S4x512x128 .bf16} {harg4 : arg4.IsWhole}
  {arg5 : Memref sig .tc .vmem S4x4096x128 .bf16} {harg5 : arg5.IsWhole}
  {arg6 : Memref sig .tc .vmem S4x4096x128 .f32} {harg6 : arg6.IsWhole}
  {arg7 : Memref sig .tc .vmem S4x512x128 .f32} {harg7 : arg7.IsWhole}
  {arg8 : Memref sig .tc .vmem S4x512x64 .f32} {harg8 : arg8.IsWhole}
  {arg9 : Memref sig .tc .vmem S4x512x128 .f32} {harg9 : arg9.IsWhole}
  {x0 : Vec Ideal S4x4096x128 .bf16} {x1 : Vec Ideal S4x512x128 .bf16} {x2 : Vec Ideal S4x512x128 .bf16} {x3 : Vec Ideal S4x4096x128 .bf16}
  {y : Vec Ideal S4x4096x128 .f32}

theorem dv1 (h r l : ℕ) : at3 (arg9.view.read (Elt Ideal) (arg9.view.writes (Elt Ideal) arg9.view.junk (runMiddle.sl.HS0_1 (F := Ideal)))) h r l = 0 := by
  unfold at3
  split_ifs with p
  · unfold runMiddle.sl.HS0_1
    refine (View.read_writes_cons_unit_of_mem (Val := Elt Ideal) (v := arg9.view) (f := arg9.view.junk) inb_S4x512x128_S4x512x128_0_0_0 (k0_pay63 (F := Ideal)) [] _
      (ix3 ⟨h, p.1⟩ ⟨r, p.2.1⟩ ⟨l, p.2.2⟩) rfl (fun d => by
      match d with
      | ⟨0, _⟩ => show h = 0 + h; omega
      | ⟨1, _⟩ => show r = 0 + r; omega
      | ⟨2, _⟩ => show l = 0 + l; omega)).trans ?_
    pointwise [k0_pay63]
  · rfl

theorem dv2 (h r l : ℕ) (hl : l < 128) :
    at3 (arg9.view.read (Elt Ideal) (arg9.view.writes (Elt Ideal) arg9.view.junk (runMiddle.sl.HS0_2 (F := Ideal) c i arg2 harg2 arg3 harg3 arg5 harg5 arg9 x0 x1 x3))) h r l
      = if h = 0 ∧ 0 ≤ r ∧ r < 0 + 256 then at3 (arg9.view.read (Elt Ideal) (arg9.view.writes (Elt Ideal) arg9.view.junk (runMiddle.sl.HS0_1 (F := Ideal)))) 0 r l + ∑ x : Fin 256, pm (512 * (i 1).val) (at3 x0) (at3 x1) 0 (512 * (i 1).val + x.val) r * at3 x3 0 (512 * (i 1).val + x.val) l
        else at3 (arg9.view.read (Elt Ideal) (arg9.view.writes (Elt Ideal) arg9.view.junk (runMiddle.sl.HS0_1 (F := Ideal)))) h r l := by
  unfold runMiddle.sl.HS0_2
  rw [at3_writes arg9.view _ _ 0 0 rfl _ _ _ (fun r l => at3 (arg9.view.read (Elt Ideal) (arg9.view.writes (Elt Ideal) arg9.view.junk (runMiddle.sl.HS0_1 (F := Ideal)))) 0 r l + ∑ x : Fin 256, pm (512 * (i 1).val) (at3 x0) (at3 x1) 0 (512 * (i 1).val + x.val) r * at3 x3 0 (512 * (i 1).val + x.val) l) (hl := hl) (hw := by
    intro y z
    pointwise [k0_pay64, k0_pay66, k0_pay69, k0_pay71, runMiddle.sl.cst_21, runMiddle.sl.r, runMiddle.sl.r_5, runMiddle.sl.v55,
      runMiddle.sl.v65, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dv3 (h r l : ℕ) (hl : l < 128) :
    at3 (arg9.view.read (Elt Ideal) (arg9.view.writes (Elt Ideal) arg9.view.junk (runMiddle.sl.HS0_3 (F := Ideal) c i arg2 harg2 arg3 harg3 arg5 harg5 arg9 x0 x1 x3))) h r l
      = if h = 0 ∧ 0 ≤ r ∧ r < 0 + 512 then at3 (arg9.view.read (Elt Ideal) (arg9.view.writes (Elt Ideal) arg9.view.junk (runMiddle.sl.HS0_2 (F := Ideal) c i arg2 harg2 arg3 harg3 arg5 harg5 arg9 x0 x1 x3))) 0 r l + ∑ x : Fin 256, pm (512 * (i 1).val) (at3 x0) (at3 x1) 0 (512 * (i 1).val + 256 + x.val) r * at3 x3 0 (512 * (i 1).val + 256 + x.val) l
        else at3 (arg9.view.read (Elt Ideal) (arg9.view.writes (Elt Ideal) arg9.view.junk (runMiddle.sl.HS0_2 (F := Ideal) c i arg2 harg2 arg3 harg3 arg5 harg5 arg9 x0 x1 x3))) h r l := by
  unfold runMiddle.sl.HS0_3
  rw [at3_writes arg9.view _ _ 0 0 rfl _ _ _ (fun r l => at3 (arg9.view.read (Elt Ideal) (arg9.view.writes (Elt Ideal) arg9.view.junk (runMiddle.sl.HS0_2 (F := Ideal) c i arg2 harg2 arg3 harg3 arg5 harg5 arg9 x0 x1 x3))) 0 r l + ∑ x : Fin 256, pm (512 * (i 1).val) (at3 x0) (at3 x1) 0 (512 * (i 1).val + 256 + x.val) r * at3 x3 0 (512 * (i 1).val + 256 + x.val) l) (hl := hl) (hw := by
    intro y z
    pointwise [k0_pay68, k0_pay78, k0_pay80, runMiddle.sl.r_3, runMiddle.sl.v111, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dv4 (h r l : ℕ) (hl : l < 128) :
    at3 (arg9.view.read (Elt Ideal) (arg9.view.writes (Elt Ideal) arg9.view.junk (runMiddle.sl.HS0_4 (F := Ideal) c i arg2 harg2 arg3 harg3 arg5 harg5 arg9 x0 x1 x3))) h r l
      = if h = 1 ∧ 0 ≤ r ∧ r < 0 + 256 then at3 (arg9.view.read (Elt Ideal) (arg9.view.writes (Elt Ideal) arg9.view.junk (runMiddle.sl.HS0_3 (F := Ideal) c i arg2 harg2 arg3 harg3 arg5 harg5 arg9 x0 x1 x3))) 1 r l + ∑ x : Fin 256, pm (512 * (i 1).val) (at3 x0) (at3 x1) 1 (512 * (i 1).val + x.val) r * at3 x3 1 (512 * (i 1).val + x.val) l
        else at3 (arg9.view.read (Elt Ideal) (arg9.view.writes (Elt Ideal) arg9.view.junk (runMiddle.sl.HS0_3 (F := Ideal) c i arg2 harg2 arg3 harg3 arg5 harg5 arg9 x0 x1 x3))) h r l := by
  unfold runMiddle.sl.HS0_4
  rw [at3_writes arg9.view _ _ 1 0 rfl _ _ _ (fun r l => at3 (arg9.view.read (Elt Ideal) (arg9.view.writes (Elt Ideal) arg9.view.junk (runMiddle.sl.HS0_3 (F := Ideal) c i arg2 harg2 arg3 harg3 arg5 harg5 arg9 x0 x1 x3))) 1 r l + ∑ x : Fin 256, pm (512 * (i 1).val) (at3 x0) (at3 x1) 1 (512 * (i 1).val + x.val) r * at3 x3 1 (512 * (i 1).val + x.val) l) (hl := hl) (hw := by
    intro y z
    pointwise [k0_pay77, runMiddle.sl.cst_51, runMiddle.sl.cst_68, runMiddle.sl.r_7, runMiddle.sl.v164, runMiddle.sl.v167,
      runMiddle.sl.v168, runMiddle.sl.v169, runMiddle.sl.v172, runMiddle.sl.v173, runMiddle.sl.v174, runMiddle.sl.v177,
      runMiddle.sl.v90, runMiddle.sl.v92, runMiddle.sl.v93, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dv5 (h r l : ℕ) (hl : l < 128) :
    at3 (arg9.view.read (Elt Ideal) (arg9.view.writes (Elt Ideal) arg9.view.junk (runMiddle.sl.HS0_5 (F := Ideal) c i arg2 harg2 arg3 harg3 arg5 harg5 arg9 x0 x1 x3))) h r l
      = if h = 1 ∧ 0 ≤ r ∧ r < 0 + 512 then at3 (arg9.view.read (Elt Ideal) (arg9.view.writes (Elt Ideal) arg9.view.junk (runMiddle.sl.HS0_4 (F := Ideal) c i arg2 harg2 arg3 harg3 arg5 harg5 arg9 x0 x1 x3))) 1 r l + ∑ x : Fin 256, pm (512 * (i 1).val) (at3 x0) (at3 x1) 1 (512 * (i 1).val + 256 + x.val) r * at3 x3 1 (512 * (i 1).val + 256 + x.val) l
        else at3 (arg9.view.read (Elt Ideal) (arg9.view.writes (Elt Ideal) arg9.view.junk (runMiddle.sl.HS0_4 (F := Ideal) c i arg2 harg2 arg3 harg3 arg5 harg5 arg9 x0 x1 x3))) h r l := by
  unfold runMiddle.sl.HS0_5
  rw [at3_writes arg9.view _ _ 1 0 rfl _ _ _ (fun r l => at3 (arg9.view.read (Elt Ideal) (arg9.view.writes (Elt Ideal) arg9.view.junk (runMiddle.sl.HS0_4 (F := Ideal) c i arg2 harg2 arg3 harg3 arg5 harg5 arg9 x0 x1 x3))) 1 r l + ∑ x : Fin 256, pm (512 * (i 1).val) (at3 x0) (at3 x1) 1 (512 * (i 1).val + 256 + x.val) r * at3 x3 1 (512 * (i 1).val + 256 + x.val) l) (hl := hl) (hw := by
    intro y z
    pointwise [k0_pay85, k0_pay94, k0_pay96, runMiddle.sl.r_11, runMiddle.sl.r_15, runMiddle.sl.v223, runMiddle.sl.v233, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dv6 (h r l : ℕ) (hl : l < 128) :
    at3 (arg9.view.read (Elt Ideal) (arg9.view.writes (Elt Ideal) arg9.view.junk (runMiddle.sl.HS0_6 (F := Ideal) c i arg2 harg2 arg3 harg3 arg5 harg5 arg9 x0 x1 x3))) h r l
      = if h = 2 ∧ 0 ≤ r ∧ r < 0 + 256 then at3 (arg9.view.read (Elt Ideal) (arg9.view.writes (Elt Ideal) arg9.view.junk (runMiddle.sl.HS0_5 (F := Ideal) c i arg2 harg2 arg3 harg3 arg5 harg5 arg9 x0 x1 x3))) 2 r l + ∑ x : Fin 256, pm (512 * (i 1).val) (at3 x0) (at3 x1) 2 (512 * (i 1).val + x.val) r * at3 x3 2 (512 * (i 1).val + x.val) l
        else at3 (arg9.view.read (Elt Ideal) (arg9.view.writes (Elt Ideal) arg9.view.junk (runMiddle.sl.HS0_5 (F := Ideal) c i arg2 harg2 arg3 harg3 arg5 harg5 arg9 x0 x1 x3))) h r l := by
  unfold runMiddle.sl.HS0_6
  rw [at3_writes arg9.view _ _ 2 0 rfl _ _ _ (fun r l => at3 (arg9.view.read (Elt Ideal) (arg9.view.writes (Elt Ideal) arg9.view.junk (runMiddle.sl.HS0_5 (F := Ideal) c i arg2 harg2 arg3 harg3 arg5 harg5 arg9 x0 x1 x3))) 2 r l + ∑ x : Fin 256, pm (512 * (i 1).val) (at3 x0) (at3 x1) 2 (512 * (i 1).val + x.val) r * at3 x3 2 (512 * (i 1).val + x.val) l) (hl := hl) (hw := by
    intro y z
    pointwise [k0_pay103, k0_pay105, k0_pay93, runMiddle.sl.r_13, runMiddle.sl.v279, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dv7 (h r l : ℕ) (hl : l < 128) :
    at3 (arg9.view.read (Elt Ideal) (arg9.view.writes (Elt Ideal) arg9.view.junk (runMiddle.sl.HS0_7 (F := Ideal) c i arg2 harg2 arg3 harg3 arg5 harg5 arg9 x0 x1 x3))) h r l
      = if h = 2 ∧ 0 ≤ r ∧ r < 0 + 512 then at3 (arg9.view.read (Elt Ideal) (arg9.view.writes (Elt Ideal) arg9.view.junk (runMiddle.sl.HS0_6 (F := Ideal) c i arg2 harg2 arg3 harg3 arg5 harg5 arg9 x0 x1 x3))) 2 r l + ∑ x : Fin 256, pm (512 * (i 1).val) (at3 x0) (at3 x1) 2 (512 * (i 1).val + 256 + x.val) r * at3 x3 2 (512 * (i 1).val + 256 + x.val) l
        else at3 (arg9.view.read (Elt Ideal) (arg9.view.writes (Elt Ideal) arg9.view.junk (runMiddle.sl.HS0_6 (F := Ideal) c i arg2 harg2 arg3 harg3 arg5 harg5 arg9 x0 x1 x3))) h r l := by
  unfold runMiddle.sl.HS0_7
  rw [at3_writes arg9.view _ _ 2 0 rfl _ _ _ (fun r l => at3 (arg9.view.read (Elt Ideal) (arg9.view.writes (Elt Ideal) arg9.view.junk (runMiddle.sl.HS0_6 (F := Ideal) c i arg2 harg2 arg3 harg3 arg5 harg5 arg9 x0 x1 x3))) 2 r l + ∑ x : Fin 256, pm (512 * (i 1).val) (at3 x0) (at3 x1) 2 (512 * (i 1).val + 256 + x.val) r * at3 x3 2 (512 * (i 1).val + 256 + x.val) l) (hl := hl) (hw := by
    intro y z
    pointwise [k0_pay102, runMiddle.sl.cst_175, runMiddle.sl.cst_193, runMiddle.sl.r_17, runMiddle.sl.v258, runMiddle.sl.v260,
      runMiddle.sl.v261, runMiddle.sl.v332, runMiddle.sl.v335, runMiddle.sl.v336, runMiddle.sl.v337, runMiddle.sl.v340,
      runMiddle.sl.v341, runMiddle.sl.v342, runMiddle.sl.v345, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dv8 (h r l : ℕ) (hl : l < 128) :
    at3 (arg9.view.read (Elt Ideal) (arg9.view.writes (Elt Ideal) arg9.view.junk (runMiddle.sl.HS0_8 (F := Ideal) c i arg2 harg2 arg3 harg3 arg5 harg5 arg9 x0 x1 x3))) h r l
      = if h = 3 ∧ 0 ≤ r ∧ r < 0 + 256 then at3 (arg9.view.read (Elt Ideal) (arg9.view.writes (Elt Ideal) arg9.view.junk (runMiddle.sl.HS0_7 (F := Ideal) c i arg2 harg2 arg3 harg3 arg5 harg5 arg9 x0 x1 x3))) 3 r l + ∑ x : Fin 256, pm (512 * (i 1).val) (at3 x0) (at3 x1) 3 (512 * (i 1).val + x.val) r * at3 x3 3 (512 * (i 1).val + x.val) l
        else at3 (arg9.view.read (Elt Ideal) (arg9.view.writes (Elt Ideal) arg9.view.junk (runMiddle.sl.HS0_7 (F := Ideal) c i arg2 harg2 arg3 harg3 arg5 harg5 arg9 x0 x1 x3))) h r l := by
  unfold runMiddle.sl.HS0_8
  rw [at3_writes arg9.view _ _ 3 0 rfl _ _ _ (fun r l => at3 (arg9.view.read (Elt Ideal) (arg9.view.writes (Elt Ideal) arg9.view.junk (runMiddle.sl.HS0_7 (F := Ideal) c i arg2 harg2 arg3 harg3 arg5 harg5 arg9 x0 x1 x3))) 3 r l + ∑ x : Fin 256, pm (512 * (i 1).val) (at3 x0) (at3 x1) 3 (512 * (i 1).val + x.val) r * at3 x3 3 (512 * (i 1).val + x.val) l) (hl := hl) (hw := by
    intro y z
    pointwise [k0_pay109, k0_pay111, k0_pay122, k0_pay124, k0_pay125, k0_pay126, runMiddle.sl.cst_21, runMiddle.sl.cst_51,
      runMiddle.sl.r_20, runMiddle.sl.r_25, runMiddle.sl.r_26, runMiddle.sl.r_27, runMiddle.sl.v329, runMiddle.sl.v330,
      runMiddle.sl.v391, runMiddle.sl.v397, runMiddle.sl.v398, runMiddle.sl.v401, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dv9 (h r l : ℕ) (hl : l < 128) :
    at3 (arg9.view.read (Elt Ideal) (arg9.view.writes (Elt Ideal) arg9.view.junk (runMiddle.sl.HS0_9 (F := Ideal) c i arg2 harg2 arg3 harg3 arg5 harg5 arg9 x0 x1 x3))) h r l
      = if h = 3 ∧ 0 ≤ r ∧ r < 0 + 512 then at3 (arg9.view.read (Elt Ideal) (arg9.view.writes (Elt Ideal) arg9.view.junk (runMiddle.sl.HS0_8 (F := Ideal) c i arg2 harg2 arg3 harg3 arg5 harg5 arg9 x0 x1 x3))) 3 r l + ∑ x : Fin 256, pm (512 * (i 1).val) (at3 x0) (at3 x1) 3 (512 * (i 1).val + 256 + x.val) r * at3 x3 3 (512 * (i 1).val + 256 + x.val) l
        else at3 (arg9.view.read (Elt Ideal) (arg9.view.writes (Elt Ideal) arg9.view.junk (runMiddle.sl.HS0_8 (F := Ideal) c i arg2 harg2 arg3 harg3 arg5 harg5 arg9 x0 x1 x3))) h r l := by
  unfold runMiddle.sl.HS0_9
  rw [at3_writes arg9.view _ _ 3 0 rfl _ _ _ (fun r l => at3 (arg9.view.read (Elt Ideal) (arg9.view.writes (Elt Ideal) arg9.view.junk (runMiddle.sl.HS0_8 (F := Ideal) c i arg2 harg2 arg3 harg3 arg5 harg5 arg9 x0 x1 x3))) 3 r l + ∑ x : Fin 256, pm (512 * (i 1).val) (at3 x0) (at3 x1) 3 (512 * (i 1).val + 256 + x.val) r * at3 x3 3 (512 * (i 1).val + 256 + x.val) l) (hl := hl) (hw := by
    intro y z
    pointwise [k0_pay121, runMiddle.sl.cst_175, runMiddle.sl.r_23, runMiddle.sl.v424, runMiddle.sl.v427, runMiddle.sl.v428,
      runMiddle.sl.v429, runMiddle.sl.v432, runMiddle.sl.v433, runMiddle.sl.v434, runMiddle.sl.v437, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dk1 (h r l : ℕ) : at3 (arg7.view.read (Elt Ideal) (arg7.view.writes (Elt Ideal) arg7.view.junk (runMiddle.sl.H5_1 (F := Ideal)))) h r l = 0 := by
  unfold at3
  split_ifs with p
  · unfold runMiddle.sl.H5_1
    refine (View.read_writes_cons_unit_of_mem (Val := Elt Ideal) (v := arg7.view) (f := arg7.view.junk) inb_S4x512x128_S4x512x128_0_0_0 (k0_pay62 (F := Ideal)) [] _
      (ix3 ⟨h, p.1⟩ ⟨r, p.2.1⟩ ⟨l, p.2.2⟩) rfl (fun d => by
      match d with
      | ⟨0, _⟩ => show h = 0 + h; omega
      | ⟨1, _⟩ => show r = 0 + r; omega
      | ⟨2, _⟩ => show l = 0 + l; omega)).trans ?_
    pointwise [k0_pay62]
  · rfl

theorem dk2 (h r l : ℕ) (hl : l < 128) :
    at3 (arg7.view.read (Elt Ideal) (arg7.view.writes (Elt Ideal) arg7.view.junk (runMiddle.sl.H5_2 (F := Ideal) c i arg2 harg2 arg3 harg3 arg4 harg4 arg5 harg5 arg7 x0 x1 x2 x3))) h r l
      = if h = 0 ∧ 0 ≤ r ∧ r < 0 + 256 then at3 (arg7.view.read (Elt Ideal) (arg7.view.writes (Elt Ideal) arg7.view.junk (runMiddle.sl.H5_1 (F := Ideal)))) 0 r l + ∑ x : Fin 256, dm (512 * (i 1).val) (at3 x0) (at3 x1) (at3 x2) (at3 x3) 0 (512 * (i 1).val + x.val) r * at3 x0 0 (512 * (i 1).val + x.val) l
        else at3 (arg7.view.read (Elt Ideal) (arg7.view.writes (Elt Ideal) arg7.view.junk (runMiddle.sl.H5_1 (F := Ideal)))) h r l := by
  unfold runMiddle.sl.H5_2
  rw [at3_writes arg7.view _ _ 0 0 rfl _ _ _ (fun r l => at3 (arg7.view.read (Elt Ideal) (arg7.view.writes (Elt Ideal) arg7.view.junk (runMiddle.sl.H5_1 (F := Ideal)))) 0 r l + ∑ x : Fin 256, dm (512 * (i 1).val) (at3 x0) (at3 x1) (at3 x2) (at3 x3) 0 (512 * (i 1).val + x.val) r * at3 x0 0 (512 * (i 1).val + x.val) l) (hl := hl) (hw := by
    intro y z
    pointwise [k0_pay64, k0_pay65, k0_pay66, k0_pay69, k0_pay70, runMiddle.sl.cst_21, runMiddle.sl.cst_51, runMiddle.sl.r,
      runMiddle.sl.r_1, runMiddle.sl.r_4, runMiddle.sl.v66, runMiddle.sl.v67, runMiddle.sl.v70, runMiddle.sl.v71,
      runMiddle.sl.v72, runMiddle.sl.v75, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dk3 (h r l : ℕ) (hl : l < 128) :
    at3 (arg7.view.read (Elt Ideal) (arg7.view.writes (Elt Ideal) arg7.view.junk (runMiddle.sl.H5_3 (F := Ideal) c i arg2 harg2 arg3 harg3 arg4 harg4 arg5 harg5 arg7 x0 x1 x2 x3))) h r l
      = if h = 0 ∧ 0 ≤ r ∧ r < 0 + 512 then at3 (arg7.view.read (Elt Ideal) (arg7.view.writes (Elt Ideal) arg7.view.junk (runMiddle.sl.H5_2 (F := Ideal) c i arg2 harg2 arg3 harg3 arg4 harg4 arg5 harg5 arg7 x0 x1 x2 x3))) 0 r l + ∑ x : Fin 256, dm (512 * (i 1).val) (at3 x0) (at3 x1) (at3 x2) (at3 x3) 0 (512 * (i 1).val + 256 + x.val) r * at3 x0 0 (512 * (i 1).val + 256 + x.val) l
        else at3 (arg7.view.read (Elt Ideal) (arg7.view.writes (Elt Ideal) arg7.view.junk (runMiddle.sl.H5_2 (F := Ideal) c i arg2 harg2 arg3 harg3 arg4 harg4 arg5 harg5 arg7 x0 x1 x2 x3))) h r l := by
  unfold runMiddle.sl.H5_3
  rw [at3_writes arg7.view _ _ 0 0 rfl _ _ _ (fun r l => at3 (arg7.view.read (Elt Ideal) (arg7.view.writes (Elt Ideal) arg7.view.junk (runMiddle.sl.H5_2 (F := Ideal) c i arg2 harg2 arg3 harg3 arg4 harg4 arg5 harg5 arg7 x0 x1 x2 x3))) 0 r l + ∑ x : Fin 256, dm (512 * (i 1).val) (at3 x0) (at3 x1) (at3 x2) (at3 x3) 0 (512 * (i 1).val + 256 + x.val) r * at3 x0 0 (512 * (i 1).val + 256 + x.val) l) (hl := hl) (hw := by
    intro y z
    pointwise [k0_pay67, k0_pay68, k0_pay78, k0_pay79, k0_pay81, k0_pay82, runMiddle.sl.r_2, runMiddle.sl.r_3, runMiddle.sl.r_9,
      runMiddle.sl.v122, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dk4 (h r l : ℕ) (hl : l < 128) :
    at3 (arg7.view.read (Elt Ideal) (arg7.view.writes (Elt Ideal) arg7.view.junk (runMiddle.sl.H5_4 (F := Ideal) c i arg2 harg2 arg3 harg3 arg4 harg4 arg5 harg5 arg7 x0 x1 x2 x3))) h r l
      = if h = 1 ∧ 0 ≤ r ∧ r < 0 + 256 then at3 (arg7.view.read (Elt Ideal) (arg7.view.writes (Elt Ideal) arg7.view.junk (runMiddle.sl.H5_3 (F := Ideal) c i arg2 harg2 arg3 harg3 arg4 harg4 arg5 harg5 arg7 x0 x1 x2 x3))) 1 r l + ∑ x : Fin 256, dm (512 * (i 1).val) (at3 x0) (at3 x1) (at3 x2) (at3 x3) 1 (512 * (i 1).val + x.val) r * at3 x0 1 (512 * (i 1).val + x.val) l
        else at3 (arg7.view.read (Elt Ideal) (arg7.view.writes (Elt Ideal) arg7.view.junk (runMiddle.sl.H5_3 (F := Ideal) c i arg2 harg2 arg3 harg3 arg4 harg4 arg5 harg5 arg7 x0 x1 x2 x3))) h r l := by
  unfold runMiddle.sl.H5_4
  rw [at3_writes arg7.view _ _ 1 0 rfl _ _ _ (fun r l => at3 (arg7.view.read (Elt Ideal) (arg7.view.writes (Elt Ideal) arg7.view.junk (runMiddle.sl.H5_3 (F := Ideal) c i arg2 harg2 arg3 harg3 arg4 harg4 arg5 harg5 arg7 x0 x1 x2 x3))) 1 r l + ∑ x : Fin 256, dm (512 * (i 1).val) (at3 x0) (at3 x1) (at3 x2) (at3 x3) 1 (512 * (i 1).val + x.val) r * at3 x0 1 (512 * (i 1).val + x.val) l) (hl := hl) (hw := by
    intro y z
    pointwise [k0_pay76, k0_pay77, runMiddle.sl.cst_51, runMiddle.sl.cst_68, runMiddle.sl.r_6, runMiddle.sl.r_7, runMiddle.sl.v164,
      runMiddle.sl.v165, runMiddle.sl.v166, runMiddle.sl.v178, runMiddle.sl.v179, runMiddle.sl.v183, runMiddle.sl.v184,
      runMiddle.sl.v187, runMiddle.sl.v90, runMiddle.sl.v92, runMiddle.sl.v93, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dk5 (h r l : ℕ) (hl : l < 128) :
    at3 (arg7.view.read (Elt Ideal) (arg7.view.writes (Elt Ideal) arg7.view.junk (runMiddle.sl.H5_5 (F := Ideal) c i arg2 harg2 arg3 harg3 arg4 harg4 arg5 harg5 arg7 x0 x1 x2 x3))) h r l
      = if h = 1 ∧ 0 ≤ r ∧ r < 0 + 512 then at3 (arg7.view.read (Elt Ideal) (arg7.view.writes (Elt Ideal) arg7.view.junk (runMiddle.sl.H5_4 (F := Ideal) c i arg2 harg2 arg3 harg3 arg4 harg4 arg5 harg5 arg7 x0 x1 x2 x3))) 1 r l + ∑ x : Fin 256, dm (512 * (i 1).val) (at3 x0) (at3 x1) (at3 x2) (at3 x3) 1 (512 * (i 1).val + 256 + x.val) r * at3 x0 1 (512 * (i 1).val + 256 + x.val) l
        else at3 (arg7.view.read (Elt Ideal) (arg7.view.writes (Elt Ideal) arg7.view.junk (runMiddle.sl.H5_4 (F := Ideal) c i arg2 harg2 arg3 harg3 arg4 harg4 arg5 harg5 arg7 x0 x1 x2 x3))) h r l := by
  unfold runMiddle.sl.H5_5
  rw [at3_writes arg7.view _ _ 1 0 rfl _ _ _ (fun r l => at3 (arg7.view.read (Elt Ideal) (arg7.view.writes (Elt Ideal) arg7.view.junk (runMiddle.sl.H5_4 (F := Ideal) c i arg2 harg2 arg3 harg3 arg4 harg4 arg5 harg5 arg7 x0 x1 x2 x3))) 1 r l + ∑ x : Fin 256, dm (512 * (i 1).val) (at3 x0) (at3 x1) (at3 x2) (at3 x3) 1 (512 * (i 1).val + 256 + x.val) r * at3 x0 1 (512 * (i 1).val + 256 + x.val) l) (hl := hl) (hw := by
    intro y z
    pointwise [k0_pay84, k0_pay85, k0_pay94, k0_pay95, runMiddle.sl.cst_175, runMiddle.sl.r_10, runMiddle.sl.r_11, runMiddle.sl.r_14,
      runMiddle.sl.v234, runMiddle.sl.v235, runMiddle.sl.v238, runMiddle.sl.v239, runMiddle.sl.v240, runMiddle.sl.v243,
      View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dk6 (h r l : ℕ) (hl : l < 128) :
    at3 (arg7.view.read (Elt Ideal) (arg7.view.writes (Elt Ideal) arg7.view.junk (runMiddle.sl.H5_6 (F := Ideal) c i arg2 harg2 arg3 harg3 arg4 harg4 arg5 harg5 arg7 x0 x1 x2 x3))) h r l
      = if h = 2 ∧ 0 ≤ r ∧ r < 0 + 256 then at3 (arg7.view.read (Elt Ideal) (arg7.view.writes (Elt Ideal) arg7.view.junk (runMiddle.sl.H5_5 (F := Ideal) c i arg2 harg2 arg3 harg3 arg4 harg4 arg5 harg5 arg7 x0 x1 x2 x3))) 2 r l + ∑ x : Fin 256, dm (512 * (i 1).val) (at3 x0) (at3 x1) (at3 x2) (at3 x3) 2 (512 * (i 1).val + x.val) r * at3 x0 2 (512 * (i 1).val + x.val) l
        else at3 (arg7.view.read (Elt Ideal) (arg7.view.writes (Elt Ideal) arg7.view.junk (runMiddle.sl.H5_5 (F := Ideal) c i arg2 harg2 arg3 harg3 arg4 harg4 arg5 harg5 arg7 x0 x1 x2 x3))) h r l := by
  unfold runMiddle.sl.H5_6
  rw [at3_writes arg7.view _ _ 2 0 rfl _ _ _ (fun r l => at3 (arg7.view.read (Elt Ideal) (arg7.view.writes (Elt Ideal) arg7.view.junk (runMiddle.sl.H5_5 (F := Ideal) c i arg2 harg2 arg3 harg3 arg4 harg4 arg5 harg5 arg7 x0 x1 x2 x3))) 2 r l + ∑ x : Fin 256, dm (512 * (i 1).val) (at3 x0) (at3 x1) (at3 x2) (at3 x3) 2 (512 * (i 1).val + x.val) r * at3 x0 2 (512 * (i 1).val + x.val) l) (hl := hl) (hw := by
    intro y z
    pointwise [k0_pay103, k0_pay104, k0_pay106, k0_pay107, k0_pay92, k0_pay93, runMiddle.sl.r_12, runMiddle.sl.r_13, runMiddle.sl.r_19,
      runMiddle.sl.v290, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dk7 (h r l : ℕ) (hl : l < 128) :
    at3 (arg7.view.read (Elt Ideal) (arg7.view.writes (Elt Ideal) arg7.view.junk (runMiddle.sl.H5_7 (F := Ideal) c i arg2 harg2 arg3 harg3 arg4 harg4 arg5 harg5 arg7 x0 x1 x2 x3))) h r l
      = if h = 2 ∧ 0 ≤ r ∧ r < 0 + 512 then at3 (arg7.view.read (Elt Ideal) (arg7.view.writes (Elt Ideal) arg7.view.junk (runMiddle.sl.H5_6 (F := Ideal) c i arg2 harg2 arg3 harg3 arg4 harg4 arg5 harg5 arg7 x0 x1 x2 x3))) 2 r l + ∑ x : Fin 256, dm (512 * (i 1).val) (at3 x0) (at3 x1) (at3 x2) (at3 x3) 2 (512 * (i 1).val + 256 + x.val) r * at3 x0 2 (512 * (i 1).val + 256 + x.val) l
        else at3 (arg7.view.read (Elt Ideal) (arg7.view.writes (Elt Ideal) arg7.view.junk (runMiddle.sl.H5_6 (F := Ideal) c i arg2 harg2 arg3 harg3 arg4 harg4 arg5 harg5 arg7 x0 x1 x2 x3))) h r l := by
  unfold runMiddle.sl.H5_7
  rw [at3_writes arg7.view _ _ 2 0 rfl _ _ _ (fun r l => at3 (arg7.view.read (Elt Ideal) (arg7.view.writes (Elt Ideal) arg7.view.junk (runMiddle.sl.H5_6 (F := Ideal) c i arg2 harg2 arg3 harg3 arg4 harg4 arg5 harg5 arg7 x0 x1 x2 x3))) 2 r l + ∑ x : Fin 256, dm (512 * (i 1).val) (at3 x0) (at3 x1) (at3 x2) (at3 x3) 2 (512 * (i 1).val + 256 + x.val) r * at3 x0 2 (512 * (i 1).val + 256 + x.val) l) (hl := hl) (hw := by
    intro y z
    pointwise [k0_pay101, k0_pay102, runMiddle.sl.cst_175, runMiddle.sl.cst_193, runMiddle.sl.r_16, runMiddle.sl.r_17,
      runMiddle.sl.v258, runMiddle.sl.v260, runMiddle.sl.v261, runMiddle.sl.v332, runMiddle.sl.v333, runMiddle.sl.v334,
      runMiddle.sl.v346, runMiddle.sl.v347, runMiddle.sl.v351, runMiddle.sl.v352, runMiddle.sl.v355, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dk8 (h r l : ℕ) (hl : l < 128) :
    at3 (arg7.view.read (Elt Ideal) (arg7.view.writes (Elt Ideal) arg7.view.junk (runMiddle.sl.H5_8 (F := Ideal) c i arg2 harg2 arg3 harg3 arg4 harg4 arg5 harg5 arg7 x0 x1 x2 x3))) h r l
      = if h = 3 ∧ 0 ≤ r ∧ r < 0 + 256 then at3 (arg7.view.read (Elt Ideal) (arg7.view.writes (Elt Ideal) arg7.view.junk (runMiddle.sl.H5_7 (F := Ideal) c i arg2 harg2 arg3 harg3 arg4 harg4 arg5 harg5 arg7 x0 x1 x2 x3))) 3 r l + ∑ x : Fin 256, dm (512 * (i 1).val) (at3 x0) (at3 x1) (at3 x2) (at3 x3) 3 (512 * (i 1).val + x.val) r * at3 x0 3 (512 * (i 1).val + x.val) l
        else at3 (arg7.view.read (Elt Ideal) (arg7.view.writes (Elt Ideal) arg7.view.junk (runMiddle.sl.H5_7 (F := Ideal) c i arg2 harg2 arg3 harg3 arg4 harg4 arg5 harg5 arg7 x0 x1 x2 x3))) h r l := by
  unfold runMiddle.sl.H5_8
  rw [at3_writes arg7.view _ _ 3 0 rfl _ _ _ (fun r l => at3 (arg7.view.read (Elt Ideal) (arg7.view.writes (Elt Ideal) arg7.view.junk (runMiddle.sl.H5_7 (F := Ideal) c i arg2 harg2 arg3 harg3 arg4 harg4 arg5 harg5 arg7 x0 x1 x2 x3))) 3 r l + ∑ x : Fin 256, dm (512 * (i 1).val) (at3 x0) (at3 x1) (at3 x2) (at3 x3) 3 (512 * (i 1).val + x.val) r * at3 x0 3 (512 * (i 1).val + x.val) l) (hl := hl) (hw := by
    intro y z
    pointwise [k0_pay109, k0_pay110, k0_pay111, k0_pay122, k0_pay123, runMiddle.sl.cst_21, runMiddle.sl.cst_51, runMiddle.sl.r_20,
      runMiddle.sl.r_21, runMiddle.sl.r_24, runMiddle.sl.v329, runMiddle.sl.v330, runMiddle.sl.v402, runMiddle.sl.v403,
      runMiddle.sl.v406, runMiddle.sl.v407, runMiddle.sl.v408, runMiddle.sl.v411, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dk9 (h r l : ℕ) (hl : l < 128) :
    at3 (arg7.view.read (Elt Ideal) (arg7.view.writes (Elt Ideal) arg7.view.junk (runMiddle.sl.H5_9 (F := Ideal) c i arg2 harg2 arg3 harg3 arg4 harg4 arg5 harg5 arg7 x0 x1 x2 x3))) h r l
      = if h = 3 ∧ 0 ≤ r ∧ r < 0 + 512 then at3 (arg7.view.read (Elt Ideal) (arg7.view.writes (Elt Ideal) arg7.view.junk (runMiddle.sl.H5_8 (F := Ideal) c i arg2 harg2 arg3 harg3 arg4 harg4 arg5 harg5 arg7 x0 x1 x2 x3))) 3 r l + ∑ x : Fin 256, dm (512 * (i 1).val) (at3 x0) (at3 x1) (at3 x2) (at3 x3) 3 (512 * (i 1).val + 256 + x.val) r * at3 x0 3 (512 * (i 1).val + 256 + x.val) l
        else at3 (arg7.view.read (Elt Ideal) (arg7.view.writes (Elt Ideal) arg7.view.junk (runMiddle.sl.H5_8 (F := Ideal) c i arg2 harg2 arg3 harg3 arg4 harg4 arg5 harg5 arg7 x0 x1 x2 x3))) h r l := by
  unfold runMiddle.sl.H5_9
  rw [at3_writes arg7.view _ _ 3 0 rfl _ _ _ (fun r l => at3 (arg7.view.read (Elt Ideal) (arg7.view.writes (Elt Ideal) arg7.view.junk (runMiddle.sl.H5_8 (F := Ideal) c i arg2 harg2 arg3 harg3 arg4 harg4 arg5 harg5 arg7 x0 x1 x2 x3))) 3 r l + ∑ x : Fin 256, dm (512 * (i 1).val) (at3 x0) (at3 x1) (at3 x2) (at3 x3) 3 (512 * (i 1).val + 256 + x.val) r * at3 x0 3 (512 * (i 1).val + 256 + x.val) l) (hl := hl) (hw := by
    intro y z
    pointwise [k0_pay120, k0_pay121, runMiddle.sl.cst_175, runMiddle.sl.r_22, runMiddle.sl.r_23, runMiddle.sl.v424, runMiddle.sl.v425,
      runMiddle.sl.v426, runMiddle.sl.v438, runMiddle.sl.v439, runMiddle.sl.v442, runMiddle.sl.v443, runMiddle.sl.v444,
      runMiddle.sl.v447, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dq1 (h r l : ℕ) : at3 (arg6.view.read (Elt Ideal) (arg6.view.writes (Elt Ideal) arg6.view.junk (runFirst.sl.H4_1 (F := Ideal)))) h r l = 0 := by
  unfold at3
  split_ifs with p
  · unfold runFirst.sl.H4_1
    refine (View.read_writes_cons_unit_of_mem (Val := Elt Ideal) (v := arg6.view) (f := arg6.view.junk) inb_S4x4096x128_S4x4096x128_0_0_0 (k0_pay61 (F := Ideal)) [] _
      (ix3 ⟨h, p.1⟩ ⟨r, p.2.1⟩ ⟨l, p.2.2⟩) rfl (fun d => by
      match d with
      | ⟨0, _⟩ => show h = 0 + h; omega
      | ⟨1, _⟩ => show r = 0 + r; omega
      | ⟨2, _⟩ => show l = 0 + l; omega)).trans ?_
    pointwise [k0_pay61]
  · rfl

theorem dq2 (h r l : ℕ) (hl : l < 128) :
    at3 (arg6.view.read (Elt Ideal) (arg6.view.writes (Elt Ideal) arg6.view.junk (runFirst.sl.H4_2 (F := Ideal) c i arg2 harg2 arg3 harg3 arg4 harg4 arg5 harg5 arg6 x0 x1 x2 x3))) h r l
      = if h = 0 ∧ (512 * (i 1).val) ≤ r ∧ r < (512 * (i 1).val) + 256 then at3 (arg6.view.read (Elt Ideal) (arg6.view.writes (Elt Ideal) arg6.view.junk (runFirst.sl.H4_1 (F := Ideal)))) 0 r l + ∑ j : Fin 256, dm (512 * (i 1).val) (at3 x0) (at3 x1) (at3 x2) (at3 x3) 0 r j.val * at3 x1 0 j.val l
        else at3 (arg6.view.read (Elt Ideal) (arg6.view.writes (Elt Ideal) arg6.view.junk (runFirst.sl.H4_1 (F := Ideal)))) h r l := by
  unfold runFirst.sl.H4_2
  rw [at3_writes arg6.view _ _ 0 (512 * (i 1).val) (off1_0 i) _ _ _ (fun r l => at3 (arg6.view.read (Elt Ideal) (arg6.view.writes (Elt Ideal) arg6.view.junk (runFirst.sl.H4_1 (F := Ideal)))) 0 r l + ∑ j : Fin 256, dm (512 * (i 1).val) (at3 x0) (at3 x1) (at3 x2) (at3 x3) 0 r j.val * at3 x1 0 j.val l) (hl := hl) (hw := by
    intro y z
    pointwise [k0_pay64, k0_pay65, k0_pay66, k0_pay69, k0_pay70, runFirst.sl.cst_21, runFirst.sl.cst_51, runFirst.sl.r, runFirst.sl.r_1,
      runFirst.sl.r_4, runFirst.sl.v77, runFirst.sl.v78, runFirst.sl.v80, runFirst.sl.v81, runFirst.sl.v82, runFirst.sl.v86,
      View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dq3 (h r l : ℕ) (hl : l < 128) :
    at3 (arg6.view.read (Elt Ideal) (arg6.view.writes (Elt Ideal) arg6.view.junk (runFirst.sl.H4_3 (F := Ideal) c i arg2 harg2 arg3 harg3 arg4 harg4 arg5 harg5 arg6 x0 x1 x2 x3))) h r l
      = if h = 0 ∧ (512 * (i 1).val + 256) ≤ r ∧ r < (512 * (i 1).val + 256) + 256 then at3 (arg6.view.read (Elt Ideal) (arg6.view.writes (Elt Ideal) arg6.view.junk (runFirst.sl.H4_2 (F := Ideal) c i arg2 harg2 arg3 harg3 arg4 harg4 arg5 harg5 arg6 x0 x1 x2 x3))) 0 r l + ∑ j : Fin 512, dm (512 * (i 1).val) (at3 x0) (at3 x1) (at3 x2) (at3 x3) 0 r j.val * at3 x1 0 j.val l
        else at3 (arg6.view.read (Elt Ideal) (arg6.view.writes (Elt Ideal) arg6.view.junk (runFirst.sl.H4_2 (F := Ideal) c i arg2 harg2 arg3 harg3 arg4 harg4 arg5 harg5 arg6 x0 x1 x2 x3))) h r l := by
  unfold runFirst.sl.H4_3
  rw [at3_writes arg6.view _ _ 0 (512 * (i 1).val + 256) (off1_1 i) _ _ _ (fun r l => at3 (arg6.view.read (Elt Ideal) (arg6.view.writes (Elt Ideal) arg6.view.junk (runFirst.sl.H4_2 (F := Ideal) c i arg2 harg2 arg3 harg3 arg4 harg4 arg5 harg5 arg6 x0 x1 x2 x3))) 0 r l + ∑ j : Fin 512, dm (512 * (i 1).val) (at3 x0) (at3 x1) (at3 x2) (at3 x3) 0 r j.val * at3 x1 0 j.val l) (hl := hl) (hw := by
    intro y z
    pointwise [k0_pay67, k0_pay68, k0_pay78, k0_pay79, k0_pay83, runFirst.sl.r_2, runFirst.sl.r_3, runFirst.sl.r_8, runFirst.sl.v133,
      View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dq4 (h r l : ℕ) (hl : l < 128) :
    at3 (arg6.view.read (Elt Ideal) (arg6.view.writes (Elt Ideal) arg6.view.junk (runFirst.sl.H4_4 (F := Ideal) c i arg2 harg2 arg3 harg3 arg4 harg4 arg5 harg5 arg6 x0 x1 x2 x3))) h r l
      = if h = 1 ∧ (512 * (i 1).val) ≤ r ∧ r < (512 * (i 1).val) + 256 then at3 (arg6.view.read (Elt Ideal) (arg6.view.writes (Elt Ideal) arg6.view.junk (runFirst.sl.H4_3 (F := Ideal) c i arg2 harg2 arg3 harg3 arg4 harg4 arg5 harg5 arg6 x0 x1 x2 x3))) 1 r l + ∑ j : Fin 256, dm (512 * (i 1).val) (at3 x0) (at3 x1) (at3 x2) (at3 x3) 1 r j.val * at3 x1 1 j.val l
        else at3 (arg6.view.read (Elt Ideal) (arg6.view.writes (Elt Ideal) arg6.view.junk (runFirst.sl.H4_3 (F := Ideal) c i arg2 harg2 arg3 harg3 arg4 harg4 arg5 harg5 arg6 x0 x1 x2 x3))) h r l := by
  unfold runFirst.sl.H4_4
  rw [at3_writes arg6.view _ _ 1 (512 * (i 1).val) (off2_0 i) _ _ _ (fun r l => at3 (arg6.view.read (Elt Ideal) (arg6.view.writes (Elt Ideal) arg6.view.junk (runFirst.sl.H4_3 (F := Ideal) c i arg2 harg2 arg3 harg3 arg4 harg4 arg5 harg5 arg6 x0 x1 x2 x3))) 1 r l + ∑ j : Fin 256, dm (512 * (i 1).val) (at3 x0) (at3 x1) (at3 x2) (at3 x3) 1 r j.val * at3 x1 1 j.val l) (hl := hl) (hw := by
    intro y z
    pointwise [k0_pay76, k0_pay77, k0_pay91, runFirst.sl.cst_51, runFirst.sl.cst_68, runFirst.sl.r_6, runFirst.sl.r_7, runFirst.sl.v164,
      runFirst.sl.v165, runFirst.sl.v166, runFirst.sl.v189, runFirst.sl.v190, runFirst.sl.v193, runFirst.sl.v194,
      runFirst.sl.v90, runFirst.sl.v92, runFirst.sl.v93, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dq5 (h r l : ℕ) (hl : l < 128) :
    at3 (arg6.view.read (Elt Ideal) (arg6.view.writes (Elt Ideal) arg6.view.junk (runFirst.sl.H4_5 (F := Ideal) c i arg2 harg2 arg3 harg3 arg4 harg4 arg5 harg5 arg6 x0 x1 x2 x3))) h r l
      = if h = 1 ∧ (512 * (i 1).val + 256) ≤ r ∧ r < (512 * (i 1).val + 256) + 256 then at3 (arg6.view.read (Elt Ideal) (arg6.view.writes (Elt Ideal) arg6.view.junk (runFirst.sl.H4_4 (F := Ideal) c i arg2 harg2 arg3 harg3 arg4 harg4 arg5 harg5 arg6 x0 x1 x2 x3))) 1 r l + ∑ j : Fin 512, dm (512 * (i 1).val) (at3 x0) (at3 x1) (at3 x2) (at3 x3) 1 r j.val * at3 x1 1 j.val l
        else at3 (arg6.view.read (Elt Ideal) (arg6.view.writes (Elt Ideal) arg6.view.junk (runFirst.sl.H4_4 (F := Ideal) c i arg2 harg2 arg3 harg3 arg4 harg4 arg5 harg5 arg6 x0 x1 x2 x3))) h r l := by
  unfold runFirst.sl.H4_5
  rw [at3_writes arg6.view _ _ 1 (512 * (i 1).val + 256) (off2_1 i) _ _ _ (fun r l => at3 (arg6.view.read (Elt Ideal) (arg6.view.writes (Elt Ideal) arg6.view.junk (runFirst.sl.H4_4 (F := Ideal) c i arg2 harg2 arg3 harg3 arg4 harg4 arg5 harg5 arg6 x0 x1 x2 x3))) 1 r l + ∑ j : Fin 512, dm (512 * (i 1).val) (at3 x0) (at3 x1) (at3 x2) (at3 x3) 1 r j.val * at3 x1 1 j.val l) (hl := hl) (hw := by
    intro y z
    pointwise [k0_pay84, k0_pay85, k0_pay94, k0_pay95, runFirst.sl.cst_51, runFirst.sl.r_10, runFirst.sl.r_11, runFirst.sl.r_14,
      runFirst.sl.v245, runFirst.sl.v246, runFirst.sl.v248, runFirst.sl.v249, runFirst.sl.v250, runFirst.sl.v254, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dq6 (h r l : ℕ) (hl : l < 128) :
    at3 (arg6.view.read (Elt Ideal) (arg6.view.writes (Elt Ideal) arg6.view.junk (runFirst.sl.H4_6 (F := Ideal) c i arg2 harg2 arg3 harg3 arg4 harg4 arg5 harg5 arg6 x0 x1 x2 x3))) h r l
      = if h = 2 ∧ (512 * (i 1).val) ≤ r ∧ r < (512 * (i 1).val) + 256 then at3 (arg6.view.read (Elt Ideal) (arg6.view.writes (Elt Ideal) arg6.view.junk (runFirst.sl.H4_5 (F := Ideal) c i arg2 harg2 arg3 harg3 arg4 harg4 arg5 harg5 arg6 x0 x1 x2 x3))) 2 r l + ∑ j : Fin 256, dm (512 * (i 1).val) (at3 x0) (at3 x1) (at3 x2) (at3 x3) 2 r j.val * at3 x1 2 j.val l
        else at3 (arg6.view.read (Elt Ideal) (arg6.view.writes (Elt Ideal) arg6.view.junk (runFirst.sl.H4_5 (F := Ideal) c i arg2 harg2 arg3 harg3 arg4 harg4 arg5 harg5 arg6 x0 x1 x2 x3))) h r l := by
  unfold runFirst.sl.H4_6
  rw [at3_writes arg6.view _ _ 2 (512 * (i 1).val) (off3_0 i) _ _ _ (fun r l => at3 (arg6.view.read (Elt Ideal) (arg6.view.writes (Elt Ideal) arg6.view.junk (runFirst.sl.H4_5 (F := Ideal) c i arg2 harg2 arg3 harg3 arg4 harg4 arg5 harg5 arg6 x0 x1 x2 x3))) 2 r l + ∑ j : Fin 256, dm (512 * (i 1).val) (at3 x0) (at3 x1) (at3 x2) (at3 x3) 2 r j.val * at3 x1 2 j.val l) (hl := hl) (hw := by
    intro y z
    pointwise [k0_pay103, k0_pay104, k0_pay108, k0_pay92, k0_pay93, runFirst.sl.r_12, runFirst.sl.r_13, runFirst.sl.r_18,
      runFirst.sl.v301, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dq7 (h r l : ℕ) (hl : l < 128) :
    at3 (arg6.view.read (Elt Ideal) (arg6.view.writes (Elt Ideal) arg6.view.junk (runFirst.sl.H4_7 (F := Ideal) c i arg2 harg2 arg3 harg3 arg4 harg4 arg5 harg5 arg6 x0 x1 x2 x3))) h r l
      = if h = 2 ∧ (512 * (i 1).val + 256) ≤ r ∧ r < (512 * (i 1).val + 256) + 256 then at3 (arg6.view.read (Elt Ideal) (arg6.view.writes (Elt Ideal) arg6.view.junk (runFirst.sl.H4_6 (F := Ideal) c i arg2 harg2 arg3 harg3 arg4 harg4 arg5 harg5 arg6 x0 x1 x2 x3))) 2 r l + ∑ j : Fin 512, dm (512 * (i 1).val) (at3 x0) (at3 x1) (at3 x2) (at3 x3) 2 r j.val * at3 x1 2 j.val l
        else at3 (arg6.view.read (Elt Ideal) (arg6.view.writes (Elt Ideal) arg6.view.junk (runFirst.sl.H4_6 (F := Ideal) c i arg2 harg2 arg3 harg3 arg4 harg4 arg5 harg5 arg6 x0 x1 x2 x3))) h r l := by
  unfold runFirst.sl.H4_7
  rw [at3_writes arg6.view _ _ 2 (512 * (i 1).val + 256) (off3_1 i) _ _ _ (fun r l => at3 (arg6.view.read (Elt Ideal) (arg6.view.writes (Elt Ideal) arg6.view.junk (runFirst.sl.H4_6 (F := Ideal) c i arg2 harg2 arg3 harg3 arg4 harg4 arg5 harg5 arg6 x0 x1 x2 x3))) 2 r l + ∑ j : Fin 512, dm (512 * (i 1).val) (at3 x0) (at3 x1) (at3 x2) (at3 x3) 2 r j.val * at3 x1 2 j.val l) (hl := hl) (hw := by
    intro y z
    pointwise [k0_pay101, k0_pay102, k0_pay119, runFirst.sl.cst_193, runFirst.sl.cst_51, runFirst.sl.r_16, runFirst.sl.r_17,
      runFirst.sl.v258, runFirst.sl.v260, runFirst.sl.v261, runFirst.sl.v332, runFirst.sl.v333, runFirst.sl.v334,
      runFirst.sl.v357, runFirst.sl.v358, runFirst.sl.v361, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

theorem dq8 (h r l : ℕ) (hl : l < 128) :
    at3 (arg6.view.read (Elt Ideal) (arg6.view.writes (Elt Ideal) arg6.view.junk (runFirst.sl.H4_8 (F := Ideal) c i arg2 harg2 arg3 harg3 arg4 harg4 arg5 harg5 arg6 x0 x1 x2 x3))) h r l
      = if h = 3 ∧ (512 * (i 1).val) ≤ r ∧ r < (512 * (i 1).val) + 256 then at3 (arg6.view.read (Elt Ideal) (arg6.view.writes (Elt Ideal) arg6.view.junk (runFirst.sl.H4_7 (F := Ideal) c i arg2 harg2 arg3 harg3 arg4 harg4 arg5 harg5 arg6 x0 x1 x2 x3))) 3 r l + ∑ j : Fin 256, dm (512 * (i 1).val) (at3 x0) (at3 x1) (at3 x2) (at3 x3) 3 r j.val * at3 x1 3 j.val l
        else at3 (arg6.view.read (Elt Ideal) (arg6.view.writes (Elt Ideal) arg6.view.junk (runFirst.sl.H4_7 (F := Ideal) c i arg2 harg2 arg3 harg3 arg4 harg4 arg5 harg5 arg6 x0 x1 x2 x3))) h r l := by
  unfold runFirst.sl.H4_8
  rw [at3_writes arg6.view _ _ 3 (512 * (i 1).val) (off4_0 i) _ _ _ (fun r l => at3 (arg6.view.read (Elt Ideal) (arg6.view.writes (Elt Ideal) arg6.view.junk (runFirst.sl.H4_7 (F := Ideal) c i arg2 harg2 arg3 harg3 arg4 harg4 arg5 harg5 arg6 x0 x1 x2 x3))) 3 r l + ∑ j : Fin 256, dm (512 * (i 1).val) (at3 x0) (at3 x1) (at3 x2) (at3 x3) 3 r j.val * at3 x1 3 j.val l) (hl := hl) (hw := by
    intro y z
    pointwise [k0_pay109, k0_pay110, k0_pay111, k0_pay122, k0_pay123, runFirst.sl.cst_21, runFirst.sl.cst_51, runFirst.sl.r_20,
      runFirst.sl.r_21, runFirst.sl.r_24, runFirst.sl.v329, runFirst.sl.v330, runFirst.sl.v413, runFirst.sl.v414,
      runFirst.sl.v416, runFirst.sl.v417, runFirst.sl.v418, runFirst.sl.v422, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]

/-! ### The eight stores together -/

/-- A sum over 512 numbers in its two halves. -/
theorem sum_halves (f : ℕ → EReal) : ∑ x : Fin 512, f x.val = ∑ x : Fin 256, f x.val + ∑ x : Fin 256, f (256 + x.val) := by
  rw [Finset.sum_range (n := 512) (fun x => f x) |>.symm, Finset.sum_range (n := 256) (fun x => f x) |>.symm,
    Finset.sum_range (n := 256) (fun x => f (256 + x)) |>.symm, ← Finset.sum_range_add]

theorem pm_zero (o : ℕ) (Q K : ℕ → ℕ → ℕ → EReal) (h i j : ℕ) (hc : i < o + j) : pm o Q K h i j = 0 := if_neg (by omega)

theorem dm_zero (o : ℕ) (Q K W D : ℕ → ℕ → ℕ → EReal) (h i j : ℕ) (hc : i < o + j) : dm o Q K W D h i j = 0 := by
  unfold dm; rw [pm_zero _ _ _ _ _ _ hc, zero_mul]

/-- The two halves of the query rows of one block, the first of which reaches only the first 256 key rows. -/
theorem two_halves (o r : ℕ) (P W : ℕ → ℕ → EReal) (l : ℕ) (hz : ∀ i, i < o + r → P i r = 0) :
    (if 0 ≤ r ∧ r < 0 + 256 then (0 : EReal) + ∑ x : Fin 256, P (o + x.val) r * W (o + x.val) l else 0)
        + ∑ x : Fin 256, P (o + 256 + x.val) r * W (o + 256 + x.val) l
      = ∑ x : Fin 512, P (o + x.val) r * W (o + x.val) l := by
  rw [sum_halves (fun x => P (o + x) r * W (o + x) l)]
  simp only [← Nat.add_assoc]
  congr 1
  split_ifs with c
  · rw [zero_add]
  · refine (Finset.sum_eq_zero fun x _ => ?_).symm
    rw [hz _ (by have := x.isLt; omega), zero_mul]

theorem diag_dv (h r l : ℕ) (hh : h < 4) (hr : r < 512) (hl : l < 128) :
    at3 (arg9.view.read (Elt Ideal) (arg9.view.writes (Elt Ideal) arg9.view.junk (runMiddle.sl.HS0_9 (F := Ideal) c i arg2 harg2 arg3 harg3 arg5 harg5 arg9 x0 x1 x3))) h r l
      = ∑ x : Fin 512, pm (512 * (i 1).val) (at3 x0) (at3 x1) h (512 * (i 1).val + x.val) r * at3 x3 h (512 * (i 1).val + x.val) l := by
  have hr' : 0 ≤ r ∧ r < 0 + 512 := by omega
  rw [← two_halves (512 * (i 1).val) r (fun i' r => pm (512 * (i 1).val) (at3 x0) (at3 x1) h i' r) (fun i' l => at3 x3 h i' l) l
    (fun i' hi => pm_zero _ _ _ _ _ _ hi)]
  interval_cases h <;>
    simp only [dv9 _ _ _ hl, dv8 _ _ _ hl, dv7 _ _ _ hl, dv6 _ _ _ hl, dv5 _ _ _ hl, dv4 _ _ _ hl, dv3 _ _ _ hl, dv2 _ _ _ hl, dv1, hr',
      true_and, false_and, if_true, if_false, and_self, OfNat.ofNat_ne_zero, OfNat.zero_ne_ofNat, OfNat.ofNat_ne_one,
      OfNat.one_ne_ofNat, one_ne_zero, zero_ne_one, Nat.reduceEqDiff]

theorem diag_dk (h r l : ℕ) (hh : h < 4) (hr : r < 512) (hl : l < 128) :
    at3 (arg7.view.read (Elt Ideal) (arg7.view.writes (Elt Ideal) arg7.view.junk (runMiddle.sl.H5_9 (F := Ideal) c i arg2 harg2 arg3 harg3 arg4 harg4 arg5 harg5 arg7 x0 x1 x2 x3))) h r l
      = ∑ x : Fin 512, dm (512 * (i 1).val) (at3 x0) (at3 x1) (at3 x2) (at3 x3) h (512 * (i 1).val + x.val) r
          * at3 x0 h (512 * (i 1).val + x.val) l := by
  have hr' : 0 ≤ r ∧ r < 0 + 512 := by omega
  rw [← two_halves (512 * (i 1).val) r (fun i' r => dm (512 * (i 1).val) (at3 x0) (at3 x1) (at3 x2) (at3 x3) h i' r)
    (fun i' l => at3 x0 h i' l) l (fun i' hi => dm_zero _ _ _ _ _ _ _ _ hi)]
  interval_cases h <;>
    simp only [dk9 _ _ _ hl, dk8 _ _ _ hl, dk7 _ _ _ hl, dk6 _ _ _ hl, dk5 _ _ _ hl, dk4 _ _ _ hl, dk3 _ _ _ hl, dk2 _ _ _ hl, dk1, hr',
      true_and, false_and, if_true, if_false, and_self, OfNat.ofNat_ne_zero, OfNat.zero_ne_ofNat, OfNat.ofNat_ne_one,
      OfNat.one_ne_ofNat, one_ne_zero, zero_ne_one, Nat.reduceEqDiff]

/-- The first half's sum over 256 key rows is the sum over all 512: the mask leaves the other half nothing. -/
theorem lo_half (o r : ℕ) (P W : ℕ → EReal) (hz : ∀ j, r < o + j → P j = 0) (hr : r < o + 256) :
    ∑ j : Fin 256, P j.val * W j.val = ∑ j : Fin 512, P j.val * W j.val := by
  rw [sum_halves (fun j => P j * W j), Finset.sum_eq_zero (s := Finset.univ) (f := fun x : Fin 256 => P (256 + x.val) * W (256 + x.val)), add_zero]
  intro x _
  rw [hz _ (by omega), zero_mul]

end Cert.Attn

end
-- ==== Proof.AttnOut.lean ====
/-
  What the gradient body leaves at one grid point, element by element: the keys' and values' gradients of the point's key block,
  whole, and the queries' gradient with the point's own share added.
-/
module

public import proofs.«01_k».proof.Proof.AttnDiag

@[expose] public section

set_option maxRecDepth 16384

noncomputable section

namespace Cert.Attn

open Cert.KernelIdeal Cert.KernelIdeal.Gen
open Idealize.ShloMosaic Idealize.ShloMosaic.TcCoe Idealize.ShloMosaic.Tactic

/-- The logarithm of two. -/
def ln2c : EReal := ((Real.log 2 : ℝ) : EReal)

/-- Where the mask leaves a query row, the masked gradient of the score is the plain one. -/
theorem pm_of_le (o : ℕ) (Q K : ℕ → ℕ → ℕ → EReal) (h i j : ℕ) (hc : o + j ≤ i) : pm o Q K h i j = pr Q K h i j := if_pos hc

theorem dm_of_le (o : ℕ) (Q K W D : ℕ → ℕ → ℕ → EReal) (h i j : ℕ) (hc : o + j ≤ i) : dm o Q K W D h i j = ds Q K W D h i j := by
  unfold dm ds; rw [pm_of_le _ _ _ _ _ _ hc]

/-- The diagonal block's sum and the later blocks' are the sum over all the query rows, the earlier ones adding zero. -/
theorem sum_rows (k : ℕ) (hk : k < 8) (f : ℕ → EReal) (hz : ∀ i, i < 512 * k → f i = 0) :
    (∑ x : Fin 512, f (512 * k + x.val)) + ∑ y ∈ Finset.range (512 * (7 - k)), f (512 * k + 512 + y) = ∑ i ∈ Finset.range 4096, f i := by
  have e : 4096 = 512 * k + 512 + 512 * (7 - k) := by omega
  rw [e, Finset.sum_range_add, Finset.sum_range_add, Finset.sum_eq_zero (s := Finset.range (512 * k)) (f := f), zero_add,
    Finset.sum_range (n := 512) (fun x => f (512 * k + x))]
  intro x hx; exact hz x (Finset.mem_range.mp hx)

variable {c : Dev nD} {i : grid0.Coords}
  {arg2 : Memref sig .tc .vmem S4x4096x128 .bf16} {harg2 : arg2.IsWhole}
  {arg3 : Memref sig .tc .vmem S4x512x128 .bf16} {harg3 : arg3.IsWhole}
  {arg4 : Memref sig .tc .vmem S4x512x128 .bf16} {harg4 : arg4.IsWhole}
  {arg5 : Memref sig .tc .vmem S4x4096x128 .bf16} {harg5 : arg5.IsWhole}
  {arg6 : Memref sig .tc .vmem S4x4096x128 .f32} {harg6 : arg6.IsWhole}
  {arg7 : Memref sig .tc .vmem S4x512x128 .f32} {harg7 : arg7.IsWhole}
  {arg8 : Memref sig .tc .vmem S4x512x64 .f32} {harg8 : arg8.IsWhole}
  {arg9 : Memref sig .tc .vmem S4x512x128 .f32} {harg9 : arg9.IsWhole}
  {x0 : Vec Ideal S4x4096x128 .bf16} {x1 : Vec Ideal S4x512x128 .bf16} {x2 : Vec Ideal S4x512x128 .bf16} {x3 : Vec Ideal S4x4096x128 .bf16}
  {y : Vec Ideal S4x4096x128 .f32}

/-- The test of the lanes: it holds in the first 96. -/
theorem lanes (l : Fin 128) : (k0_pay139 (ix3 0 0 l) = 1#1) ↔ l.val < 96 := by
  pointwise [k0_pay139]
  rw [show (IntOp.cmpi .slt (BitVec.ofNat 32 l.val) 96#32) = BitVec.ofBool (decide (l.val < 96)) from
    WordCmp.cmpi_slt_ofNat (w := 32) (by have := l.isLt; omega) (by decide)]
  by_cases hc : l.val < 96 <;> simp [hc]

theorem sel_lanes (l : Fin 128) (a : EReal) : Scalar.select (k0_pay139 (ix3 0 0 l)) a (0 : EReal) = if l.val < 96 then a else 0 := by
  by_cases hc : l.val < 96
  · rw [if_pos hc, (lanes l).mpr hc]; rfl
  · rw [if_neg hc]; exact if_neg (fun h => hc ((lanes l).mp h))

/-- The last step of a gradient block at an index: the first 96 lanes are scaled by the logarithm of two, the others are zero. -/
theorem scale_lanes (v : FVec Ideal S4x512x128 .f32) (h : Fin 4) (r : Fin 512) (l : Fin 128) :
    k0_pay140 v (ix3 h r l) = if l.val < 96 then v (ix3 h r l) * ln2c else 0 := by
  pointwise [k0_pay140]
  exact sel_lanes l _

theorem scale_lanes' (v : FVec Ideal S4x4096x128 .f32) (h : Fin 4) (r : Fin 4096) (l : Fin 128) :
    k0_pay141 v (ix3 h r l) = if l.val < 96 then v (ix3 h r l) * ln2c else 0 := by
  pointwise [k0_pay141]
  exact sel_lanes l _

/-- A query row's sum over the point's key rows, put together: rows before the block have none of it, the block's own rows have it
    under the mask, and the later rows from the loop. -/
theorem dq_rows (k r : ℕ) (hk : k < 8) (hr : r < 4096) (P M W : ℕ → EReal) (B b : EReal) (hz : ∀ j, r < 512 * k + j → M j = 0)
    (he : 512 * k + 512 ≤ r → ∀ j, j < 512 → M j = P j)
    (h1 : 512 * k + 256 ≤ r ∧ r < 512 * k + 256 + 256 → B = b + ∑ j : Fin 512, M j.val * W j.val)
    (h0 : 512 * k ≤ r ∧ r < 512 * k + 256 → B = b + ∑ j : Fin 256, M j.val * W j.val)
    (hB : r < 512 * k ∨ 512 * k + 512 ≤ r → B = b) :
    (if 512 * k + 512 ≤ r ∧ r < 512 * k + 512 + 512 * (7 - k) then B + ∑ j : Fin 512, P j.val * W j.val else B)
      = b + ∑ j : Fin 512, M j.val * W j.val := by
  split_ifs with c
  · rw [hB (Or.inr c.1)]
    exact congrArg _ (Finset.sum_congr rfl fun j _ => by rw [he c.1 j.val j.isLt])
  · by_cases c1 : 512 * k + 256 ≤ r
    · exact h1 ⟨c1, by omega⟩
    · by_cases c0 : 512 * k ≤ r
      · rw [h0 ⟨c0, by omega⟩, lo_half (512 * k) r M W hz (by omega)]
      · rw [hB (Or.inl (by omega)), Finset.sum_eq_zero, add_zero]
        intro j _; rw [hz _ (by omega), zero_mul]

/-- The values' gradient of the point's key block: over all the query rows, the masked weight by the output's gradient. -/
theorem runFirst_dv (hc0 : isFirst i) (hc1 : ¬isLast i) (f : BufTy.Contents (Elt Ideal) arg8.view.ty) (h r l : ℕ) (hh : h < 4) (hr : r < 512) (hl : l < 64) :
    at3 (arg8.view.read (Elt Ideal) (arg8.view.writes (Elt Ideal) f (runFirst (F := Ideal) c i arg2 harg2 arg3 harg3 arg4 harg4 arg5 harg5 arg6 harg6 arg7 harg7 arg8 harg8 arg9 harg9 hc0 hc1 x0 x1 x2 x3).2.2.1)) h r l
      = ∑ i' ∈ Finset.range 4096, pm (512 * (i 1).val) (at3 x0) (at3 x1) h i' r * at3 x3 h i' l := by
  unfold runFirst; dsimp only
  rw [at3_of _ hh hr hl]
  refine (View.read_writes_cons_unit_of_mem (Val := Elt Ideal) (v := arg8.view) (f := f) inb_S4x512x64_S4x512x64_0_0_0 _ [] _
      (ix3 ⟨h, hh⟩ ⟨r, hr⟩ ⟨l, hl⟩) rfl (fun d => by
      match d with
      | ⟨0, _⟩ => show h = 0 + h; omega
      | ⟨1, _⟩ => show r = 0 + r; omega
      | ⟨2, _⟩ => show l = 0 + l; omega)).trans ?_
  unfold runFirst.sl.v477
  rw [readAt_f32]
  simp only [Matrix.cons_val_zero, Matrix.cons_val_one, Matrix.cons_val, Nat.zero_add]
  rw [View.writes_append]
  refine (loop_dv c i arg2 harg2 arg3 harg3 arg4 harg4 arg5 harg5 arg6 harg6 arg7 harg7 arg8 harg8 arg9 harg9 _ _ _ _ _ _ _ _ _ le_rfl h r l hh hr
    (by omega)).trans ?_
  rw [trips_eq]
  have hd := diag_dv (c := c) (i := i) (arg2 := arg2) (harg2 := harg2) (arg3 := arg3) (harg3 := harg3) (arg5 := arg5) (harg5 := harg5)
    (arg9 := arg9) (x0 := x0) (x1 := x1) (x3 := x3) h r l hh hr (by omega)
  have hk : (i 1).val < 8 := (i 1).isLt
  rw [← sum_rows (i 1).val hk (fun i' => pm (512 * (i 1).val) (at3 x0) (at3 x1) h i' r * at3 x3 h i' l)
    (fun i' hi => by rw [pm_zero _ _ _ _ _ _ (by omega), zero_mul])]
  refine congrArg₂ (· + ·) hd (Finset.sum_congr rfl fun y hy => ?_)
  simp only [Memref.IsWhole.read_unread]
  rw [pm_of_le _ _ _ _ _ _ (by omega)]

/-- The keys' gradient of the point's key block: in the first 96 lanes, over all the query rows, the masked gradient of the score
    by the query, times the logarithm of two; zero in the other lanes. -/
theorem runFirst_dk (hc0 : isFirst i) (hc1 : ¬isLast i) (f : BufTy.Contents (Elt Ideal) arg7.view.ty) (h r l : ℕ) (hh : h < 4) (hr : r < 512) (hl : l < 128) :
    at3 (arg7.view.read (Elt Ideal) (arg7.view.writes (Elt Ideal) f (runFirst (F := Ideal) c i arg2 harg2 arg3 harg3 arg4 harg4 arg5 harg5 arg6 harg6 arg7 harg7 arg8 harg8 arg9 harg9 hc0 hc1 x0 x1 x2 x3).2.1)) h r l
      = if l < 96 then (∑ i' ∈ Finset.range 4096, dm (512 * (i 1).val) (at3 x0) (at3 x1) (at3 x2) (at3 x3) h i' r * at3 x0 h i' l) * ln2c else 0 := by
  unfold runFirst; dsimp only
  rw [at3_of _ hh hr hl]
  refine (View.read_writes_cons_unit_of_mem (Val := Elt Ideal) (v := arg7.view) (f := f) inb_S4x512x128_S4x512x128_0_0_0 _ _ _
      (ix3 ⟨h, hh⟩ ⟨r, hr⟩ ⟨l, hl⟩) rfl (fun d => by
      match d with
      | ⟨0, _⟩ => show h = 0 + h; omega
      | ⟨1, _⟩ => show r = 0 + r; omega
      | ⟨2, _⟩ => show l = 0 + l; omega)).trans ?_
  rw [scale_lanes]
  split_ifs with c96
  · congr 1
    unfold runFirst.sl.v468
    rw [readAt_f32]
    simp only [Matrix.cons_val_zero, Matrix.cons_val_one, Matrix.cons_val, Nat.zero_add]
    rw [View.writes_append]
    refine (loop_dk c i arg2 harg2 arg3 harg3 arg4 harg4 arg5 harg5 arg6 harg6 arg7 harg7 arg8 harg8 arg9 harg9 _ _ _ _ _ _ _ _ _ le_rfl h r l hh hr hl).trans ?_
    rw [trips_eq]
    have hd := diag_dk (c := c) (i := i) (arg2 := arg2) (harg2 := harg2) (arg3 := arg3) (harg3 := harg3) (arg4 := arg4) (harg4 := harg4)
      (arg5 := arg5) (harg5 := harg5) (arg7 := arg7) (x0 := x0) (x1 := x1) (x2 := x2) (x3 := x3) h r l hh hr hl
    have hk : (i 1).val < 8 := (i 1).isLt
    rw [← sum_rows (i 1).val hk (fun i' => dm (512 * (i 1).val) (at3 x0) (at3 x1) (at3 x2) (at3 x3) h i' r * at3 x0 h i' l)
      (fun i' hi => by rw [dm_zero _ _ _ _ _ _ _ _ (by omega), zero_mul])]
    refine congrArg₂ (· + ·) hd (Finset.sum_congr rfl fun y hy => ?_)
    simp only [Memref.IsWhole.read_unread]
    rw [dm_of_le _ _ _ _ _ _ _ _ (by omega)]
  · rfl

/-- The values' gradient of the point's key block: over all the query rows, the masked weight by the output's gradient. -/
theorem runMiddle_dv (hc0 : ¬isFirst i) (hc1 : ¬isLast i) (f : BufTy.Contents (Elt Ideal) arg8.view.ty) (h r l : ℕ) (hh : h < 4) (hr : r < 512) (hl : l < 64) :
    at3 (arg8.view.read (Elt Ideal) (arg8.view.writes (Elt Ideal) f (runMiddle (F := Ideal) c i arg2 harg2 arg3 harg3 arg4 harg4 arg5 harg5 arg6 harg6 arg7 harg7 arg8 harg8 arg9 harg9 hc0 hc1 x0 x1 x2 x3 y).2.2.1)) h r l
      = ∑ i' ∈ Finset.range 4096, pm (512 * (i 1).val) (at3 x0) (at3 x1) h i' r * at3 x3 h i' l := by
  unfold runMiddle; dsimp only
  rw [at3_of _ hh hr hl]
  refine (View.read_writes_cons_unit_of_mem (Val := Elt Ideal) (v := arg8.view) (f := f) inb_S4x512x64_S4x512x64_0_0_0 _ [] _
      (ix3 ⟨h, hh⟩ ⟨r, hr⟩ ⟨l, hl⟩) rfl (fun d => by
      match d with
      | ⟨0, _⟩ => show h = 0 + h; omega
      | ⟨1, _⟩ => show r = 0 + r; omega
      | ⟨2, _⟩ => show l = 0 + l; omega)).trans ?_
  unfold runMiddle.sl.v477
  rw [readAt_f32]
  simp only [Matrix.cons_val_zero, Matrix.cons_val_one, Matrix.cons_val, Nat.zero_add]
  rw [View.writes_append]
  refine (loop_dv c i arg2 harg2 arg3 harg3 arg4 harg4 arg5 harg5 arg6 harg6 arg7 harg7 arg8 harg8 arg9 harg9 _ _ _ _ _ _ _ _ _ le_rfl h r l hh hr
    (by omega)).trans ?_
  rw [trips_eq]
  have hd := diag_dv (c := c) (i := i) (arg2 := arg2) (harg2 := harg2) (arg3 := arg3) (harg3 := harg3) (arg5 := arg5) (harg5 := harg5)
    (arg9 := arg9) (x0 := x0) (x1 := x1) (x3 := x3) h r l hh hr (by omega)
  have hk : (i 1).val < 8 := (i 1).isLt
  rw [← sum_rows (i 1).val hk (fun i' => pm (512 * (i 1).val) (at3 x0) (at3 x1) h i' r * at3 x3 h i' l)
    (fun i' hi => by rw [pm_zero _ _ _ _ _ _ (by omega), zero_mul])]
  refine congrArg₂ (· + ·) hd (Finset.sum_congr rfl fun y hy => ?_)
  simp only [Memref.IsWhole.read_unread]
  rw [pm_of_le _ _ _ _ _ _ (by omega)]

/-- The keys' gradient of the point's key block: in the first 96 lanes, over all the query rows, the masked gradient of the score
    by the query, times the logarithm of two; zero in the other lanes. -/
theorem runMiddle_dk (hc0 : ¬isFirst i) (hc1 : ¬isLast i) (f : BufTy.Contents (Elt Ideal) arg7.view.ty) (h r l : ℕ) (hh : h < 4) (hr : r < 512) (hl : l < 128) :
    at3 (arg7.view.read (Elt Ideal) (arg7.view.writes (Elt Ideal) f (runMiddle (F := Ideal) c i arg2 harg2 arg3 harg3 arg4 harg4 arg5 harg5 arg6 harg6 arg7 harg7 arg8 harg8 arg9 harg9 hc0 hc1 x0 x1 x2 x3 y).2.1)) h r l
      = if l < 96 then (∑ i' ∈ Finset.range 4096, dm (512 * (i 1).val) (at3 x0) (at3 x1) (at3 x2) (at3 x3) h i' r * at3 x0 h i' l) * ln2c else 0 := by
  unfold runMiddle; dsimp only
  rw [at3_of _ hh hr hl]
  refine (View.read_writes_cons_unit_of_mem (Val := Elt Ideal) (v := arg7.view) (f := f) inb_S4x512x128_S4x512x128_0_0_0 _ _ _
      (ix3 ⟨h, hh⟩ ⟨r, hr⟩ ⟨l, hl⟩) rfl (fun d => by
      match d with
      | ⟨0, _⟩ => show h = 0 + h; omega
      | ⟨1, _⟩ => show r = 0 + r; omega
      | ⟨2, _⟩ => show l = 0 + l; omega)).trans ?_
  rw [scale_lanes]
  split_ifs with c96
  · congr 1
    unfold runMiddle.sl.v468
    rw [readAt_f32]
    simp only [Matrix.cons_val_zero, Matrix.cons_val_one, Matrix.cons_val, Nat.zero_add]
    rw [View.writes_append]
    refine (loop_dk c i arg2 harg2 arg3 harg3 arg4 harg4 arg5 harg5 arg6 harg6 arg7 harg7 arg8 harg8 arg9 harg9 _ _ _ _ _ _ _ _ _ le_rfl h r l hh hr hl).trans ?_
    rw [trips_eq]
    have hd := diag_dk (c := c) (i := i) (arg2 := arg2) (harg2 := harg2) (arg3 := arg3) (harg3 := harg3) (arg4 := arg4) (harg4 := harg4)
      (arg5 := arg5) (harg5 := harg5) (arg7 := arg7) (x0 := x0) (x1 := x1) (x2 := x2) (x3 := x3) h r l hh hr hl
    have hk : (i 1).val < 8 := (i 1).isLt
    rw [← sum_rows (i 1).val hk (fun i' => dm (512 * (i 1).val) (at3 x0) (at3 x1) (at3 x2) (at3 x3) h i' r * at3 x0 h i' l)
      (fun i' hi => by rw [dm_zero _ _ _ _ _ _ _ _ (by omega), zero_mul])]
    refine congrArg₂ (· + ·) hd (Finset.sum_congr rfl fun y hy => ?_)
    simp only [Memref.IsWhole.read_unread]
    rw [dm_of_le _ _ _ _ _ _ _ _ (by omega)]
  · rfl

/-- The values' gradient of the point's key block: over all the query rows, the masked weight by the output's gradient. -/
theorem runLast_dv (hc0 : ¬isFirst i) (hc1 : isLast i) (f : BufTy.Contents (Elt Ideal) arg8.view.ty) (h r l : ℕ) (hh : h < 4) (hr : r < 512) (hl : l < 64) :
    at3 (arg8.view.read (Elt Ideal) (arg8.view.writes (Elt Ideal) f (runLast (F := Ideal) c i arg2 harg2 arg3 harg3 arg4 harg4 arg5 harg5 arg6 harg6 arg7 harg7 arg8 harg8 arg9 harg9 hc0 hc1 x0 x1 x2 x3 y).2.2.1)) h r l
      = ∑ i' ∈ Finset.range 4096, pm (512 * (i 1).val) (at3 x0) (at3 x1) h i' r * at3 x3 h i' l := by
  unfold runLast; dsimp only
  rw [at3_of _ hh hr hl]
  refine (View.read_writes_cons_unit_of_mem (Val := Elt Ideal) (v := arg8.view) (f := f) inb_S4x512x64_S4x512x64_0_0_0 _ [] _
      (ix3 ⟨h, hh⟩ ⟨r, hr⟩ ⟨l, hl⟩) rfl (fun d => by
      match d with
      | ⟨0, _⟩ => show h = 0 + h; omega
      | ⟨1, _⟩ => show r = 0 + r; omega
      | ⟨2, _⟩ => show l = 0 + l; omega)).trans ?_
  unfold runLast.sl.v477
  rw [readAt_f32]
  simp only [Matrix.cons_val_zero, Matrix.cons_val_one, Matrix.cons_val, Nat.zero_add]
  rw [View.writes_append]
  refine (loop_dv c i arg2 harg2 arg3 harg3 arg4 harg4 arg5 harg5 arg6 harg6 arg7 harg7 arg8 harg8 arg9 harg9 _ _ _ _ _ _ _ _ _ le_rfl h r l hh hr
    (by omega)).trans ?_
  rw [trips_eq]
  have hd := diag_dv (c := c) (i := i) (arg2 := arg2) (harg2 := harg2) (arg3 := arg3) (harg3 := harg3) (arg5 := arg5) (harg5 := harg5)
    (arg9 := arg9) (x0 := x0) (x1 := x1) (x3 := x3) h r l hh hr (by omega)
  have hk : (i 1).val < 8 := (i 1).isLt
  rw [← sum_rows (i 1).val hk (fun i' => pm (512 * (i 1).val) (at3 x0) (at3 x1) h i' r * at3 x3 h i' l)
    (fun i' hi => by rw [pm_zero _ _ _ _ _ _ (by omega), zero_mul])]
  refine congrArg₂ (· + ·) hd (Finset.sum_congr rfl fun y hy => ?_)
  simp only [Memref.IsWhole.read_unread]
  rw [pm_of_le _ _ _ _ _ _ (by omega)]

/-- The keys' gradient of the point's key block: in the first 96 lanes, over all the query rows, the masked gradient of the score
    by the query, times the logarithm of two; zero in the other lanes. -/
theorem runLast_dk (hc0 : ¬isFirst i) (hc1 : isLast i) (f : BufTy.Contents (Elt Ideal) arg7.view.ty) (h r l : ℕ) (hh : h < 4) (hr : r < 512) (hl : l < 128) :
    at3 (arg7.view.read (Elt Ideal) (arg7.view.writes (Elt Ideal) f (runLast (F := Ideal) c i arg2 harg2 arg3 harg3 arg4 harg4 arg5 harg5 arg6 harg6 arg7 harg7 arg8 harg8 arg9 harg9 hc0 hc1 x0 x1 x2 x3 y).2.1)) h r l
      = if l < 96 then (∑ i' ∈ Finset.range 4096, dm (512 * (i 1).val) (at3 x0) (at3 x1) (at3 x2) (at3 x3) h i' r * at3 x0 h i' l) * ln2c else 0 := by
  unfold runLast; dsimp only
  rw [at3_of _ hh hr hl]
  refine (View.read_writes_cons_unit_of_mem (Val := Elt Ideal) (v := arg7.view) (f := f) inb_S4x512x128_S4x512x128_0_0_0 _ _ _
      (ix3 ⟨h, hh⟩ ⟨r, hr⟩ ⟨l, hl⟩) rfl (fun d => by
      match d with
      | ⟨0, _⟩ => show h = 0 + h; omega
      | ⟨1, _⟩ => show r = 0 + r; omega
      | ⟨2, _⟩ => show l = 0 + l; omega)).trans ?_
  rw [scale_lanes]
  split_ifs with c96
  · congr 1
    unfold runLast.sl.v468
    rw [readAt_f32]
    simp only [Matrix.cons_val_zero, Matrix.cons_val_one, Matrix.cons_val, Nat.zero_add]
    rw [View.writes_append]
    refine (loop_dk c i arg2 harg2 arg3 harg3 arg4 harg4 arg5 harg5 arg6 harg6 arg7 harg7 arg8 harg8 arg9 harg9 _ _ _ _ _ _ _ _ _ le_rfl h r l hh hr hl).trans ?_
    rw [trips_eq]
    have hd := diag_dk (c := c) (i := i) (arg2 := arg2) (harg2 := harg2) (arg3 := arg3) (harg3 := harg3) (arg4 := arg4) (harg4 := harg4)
      (arg5 := arg5) (harg5 := harg5) (arg7 := arg7) (x0 := x0) (x1 := x1) (x2 := x2) (x3 := x3) h r l hh hr hl
    have hk : (i 1).val < 8 := (i 1).isLt
    rw [← sum_rows (i 1).val hk (fun i' => dm (512 * (i 1).val) (at3 x0) (at3 x1) (at3 x2) (at3 x3) h i' r * at3 x0 h i' l)
      (fun i' hi => by rw [dm_zero _ _ _ _ _ _ _ _ (by omega), zero_mul])]
    refine congrArg₂ (· + ·) hd (Finset.sum_congr rfl fun y hy => ?_)
    simp only [Memref.IsWhole.read_unread]
    rw [dm_of_le _ _ _ _ _ _ _ _ (by omega)]
  · rfl

/-- The queries' gradient after the head block's first point: the point's share. -/
theorem runFirst_dq (hc0 : isFirst i) (hc1 : ¬isLast i) (f : BufTy.Contents (Elt Ideal) arg6.view.ty) (h r l : ℕ) (hh : h < 4) (hr : r < 4096)
    (hl : l < 128) :
    at3 (arg6.view.read (Elt Ideal) (arg6.view.writes (Elt Ideal) f (runFirst (F := Ideal) c i arg2 harg2 arg3 harg3 arg4 harg4 arg5 harg5 arg6 harg6 arg7 harg7 arg8 harg8 arg9 harg9 hc0 hc1 x0 x1 x2 x3).1)) h r l
      = ∑ j : Fin 512, dm (512 * (i 1).val) (at3 x0) (at3 x1) (at3 x2) (at3 x3) h r j.val * at3 x1 h j.val l := by
  have hk : (i 1).val < 8 := (i 1).isLt
  rw [View.read_writes_of_cover arg6.view f arg6.view arg6.view.junk _ (fun y => by
    refine ⟨⟨Rect.unit ![0, 0, 0] S4x4096x128.size inb_S4x4096x128_S4x4096x128_0_0_0, k0_pay61 (F := Ideal)⟩, ?_, ?_⟩
    · unfold runFirst; dsimp only
      refine List.mem_append_right _ ?_
      unfold runFirst.sl.H4_8 runFirst.sl.H4_7 runFirst.sl.H4_6 runFirst.sl.H4_5 runFirst.sl.H4_4 runFirst.sl.H4_3 runFirst.sl.H4_2 runFirst.sl.H4_1
      repeat (first | exact List.mem_cons_self | apply List.mem_cons_of_mem)
    · refine (Rect.mem_set_unit (inb := inb_S4x4096x128_S4x4096x128_0_0_0)).mpr fun d => ?_
      match d with
      | ⟨0, _⟩ => exact ⟨Nat.zero_le _, by have : (y 0).val < 4 := (y 0).isLt; show (y 0).val < 0 + 4; omega⟩
      | ⟨1, _⟩ => exact ⟨Nat.zero_le _, by have : (y 1).val < 4096 := (y 1).isLt; show (y 1).val < 0 + 4096; omega⟩
      | ⟨2, _⟩ => exact ⟨Nat.zero_le _, by have : (y 2).val < 128 := (y 2).isLt; show (y 2).val < 0 + 128; omega⟩)]
  unfold runFirst; dsimp only
  rw [View.writes_append]
  refine (loop_dq c i arg2 harg2 arg3 harg3 arg4 harg4 arg5 harg5 arg6 harg6 arg7 harg7 arg8 harg8 arg9 harg9 _ _ _ _ _ _ _ _ _ le_rfl h r l hh hl).trans ?_
  rw [trips_eq]
  simp only [Memref.IsWhole.read_unread]
  rw [at3_writes arg6.view _ _ 3 (512 * (i 1).val + 256) (off4_1 i) _ _ _ (fun r l => at3 (arg6.view.read (Elt Ideal) (arg6.view.writes (Elt Ideal) arg6.view.junk (runFirst.sl.H4_8 (F := Ideal) c i arg2 harg2 arg3 harg3 arg4 harg4 arg5 harg5 arg6 x0 x1 x2 x3))) 3 r l + ∑ j : Fin 512, dm (512 * (i 1).val) (at3 x0) (at3 x1) (at3 x2) (at3 x3) 3 r j.val * at3 x1 3 j.val l) (hl := hl) (hw := by
    intro y z
    pointwise [k0_pay120, k0_pay121, runFirst.sl.cst_51, runFirst.sl.r_22, runFirst.sl.r_23, runFirst.sl.v424, runFirst.sl.v425,
      runFirst.sl.v426, runFirst.sl.v449, runFirst.sl.v450, runFirst.sl.v452, runFirst.sl.v453, runFirst.sl.v454,
      runFirst.sl.v458, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  refine ((dq_rows (i 1).val r hk hr (fun j => ds (at3 x0) (at3 x1) (at3 x2) (at3 x3) h r j) (fun j => dm (512 * (i 1).val) (at3 x0) (at3 x1) (at3 x2) (at3 x3) h r j) (fun j => at3 x1 h j l) _ 0
    (fun j hj => dm_zero _ _ _ _ _ _ _ _ hj) (fun hj j h5 => dm_of_le _ _ _ _ _ _ _ _ (by omega)) ?_ ?_ ?_)).trans (zero_add _)
  all_goals intro hc
  all_goals interval_cases h <;>
    simp only [dq8 _ _ _ hl, dq7 _ _ _ hl, dq6 _ _ _ hl, dq5 _ _ _ hl, dq4 _ _ _ hl, dq3 _ _ _ hl, dq2 _ _ _ hl, dq1,
      true_and, false_and, if_true, if_false, OfNat.ofNat_ne_zero, OfNat.zero_ne_ofNat, OfNat.ofNat_ne_one,
      OfNat.one_ne_ofNat, one_ne_zero, zero_ne_one, Nat.reduceEqDiff] <;> split_ifs <;> first | rfl | (exfalso; omega)

set_option maxHeartbeats 1600000 in
/-- The queries' gradient after a middle point: the point's share added. -/
theorem runMiddle_dq (hc0 : ¬isFirst i) (hc1 : ¬isLast i) (f : BufTy.Contents (Elt Ideal) arg6.view.ty) (hf : f = harg6.unread y) (h r l : ℕ) (hh : h < 4)
    (hr : r < 4096) (hl : l < 128) :
    at3 (arg6.view.read (Elt Ideal) (arg6.view.writes (Elt Ideal) f (runMiddle (F := Ideal) c i arg2 harg2 arg3 harg3 arg4 harg4 arg5 harg5 arg6 harg6 arg7 harg7 arg8 harg8 arg9 harg9 hc0 hc1 x0 x1 x2 x3 y).1)) h r l
      = at3 y h r l + ∑ j : Fin 512, dm (512 * (i 1).val) (at3 x0) (at3 x1) (at3 x2) (at3 x3) h r j.val * at3 x1 h j.val l := by
  have hk : (i 1).val < 8 := (i 1).isLt
  subst hf
  unfold runMiddle; dsimp only
  rw [View.writes_append]
  refine (loop_dq c i arg2 harg2 arg3 harg3 arg4 harg4 arg5 harg5 arg6 harg6 arg7 harg7 arg8 harg8 arg9 harg9 _ _ _ _ _ _ _ _ _ le_rfl h r l hh hl).trans ?_
  rw [trips_eq]
  simp only [Memref.IsWhole.read_unread]
  rw [at3_writes arg6.view _ _ 3 (512 * (i 1).val + 256) (off4_1 i) _ _ _ (fun r l => at3 y 3 r l + ∑ j : Fin 512, dm (512 * (i 1).val) (at3 x0) (at3 x1) (at3 x2) (at3 x3) 3 r j.val * at3 x1 3 j.val l) (hl := hl) (hw := by
    intro y z
    pointwise [k0_pay120, k0_pay121, runMiddle.sl.cst_51, runMiddle.sl.r_22, runMiddle.sl.r_23, runMiddle.sl.v424, runMiddle.sl.v425,
      runMiddle.sl.v426, runMiddle.sl.v449, runMiddle.sl.v450, runMiddle.sl.v452, runMiddle.sl.v453, runMiddle.sl.v454,
      runMiddle.sl.v458, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 3 (512 * (i 1).val) (off4_0 i) _ _ _ (fun r l => at3 y 3 r l + ∑ j : Fin 256, dm (512 * (i 1).val) (at3 x0) (at3 x1) (at3 x2) (at3 x3) 3 r j.val * at3 x1 3 j.val l) (hl := hl) (hw := by
    intro y z
    pointwise [k0_pay109, k0_pay110, k0_pay111, k0_pay122, k0_pay123, runMiddle.sl.cst_21, runMiddle.sl.cst_51, runMiddle.sl.r_20,
      runMiddle.sl.r_21, runMiddle.sl.r_24, runMiddle.sl.v329, runMiddle.sl.v330, runMiddle.sl.v413, runMiddle.sl.v414,
      runMiddle.sl.v416, runMiddle.sl.v417, runMiddle.sl.v418, runMiddle.sl.v422, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 2 (512 * (i 1).val + 256) (off3_1 i) _ _ _ (fun r l => at3 y 2 r l + ∑ j : Fin 512, dm (512 * (i 1).val) (at3 x0) (at3 x1) (at3 x2) (at3 x3) 2 r j.val * at3 x1 2 j.val l) (hl := hl) (hw := by
    intro y z
    pointwise [k0_pay101, k0_pay102, k0_pay119, runMiddle.sl.cst_193, runMiddle.sl.cst_51, runMiddle.sl.r_16, runMiddle.sl.r_17,
      runMiddle.sl.v258, runMiddle.sl.v260, runMiddle.sl.v261, runMiddle.sl.v332, runMiddle.sl.v333, runMiddle.sl.v334,
      runMiddle.sl.v357, runMiddle.sl.v358, runMiddle.sl.v361, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 2 (512 * (i 1).val) (off3_0 i) _ _ _ (fun r l => at3 y 2 r l + ∑ j : Fin 256, dm (512 * (i 1).val) (at3 x0) (at3 x1) (at3 x2) (at3 x3) 2 r j.val * at3 x1 2 j.val l) (hl := hl) (hw := by
    intro y z
    pointwise [k0_pay103, k0_pay104, k0_pay108, k0_pay92, k0_pay93, runMiddle.sl.r_12, runMiddle.sl.r_13, runMiddle.sl.r_18,
      runMiddle.sl.v301, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 1 (512 * (i 1).val + 256) (off2_1 i) _ _ _ (fun r l => at3 y 1 r l + ∑ j : Fin 512, dm (512 * (i 1).val) (at3 x0) (at3 x1) (at3 x2) (at3 x3) 1 r j.val * at3 x1 1 j.val l) (hl := hl) (hw := by
    intro y z
    pointwise [k0_pay84, k0_pay85, k0_pay94, k0_pay95, runMiddle.sl.cst_51, runMiddle.sl.r_10, runMiddle.sl.r_11, runMiddle.sl.r_14,
      runMiddle.sl.v245, runMiddle.sl.v246, runMiddle.sl.v248, runMiddle.sl.v249, runMiddle.sl.v250, runMiddle.sl.v254,
      View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 1 (512 * (i 1).val) (off2_0 i) _ _ _ (fun r l => at3 y 1 r l + ∑ j : Fin 256, dm (512 * (i 1).val) (at3 x0) (at3 x1) (at3 x2) (at3 x3) 1 r j.val * at3 x1 1 j.val l) (hl := hl) (hw := by
    intro y z
    pointwise [k0_pay76, k0_pay77, k0_pay91, runMiddle.sl.cst_51, runMiddle.sl.cst_68, runMiddle.sl.r_6, runMiddle.sl.r_7,
      runMiddle.sl.v164, runMiddle.sl.v165, runMiddle.sl.v166, runMiddle.sl.v189, runMiddle.sl.v190, runMiddle.sl.v193,
      runMiddle.sl.v194, runMiddle.sl.v90, runMiddle.sl.v92, runMiddle.sl.v93, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 0 (512 * (i 1).val + 256) (off1_1 i) _ _ _ (fun r l => at3 y 0 r l + ∑ j : Fin 512, dm (512 * (i 1).val) (at3 x0) (at3 x1) (at3 x2) (at3 x3) 0 r j.val * at3 x1 0 j.val l) (hl := hl) (hw := by
    intro y z
    pointwise [k0_pay67, k0_pay68, k0_pay78, k0_pay79, k0_pay83, runMiddle.sl.r_2, runMiddle.sl.r_3, runMiddle.sl.r_8,
      runMiddle.sl.v133, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 0 (512 * (i 1).val) (off1_0 i) _ _ _ (fun r l => at3 y 0 r l + ∑ j : Fin 256, dm (512 * (i 1).val) (at3 x0) (at3 x1) (at3 x2) (at3 x3) 0 r j.val * at3 x1 0 j.val l) (hl := hl) (hw := by
    intro y z
    pointwise [k0_pay64, k0_pay65, k0_pay66, k0_pay69, k0_pay70, runMiddle.sl.cst_21, runMiddle.sl.cst_51, runMiddle.sl.r,
      runMiddle.sl.r_1, runMiddle.sl.r_4, runMiddle.sl.v78, runMiddle.sl.v80, runMiddle.sl.v81, runMiddle.sl.v82,
      runMiddle.sl.v86, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [View.writes_nil, Memref.IsWhole.read_unread]
  refine (dq_rows (i 1).val r hk hr (fun j => ds (at3 x0) (at3 x1) (at3 x2) (at3 x3) h r j) (fun j => dm (512 * (i 1).val) (at3 x0) (at3 x1) (at3 x2) (at3 x3) h r j) (fun j => at3 x1 h j l) _ (at3 y h r l)
    (fun j hj => dm_zero _ _ _ _ _ _ _ _ hj) (fun hj j h5 => dm_of_le _ _ _ _ _ _ _ _ (by omega)) ?_ ?_ ?_)
  all_goals intro hc
  all_goals interval_cases h <;>
    simp only [true_and, false_and, if_true, if_false, OfNat.ofNat_ne_zero, OfNat.zero_ne_ofNat, OfNat.ofNat_ne_one,
      OfNat.one_ne_ofNat, one_ne_zero, zero_ne_one, Nat.reduceEqDiff] <;> split_ifs <;> first | rfl | (exfalso; omega)

set_option maxHeartbeats 1600000 in
/-- The queries' gradient after a head block’s last point: the point's share added, and then the scale and the lanes. -/
theorem runLast_dq (hc0 : ¬isFirst i) (hc1 : isLast i) (f : BufTy.Contents (Elt Ideal) arg6.view.ty) (hf : f = harg6.unread y) (h r l : ℕ) (hh : h < 4)
    (hr : r < 4096) (hl : l < 128) :
    at3 (arg6.view.read (Elt Ideal) (arg6.view.writes (Elt Ideal) f (runLast (F := Ideal) c i arg2 harg2 arg3 harg3 arg4 harg4 arg5 harg5 arg6 harg6 arg7 harg7 arg8 harg8 arg9 harg9 hc0 hc1 x0 x1 x2 x3 y).1)) h r l
      = if l < 96 then (at3 y h r l + ∑ j : Fin 512, dm (512 * (i 1).val) (at3 x0) (at3 x1) (at3 x2) (at3 x3) h r j.val * at3 x1 h j.val l) * ln2c else 0 := by
  have hk : (i 1).val < 8 := (i 1).isLt
  subst hf
  unfold runLast; dsimp only
  rw [at3_of _ hh hr hl]
  refine (View.read_writes_cons_unit_of_mem (Val := Elt Ideal) (v := arg6.view) (f := harg6.unread y) inb_S4x4096x128_S4x4096x128_0_0_0 _ _ _
      (ix3 ⟨h, hh⟩ ⟨r, hr⟩ ⟨l, hl⟩) rfl (fun d => by
      match d with
      | ⟨0, _⟩ => show h = 0 + h; omega
      | ⟨1, _⟩ => show r = 0 + r; omega
      | ⟨2, _⟩ => show l = 0 + l; omega)).trans ?_
  rw [scale_lanes']
  congr 2
  unfold runLast.sl.v482
  rw [readAt_f32]
  simp only [Matrix.cons_val_zero, Matrix.cons_val_one, Matrix.cons_val, Nat.zero_add]
  rw [View.writes_append]
  refine (loop_dq c i arg2 harg2 arg3 harg3 arg4 harg4 arg5 harg5 arg6 harg6 arg7 harg7 arg8 harg8 arg9 harg9 _ _ _ _ _ _ _ _ _ le_rfl h r l hh hl).trans ?_
  rw [trips_eq]
  simp only [Memref.IsWhole.read_unread]
  rw [at3_writes arg6.view _ _ 3 (512 * (i 1).val + 256) (off4_1 i) _ _ _ (fun r l => at3 y 3 r l + ∑ j : Fin 512, dm (512 * (i 1).val) (at3 x0) (at3 x1) (at3 x2) (at3 x3) 3 r j.val * at3 x1 3 j.val l) (hl := hl) (hw := by
    intro y z
    pointwise [k0_pay120, k0_pay121, runLast.sl.cst_51, runLast.sl.r_22, runLast.sl.r_23, runLast.sl.v424, runLast.sl.v425,
      runLast.sl.v426, runLast.sl.v449, runLast.sl.v450, runLast.sl.v452, runLast.sl.v453, runLast.sl.v454, runLast.sl.v458,
      View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 3 (512 * (i 1).val) (off4_0 i) _ _ _ (fun r l => at3 y 3 r l + ∑ j : Fin 256, dm (512 * (i 1).val) (at3 x0) (at3 x1) (at3 x2) (at3 x3) 3 r j.val * at3 x1 3 j.val l) (hl := hl) (hw := by
    intro y z
    pointwise [k0_pay109, k0_pay110, k0_pay111, k0_pay122, k0_pay123, runLast.sl.cst_21, runLast.sl.cst_51, runLast.sl.r_20,
      runLast.sl.r_21, runLast.sl.r_24, runLast.sl.v329, runLast.sl.v330, runLast.sl.v413, runLast.sl.v414, runLast.sl.v416,
      runLast.sl.v417, runLast.sl.v418, runLast.sl.v422, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 2 (512 * (i 1).val + 256) (off3_1 i) _ _ _ (fun r l => at3 y 2 r l + ∑ j : Fin 512, dm (512 * (i 1).val) (at3 x0) (at3 x1) (at3 x2) (at3 x3) 2 r j.val * at3 x1 2 j.val l) (hl := hl) (hw := by
    intro y z
    pointwise [k0_pay101, k0_pay102, k0_pay119, runLast.sl.cst_193, runLast.sl.cst_51, runLast.sl.r_16, runLast.sl.r_17,
      runLast.sl.v258, runLast.sl.v260, runLast.sl.v261, runLast.sl.v332, runLast.sl.v333, runLast.sl.v334, runLast.sl.v357,
      runLast.sl.v358, runLast.sl.v361, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 2 (512 * (i 1).val) (off3_0 i) _ _ _ (fun r l => at3 y 2 r l + ∑ j : Fin 256, dm (512 * (i 1).val) (at3 x0) (at3 x1) (at3 x2) (at3 x3) 2 r j.val * at3 x1 2 j.val l) (hl := hl) (hw := by
    intro y z
    pointwise [k0_pay103, k0_pay104, k0_pay108, k0_pay92, k0_pay93, runLast.sl.r_12, runLast.sl.r_13, runLast.sl.r_18, runLast.sl.v301,
      View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 1 (512 * (i 1).val + 256) (off2_1 i) _ _ _ (fun r l => at3 y 1 r l + ∑ j : Fin 512, dm (512 * (i 1).val) (at3 x0) (at3 x1) (at3 x2) (at3 x3) 1 r j.val * at3 x1 1 j.val l) (hl := hl) (hw := by
    intro y z
    pointwise [k0_pay84, k0_pay85, k0_pay94, k0_pay95, runLast.sl.cst_51, runLast.sl.r_10, runLast.sl.r_11, runLast.sl.r_14,
      runLast.sl.v245, runLast.sl.v246, runLast.sl.v248, runLast.sl.v249, runLast.sl.v250, runLast.sl.v254, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 1 (512 * (i 1).val) (off2_0 i) _ _ _ (fun r l => at3 y 1 r l + ∑ j : Fin 256, dm (512 * (i 1).val) (at3 x0) (at3 x1) (at3 x2) (at3 x3) 1 r j.val * at3 x1 1 j.val l) (hl := hl) (hw := by
    intro y z
    pointwise [k0_pay76, k0_pay77, k0_pay91, runLast.sl.cst_51, runLast.sl.cst_68, runLast.sl.r_6, runLast.sl.r_7, runLast.sl.v164,
      runLast.sl.v165, runLast.sl.v166, runLast.sl.v189, runLast.sl.v190, runLast.sl.v193, runLast.sl.v194, runLast.sl.v90,
      runLast.sl.v92, runLast.sl.v93, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 0 (512 * (i 1).val + 256) (off1_1 i) _ _ _ (fun r l => at3 y 0 r l + ∑ j : Fin 512, dm (512 * (i 1).val) (at3 x0) (at3 x1) (at3 x2) (at3 x3) 0 r j.val * at3 x1 0 j.val l) (hl := hl) (hw := by
    intro y z
    pointwise [k0_pay67, k0_pay68, k0_pay78, k0_pay79, k0_pay83, runLast.sl.r_2, runLast.sl.r_3, runLast.sl.r_8, runLast.sl.v133,
      View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [at3_writes arg6.view _ _ 0 (512 * (i 1).val) (off1_0 i) _ _ _ (fun r l => at3 y 0 r l + ∑ j : Fin 256, dm (512 * (i 1).val) (at3 x0) (at3 x1) (at3 x2) (at3 x3) 0 r j.val * at3 x1 0 j.val l) (hl := hl) (hw := by
    intro y z
    pointwise [k0_pay64, k0_pay65, k0_pay66, k0_pay69, k0_pay70, runLast.sl.cst_21, runLast.sl.cst_51, runLast.sl.r, runLast.sl.r_1,
      runLast.sl.r_4, runLast.sl.v78, runLast.sl.v80, runLast.sl.v81, runLast.sl.v82, runLast.sl.v86, View.readCov]
    simp only [readAt_f32, readAt_bf16, off1_0, off1_1, off2_0, off2_1, off3_0, off3_1, off4_0, off4_1, Matrix.cons_val_zero, Matrix.cons_val_one, Matrix.cons_val, Fin.val_zero, Nat.zero_add,
      Nat.add_zero, mask_sel, bit_lo, bit_lo', bit_hi, pm, dm, pr, scr, Memref.IsWhole.read_unread, Nat.add_assoc,
      Nat.add_le_add_iff_left, le_add_iff_nonneg_right, Nat.zero_le]
    try rfl)]
  rw [View.writes_nil, Memref.IsWhole.read_unread]
  refine (dq_rows (i 1).val r hk hr (fun j => ds (at3 x0) (at3 x1) (at3 x2) (at3 x3) h r j) (fun j => dm (512 * (i 1).val) (at3 x0) (at3 x1) (at3 x2) (at3 x3) h r j) (fun j => at3 x1 h j l) _ (at3 y h r l)
    (fun j hj => dm_zero _ _ _ _ _ _ _ _ hj) (fun hj j h5 => dm_of_le _ _ _ _ _ _ _ _ (by omega)) ?_ ?_ ?_)
  all_goals intro hc
  all_goals interval_cases h <;>
    simp only [true_and, false_and, if_true, if_false, OfNat.ofNat_ne_zero, OfNat.zero_ne_ofNat, OfNat.ofNat_ne_one,
      OfNat.one_ne_ofNat, one_ne_zero, zero_ne_one, Nat.reduceEqDiff] <;> split_ifs <;> first | rfl | (exfalso; omega)

end Cert.Attn

end
-- ==== Proof.AttnFrame.lean ====
/-
  The run of the gradient kernel at the idealized values: what each output block holds after each grid point, the body's triple at
  every point, and the run of the whole program with the outputs' arrays named.
-/
module

public import proofs.«01_k».proof.Proof.AttnOut
public import proofs.«01_k».proof.Proof.Gen.KernelIdeal.Frame
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Coordinates of a point -/

theorem coord1 (t : Fin cfg0.N) : (grid0.coords t 1).val = t.val % 8 :=
  ((Pipeline.Grid.coords_val t 1 (by decide) rfl : (grid0.coords t 1).val = t.val / 1 % 8)).trans (by rw [Nat.div_one])

theorem lt16 (t : Fin cfg0.N) : t.val < 16 := Nat.lt_of_lt_of_eq t.isLt N_0

theorem first_iff : ∀ t : Fin cfg0.N, isFirst (grid0.coords t) ↔ t.val % 8 = 0 :=
  (fun t => by
    have ht : t.val < 16 := Nat.lt_of_lt_of_eq t.isLt N_0
    have e1 : (grid0.coords t 1).val = t.val / 1 % 8 := Pipeline.Grid.coords_val t 1 (by decide) rfl
    simp only [isFirst, e1]
    word_cmp
   : ∀ t : Fin grid0.N, isFirst (grid0.coords t) ↔ t.val % 8 = 0)

theorem last_iff : ∀ t : Fin cfg0.N, isLast (grid0.coords t) ↔ t.val % 8 = 7 :=
  (fun t => by
    have ht : t.val < 16 := Nat.lt_of_lt_of_eq t.isLt N_0
    have e1 : (grid0.coords t 1).val = t.val / 1 % 8 := Pipeline.Grid.coords_val t 1 (by decide) rfl
    simp only [isLast, e1]
    word_cmp
   : ∀ t : Fin grid0.N, isLast (grid0.coords t) ↔ t.val % 8 = 7)

/-! ## What the outputs hold -/

/-- A block from its elements. -/
def of3 {A B C : ℕ} (f : ℕ → ℕ → ℕ → EReal) : (⟨3, ![A, B, C]⟩ : Shape).Idx → EReal := fun x => f (x 0).val (x 1).val (x 2).val

theorem at3_of3 {A B C : ℕ} (f : ℕ → ℕ → ℕ → EReal) {h r l : ℕ} (hh : h < A) (hr : r < B) (hl : l < C) :
    at3 (of3 f : (⟨3, ![A, B, C]⟩ : Shape).Idx → EReal) h r l = f h r l := by
  rw [at3_of _ hh hr hl]; rfl

theorem eq_of3 {A B C : ℕ} (x : (⟨3, ![A, B, C]⟩ : Shape).Idx → EReal) (f : ℕ → ℕ → ℕ → EReal)
    (e : ∀ h r l, h < A → r < B → l < C → at3 x h r l = f h r l) : x = of3 f := by
  funext i
  have := e (i 0).val (i 1).val (i 2).val (i 0).isLt (i 1).isLt (i 2).isLt
  rw [at3_of x (i 0).isLt (i 1).isLt (i 2).isLt] at this
  refine Eq.trans (congrArg x (funext fun d => ?_)) this
  match d with
  | ⟨0, _⟩ => rfl
  | ⟨1, _⟩ => rfl
  | ⟨2, _⟩ => rfl

/-- The blocks of point `t` as functions of three numbers: queries, keys, values, the output's gradient. -/
def Qb (c : Dev nD) (t : Fin cfg0.N) : ℕ → ℕ → ℕ → EReal := at3 (A := 4) (B := 4096) (C := 128) (iblk m c 0 t)
def Kb (c : Dev nD) (t : Fin cfg0.N) : ℕ → ℕ → ℕ → EReal := at3 (A := 4) (B := 512) (C := 128) (iblk m c 1 t)
def Wb (c : Dev nD) (t : Fin cfg0.N) : ℕ → ℕ → ℕ → EReal := at3 (A := 4) (B := 512) (C := 128) (iblk m c 2 t)
def Db (c : Dev nD) (t : Fin cfg0.N) : ℕ → ℕ → ℕ → EReal := at3 (A := 4) (B := 4096) (C := 128) (iblk m c 3 t)

/-- The values' gradient of point `t`'s key block. -/
def dvAt (c : Dev nD) (t : Fin cfg0.N) (h r l : ℕ) : EReal :=
  ∑ i ∈ Finset.range 4096, pm (512 * (t.val % 8)) (Qb m c t) (Kb m c t) h i r * Db m c t h i l

/-- The keys' gradient of point `t`'s key block. -/
def dkAt (c : Dev nD) (t : Fin cfg0.N) (h r l : ℕ) : EReal :=
  if l < 96 then (∑ i ∈ Finset.range 4096, dm (512 * (t.val % 8)) (Qb m c t) (Kb m c t) (Wb m c t) (Db m c t) h i r * Qb m c t h i l) * ln2c else 0

/-- What point `t` adds to the queries' gradient. -/
def shareAt (c : Dev nD) (t : ℕ) (h r l : ℕ) : EReal :=
  if p : t < cfg0.N then ∑ j : Fin 512, dm (512 * (t % 8)) (Qb m c ⟨t, p⟩) (Kb m c ⟨t, p⟩) (Wb m c ⟨t, p⟩) (Db m c ⟨t, p⟩) h r j.val * Kb m c ⟨t, p⟩ h j.val l
  else 0

/-- The queries' gradient summed over the head block's points up to `t`. -/
def accAt (c : Dev nD) (t : ℕ) (h r l : ℕ) : EReal := ∑ b ∈ Finset.range (t % 8 + 1), shareAt m c (t - t % 8 + b) h r l

theorem acc_first (c : Dev nD) (t : ℕ) (h0 : t % 8 = 0) (h r l : ℕ) : accAt m c t h r l = shareAt m c t h r l := by
  unfold accAt; rw [h0, Finset.sum_range_one]; rfl

theorem acc_next (c : Dev nD) (t : ℕ) (h0 : t % 8 ≠ 0) (h r l : ℕ) :
    accAt m c t h r l = accAt m c (t - 1) h r l + shareAt m c t h r l := by
  unfold accAt
  have e1 : (t - 1) % 8 = t % 8 - 1 := by omega
  have e2 : t - 1 - (t - 1) % 8 = t - t % 8 := by omega
  rw [Finset.sum_range_succ, e2, e1, show t % 8 - 1 + 1 = t % 8 by omega, show t - t % 8 + t % 8 = t by omega]

/-- The queries' gradient block after point `t`: the sum so far; at the head block's last point scaled, and zero past lane 96. -/
def dqAt (c : Dev nD) (t : Fin cfg0.N) (h r l : ℕ) : EReal :=
  if t.val % 8 = 7 then (if l < 96 then accAt m c t.val h r l * ln2c else 0) else accAt m c t.val h r l

def dqV (c : Dev nD) (t : Fin cfg0.N) : Vec Ideal S4x4096x128 .f32 := of3 (A := 4) (B := 4096) (C := 128) (dqAt m c t)
def dkV (c : Dev nD) (t : Fin cfg0.N) : Vec Ideal S4x512x128 .f32 := of3 (A := 4) (B := 512) (C := 128) (dkAt m c t)
def dvV (c : Dev nD) (t : Fin cfg0.N) : Vec Ideal S4x512x64 .f32 := of3 (A := 4) (B := 512) (C := 64) (dvAt m c t)

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqV m c t
    | ⟨5, _⟩ => dkV m c t
    | ⟨6, _⟩ => dvV m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dqV m c t := by dsimp only [dats]
theorem after_5 (c : Dev nD) (t : Fin cfg0.N) : (dats m 0 c).after 5 t = dkV m c t := by dsimp only [dats]
theorem after_6 (c : Dev nD) (t : Fin cfg0.N) : (dats m 0 c).after 6 t = dvV m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Past a head block's first point the queries' gradient block holds what the point before left. -/
theorem before_4 (c : Dev nD) (t : Fin cfg0.N) (h0 : ¬t.val % 8 = 0) (d) :
    (dats m 0 c).before 4 t d = dqV m c ⟨t.val - 1, Nat.lt_of_le_of_lt (Nat.sub_le _ _) t.isLt⟩ :=
  ((dats m 0 c).before_out_kept 4 rfl t (by omega) (Bool.eq_false_iff.mpr fun hf => by
    have := (flush0_4 _).mp hf
    simp only at this; omega) (fun _ => rfl) (fun _ _ => rfl) d).trans (after_4 m c _)

/-! ## The body at a point -/

abbrev mem0 (t : Fin cfg0.N) : Memref sig .tc .vmem S4x4096x128 .bf16 := win0_0.stage (cfg0.slots t 0)
abbrev mem1 (t : Fin cfg0.N) : Memref sig .tc .vmem S4x512x128 .bf16 := win0_1.stage (cfg0.slots t 1)
abbrev mem2 (t : Fin cfg0.N) : Memref sig .tc .vmem S4x512x128 .bf16 := win0_2.stage (cfg0.slots t 2)
abbrev mem3 (t : Fin cfg0.N) : Memref sig .tc .vmem S4x4096x128 .bf16 := win0_3.stage (cfg0.slots t 3)
abbrev mem4 (t : Fin cfg0.N) : Memref sig .tc .vmem S4x4096x128 .f32 := win0_4.stage (cfg0.slots t 4)
abbrev mem5 (t : Fin cfg0.N) : Memref sig .tc .vmem S4x512x128 .f32 := win0_5.stage (cfg0.slots t 5)
abbrev mem6 (t : Fin cfg0.N) : Memref sig .tc .vmem S4x512x64 .f32 := win0_6.stage (cfg0.slots t 6)
/-- The scratch block of the values' gradient. -/
abbrev mem7 : Memref sig .tc .vmem S4x512x128 .f32 := Memref.whole cc0_scratch0

theorem Phi_scratch (c : Dev nD) :
    (Pipeline.ΦA spec0 c : sProp 𝕄) = iprop(iprop((∃ d, owns (c : Thread nD τ) mem7 fullShare d)) ∗ (∃ r, prngReg c r)) := by
  unfold Pipeline.ΦA; rw [scopedRest0_eq]; simp only [mem7, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t))

theorem share_of (c : Dev nD) (t : Fin cfg0.N) (h r l : ℕ) :
    shareAt m c t.val h r l = ∑ j : Fin 512, dm (512 * (t.val % 8)) (Qb m c t) (Kb m c t) (Wb m c t) (Db m c t) h r j.val * Kb m c t h j.val l := by
  unfold shareAt; rw [dif_pos t.isLt]

section outs
variable {c : Dev nD} {t : Fin cfg0.N} {arg9 : Memref sig .tc .vmem S4x512x128 .f32} {harg9 : arg9.IsWhole}

theorem dv_First (h0 : t.val % 8 = 0) (h1 : ¬t.val % 8 = 7) (f : (mem6 t).view.ty.Contents (Elt Ideal)) :
    (mem6 t).view.read (Elt Ideal) ((mem6 t).view.writes (Elt Ideal) f (runFirst (F := Ideal) c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3))
      (mem4 t) (hstage0_4 ((cfg0.slots t 4).cast nbuf0_4)) (mem5 t) (hstage0_5 ((cfg0.slots t 5).cast nbuf0_5)) (mem6 t) (hstage0_6 ((cfg0.slots t 6).cast nbuf0_6)) arg9 harg9 ((first_iff t).mpr h0) (fun h => h1 ((last_iff t).mp h)) (iblk m c 0 t) (iblk m c 1 t) (iblk m c 2 t) (iblk m c 3 t)).2.2.1) = dvV m c t :=
  eq_of3 _ _ fun h r l hh hr hl => by
    rw [runFirst_dv ((first_iff t).mpr h0) (fun h => h1 ((last_iff t).mp h)) f h r l hh hr hl, coord1]; rfl

theorem dk_First (h0 : t.val % 8 = 0) (h1 : ¬t.val % 8 = 7) (f : (mem5 t).view.ty.Contents (Elt Ideal)) :
    (mem5 t).view.read (Elt Ideal) ((mem5 t).view.writes (Elt Ideal) f (runFirst (F := Ideal) c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3))
      (mem4 t) (hstage0_4 ((cfg0.slots t 4).cast nbuf0_4)) (mem5 t) (hstage0_5 ((cfg0.slots t 5).cast nbuf0_5)) (mem6 t) (hstage0_6 ((cfg0.slots t 6).cast nbuf0_6)) arg9 harg9 ((first_iff t).mpr h0) (fun h => h1 ((last_iff t).mp h)) (iblk m c 0 t) (iblk m c 1 t) (iblk m c 2 t) (iblk m c 3 t)).2.1) = dkV m c t :=
  eq_of3 _ _ fun h r l hh hr hl => by
    rw [runFirst_dk ((first_iff t).mpr h0) (fun h => h1 ((last_iff t).mp h)) f h r l hh hr hl, coord1]; rfl

theorem dq_First (h0 : t.val % 8 = 0) (h1 : ¬t.val % 8 = 7) (f : (mem4 t).view.ty.Contents (Elt Ideal)) :
    (mem4 t).view.read (Elt Ideal) ((mem4 t).view.writes (Elt Ideal) f (runFirst (F := Ideal) c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3))
      (mem4 t) (hstage0_4 ((cfg0.slots t 4).cast nbuf0_4)) (mem5 t) (hstage0_5 ((cfg0.slots t 5).cast nbuf0_5)) (mem6 t) (hstage0_6 ((cfg0.slots t 6).cast nbuf0_6)) arg9 harg9 ((first_iff t).mpr h0) (fun h => h1 ((last_iff t).mp h)) (iblk m c 0 t) (iblk m c 1 t) (iblk m c 2 t) (iblk m c 3 t)).1) = dqV m c t :=
  eq_of3 _ _ fun h r l hh hr hl => by
    rw [runFirst_dq ((first_iff t).mpr h0) (fun h => h1 ((last_iff t).mp h)) f h r l hh hr hl, coord1]
    unfold dqAt; rw [if_neg h1, acc_first m c t.val h0, share_of]; rfl

theorem dv_Middle (h0 : ¬t.val % 8 = 0) (h1 : ¬t.val % 8 = 7) (f : (mem6 t).view.ty.Contents (Elt Ideal)) :
    (mem6 t).view.read (Elt Ideal) ((mem6 t).view.writes (Elt Ideal) f (runMiddle (F := Ideal) c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3))
      (mem4 t) (hstage0_4 ((cfg0.slots t 4).cast nbuf0_4)) (mem5 t) (hstage0_5 ((cfg0.slots t 5).cast nbuf0_5)) (mem6 t) (hstage0_6 ((cfg0.slots t 6).cast nbuf0_6)) arg9 harg9 (fun h => h0 ((first_iff t).mp h)) (fun h => h1 ((last_iff t).mp h)) (iblk m c 0 t) (iblk m c 1 t) (iblk m c 2 t) (iblk m c 3 t) (dqV m c ⟨t.val - 1, Nat.lt_of_le_of_lt (Nat.sub_le _ _) t.isLt⟩)).2.2.1) = dvV m c t :=
  eq_of3 _ _ fun h r l hh hr hl => by
    rw [runMiddle_dv (fun h => h0 ((first_iff t).mp h)) (fun h => h1 ((last_iff t).mp h)) f h r l hh hr hl, coord1]; rfl

theorem dk_Middle (h0 : ¬t.val % 8 = 0) (h1 : ¬t.val % 8 = 7) (f : (mem5 t).view.ty.Contents (Elt Ideal)) :
    (mem5 t).view.read (Elt Ideal) ((mem5 t).view.writes (Elt Ideal) f (runMiddle (F := Ideal) c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3))
      (mem4 t) (hstage0_4 ((cfg0.slots t 4).cast nbuf0_4)) (mem5 t) (hstage0_5 ((cfg0.slots t 5).cast nbuf0_5)) (mem6 t) (hstage0_6 ((cfg0.slots t 6).cast nbuf0_6)) arg9 harg9 (fun h => h0 ((first_iff t).mp h)) (fun h => h1 ((last_iff t).mp h)) (iblk m c 0 t) (iblk m c 1 t) (iblk m c 2 t) (iblk m c 3 t) (dqV m c ⟨t.val - 1, Nat.lt_of_le_of_lt (Nat.sub_le _ _) t.isLt⟩)).2.1) = dkV m c t :=
  eq_of3 _ _ fun h r l hh hr hl => by
    rw [runMiddle_dk (fun h => h0 ((first_iff t).mp h)) (fun h => h1 ((last_iff t).mp h)) f h r l hh hr hl, coord1]; rfl

theorem dq_Middle (h0 : ¬t.val % 8 = 0) (h1 : ¬t.val % 8 = 7) :
    (mem4 t).view.read (Elt Ideal) ((mem4 t).view.writes (Elt Ideal) ((hstage0_4 ((cfg0.slots t 4).cast nbuf0_4) : (mem4 t).IsWhole).unread (dqV m c ⟨t.val - 1, Nat.lt_of_le_of_lt (Nat.sub_le _ _) t.isLt⟩))
      (runMiddle (F := Ideal) c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3))
      (mem4 t) (hstage0_4 ((cfg0.slots t 4).cast nbuf0_4)) (mem5 t) (hstage0_5 ((cfg0.slots t 5).cast nbuf0_5)) (mem6 t) (hstage0_6 ((cfg0.slots t 6).cast nbuf0_6)) arg9 harg9 (fun h => h0 ((first_iff t).mp h)) (fun h => h1 ((last_iff t).mp h)) (iblk m c 0 t) (iblk m c 1 t) (iblk m c 2 t) (iblk m c 3 t) (dqV m c ⟨t.val - 1, Nat.lt_of_le_of_lt (Nat.sub_le _ _) t.isLt⟩)).1) = dqV m c t :=
  eq_of3 _ _ fun h r l hh hr hl => by
    rw [runMiddle_dq (fun h => h0 ((first_iff t).mp h)) (fun h => h1 ((last_iff t).mp h)) _ rfl h r l hh hr hl, coord1]
    have hp : at3 (dqV m c ⟨t.val - 1, Nat.lt_of_le_of_lt (Nat.sub_le _ _) t.isLt⟩) h r l = accAt m c (t.val - 1) h r l := by
      unfold dqV; rw [at3_of3 _ hh hr hl]; unfold dqAt; rw [if_neg (by show ¬(t.val - 1) % 8 = 7; omega)]
    rw [hp]
    unfold dqAt; rw [if_neg h1, acc_next m c t.val h0, share_of]; rfl

theorem dv_Last (h0 : ¬t.val % 8 = 0) (h1 : t.val % 8 = 7) (f : (mem6 t).view.ty.Contents (Elt Ideal)) :
    (mem6 t).view.read (Elt Ideal) ((mem6 t).view.writes (Elt Ideal) f (runLast (F := Ideal) c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3))
      (mem4 t) (hstage0_4 ((cfg0.slots t 4).cast nbuf0_4)) (mem5 t) (hstage0_5 ((cfg0.slots t 5).cast nbuf0_5)) (mem6 t) (hstage0_6 ((cfg0.slots t 6).cast nbuf0_6)) arg9 harg9 (fun h => h0 ((first_iff t).mp h)) ((last_iff t).mpr h1) (iblk m c 0 t) (iblk m c 1 t) (iblk m c 2 t) (iblk m c 3 t) (dqV m c ⟨t.val - 1, Nat.lt_of_le_of_lt (Nat.sub_le _ _) t.isLt⟩)).2.2.1) = dvV m c t :=
  eq_of3 _ _ fun h r l hh hr hl => by
    rw [runLast_dv (fun h => h0 ((first_iff t).mp h)) ((last_iff t).mpr h1) f h r l hh hr hl, coord1]; rfl

theorem dk_Last (h0 : ¬t.val % 8 = 0) (h1 : t.val % 8 = 7) (f : (mem5 t).view.ty.Contents (Elt Ideal)) :
    (mem5 t).view.read (Elt Ideal) ((mem5 t).view.writes (Elt Ideal) f (runLast (F := Ideal) c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3))
      (mem4 t) (hstage0_4 ((cfg0.slots t 4).cast nbuf0_4)) (mem5 t) (hstage0_5 ((cfg0.slots t 5).cast nbuf0_5)) (mem6 t) (hstage0_6 ((cfg0.slots t 6).cast nbuf0_6)) arg9 harg9 (fun h => h0 ((first_iff t).mp h)) ((last_iff t).mpr h1) (iblk m c 0 t) (iblk m c 1 t) (iblk m c 2 t) (iblk m c 3 t) (dqV m c ⟨t.val - 1, Nat.lt_of_le_of_lt (Nat.sub_le _ _) t.isLt⟩)).2.1) = dkV m c t :=
  eq_of3 _ _ fun h r l hh hr hl => by
    rw [runLast_dk (fun h => h0 ((first_iff t).mp h)) ((last_iff t).mpr h1) f h r l hh hr hl, coord1]; rfl

theorem dq_Last (h0 : ¬t.val % 8 = 0) (h1 : t.val % 8 = 7) :
    (mem4 t).view.read (Elt Ideal) ((mem4 t).view.writes (Elt Ideal) ((hstage0_4 ((cfg0.slots t 4).cast nbuf0_4) : (mem4 t).IsWhole).unread (dqV m c ⟨t.val - 1, Nat.lt_of_le_of_lt (Nat.sub_le _ _) t.isLt⟩))
      (runLast (F := Ideal) c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3))
      (mem4 t) (hstage0_4 ((cfg0.slots t 4).cast nbuf0_4)) (mem5 t) (hstage0_5 ((cfg0.slots t 5).cast nbuf0_5)) (mem6 t) (hstage0_6 ((cfg0.slots t 6).cast nbuf0_6)) arg9 harg9 (fun h => h0 ((first_iff t).mp h)) ((last_iff t).mpr h1) (iblk m c 0 t) (iblk m c 1 t) (iblk m c 2 t) (iblk m c 3 t) (dqV m c ⟨t.val - 1, Nat.lt_of_le_of_lt (Nat.sub_le _ _) t.isLt⟩)).1) = dqV m c t :=
  eq_of3 _ _ fun h r l hh hr hl => by
    rw [runLast_dq (fun h => h0 ((first_iff t).mp h)) ((last_iff t).mpr h1) _ rfl h r l hh hr hl, coord1]
    have hp : at3 (dqV m c ⟨t.val - 1, Nat.lt_of_le_of_lt (Nat.sub_le _ _) t.isLt⟩) h r l = accAt m c (t.val - 1) h r l := by
      unfold dqV; rw [at3_of3 _ hh hr hl]; unfold dqAt; rw [if_neg (by show ¬(t.val - 1) % 8 = 7; omega)]
    rw [hp]
    unfold dqAt; rw [if_pos h1]; split_ifs
    · rw [acc_next m c t.val h0, share_of]; rfl
    · rfl

end outs

set_option maxHeartbeats 2400000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, Phi_scratch]
  have hN : t.val < 16 := lt16 t
  by_cases h0 : t.val % 8 = 0
  · by_cases h1 : t.val % 8 = 7
    · exfalso; omega
    · iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst (F := Ideal) c (grid0.coords t) _ _ _ _ _ _ _ _ _ _ _ _ _ _ _ _ ((first_iff t).mpr h0) (fun h => h1 ((last_iff t).mp h)) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      iintro ⟨H0, H1, H2, H3, ⟨%f4, H4⟩, ⟨%f5, H5⟩, ⟨%f6, H6⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap
        · iexact H4
        ipureintro; exact dq_First m h0 h1 _
      isplitl [H5]
      · unfold owns; iexists _; isplitr
        swap
        · iexact H5
        ipureintro; exact dk_First m h0 h1 _
      unfold owns; iexists _; isplitr
      swap
      · iexact H6
      ipureintro; exact dv_First m h0 h1 _
  · simp only [before_4 m c t h0]
    by_cases h1 : t.val % 8 = 7
    · iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast (F := Ideal) c (grid0.coords t) _ _ _ _ _ _ _ _ _ _ _ _ _ _ _ _ (fun h => h0 ((first_iff t).mp h)) ((last_iff t).mpr h1) (iblk m c 0 t) (iblk m c 1 t) (iblk m c 2 t) (iblk m c 3 t) (dqV m c ⟨t.val - 1, Nat.lt_of_le_of_lt (Nat.sub_le _ _) t.isLt⟩)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%f5, H5⟩, ⟨%f6, H6⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap
        · iexact H4
        ipureintro; exact dq_Last m h0 h1
      isplitl [H5]
      · unfold owns; iexists _; isplitr
        swap
        · iexact H5
        ipureintro; exact dk_Last m h0 h1 _
      unfold owns; iexists _; isplitr
      swap
      · iexact H6
      ipureintro; exact dv_Last m h0 h1 _
    · iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle (F := Ideal) c (grid0.coords t) _ _ _ _ _ _ _ _ _ _ _ _ _ _ _ _ (fun h => h0 ((first_iff t).mp h)) (fun h => h1 ((last_iff t).mp h)) (iblk m c 0 t) (iblk m c 1 t) (iblk m c 2 t) (iblk m c 3 t) (dqV m c ⟨t.val - 1, Nat.lt_of_le_of_lt (Nat.sub_le _ _) t.isLt⟩)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%f5, H5⟩, ⟨%f6, H6⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap
        · iexact H4
        ipureintro; exact dq_Middle m h0 h1
      isplitl [H5]
      · unfold owns; iexists _; isplitr
        swap
        · iexact H5
        ipureintro; exact dk_Middle m h0 h1 _
      unfold owns; iexists _; isplitr
      swap
      · iexact H6
      ipureintro; exact dv_Middle m h0 h1 _

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- The program runs; its arrays end as the proof data say; and every counter is zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The frame at the idealized values: the program runs, its arguments end unchanged, every counter is zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Attn

end
-- ==== Proof.AttnHost.lean ====
/-
  The host's lines before the gradient kernel as functions of the four arguments, and the arrays the kernel finds named by them.
-/
module

public import proofs.«01_k».proof.Proof.Gen.KernelIdeal.Frame
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic

variable (a0 a1 : FVec Ideal S8x4096x96 .f32) (a2 a3 : FVec Ideal S8x4096x64 .f32)

/-- The masked scores. -/
def hT : FVec Ideal S8x4096x4096 .f32 :=
  select (broadcastInDim S8x4096x4096 ![1, 2] bcast_S4096x4096_S8x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (mulf (Host.dotGeneral dot_S8x4096x96_S8x4096x96_S8x4096x4096_2_2_1_1_0_0 none a0 a1)
      (broadcastInDim S8x4096x4096 ![] bcast_S_S8x4096x4096 (constant S_ .f32 0x3DD105EC#32)))
    (broadcastInDim S8x4096x4096 ![] bcast_S_S8x4096x4096 (id (constant S_ .f32 0xFF800000#32)))

/-- The rows' largest scores. -/
def hM : FVec Ideal S8x4096x1 .f32 :=
  broadcastInDim S8x4096x1 ![0, 1] bcast_S8x4096_S8x4096x1_0_1
    (Host.reduce FloatOps.maximumf (hT a0 a1) (constant S_ .f32 0xFF800000#32) reducesTo_S8x4096x4096_S8x4096_d2 h_S_)

/-- The exponentials. -/
def hE : FVec Ideal S8x4096x4096 .f32 :=
  Host.exp (subf (hT a0 a1) (broadcastInDim S8x4096x4096 ![0, 1, 2] bcast_S8x4096x1_S8x4096x4096_0_1_2 (hM a0 a1)))

/-- The rows' sums. -/
def hL : FVec Ideal S8x4096x1 .f32 :=
  broadcastInDim S8x4096x1 ![0, 1] bcast_S8x4096_S8x4096x1_0_1
    (Host.reduceAdd (hE a0 a1) (constant S_ .f32 0x00000000#32) reducesTo_S8x4096x4096_S8x4096_d2 h_S_)

/-- The rows' logarithms to base two. -/
def hZ : FVec Ideal S8x4096x1 .f32 :=
  Host.divf (addf (hM a0 a1) (Host.log (hL a0 a1))) (broadcastInDim S8x4096x1 ![] bcast_S_S8x4096x1 (Host.log (constant S_ .f32 0x40000000#32)))

/-- The attention weights. -/
def hP : FVec Ideal S8x4096x4096 .f32 :=
  Host.divf (hE a0 a1) (broadcastInDim S8x4096x4096 ![0, 1, 2] bcast_S8x4096x1_S8x4096x4096_0_1_2 (hL a0 a1))

/-- The output. -/
def hO : FVec Ideal S8x4096x64 .f32 := Host.dotGeneral dot_S8x4096x4096_S8x4096x64_S8x4096x64_2_1_1_2_0_0 none (hP a0 a1) a2

/-- The products of the output's gradient with the output. -/
def hC : FVec Ideal S8x4096x1 .f32 :=
  broadcastInDim S8x4096x1 ![0, 1] bcast_S8x4096_S8x4096x1_0_1
    (Host.reduceAdd (mulf a3 (hO a0 a1 a2)) (constant S_ .f32 0x00000000#32) reducesTo_S8x4096x64_S8x4096_d2 h_S_)

/-- Whether a lane is a given one. -/
def lane (n : BitVec 32) : IVec S1x1x128 1 :=
  cmpi .eq (iotaInDim S1x1x128 32 2) (broadcastInDim S1x1x128 ![] bcast_S_S1x1x128 (constantI S_ 32 n))

/-- A column split over two lanes, high part and the rest, negated, over the lanes of an array. -/
def spare (n : BitVec 32) (n' : BitVec 32) (z : FVec Ideal S8x4096x1 .f32) (x : FVec Ideal S8x4096x128 .bf16) : FVec Ideal S8x4096x128 .bf16 :=
  select (broadcastInDim S8x4096x128 ![0, 1, 2] bcast_S1x1x128_S8x4096x128_0_1_2 (lane n))
    (broadcastInDim S8x4096x128 ![0, 1, 2] bcast_S8x4096x1_S8x4096x128_0_1_2 (Host.negf (truncf .bf16 z bitsLt_bf16_f32)))
    (select (broadcastInDim S8x4096x128 ![0, 1, 2] bcast_S1x1x128_S8x4096x128_0_1_2 (lane n'))
      (broadcastInDim S8x4096x128 ![0, 1, 2] bcast_S8x4096x1_S8x4096x128_0_1_2
        (Host.negf (truncf .bf16 (subf z (extf .f32 (truncf .bf16 z bitsLt_bf16_f32) bitsLt_bf16_f32)) bitsLt_bf16_f32))) x)

/-- The queries as the kernel finds them. -/
def hQ : FVec Ideal S8x4096x128 .bf16 :=
  spare 96#32 97#32 (hZ a0 a1) (truncf .bf16 (pad S8x4096x128 ![0, 0, 0] ![0, 0, 32] ![0, 0, 0]
    (Host.divf (mulf a0 (broadcastInDim S8x4096x96 ![] bcast_S_S8x4096x96 (constant S_ .f32 0x3DD105EC#32)))
      (broadcastInDim S8x4096x96 ![] bcast_S_S8x4096x96 (Host.log (constant S_ .f32 0x40000000#32))))
    (sitofp .f32 (constantI S_ 32 0#32)) pads_S8x4096x96_S8x4096x128_000_000_0320 h_S_) bitsLt_bf16_f32)

/-- The keys. -/
def hK : FVec Ideal S8x4096x128 .bf16 :=
  truncf .bf16 (select (broadcastInDim S8x4096x128 ![0, 1, 2] bcast_S1x1x128_S8x4096x128_0_1_2 (ori (lane 96#32) (lane 97#32)))
    (broadcastInDim S8x4096x128 ![] bcast_S_S8x4096x128 (id (constant S_ .f32 0x3F800000#32)))
    (pad S8x4096x128 ![0, 0, 0] ![0, 0, 32] ![0, 0, 0] a1 (sitofp .f32 (constantI S_ 32 0#32)) pads_S8x4096x96_S8x4096x128_000_000_0320 h_S_)) bitsLt_bf16_f32

/-- The values. -/
def hW : FVec Ideal S8x4096x128 .bf16 :=
  truncf .bf16 (concatenate S8x4096x128 2 [⟨S8x4096x64, a2⟩, ⟨S8x4096x64, broadcastInDim S8x4096x64 ![] bcast_S_S8x4096x64 (constant S_ .f32 0x3F800000#32)⟩]
    concatenates_S8x4096x64_S8x4096x64_S8x4096x128_d2) bitsLt_bf16_f32

/-- The output's gradient. -/
def hD : FVec Ideal S8x4096x128 .bf16 :=
  spare 64#32 65#32 (hC a0 a1 a2 a3) (truncf .bf16 (pad S8x4096x128 ![0, 0, 0] ![0, 0, 64] ![0, 0, 0] a3 (sitofp .f32 (constantI S_ 32 0#32))
    pads_S8x4096x64_S8x4096x128_000_000_0640 h_S_) bitsLt_bf16_f32)

variable (m : (ℓ : Loc nD τ sig) → Buf (Elt Ideal) ℓ) (c : Dev nD)

set_option maxHeartbeats 4000000 in
theorem V_Q : V m c main_v47 = hQ (m ((c : Thread nD τ).loc main_arg0)) (m ((c : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  all_goals rfl

set_option maxHeartbeats 4000000 in
theorem V_K : V m c main_v55 = hK (m ((c : Thread nD τ).loc main_arg1)) := by
  entry_read
  rfl

set_option maxHeartbeats 4000000 in
theorem V_W : V m c main_v58 = hW (m ((c : Thread nD τ).loc main_arg2)) := by
  entry_read
  rfl

set_option maxHeartbeats 4000000 in
theorem V_D : V m c main_v72 = hD (m ((c : Thread nD τ).loc main_arg0)) (m ((c : Thread nD τ).loc main_arg1))
    (m ((c : Thread nD τ).loc main_arg2)) (m ((c : Thread nD τ).loc main_arg3)) := by
  unfold V
  simp only [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  all_goals rfl

end Cert.Attn

end
-- ==== Proof.AttnMath.lean ====
/-
  Softmax attention of one head over the real numbers: the weights, the gradients of queries, keys and values, and the two texts'
  ways to them — the kernel's, with the row's logarithm and the row's correction carried in spare lanes, and the reference's, with
  the gradient taken through the quotient of the softmax.
-/
module

public import Idealize.ShloMosaic.PureOps.Ideal.Laws
public import Mathlib.Data.Finset.Fold

@[expose] public section

noncomputable section

namespace Cert.Attn

open Idealize.ShloMosaic

/-- A sum of real numbers among the extended ones. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers among the extended ones. -/
theorem div_real {x y : ℝ} (h : y ≠ 0) : Ideal.div (x : EReal) (y : EReal) = ((x / y : ℝ) : EReal) := by
  rw [Ideal.div_coe h, ← EReal.coe_mul, mul_one_div]

namespace Head

variable (s : ℝ) (q k : ℕ → ℕ → ℝ) (v d : ℕ → ℕ → ℝ)

/-- The score of query row `i` on key row `j`. -/
def S (i j : ℕ) : ℝ := (∑ x : Fin 96, q i x.val * k j x.val) * s

/-- The score under the causal mask. -/
def T (i j : ℕ) : EReal := if j ≤ i then (S s q k i j : EReal) else ⊥

/-- A row's largest score. -/
def M (i : ℕ) : ℝ := (Finset.univ.fold max ⊥ fun j : Fin 4096 => T s q k i j.val).toReal

theorem M_eq (i : ℕ) : (Finset.univ.fold max ⊥ fun j : Fin 4096 => T s q k i j.val) = (M s q k i : EReal) := by
  unfold M
  refine (EReal.coe_toReal (ne_of_lt ?_) (ne_of_gt ?_)).symm
  · refine (Finset.fold_max_lt _).mpr ⟨bot_lt_top, fun j _ => ?_⟩
    unfold T; split_ifs
    · exact EReal.coe_lt_top _
    · exact bot_lt_top
  · refine (Finset.lt_fold_max _).mpr (Or.inr ⟨⟨0, by norm_num⟩, Finset.mem_univ _, ?_⟩)
    unfold T; rw [if_pos (Nat.zero_le i)]; exact EReal.bot_lt_coe _

/-- The exponential of the score less the row's largest, zero under the mask. -/
def E (i j : ℕ) : ℝ := if j ≤ i then Real.exp (S s q k i j - M s q k i) else 0

/-- The row's sum of exponentials. -/
def L (i : ℕ) : ℝ := ∑ j : Fin 4096, E s q k i j.val

theorem E_nonneg (i j : ℕ) : 0 ≤ E s q k i j := by
  unfold E; split_ifs
  · exact (Real.exp_pos _).le
  · exact le_rfl

theorem L_pos (i : ℕ) : 0 < L s q k i := by
  refine Finset.sum_pos' (fun j _ => E_nonneg s q k i j.val) ⟨⟨0, by norm_num⟩, Finset.mem_univ _, ?_⟩
  unfold E; rw [if_pos (Nat.zero_le i)]; exact Real.exp_pos _

theorem exp_T (i j : ℕ) : Ideal.exp (T s q k i j - (M s q k i : EReal)) = (E s q k i j : EReal) := by
  unfold T E; split_ifs
  · rw [← EReal.coe_sub, Ideal.exp_coe]
  · rw [EReal.bot_sub, Ideal.exp_bot, EReal.coe_zero]

/-- The attention weight. -/
def P (i j : ℕ) : ℝ := E s q k i j / L s q k i

/-- The product of the output's gradient with a value row. -/
def G (i j : ℕ) : ℝ := ∑ x : Fin 64, d i x.val * v j x.val

/-- The product of the output's gradient with the output. -/
def C (i : ℕ) : ℝ := ∑ x : Fin 64, d i x.val * ∑ j : Fin 4096, P s q k i j.val * v j.val x.val

theorem C_eq (i : ℕ) : C s q k v d i = ∑ j : Fin 4096, P s q k i j.val * G v d i j.val := by
  unfold C G
  simp only [Finset.mul_sum]
  rw [Finset.sum_comm]
  exact Finset.sum_congr rfl fun j _ => Finset.sum_congr rfl fun x _ => by ring

/-- The gradient of the score. -/
def A (i j : ℕ) : ℝ := P s q k i j * (G v d i j - C s q k v d i)

/-- The gradients of the values, of the keys and of the queries the kernel is given. -/
def gv (j x : ℕ) : ℝ := ∑ i : Fin 4096, P s q k i.val j * d i.val x
def gk (j x : ℕ) : ℝ := ∑ i : Fin 4096, A s q k v d i.val j * s * q i.val x
def gq (i x : ℕ) : ℝ := (∑ j : Fin 4096, A s q k v d i j.val * k j.val x) * Real.log 2

/-! ## The reference's way -/

theorem A_ref (i j : ℕ) :
    (if j ≤ i then (G v d i j / L s q k i + -∑ j' : Fin 4096, G v d i j'.val * (1 / (L s q k i * L s q k i)) * E s q k i j'.val) * E s q k i j else 0)
      = A s q k v d i j := by
  have hL := (L_pos s q k i).ne'
  unfold A; rw [C_eq]
  have e : (∑ j' : Fin 4096, G v d i j'.val * (1 / (L s q k i * L s q k i)) * E s q k i j'.val)
      = (∑ j' : Fin 4096, P s q k i j'.val * G v d i j'.val) / L s q k i := by
    rw [Finset.sum_div]
    refine Finset.sum_congr rfl fun j' _ => ?_
    unfold P; field_simp
  rw [e]
  split_ifs with h
  · unfold P; field_simp; ring
  · unfold P E; rw [if_neg h]; simp

/-! ## The kernel's way -/

/-- The logarithm to base two of the row's sum with its largest score put back. -/
def Z (i : ℕ) : ℝ := (M s q k i + Real.log (L s q k i)) / Real.log 2

/-- The kernel's rows: queries scaled to base two with the row's logarithm in lane 96, keys with a one there, values with ones past
    their own lanes, the output's gradient with the row's correction in lane 64. -/
def qr (i x : ℕ) : ℝ := if x < 96 then q i x * s / Real.log 2 else if x = 96 then -Z s q k i else 0
def kr (j x : ℕ) : ℝ := if x < 96 then k j x else if x < 98 then 1 else 0
def wr (j x : ℕ) : ℝ := if x < 64 then v j x else 1
def dr (i x : ℕ) : ℝ := if x < 64 then d i x else if x = 64 then -C s q k v d i else 0

theorem log2_ne : Real.log 2 ≠ 0 := (Real.log_pos (by norm_num)).ne'

theorem score (i j : ℕ) : ∑ x : Fin 128, qr s q k i x.val * kr k j x.val = S s q k i j / Real.log 2 - Z s q k i := by
  have h := Fin.sum_univ_add (a := 96) (b := 32) (fun x : Fin (96 + 32) => qr s q k i x.val * kr k j x.val)
  rw [sub_eq_add_neg]
  refine h.trans (congrArg₂ (· + ·) ?_ ?_)
  · unfold S
    rw [mul_div_assoc, Finset.sum_mul]
    refine Finset.sum_congr rfl fun x _ => ?_
    have hx : x.val < 96 := x.isLt
    simp only [Fin.val_castAdd, qr, kr, if_pos hx]; ring
  · rw [Fin.sum_univ_succ, Finset.sum_eq_zero, add_zero]
    · simp [qr, kr]
    · intro x _
      have e : ((Fin.natAdd 96 x.succ : Fin (96 + 32)) : ℕ) = 97 + x.val := by simp [Fin.val_natAdd]; omega
      rw [e]; unfold qr
      rw [if_neg (by omega), if_neg (by omega), zero_mul]

theorem grad (i j : ℕ) : ∑ x : Fin 128, dr s q k v d i x.val * wr v j x.val = G v d i j - C s q k v d i := by
  have h := Fin.sum_univ_add (a := 64) (b := 64) (fun x : Fin (64 + 64) => dr s q k v d i x.val * wr v j x.val)
  rw [sub_eq_add_neg]
  refine h.trans (congrArg₂ (· + ·) ?_ ?_)
  · unfold G
    refine Finset.sum_congr rfl fun x _ => ?_
    have hx : x.val < 64 := x.isLt
    simp only [Fin.val_castAdd, dr, wr, if_pos hx]
  · rw [Fin.sum_univ_succ, Finset.sum_eq_zero, add_zero]
    · simp [dr, wr]
    · intro x _
      have e : ((Fin.natAdd 64 x.succ : Fin (64 + 64)) : ℕ) = 65 + x.val := by simp [Fin.val_natAdd]; omega
      rw [e]; unfold dr
      rw [if_neg (by omega), if_neg (by omega), zero_mul]

/-- Two to the power of the kernel's score, under the mask, is the attention weight. -/
theorem weight (i j : ℕ) : (if j ≤ i then Real.rpow 2 (S s q k i j / Real.log 2 - Z s q k i) else 0) = P s q k i j := by
  have hL := L_pos s q k i
  have e : Real.rpow 2 (S s q k i j / Real.log 2 - Z s q k i) = Real.exp (S s q k i j - M s q k i) / L s q k i := by
    show (2 : ℝ) ^ (S s q k i j / Real.log 2 - Z s q k i) = _
    rw [Real.rpow_def_of_pos (by norm_num), show Real.exp (S s q k i j - M s q k i) / L s q k i = Real.exp (S s q k i j - M s q k i - Real.log (L s q k i)) by
      rw [Real.exp_sub _ (Real.log _), Real.exp_log hL]]
    congr 1; unfold Z; have := log2_ne; field_simp; ring
  rw [e]; unfold P E; split_ifs
  · rfl
  · rw [zero_div]

end Head

end Cert.Attn

end
-- ==== Proof.AttnAt.lean ====
/-
  The host's lines before the gradient kernel at an index, over finite arguments: each array the kernel finds is real, and its
  elements are the real attention's.
-/
module

public import proofs.«01_k».proof.Proof.AttnHost
public import proofs.«01_k».proof.Proof.AttnTile
public import proofs.«01_k».proof.Proof.AttnMath

@[expose] public section

set_option maxRecDepth 16384

noncomputable section

namespace Cert.Attn

open Cert.KernelIdeal Cert.KernelIdeal.Gen
open Idealize.ShloMosaic Idealize.ShloMosaic.TcCoe Idealize.ShloMosaic.Tactic

/-! ## Constants and selections -/

theorem ofBits_bot : (Ideal.ofBits .f32 0xFF800000#32 : EReal) = ⊥ := by simp [Ideal.ofBits, Ideal.ieee]
theorem ofBits_two : (Ideal.ofBits .f32 0x40000000#32 : EReal) = ((2 : ℝ) : EReal) := by
  simp [Ideal.ofBits, Ideal.ieee]; norm_cast; norm_num

theorem log_two : Ideal.log (Ideal.ofBits .f32 0x40000000#32) = ((Real.log 2 : ℝ) : EReal) := by
  rw [ofBits_two, Ideal.log_coe, if_neg (by norm_num)]

/-- The scale of the scores. -/
def sc : ℝ := 13698540 * (2 ^ 27)⁻¹

theorem sc_eq : (Ideal.ofBits .f32 0x3DD105EC#32 : EReal) = (sc : EReal) := by
  unfold sc; simp [Ideal.ofBits, Ideal.ieee]

theorem sc_ne : sc ≠ 0 := by
  unfold sc; positivity

theorem sel_le {i j : ℕ} (hi : i < 4096) (hj : j < 4096) (a b : EReal) :
    Scalar.select (IntOp.cmpi .sle (BitVec.ofNat 32 j) (BitVec.ofNat 32 i)) a b = if j ≤ i then a else b := by
  have e := WordCmp.cmpi_sle_ofNat_eq_one_iff (w := 32) (a := j) (b := i) (by omega) (by omega)
  unfold Scalar.select
  by_cases h : j ≤ i
  · rw [if_pos h]; exact if_pos (e.mpr h)
  · rw [if_neg h]; exact if_neg fun p => h (e.mp p)

theorem bit_eq {l n : ℕ} (hl : l < 128) (hn : n < 128) : IntOp.cmpi .eq (BitVec.ofNat 32 l) (BitVec.ofNat 32 n) = if l = n then 1#1 else 0#1 := by
  rw [WordCmp.cmpi_eq_ofNat (w := 32) (a := l) (b := n) (by omega) (by omega)]
  by_cases h : l = n
  · rw [if_pos h, decide_eq_true h]; rfl
  · rw [if_neg h, decide_eq_false h]; rfl

theorem sel_eq {l n : ℕ} (hl : l < 128) (hn : n < 128) (a b : EReal) :
    Scalar.select (IntOp.cmpi .eq (BitVec.ofNat 32 l) (BitVec.ofNat 32 n)) a b = if l = n then a else b := by
  rw [bit_eq hl hn]; split_ifs <;> rfl

/-- An array's element as a real number. -/
def re3 {A B C : ℕ} (x : (⟨3, ![A, B, C]⟩ : Shape).Idx → EReal) (h r l : ℕ) : ℝ := (at3 x h r l).toReal

/-- Every element of an array is a real number. -/
def Fin3 {A B C : ℕ} (x : (⟨3, ![A, B, C]⟩ : Shape).Idx → EReal) : Prop := ∀ y, x y ≠ ⊥ ∧ x y ≠ ⊤

theorem re3_ix {A B C : ℕ} {x : (⟨3, ![A, B, C]⟩ : Shape).Idx → EReal} (hx : Fin3 x) (h : Fin A) (r : Fin B) (l : Fin C) :
    x (ix3 h r l) = (re3 x h.val r.val l.val : EReal) := by
  unfold re3; rw [at3_ix, EReal.coe_toReal (hx _).2 (hx _).1]

/-! ## The kernel's operands -/

variable {a0 a1 : FVec Ideal S8x4096x96 .f32} {a2 a3 : FVec Ideal S8x4096x64 .f32}
  (h0 : Fin3 a0) (h1 : Fin3 a1) (h2 : Fin3 a2) (h3 : Fin3 a3)

include h0 h1 in
theorem hT_at (h : Fin 8) (i j : Fin 4096) : hT a0 a1 (ix3 h i j) = Head.T sc (re3 a0 h.val) (re3 a1 h.val) i.val j.val := by
  pointwise [hT]
  rw [sel_le i.isLt j.isLt]
  unfold Head.T Head.S
  simp only [re3_ix h0, re3_ix h1, sc_eq, ← EReal.coe_mul, ← coe_sum]
  rw [show (id (constant (F := Ideal) S_ FTy.f32 4286578688#32) ix0 : EReal) = ⊥ from ofBits_bot]

include h0 h1 in
theorem hM_at (h : Fin 8) (i : Fin 4096) (z : Fin 1) : hM a0 a1 (ix3 h i z) = (Head.M sc (re3 a0 h.val) (re3 a1 h.val) i.val : EReal) := by
  pointwise [hM]
  rw [ofBits_bot, ← Head.M_eq]
  congr 1
  funext x; exact hT_at h0 h1 h i x

include h0 h1 in
theorem hE_at (h : Fin 8) (i j : Fin 4096) : hE a0 a1 (ix3 h i j) = (Head.E sc (re3 a0 h.val) (re3 a1 h.val) i.val j.val : EReal) := by
  pointwise [hE]
  rw [hT_at h0 h1, hM_at h0 h1, Head.exp_T]

include h0 h1 in
theorem hL_at (h : Fin 8) (i : Fin 4096) (z : Fin 1) : hL a0 a1 (ix3 h i z) = (Head.L sc (re3 a0 h.val) (re3 a1 h.val) i.val : EReal) := by
  pointwise [hL]
  simp only [hE_at h0 h1, ← coe_sum]; rfl

theorem log_at (x y : FVec Ideal S8x4096x1 .f32) (h : Fin 8) (i : Fin 4096) (z : Fin 1) :
    Host.divf (addf x (Host.log y)) (broadcastInDim S8x4096x1 ![] bcast_S_S8x4096x1 (Host.log (constant S_ .f32 0x40000000#32))) (ix3 h i z)
      = Ideal.div (x (ix3 h i z) + Ideal.log (y (ix3 h i z))) (Ideal.log (Ideal.ofBits .f32 0x40000000#32)) := by
  pointwise

include h0 h1 in
theorem hZ_at (h : Fin 8) (i : Fin 4096) (z : Fin 1) : hZ a0 a1 (ix3 h i z) = (Head.Z sc (re3 a0 h.val) (re3 a1 h.val) i.val : EReal) := by
  unfold hZ Head.Z
  rw [log_at, hM_at h0 h1, hL_at h0 h1, log_two, Ideal.log_coe, if_neg (not_le.mpr (Head.L_pos _ _ _ _)), ← EReal.coe_add, div_real Head.log2_ne]

include h0 h1 in
theorem hP_at (h : Fin 8) (i j : Fin 4096) : hP a0 a1 (ix3 h i j) = (Head.P sc (re3 a0 h.val) (re3 a1 h.val) i.val j.val : EReal) := by
  pointwise [hP]
  unfold Head.P
  rw [hE_at h0 h1, hL_at h0 h1, div_real (Head.L_pos _ _ _ _).ne']

include h0 h1 h2 in
theorem hO_at (h : Fin 8) (i : Fin 4096) (x : Fin 64) : hO a0 a1 a2 (ix3 h i x)
    = ((∑ j : Fin 4096, Head.P sc (re3 a0 h.val) (re3 a1 h.val) i.val j.val * re3 a2 h.val j.val x.val : ℝ) : EReal) := by
  pointwise [hO]
  simp only [hP_at h0 h1, re3_ix h2, ← EReal.coe_mul, ← coe_sum]

include h0 h1 h2 h3 in
theorem hC_at (h : Fin 8) (i : Fin 4096) (z : Fin 1) :
    hC a0 a1 a2 a3 (ix3 h i z) = (Head.C sc (re3 a0 h.val) (re3 a1 h.val) (re3 a2 h.val) (re3 a3 h.val) i.val : EReal) := by
  pointwise [hC]
  simp only [hO_at h0 h1 h2, re3_ix h3, ← EReal.coe_mul, ← coe_sum]; rfl

/-- A real column over two spare lanes: the column negated in the first, zero in the second. -/
theorem spare_at {n n' : ℕ} (hn : n < 128) (hn' : n' < 128) (z : FVec Ideal S8x4096x1 .f32) (x : FVec Ideal S8x4096x128 .bf16) (h : Fin 8) (i : Fin 4096)
    (l : Fin 128) (r : ℝ) (hz : z (ix3 h i 0) = (r : EReal)) :
    spare (BitVec.ofNat 32 n) (BitVec.ofNat 32 n') z x (ix3 h i l) = if l.val = n then ((-r : ℝ) : EReal) else if l.val = n' then 0 else x (ix3 h i l) := by
  pointwise [spare, lane]
  rw [sel_eq l.isLt hn, sel_eq l.isLt hn', hz, ← EReal.coe_sub, sub_self, ← EReal.coe_neg, ← EReal.coe_neg, neg_zero, EReal.coe_zero]

theorem zero_word : (FloatOps.sitofp (F := Ideal) FTy.f32 (0#32) : EReal) = 0 := by
  show (((0#32).toInt : ℝ) : EReal) = 0
  simp

include h0 h1 in
theorem hQ_at (h : Fin 8) (i : Fin 4096) (l : Fin 128) :
    hQ a0 a1 (ix3 h i l) = (Head.qr sc (re3 a0 h.val) (re3 a1 h.val) i.val l.val : EReal) := by
  unfold hQ
  rw [spare_at (n := 96) (n' := 97) (by norm_num) (by norm_num) _ _ h i l _ (hZ_at h0 h1 h i 0)]
  unfold Head.qr
  pointwise
  have hl := l.isLt
  by_cases p : l.val < 96
  · rw [if_neg (by omega), if_neg (by omega), if_pos p, dif_pos p, log_two, sc_eq, re3_ix h0, ← EReal.coe_mul, div_real Head.log2_ne]
  · rw [if_neg p, dif_neg p, zero_word]
    split_ifs <;> rfl

include h1 in
theorem hK_at (h : Fin 8) (j : Fin 4096) (l : Fin 128) : hK a1 (ix3 h j l) = (Head.kr (re3 a1 h.val) j.val l.val : EReal) := by
  pointwise [hK, lane]
  rw [bit_eq l.isLt (n := 96) (by norm_num), bit_eq l.isLt (n := 97) (by norm_num),
    show (id (constant (F := Ideal) S_ FTy.f32 1065353216#32) ix0 : EReal) = 1 from Ideal.ofBits_one_f32]
  unfold Head.kr
  have hl := l.isLt
  by_cases p : l.val < 96
  · rw [if_neg (by omega), if_neg (by omega), if_pos p, dif_pos p]; exact re3_ix h1 _ _ _
  · rw [if_neg p, dif_neg p, zero_word]
    by_cases p6 : l.val = 96
    · rw [if_pos p6, if_neg (by omega), if_pos (by omega)]; rfl
    · by_cases p7 : l.val = 97
      · rw [if_neg p6, if_pos p7, if_pos (by omega)]; rfl
      · rw [if_neg p6, if_neg p7, if_neg (by omega)]; rfl

include h2 in
theorem hW_at (h : Fin 8) (j : Fin 4096) (l : Fin 128) : hW a2 (ix3 h j l) = (Head.wr (re3 a2 h.val) j.val l.val : EReal) := by
  pointwise [hW]
  unfold Head.wr
  split_ifs with p
  · exact re3_ix h2 _ _ _
  · rfl

include h0 h1 h2 h3 in
theorem hD_at (h : Fin 8) (i : Fin 4096) (l : Fin 128) :
    hD a0 a1 a2 a3 (ix3 h i l) = (Head.dr sc (re3 a0 h.val) (re3 a1 h.val) (re3 a2 h.val) (re3 a3 h.val) i.val l.val : EReal) := by
  unfold hD
  rw [spare_at (n := 64) (n' := 65) (by norm_num) (by norm_num) _ _ h i l _ (hC_at h0 h1 h2 h3 h i 0)]
  unfold Head.dr
  pointwise
  have hl := l.isLt
  by_cases p : l.val < 64
  · rw [if_neg (by omega), if_neg (by omega), if_pos p, dif_pos p]; exact re3_ix h3 _ _ _
  · rw [if_neg p, dif_neg p, zero_word]
    split_ifs <;> rfl

end Cert.Attn

end
-- ==== Proof.AttnArr.lean ====
/-
  What the gradient kernel leaves in its three result arrays, over finite arguments: the real attention's gradients.
-/
module

public import proofs.«01_k».proof.Proof.AttnFrame
public import proofs.«01_k».proof.Proof.AttnAt
public import Idealize.ShloMosaic.Lib.Pipeline.ValueKit.Geometry
public import Idealize.ShloMosaic.Lib.Pipeline.ValueKit.Point

@[expose] public section

set_option maxRecDepth 16384

noncomputable section

namespace Cert.Attn

open Cert.KernelIdeal Cert.KernelIdeal.Gen
open Idealize.ShloMosaic Idealize.ShloMosaic.TcCoe Idealize.ShloMosaic.Tactic

/-! ## Sums of real blocks -/

section sums
variable (q k : ℕ → ℕ → ℝ) (v d : ℕ → ℕ → ℝ) {Q K W D : ℕ → ℕ → ℕ → EReal} {h o : ℕ}
  (eQ : ∀ i l, i < 4096 → l < 128 → Q h i l = (Head.qr sc q k i l : EReal))
  (eK : ∀ j l, j < 512 → l < 128 → K h j l = (Head.kr k (o + j) l : EReal))
  (eW : ∀ j l, j < 512 → l < 128 → W h j l = (Head.wr v (o + j) l : EReal))
  (eD : ∀ i l, i < 4096 → l < 128 → D h i l = (Head.dr sc q k v d i l : EReal))

include eQ eK in
theorem pm_real {i j : ℕ} (hi : i < 4096) (hj : j < 512) : pm o Q K h i j = (Head.P sc q k i (o + j) : EReal) := by
  unfold pm pr scr
  have e : (∑ x : Fin 128, Q h i x.val * K h j x.val) = ((Head.S sc q k i (o + j) / Real.log 2 - Head.Z sc q k i : ℝ) : EReal) := by
    rw [← Head.score, coe_sum]
    refine Finset.sum_congr rfl fun x _ => ?_
    rw [eQ _ _ hi x.isLt, eK _ _ hj x.isLt, EReal.coe_mul]
  rw [e, Ideal.exp2_coe, ← Head.weight]
  split_ifs <;> rfl

include eQ eK eW eD in
theorem dm_real {i j : ℕ} (hi : i < 4096) (hj : j < 512) : dm o Q K W D h i j = (Head.A sc q k v d i (o + j) : EReal) := by
  unfold dm Head.A
  rw [pm_real q k eQ eK hi hj, EReal.coe_mul]
  congr 1
  unfold scr
  rw [← Head.grad, coe_sum]
  refine Finset.sum_congr rfl fun x _ => ?_
  rw [eD _ _ hi x.isLt, eW _ _ hj x.isLt, EReal.coe_mul]

include eQ eK eD in
theorem dv_real {j l : ℕ} (hj : j < 512) (hl : l < 64) :
    ∑ i ∈ Finset.range 4096, pm o Q K h i j * D h i l = (Head.gv sc q k d (o + j) l : EReal) := by
  unfold Head.gv
  rw [Finset.sum_range, coe_sum]
  refine Finset.sum_congr rfl fun i _ => ?_
  rw [pm_real q k eQ eK i.isLt hj, eD _ _ i.isLt (by omega), EReal.coe_mul]
  unfold Head.dr; rw [if_pos hl]

include eQ eK eW eD in
theorem dk_real {j l : ℕ} (hj : j < 512) (hl : l < 96) :
    (∑ i ∈ Finset.range 4096, dm o Q K W D h i j * Q h i l) * ln2c = (Head.gk sc q k v d (o + j) l : EReal) := by
  have e : (∑ i ∈ Finset.range 4096, dm o Q K W D h i j * Q h i l)
      = ((∑ i : Fin 4096, Head.A sc q k v d i.val (o + j) * (q i.val l * sc / Real.log 2) : ℝ) : EReal) := by
    rw [Finset.sum_range, coe_sum]
    refine Finset.sum_congr rfl fun i _ => ?_
    rw [dm_real q k v d eQ eK eW eD i.isLt hj, eQ _ _ i.isLt (by omega), EReal.coe_mul]
    unfold Head.qr; rw [if_pos hl]
  rw [e]; unfold ln2c Head.gk
  rw [← EReal.coe_mul, Finset.sum_mul]
  refine congrArg _ (Finset.sum_congr rfl fun i _ => ?_)
  have := Head.log2_ne
  field_simp

include eQ eK eW eD in
theorem share_real {i l : ℕ} (hi : i < 4096) (hl : l < 96) :
    ∑ j : Fin 512, dm o Q K W D h i j.val * K h j.val l = ((∑ j ∈ Finset.range 512, Head.A sc q k v d i (o + j) * k (o + j) l : ℝ) : EReal) := by
  rw [Finset.sum_range, coe_sum]
  refine Finset.sum_congr rfl fun j _ => ?_
  rw [dm_real q k v d eQ eK eW eD hi j.isLt, eK _ _ j.isLt (by omega), EReal.coe_mul]
  unfold Head.kr; rw [if_pos hl]

end sums

/-- The sum over the blocks is the sum over all. -/
theorem sum_blocks (f : ℕ → ℝ) (n : ℕ) : ∑ b ∈ Finset.range n, ∑ j ∈ Finset.range 512, f (512 * b + j) = ∑ i ∈ Finset.range (512 * n), f i := by
  induction n with
  | zero => simp
  | succ n ih => rw [Finset.sum_range_succ, ih, Nat.mul_succ, Finset.sum_range_add]

/-! ## The blocks of a point -/

variable (m : (ℓ : Loc nD τ sig) → Buf (Elt Ideal) ℓ)

/-- The arguments. -/
abbrev ar0 (c : Dev nD) : FVec Ideal S8x4096x96 .f32 := m ((c : Thread nD τ).loc main_arg0)
abbrev ar1 (c : Dev nD) : FVec Ideal S8x4096x96 .f32 := m ((c : Thread nD τ).loc main_arg1)
abbrev ar2 (c : Dev nD) : FVec Ideal S8x4096x64 .f32 := m ((c : Thread nD τ).loc main_arg2)
abbrev ar3 (c : Dev nD) : FVec Ideal S8x4096x64 .f32 := m ((c : Thread nD τ).loc main_arg3)

/-- Every argument is finite. -/
structure Finite (c : Dev nD) : Prop where
  h0 : Fin3 (ar0 m c)
  h1 : Fin3 (ar1 m c)
  h2 : Fin3 (ar2 m c)
  h3 : Fin3 (ar3 m c)

theorem coord0 (t : Fin cfg0.N) : (grid0.coords t 0).val = t.val / 8 := by
  have e : (grid0.coords t 0).val = t.val / 8 % 2 := Pipeline.Grid.coords_val t 0 (by decide) rfl
  have := lt16 t
  omega

theorem head_lt (t : Fin cfg0.N) {h : ℕ} (hh : h < 4) : 4 * (t.val / 8) + h < 8 := by have := lt16 t; omega
theorem key_lt (t : Fin cfg0.N) {j : ℕ} (hj : j < 512) : 512 * (t.val % 8) + j < 4096 := by omega

theorem idx_0 : ∀ t : Fin cfg0.N, win0_0.index t = ![t.val / 8, 0, 0] := by decide +kernel
theorem idx_1 : ∀ t : Fin cfg0.N, win0_1.index t = ![t.val / 8, t.val % 8, 0] := by decide +kernel
theorem idx_2 : ∀ t : Fin cfg0.N, win0_2.index t = ![t.val / 8, t.val % 8, 0] := by decide +kernel
theorem idx_3 : ∀ t : Fin cfg0.N, win0_3.index t = ![t.val / 8, 0, 0] := by decide +kernel
theorem idx_4 : ∀ t : Fin cfg0.N, win0_4.index t = ![t.val / 8, 0, 0] := by decide +kernel
theorem idx_5 : ∀ t : Fin cfg0.N, win0_5.index t = ![t.val / 8, t.val % 8, 0] := by decide +kernel
theorem idx_6 : ∀ t : Fin cfg0.N, win0_6.index t = ![t.val / 8, t.val % 8, 0] := by decide +kernel

theorem iblk_0 (c : Dev nD) (t : Fin cfg0.N) (h : Fin 4) (i : Fin 4096) (l : Fin 128) :
    (iblk m c 0 t : S4x4096x128.Idx → EReal) (ix3 h i l) = (V m c main_v47 : S8x4096x128.Idx → EReal) (ix3 ⟨4 * (t.val / 8) + h.val, head_lt t h.isLt⟩ i l) := by
  blk_point [iblk, idx_0 t] <;> (simp; try omega)

theorem iblk_1 (c : Dev nD) (t : Fin cfg0.N) (h : Fin 4) (j : Fin 512) (l : Fin 128) :
    (iblk m c 1 t : S4x512x128.Idx → EReal) (ix3 h j l)
      = (V m c main_v55 : S8x4096x128.Idx → EReal) (ix3 ⟨4 * (t.val / 8) + h.val, head_lt t h.isLt⟩ ⟨512 * (t.val % 8) + j.val, key_lt t j.isLt⟩ l) := by
  blk_point [iblk, idx_1 t] <;> (simp; try omega)

theorem iblk_2 (c : Dev nD) (t : Fin cfg0.N) (h : Fin 4) (j : Fin 512) (l : Fin 128) :
    (iblk m c 2 t : S4x512x128.Idx → EReal) (ix3 h j l)
      = (V m c main_v58 : S8x4096x128.Idx → EReal) (ix3 ⟨4 * (t.val / 8) + h.val, head_lt t h.isLt⟩ ⟨512 * (t.val % 8) + j.val, key_lt t j.isLt⟩ l) := by
  blk_point [iblk, idx_2 t] <;> (simp; try omega)

theorem iblk_3 (c : Dev nD) (t : Fin cfg0.N) (h : Fin 4) (i : Fin 4096) (l : Fin 128) :
    (iblk m c 3 t : S4x4096x128.Idx → EReal) (ix3 h i l) = (V m c main_v72 : S8x4096x128.Idx → EReal) (ix3 ⟨4 * (t.val / 8) + h.val, head_lt t h.isLt⟩ i l) := by
  blk_point [iblk, idx_3 t] <;> (simp; try omega)

/-- A head of an argument, as a real matrix. -/
abbrev rq (c : Dev nD) (h : ℕ) : ℕ → ℕ → ℝ := re3 (ar0 m c) h
abbrev rk (c : Dev nD) (h : ℕ) : ℕ → ℕ → ℝ := re3 (ar1 m c) h
abbrev rv (c : Dev nD) (h : ℕ) : ℕ → ℕ → ℝ := re3 (ar2 m c) h
abbrev rd (c : Dev nD) (h : ℕ) : ℕ → ℕ → ℝ := re3 (ar3 m c) h

section point
variable {m} {c : Dev nD} (fin : Finite m c) (t : Fin cfg0.N) {h : ℕ} (hh : h < 4)

include fin hh in
theorem Qb_real {i l : ℕ} (hi : i < 4096) (hl : l < 128) :
    Qb m c t h i l = (Head.qr sc (rq m c (4 * (t.val / 8) + h)) (rk m c (4 * (t.val / 8) + h)) i l : EReal) := by
  unfold Qb; rw [at3_of _ hh hi hl]
  refine (iblk_0 m c t ⟨h, hh⟩ ⟨i, hi⟩ ⟨l, hl⟩).trans ?_
  rw [V_Q]; exact hQ_at fin.h0 fin.h1 _ _ _

include fin hh in
theorem Kb_real {j l : ℕ} (hj : j < 512) (hl : l < 128) :
    Kb m c t h j l = (Head.kr (rk m c (4 * (t.val / 8) + h)) (512 * (t.val % 8) + j) l : EReal) := by
  unfold Kb; rw [at3_of _ hh hj hl]
  refine (iblk_1 m c t ⟨h, hh⟩ ⟨j, hj⟩ ⟨l, hl⟩).trans ?_
  rw [V_K]; exact hK_at fin.h1 _ _ _

include fin hh in
theorem Wb_real {j l : ℕ} (hj : j < 512) (hl : l < 128) :
    Wb m c t h j l = (Head.wr (rv m c (4 * (t.val / 8) + h)) (512 * (t.val % 8) + j) l : EReal) := by
  unfold Wb; rw [at3_of _ hh hj hl]
  refine (iblk_2 m c t ⟨h, hh⟩ ⟨j, hj⟩ ⟨l, hl⟩).trans ?_
  rw [V_W]; exact hW_at fin.h2 _ _ _

include fin hh in
theorem Db_real {i l : ℕ} (hi : i < 4096) (hl : l < 128) :
    Db m c t h i l = (Head.dr sc (rq m c (4 * (t.val / 8) + h)) (rk m c (4 * (t.val / 8) + h)) (rv m c (4 * (t.val / 8) + h))
      (rd m c (4 * (t.val / 8) + h)) i l : EReal) := by
  unfold Db; rw [at3_of _ hh hi hl]
  refine (iblk_3 m c t ⟨h, hh⟩ ⟨i, hi⟩ ⟨l, hl⟩).trans ?_
  rw [V_D]; exact hD_at fin.h0 fin.h1 fin.h2 fin.h3 _ _ _

include fin hh in
theorem dvAt_real {j l : ℕ} (hj : j < 512) (hl : l < 64) :
    dvAt m c t h j l = (Head.gv sc (rq m c (4 * (t.val / 8) + h)) (rk m c (4 * (t.val / 8) + h)) (rd m c (4 * (t.val / 8) + h)) (512 * (t.val % 8) + j) l : EReal) :=
  dv_real _ _ _ _ (fun i l hi hl => Qb_real fin t hh hi hl) (fun j l hj hl => Kb_real fin t hh hj hl) (fun i l hi hl => Db_real fin t hh hi hl) hj hl

include fin hh in
theorem dkAt_real {j l : ℕ} (hj : j < 512) :
    dkAt m c t h j l = if l < 96 then (Head.gk sc (rq m c (4 * (t.val / 8) + h)) (rk m c (4 * (t.val / 8) + h)) (rv m c (4 * (t.val / 8) + h))
      (rd m c (4 * (t.val / 8) + h)) (512 * (t.val % 8) + j) l : EReal) else 0 := by
  unfold dkAt
  split_ifs with hl
  · exact dk_real _ _ _ _ (fun i l hi hl => Qb_real fin t hh hi hl) (fun j l hj hl => Kb_real fin t hh hj hl)
      (fun j l hj hl => Wb_real fin t hh hj hl) (fun i l hi hl => Db_real fin t hh hi hl) hj hl
  · rfl

include fin hh in
theorem dqAt_real (h7 : t.val % 8 = 7) {i l : ℕ} (hi : i < 4096) :
    dqAt m c t h i l = if l < 96 then (Head.gq sc (rq m c (4 * (t.val / 8) + h)) (rk m c (4 * (t.val / 8) + h)) (rv m c (4 * (t.val / 8) + h))
      (rd m c (4 * (t.val / 8) + h)) i l : EReal) else 0 := by
  unfold dqAt
  rw [if_pos h7]
  split_ifs with hl
  · have e : accAt m c t.val h i l = ((∑ b ∈ Finset.range 8, ∑ j ∈ Finset.range 512,
        Head.A sc (rq m c (4 * (t.val / 8) + h)) (rk m c (4 * (t.val / 8) + h)) (rv m c (4 * (t.val / 8) + h)) (rd m c (4 * (t.val / 8) + h)) i (512 * b + j)
          * rk m c (4 * (t.val / 8) + h) (512 * b + j) l : ℝ) : EReal) := by
      unfold accAt
      rw [h7, coe_sum]
      refine Finset.sum_congr rfl fun b hb => ?_
      have hb8 : b < 8 := Finset.mem_range.mp hb
      have hp : t.val - 7 + b < cfg0.N := by have := t.isLt; omega
      unfold shareAt
      rw [dif_pos hp]
      have e1 : (t.val - 7 + b) / 8 = t.val / 8 := by omega
      have e2 : (t.val - 7 + b) % 8 = b := by omega
      have := share_real _ _ _ _ (fun i l hi hl => Qb_real fin ⟨t.val - 7 + b, hp⟩ hh hi hl) (fun j l hj hl => Kb_real fin ⟨t.val - 7 + b, hp⟩ hh hj hl)
        (fun j l hj hl => Wb_real fin ⟨t.val - 7 + b, hp⟩ hh hj hl) (fun i l hi hl => Db_real fin ⟨t.val - 7 + b, hp⟩ hh hi hl) hi hl
      simp only [e1, e2] at this ⊢
      exact this
    rw [e, sum_blocks (fun J => Head.A sc (rq m c (4 * (t.val / 8) + h)) (rk m c (4 * (t.val / 8) + h)) (rv m c (4 * (t.val / 8) + h)) (rd m c (4 * (t.val / 8) + h)) i J
          * rk m c (4 * (t.val / 8) + h) J l) 8]
    unfold ln2c Head.gq
    rw [← EReal.coe_mul, Finset.sum_range]
  · rfl

end point

/-! ## The arrays -/

/-- The three gradients as arrays. -/
def outQ (c : Dev nD) : S8x4096x128.Idx → EReal :=
  of3 (A := 8) (B := 4096) (C := 128) fun h i l => if l < 96 then (Head.gq sc (rq m c h) (rk m c h) (rv m c h) (rd m c h) i l : EReal) else 0
def outK (c : Dev nD) : S8x4096x128.Idx → EReal :=
  of3 (A := 8) (B := 4096) (C := 128) fun h i l => if l < 96 then (Head.gk sc (rq m c h) (rk m c h) (rv m c h) (rd m c h) i l : EReal) else 0
def outV (c : Dev nD) : S8x4096x64.Idx → EReal :=
  of3 (A := 8) (B := 4096) (C := 64) fun h i l => (Head.gv sc (rq m c h) (rk m c h) (rd m c h) i l : EReal)

theorem arr_4 (c : Dev nD) (fin : Finite m c) : (dats m 0 c).arrAt 4 cfg0.N = outQ m c := by
  refine (dats m 0 c).arrAt_eq_of_covers 4 _ (by decide +kernel) fun t hf y => ?_
  blk_simp
  rw [after_4]
  have e0 : ((win0_4.blk t).view.emb y 0).val = 4 * (t.val / 8) + (y 0).val := by blk_simp [idx_4 t] <;> (simp; try omega)
  have e1 : ((win0_4.blk t).view.emb y 1).val = (y 1).val := by blk_simp [idx_4 t] <;> (simp; try omega)
  have e2 : ((win0_4.blk t).view.emb y 2).val = (y 2).val := by blk_simp [idx_4 t] <;> (simp; try omega)
  unfold dqV outQ of3
  rw [e0, e1, e2]
  exact dqAt_real fin t (y 0).isLt ((flush0_4 t).mp hf) (y 1).isLt

theorem arr_5 (c : Dev nD) (fin : Finite m c) : (dats m 0 c).arrAt 5 cfg0.N = outK m c := by
  refine (dats m 0 c).arrAt_eq_of_covers 5 _ (by decide +kernel) fun t hf y => ?_
  blk_simp
  rw [after_5]
  have e0 : ((win0_5.blk t).view.emb y 0).val = 4 * (t.val / 8) + (y 0).val := by blk_simp [idx_5 t] <;> (simp; try omega)
  have e1 : ((win0_5.blk t).view.emb y 1).val = 512 * (t.val % 8) + (y 1).val := by blk_simp [idx_5 t] <;> (simp; try omega)
  have e2 : ((win0_5.blk t).view.emb y 2).val = (y 2).val := by blk_simp [idx_5 t] <;> (simp; try omega)
  unfold dkV outK of3
  rw [e0, e1, e2]
  exact dkAt_real fin t (y 0).isLt (y 1).isLt

theorem arr_6 (c : Dev nD) (fin : Finite m c) : (dats m 0 c).arrAt 6 cfg0.N = outV m c := by
  refine (dats m 0 c).arrAt_eq_of_covers 6 _ (by decide +kernel) fun t hf y => ?_
  blk_simp
  rw [after_6]
  have e0 : ((win0_6.blk t).view.emb y 0).val = 4 * (t.val / 8) + (y 0).val := by blk_simp [idx_6 t] <;> (simp; try omega)
  have e1 : ((win0_6.blk t).view.emb y 1).val = 512 * (t.val % 8) + (y 1).val := by blk_simp [idx_6 t] <;> (simp; try omega)
  have e2 : ((win0_6.blk t).view.emb y 2).val = (y 2).val := by blk_simp [idx_6 t] <;> (simp; try omega)
  unfold dvV outV of3
  rw [e0, e1, e2]
  exact dvAt_real fin t (y 0).isLt (y 1).isLt (y 2).isLt

end Cert.Attn

end
-- ==== Proof.AttnRef.lean ====
/-
  The reference's gradients at an index, over finite arguments: the real attention's.
-/
module

public import proofs.«01_k».proof.Proof.Gen.ReferenceIdeal.Run
public import proofs.«01_k».proof.Proof.AttnAt

@[expose] public section

set_option maxRecDepth 16384

noncomputable section

namespace Cert.Attn

open Cert.ReferenceIdeal Cert.ReferenceIdeal.Gen
open Idealize.ShloMosaic Idealize.ShloMosaic.TcCoe Idealize.ShloMosaic.Tactic

section terms
variable (a0 a1 : FVec Ideal S8x4096x96 .f32) (a2 a3 : FVec Ideal S8x4096x64 .f32)

/-- The causal mask. -/
def rB : IVec S8x4096x4096 1 :=
  broadcastInDim S8x4096x4096 ![1, 2] bcast_S4096x4096_S8x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The masked scores. -/
def rT : FVec Ideal S8x4096x4096 .f32 :=
  select rB (mulf (Host.dotGeneral dot_S8x4096x96_S8x4096x96_S8x4096x4096_2_2_1_1_0_0 none a0 a1)
      (broadcastInDim S8x4096x4096 ![] bcast_S_S8x4096x4096 (constant S_ .f32 0x3DD105EC#32)))
    (broadcastInDim S8x4096x4096 ![] bcast_S_S8x4096x4096 (id (constant S_ .f32 0xFF800000#32)))

/-- The rows' largest scores. -/
def rX : FVec Ideal S8x4096 .f32 :=
  Host.reduce FloatOps.maximumf (rT a0 a1) (constant S_ .f32 0xFF800000#32) reducesTo_S8x4096x4096_S8x4096_d2 h_S_
def rM : FVec Ideal S8x4096x1 .f32 :=
  broadcastInDim S8x4096x1 ![0, 1] bcast_S8x4096_S8x4096x1_0_1
    (maximumf (broadcastInDim S8x4096 ![] bcast_S_S8x4096 (constant S_ .f32 0xFF800000#32)) (rX a0 a1))

/-- The exponentials, the rows' sums, the weights. -/
def rE : FVec Ideal S8x4096x4096 .f32 :=
  Host.exp (subf (rT a0 a1) (broadcastInDim S8x4096x4096 ![0, 1, 2] bcast_S8x4096x1_S8x4096x4096_0_1_2 (rM a0 a1)))
def rL : FVec Ideal S8x4096x1 .f32 :=
  broadcastInDim S8x4096x1 ![0, 1] bcast_S8x4096_S8x4096x1_0_1
    (Host.reduceAdd (rE a0 a1) (constant S_ .f32 0x00000000#32) reducesTo_S8x4096x4096_S8x4096_d2 h_S_)
def rP : FVec Ideal S8x4096x4096 .f32 :=
  Host.divf (rE a0 a1) (broadcastInDim S8x4096x4096 ![0, 1, 2] bcast_S8x4096x1_S8x4096x4096_0_1_2 (rL a0 a1))

/-- The products of the output's gradient with the value rows. -/
def rG : FVec Ideal S8x4096x4096 .f32 := Host.dotGeneral dot_S8x4096x64_S8x4096x64_S8x4096x4096_2_2_1_1_0_0 none a3 a2

/-- One over the square of the rows' sums. -/
def rI : FVec Ideal S8x4096x1 .f32 :=
  Host.divf (broadcastInDim S8x4096x1 ![] bcast_S_S8x4096x1 (constant S_ .f32 0x3F800000#32)) (mulf (rL a0 a1) (rL a0 a1))

/-- The rows' corrections: the gradient through the quotient's denominator. -/
def rJ : FVec Ideal S8x4096 .f32 :=
  Host.reduceAdd (mulf (mulf (rG a2 a3) (broadcastInDim S8x4096x4096 ![0, 1, 2] bcast_S8x4096x1_S8x4096x4096_0_1_2 (rI a0 a1))) (rE a0 a1))
    (constant S_ .f32 0x00000000#32) reducesTo_S8x4096x4096_S8x4096_d2 h_S_
def rN : FVec Ideal S8x4096 .f32 :=
  Host.reduceAdd (Host.negf (shapeCast S8x4096x1 (rJ a0 a1 a2 a3) shapeCasts_S8x4096_S8x4096x1)) (constant S_ .f32 0x00000000#32) reducesTo_S8x4096x1_S8x4096_d2 h_S_

/-- The scores' gradients, with the scale. -/
def rA : FVec Ideal S8x4096x4096 .f32 :=
  mulf (select rB (mulf (addf (Host.divf (rG a2 a3) (broadcastInDim S8x4096x4096 ![0, 1, 2] bcast_S8x4096x1_S8x4096x4096_0_1_2 (rL a0 a1)))
        (broadcastInDim S8x4096x4096 ![0, 1] bcast_S8x4096_S8x4096x4096_0_1 (rN a0 a1 a2 a3))) (rE a0 a1))
      (broadcastInDim S8x4096x4096 ![] bcast_S_S8x4096x4096 (constant S_ .f32 0x00000000#32)))
    (broadcastInDim S8x4096x4096 ![] bcast_S_S8x4096x4096 (constant S_ .f32 0x3DD105EC#32))

/-- The three gradients. -/
def refV : FVec Ideal S8x4096x64 .f32 :=
  transpose S8x4096x64 [0, 2, 1] (Host.dotGeneral dot_S8x4096x64_S8x4096x4096_S8x64x4096_1_1_2_2_0_0 none a3 (rP a0 a1)) transposes_S8x64x4096_S8x4096x64_0_2_1
def refK : FVec Ideal S8x4096x128 .f32 :=
  pad S8x4096x128 ![0, 0, 0] ![0, 0, 32] ![0, 0, 0] (Host.dotGeneral dot_S8x4096x4096_S8x4096x96_S8x4096x96_1_1_2_2_0_0 none (rA a0 a1 a2 a3) a0)
    (sitofp .f32 (constantI S_ 32 0#32)) pads_S8x4096x96_S8x4096x128_000_000_0320 h_S_
def refQ : FVec Ideal S8x4096x128 .f32 :=
  pad S8x4096x128 ![0, 0, 0] ![0, 0, 32] ![0, 0, 0]
    (mulf (Host.divf (Host.dotGeneral dot_S8x4096x4096_S8x4096x96_S8x4096x96_2_1_1_2_0_0 none (rA a0 a1 a2 a3) a1)
        (broadcastInDim S8x4096x96 ![] bcast_S_S8x4096x96 (constant S_ .f32 0x3DD105EC#32)))
      (broadcastInDim S8x4096x96 ![] bcast_S_S8x4096x96 (Host.log (constant S_ .f32 0x40000000#32))))
    (sitofp .f32 (constantI S_ 32 0#32)) pads_S8x4096x96_S8x4096x128_000_000_0320 h_S_

end terms

theorem res_Q (m : (ℓ : Loc nD τ sig) → Buf (Elt Ideal) ℓ) (c : Dev nD) : Cert.ReferenceIdeal.Value.res_main_v64 m c
    = refQ (m ((c : Thread nD τ).loc main_arg0)) (m ((c : Thread nD τ).loc main_arg1)) (m ((c : Thread nD τ).loc main_arg2)) (m ((c : Thread nD τ).loc main_arg3)) := rfl

theorem res_K (m : (ℓ : Loc nD τ sig) → Buf (Elt Ideal) ℓ) (c : Dev nD) : Cert.ReferenceIdeal.Value.res_main_v65 m c
    = refK (m ((c : Thread nD τ).loc main_arg0)) (m ((c : Thread nD τ).loc main_arg1)) (m ((c : Thread nD τ).loc main_arg2)) (m ((c : Thread nD τ).loc main_arg3)) := rfl

variable {a0 a1 : FVec Ideal S8x4096x96 .f32} {a2 a3 : FVec Ideal S8x4096x64 .f32}
  (h0 : Fin3 a0) (h1 : Fin3 a1) (h2 : Fin3 a2) (h3 : Fin3 a3)

include h0 h1 in
theorem rT_at (h : Fin 8) (i j : Fin 4096) : rT a0 a1 (ix3 h i j) = Head.T sc (re3 a0 h.val) (re3 a1 h.val) i.val j.val := hT_at h0 h1 h i j

include h0 h1 in
theorem rX_at (h : Fin 8) (i : Fin 4096) : rX a0 a1 (ix2 h i) = (Head.M sc (re3 a0 h.val) (re3 a1 h.val) i.val : EReal) := by
  pointwise [rX]
  rw [ofBits_bot, ← Head.M_eq]
  congr 1
  funext x; exact rT_at h0 h1 h i x

/-- A maximum with the bottom is the other side. -/
theorem max_bot_at (v : FVec Ideal S8x4096 .f32) (h : Fin 8) (i : Fin 4096) (z : Fin 1) :
    broadcastInDim S8x4096x1 ![0, 1] bcast_S8x4096_S8x4096x1_0_1
      (maximumf (broadcastInDim S8x4096 ![] bcast_S_S8x4096 (constant S_ .f32 0xFF800000#32)) v) (ix3 h i z) = v (ix2 h i) := by
  pointwise
  rw [ofBits_bot]
  exact max_eq_right bot_le

include h0 h1 in
theorem rM_at (h : Fin 8) (i : Fin 4096) (z : Fin 1) : rM a0 a1 (ix3 h i z) = (Head.M sc (re3 a0 h.val) (re3 a1 h.val) i.val : EReal) := by
  unfold rM
  rw [max_bot_at, rX_at h0 h1]

include h0 h1 in
theorem rE_at (h : Fin 8) (i j : Fin 4096) : rE a0 a1 (ix3 h i j) = (Head.E sc (re3 a0 h.val) (re3 a1 h.val) i.val j.val : EReal) := by
  pointwise [rE]
  rw [rT_at h0 h1, rM_at h0 h1, Head.exp_T]

include h0 h1 in
theorem rL_at (h : Fin 8) (i : Fin 4096) (z : Fin 1) : rL a0 a1 (ix3 h i z) = (Head.L sc (re3 a0 h.val) (re3 a1 h.val) i.val : EReal) := by
  pointwise [rL]
  simp only [rE_at h0 h1, ← coe_sum]; rfl

include h0 h1 in
theorem rP_at (h : Fin 8) (i j : Fin 4096) : rP a0 a1 (ix3 h i j) = (Head.P sc (re3 a0 h.val) (re3 a1 h.val) i.val j.val : EReal) := by
  pointwise [rP]
  unfold Head.P
  rw [rE_at h0 h1, rL_at h0 h1, div_real (Head.L_pos _ _ _ _).ne']

include h2 h3 in
theorem rG_at (h : Fin 8) (i j : Fin 4096) : rG a2 a3 (ix3 h i j) = (Head.G (re3 a2 h.val) (re3 a3 h.val) i.val j.val : EReal) := by
  pointwise [rG]
  simp only [re3_ix h2, re3_ix h3, ← EReal.coe_mul, ← coe_sum]; rfl

include h0 h1 in
theorem rI_at (h : Fin 8) (i : Fin 4096) (z : Fin 1) :
    rI a0 a1 (ix3 h i z) = ((1 / (Head.L sc (re3 a0 h.val) (re3 a1 h.val) i.val * Head.L sc (re3 a0 h.val) (re3 a1 h.val) i.val) : ℝ) : EReal) := by
  pointwise [rI]
  have hL := (Head.L_pos sc (re3 a0 h.val) (re3 a1 h.val) i.val).ne'
  rw [rL_at h0 h1, ← EReal.coe_mul, ← EReal.coe_one, div_real (mul_ne_zero hL hL)]

include h0 h1 h2 h3 in
theorem rJ_at (h : Fin 8) (i : Fin 4096) : rJ a0 a1 a2 a3 (ix2 h i)
    = ((∑ j : Fin 4096, Head.G (re3 a2 h.val) (re3 a3 h.val) i.val j.val
        * (1 / (Head.L sc (re3 a0 h.val) (re3 a1 h.val) i.val * Head.L sc (re3 a0 h.val) (re3 a1 h.val) i.val)) * Head.E sc (re3 a0 h.val) (re3 a1 h.val) i.val j.val : ℝ) : EReal) := by
  pointwise [rJ]
  simp only [rG_at h2 h3, rI_at h0 h1, rE_at h0 h1, ← EReal.coe_mul, ← coe_sum]

theorem rN_eq (h : Fin 8) (i : Fin 4096) : rN a0 a1 a2 a3 (ix2 h i) = -rJ a0 a1 a2 a3 (ix2 h i) := by
  pointwise [rN]
  exact Fin.sum_univ_one _

include h0 h1 h2 h3 in
theorem rA_at (h : Fin 8) (i j : Fin 4096) : rA a0 a1 a2 a3 (ix3 h i j)
    = ((Head.A sc (re3 a0 h.val) (re3 a1 h.val) (re3 a2 h.val) (re3 a3 h.val) i.val j.val * sc : ℝ) : EReal) := by
  pointwise [rA, rB]
  rw [sel_le i.isLt j.isLt, rG_at h2 h3, rL_at h0 h1, rE_at h0 h1, rN_eq, rJ_at h0 h1 h2 h3, div_real (Head.L_pos _ _ _ _).ne', ← EReal.coe_neg, ← EReal.coe_add,
    ← EReal.coe_mul, sc_eq, EReal.coe_mul, ← Head.A_ref]
  congr 1
  split_ifs
  · rfl
  · rw [zero_mul]; rfl

include h0 h1 h2 h3 in
theorem refV_at (h : Fin 8) (j : Fin 4096) (l : Fin 64) :
    refV a0 a1 a3 (ix3 h j l) = (Head.gv sc (re3 a0 h.val) (re3 a1 h.val) (re3 a3 h.val) j.val l.val : EReal) := by
  pointwise [refV]
  simp only [rP_at h0 h1, re3_ix h3, ← EReal.coe_mul, ← coe_sum]
  unfold Head.gv
  exact congrArg _ (Finset.sum_congr rfl fun i _ => mul_comm _ _)

include h0 h1 h2 h3 in
theorem refK_at (h : Fin 8) (j : Fin 4096) (l : Fin 128) :
    refK a0 a1 a2 a3 (ix3 h j l) = if l.val < 96 then (Head.gk sc (re3 a0 h.val) (re3 a1 h.val) (re3 a2 h.val) (re3 a3 h.val) j.val l.val : EReal) else 0 := by
  pointwise [refK]
  split_ifs with p
  · simp only [rA_at h0 h1 h2 h3, re3_ix h0, ← EReal.coe_mul, ← coe_sum]; rfl
  · exact zero_word

include h0 h1 h2 h3 in
theorem refQ_at (h : Fin 8) (i : Fin 4096) (l : Fin 128) :
    refQ a0 a1 a2 a3 (ix3 h i l) = if l.val < 96 then (Head.gq sc (re3 a0 h.val) (re3 a1 h.val) (re3 a2 h.val) (re3 a3 h.val) i.val l.val : EReal) else 0 := by
  pointwise [refQ]
  split_ifs with p
  · rw [log_two, sc_eq]
    simp only [rA_at h0 h1 h2 h3, re3_ix h1, ← EReal.coe_mul, ← coe_sum, div_real sc_ne]
    unfold Head.gq
    refine congrArg _ (congrArg (· * Real.log 2) ?_)
    rw [Finset.sum_div]
    refine Finset.sum_congr rfl fun j _ => ?_
    have := sc_ne
    field_simp
  · exact zero_word

end Cert.Attn

end
-- ==== Proof.AttnClaims.lean ====
/-
  The claims: the frames, the named constants, and the equality of the kernel's gradients with the reference's.
-/
module

public import proofs.«01_k».proof.Defs
public import proofs.«01_k».proof.Proof.Gen.Kernel
public import proofs.«01_k».proof.Proof.WordFrame
public import proofs.«01_k».proof.Proof.AttnArr
public import proofs.«01_k».proof.Proof.AttnRef

@[expose] public section

set_option maxRecDepth 16384

noncomputable section

namespace Cert.Attn

open Idealize.ShloMosaic Idealize.ShloMosaic.TcCoe Idealize.ShloMosaic.Tactic Idealize.SL.Sem

theorem facts_pre : Cert.Pre_finite.Facts := ⟨by decide, by decide⟩

attribute [local instance] facts_pre

/-! ## The frames -/

theorem frame_p : Cert.quiescent_Kernel := fun m ρ _ => Cert.AttnWord.run_any (F := Bits) m ρ

theorem frame_pi : Cert.quiescent_KernelIdeal := fun m ρ _ => frame_ideal m ρ

theorem frame_pi_finite : Cert.quiescent_KernelIdeal_pre_finite := fun m ρ _ => frame_ideal m ρ

theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ri_finite : Cert.quiescent_ReferenceIdeal_pre_finite := fun m ρ _ => frame_ri m ρ trivial

/-! ## The named constants -/

theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

/-! ## The precondition -/

/-- The comparison's bound. -/
theorem bound : (Ideal.ofBits .f32 0x7F800000#32 : EReal) = ⊤ := by simp [Ideal.ofBits, Ideal.ieee]

/-- An absolute value below the bound is a real's. -/
theorem real_at {s : Shape} {a b : FVec Ideal s .f32} {y : s.Idx} (h : cmpf .olt (Host.absf a) b y = 1#1) (hb : b y = (⊤ : EReal)) :
    a y ≠ (⊥ : EReal) ∧ a y ≠ (⊤ : EReal) := by
  have h' : Ideal.cmp .olt (max (a y) (-(a y))) (b y) = 1#1 := h
  rw [hb] at h'
  constructor <;> (intro e; rw [e] at h'; simp [Ideal.cmp] at h')

theorem finite_of (m : (ℓ : Loc Cert.KernelIdeal.nD Cert.KernelIdeal.τ Cert.KernelIdeal.sig) → Buf (Elt Ideal) ℓ)
    (h : Pre_KernelIdeal_finite m) (c : Dev Cert.KernelIdeal.nD) : Finite m c where
  h0 y := real_at (congrFun (h c).1 y) bound
  h1 y := real_at (congrFun (h c).2.1 y) bound
  h2 y := real_at (congrFun (h c).2.2.1 y) bound
  h3 y := real_at (congrFun (h c).2.2.2 y) bound

/-! ## The values -/

section values
variable (m : (ℓ : Loc Cert.KernelIdeal.nD Cert.KernelIdeal.τ Cert.KernelIdeal.sig) → Buf (Elt Ideal) ℓ) (c : Dev Cert.KernelIdeal.nD) (fin : Finite m c)
include fin

theorem refQ_eq : refQ (ar0 m c) (ar1 m c) (ar2 m c) (ar3 m c) = outQ m c :=
  eq_of3 _ _ fun h i l hh hi hl => (at3_of _ hh hi hl).trans (refQ_at fin.h0 fin.h1 fin.h2 fin.h3 ⟨h, hh⟩ ⟨i, hi⟩ ⟨l, hl⟩)
theorem refK_eq : refK (ar0 m c) (ar1 m c) (ar2 m c) (ar3 m c) = outK m c :=
  eq_of3 _ _ fun h i l hh hi hl => (at3_of _ hh hi hl).trans (refK_at fin.h0 fin.h1 fin.h2 fin.h3 ⟨h, hh⟩ ⟨i, hi⟩ ⟨l, hl⟩)
theorem refV_eq : refV (ar0 m c) (ar1 m c) (ar3 m c) = outV m c :=
  eq_of3 _ _ fun h i l hh hi hl => (at3_of _ hh hi hl).trans (refV_at fin.h0 fin.h1 fin.h2 fin.h3 ⟨h, hh⟩ ⟨i, hi⟩ ⟨l, hl⟩)

end values

theorem same4 {α β γ : Type} (f : α → α → β → β → γ) {a a' b b' : α} {x x' y y' : β} (e0 : a = a') (e1 : b = b') (e2 : x = x') (e3 : y = y') :
    f a b x y = f a' b' x' y' := by subst e0 e1 e2 e3; rfl

theorem algebraic : Cert.algebraic_KernelIdeal_ReferenceIdeal_pre_finite := fun m ρ m' ρ' hpre hag => by
  have fin := finite_of m hpre
  refine ⟨outQ m, outK m, outV m, ?_, ?_⟩
  · refine (θ_run Cert.KernelIdeal.defs _ _).mono (fun r h c => ?_) (θ_run_and (run_main m ρ) (frame_ideal m ρ))
    exact ⟨((h.1 c).1 4).trans (arr_4 m c (fin c)), ((h.1 c).1 5).trans (arr_5 m c (fin c)), ((h.1 c).1 6).trans (arr_6 m c (fin c)), h.2.1 c⟩
  · refine (θ_run Cert.ReferenceIdeal.defs _ _).mono (fun r h c => ?_) (Cert.ReferenceIdeal.Value.run (F := Ideal) m' ρ')
    obtain ⟨e0, e1, e2, e3⟩ := hag c
    refine ⟨(h c).1.trans ?_, (h c).2.1.trans ?_, (h c).2.2.1.trans ?_, (h c).2.2.2⟩
    · exact (res_Q m' c).trans ((same4 refQ e0 e1 e2 e3).trans (refQ_eq m c (fin c)))
    · exact (res_K m' c).trans ((same4 refK e0 e1 e2 e3).trans (refK_eq m c (fin c)))
    · exact (same4 (fun a b _ d => refV a b d) e0 e1 e2 e3).trans (refV_eq m c (fin c))

end Cert.Attn

end
-- ==== Proof.MlpMath.lean ====
/-
  The gradient of a gated layer over eight shards, element by element: the gate, the product and their gradients as functions of
  plain numbers, the shards' sums over the lanes and over the rows, and a sum over the rows taken block by block.
-/
module

public import Idealize.ShloMosaic.Lib.Pointwise
public import Idealize.ShloMosaic.PureOps.Ideal

@[expose] public section

noncomputable section

namespace Cert.Mlp

open Idealize.ShloMosaic

/-- An array of two axes at two numbers: its element there, or zero outside its bounds. -/
def el2 {A B : ℕ} (x : (⟨2, ![A, B]⟩ : Shape).Idx → EReal) (r l : ℕ) : EReal :=
  if p : r < A ∧ l < B then x (ix2 ⟨r, p.1⟩ ⟨l, p.2⟩) else 0

/-- An array of three axes at three numbers. -/
def el3 {A B C : ℕ} (x : (⟨3, ![A, B, C]⟩ : Shape).Idx → EReal) (h r l : ℕ) : EReal :=
  if p : h < A ∧ r < B ∧ l < C then x (ix3 ⟨h, p.1⟩ ⟨r, p.2.1⟩ ⟨l, p.2.2⟩) else 0

theorem el2_of {A B : ℕ} (x : (⟨2, ![A, B]⟩ : Shape).Idx → EReal) {r l : ℕ} (hr : r < A) (hl : l < B) :
    el2 x r l = x (ix2 ⟨r, hr⟩ ⟨l, hl⟩) := dif_pos ⟨hr, hl⟩

theorem el3_of {A B C : ℕ} (x : (⟨3, ![A, B, C]⟩ : Shape).Idx → EReal) {h r l : ℕ} (hh : h < A) (hr : r < B) (hl : l < C) :
    el3 x h r l = x (ix3 ⟨h, hh⟩ ⟨r, hr⟩ ⟨l, hl⟩) := dif_pos ⟨hh, hr, hl⟩

theorem el2_ix {A B : ℕ} (x : (⟨2, ![A, B]⟩ : Shape).Idx → EReal) (r : Fin A) (l : Fin B) : x (ix2 r l) = el2 x r.val l.val :=
  (el2_of x r.isLt l.isLt).symm

theorem el3_ix {A B C : ℕ} (x : (⟨3, ![A, B, C]⟩ : Shape).Idx → EReal) (h : Fin A) (r : Fin B) (l : Fin C) :
    x (ix3 h r l) = el3 x h.val r.val l.val := (el3_of x h.isLt r.isLt l.isLt).symm

/-- An array from a function of three numbers. -/
def of3 {A B C : ℕ} (f : ℕ → ℕ → ℕ → EReal) : (⟨3, ![A, B, C]⟩ : Shape).Idx → EReal := fun x => f (x 0).val (x 1).val (x 2).val

theorem eq_of3 {A B C : ℕ} (x : (⟨3, ![A, B, C]⟩ : Shape).Idx → EReal) (f : ℕ → ℕ → ℕ → EReal)
    (e : ∀ (h : Fin A) (r : Fin B) (l : Fin C), x (ix3 h r l) = f h.val r.val l.val) : x = of3 f := by
  funext i
  refine Eq.trans (congrArg x (funext fun d => ?_)) (e (i 0) (i 1) (i 2))
  match d with
  | 0 => rfl
  | 1 => rfl
  | 2 => rfl

/-! ## One element -/

/-- The logistic function. -/
def sg (g : EReal) : EReal := Ideal.div 1 (1 + Ideal.exp (-g))

/-- The gated product. -/
def act (g u : EReal) : EReal := g * sg g * u

/-- Its gradient's part at the gate, and at the other factor, from the product's gradient. -/
def dgate (g u a : EReal) : EReal := a * u * sg g + g * (a * u) * (sg g * (1 - sg g))
def dup (g a : EReal) : EReal := g * sg g * a

/-! ## The layer -/

section layer
variable (h dy : ℕ → ℕ → EReal) (q : ℕ → EReal) (w p : ℕ → ℕ → ℕ → EReal)

/-- The gate and the other factor of a shard: the shards' halves lie behind one another. -/
def Ga (j r f : ℕ) : EReal := ∑ d : Fin 1024, h r d.val * w j f d.val
def Up (j r f : ℕ) : EReal := ∑ d : Fin 1024, h r d.val * w (4 + j) f d.val

/-- The scaled gradient of the output, and of the product. -/
def Mx (r d : ℕ) : EReal := dy r d * q d
def Da (j r f : ℕ) : EReal := ∑ d : Fin 1024, Mx dy q r d.val * p j f d.val

/-- The product, and the gradients at its factors. -/
def Ac (j r f : ℕ) : EReal := act (Ga h w j r f) (Up h w j r f)
def Dg (j r f : ℕ) : EReal := dgate (Ga h w j r f) (Up h w j r f) (Da dy q p j r f)
def Du (j r f : ℕ) : EReal := dup (Ga h w j r f) (Da dy q p j r f)

/-- The gradients of the input and of the three weights. -/
def DH (j r d : ℕ) : EReal := (∑ f : Fin 704, Dg h dy q w p j r f.val * w j f.val d) + ∑ f : Fin 704, Du h dy q w p j r f.val * w (4 + j) f.val d
def WG (j f d : ℕ) : EReal := ∑ r : Fin 4096, Dg h dy q w p j r.val f * h r.val d
def WU (j f d : ℕ) : EReal := ∑ r : Fin 4096, Du h dy q w p j r.val f * h r.val d
def WD (j f d : ℕ) : EReal := ∑ r : Fin 4096, Ac h w j r.val f * Mx dy q r.val d

end layer

/-- A sum over blocks of rows, one block further. -/
theorem blocks_succ (f : ℕ → EReal) (i : ℕ) :
    (∑ x ∈ Finset.range (1024 * i), f x) + ∑ x : Fin 1024, f (1024 * i + x.val) = ∑ x ∈ Finset.range (1024 * (i + 1)), f x := by
  rw [mul_add, mul_one, Finset.sum_range_add, Fin.sum_univ_eq_sum_range (fun x => f (1024 * i + x)) 1024]

theorem blocks_zero (f : ℕ → EReal) : ∑ x : Fin 1024, f (1024 * 0 + x.val) = ∑ x ∈ Finset.range (1024 * (0 + 1)), f x := by
  rw [← blocks_succ]; simp

theorem blocks_all (f : ℕ → EReal) : ∑ x ∈ Finset.range (1024 * (3 + 1)), f x = ∑ x : Fin 4096, f x.val :=
  (Fin.sum_univ_eq_sum_range f 4096).symm

end Cert.Mlp

end
-- ==== Proof.MlpBlock.lean ====
/-
  What one grid point of the gated layer's gradient computes, at an index: the four groups of rows of each block it leaves,
  and the products of a block with a block.
-/
module

public import proofs.«01_k».proof.Proof.Gen.Kernel2Ideal.Frame
public import proofs.«01_k».proof.Proof.MlpMath
public import Idealize.ShloMosaic.Lib.Pipeline.ValueKit
public import Idealize.ShloMosaic.Lib.Pipeline.ReadBack

@[expose] public section

set_option maxRecDepth 16384

noncomputable section

namespace Cert.Mlp

open Cert.Kernel2Ideal Cert.Kernel2Ideal.Gen
open Idealize.ShloMosaic Idealize.ShloMosaic.TcCoe Idealize.ShloMosaic.Tactic

/-! ## Groups of rows -/

theorem ld3 (x : S1x1024x704.Idx → EReal) (o : ℕ) (inb) (z : Fin 1) (r : Fin 256) (f : Fin 704) :
    View.ld (Val := Elt Ideal) (e' := .bf16) x (Rect.unit ![0, o, 0] ![1, 256, 704] inb) (ix3 z r f) = el3 x 0 (o + r.val) f.val := by
  have ho : o + 256 ≤ 1024 := inb 1
  rw [el3_of x (by omega) (show o + r.val < 1024 by have := r.isLt; omega) f.isLt]
  refine View.ld_unit_apply_of _ _ _ _ _ _ ?_
  intro a
  match a with
  | 0 => simp [ix3]
  | 1 => simp [ix3]
  | 2 => simp [ix3]

theorem ld2 (x : S1024x1024.Idx → EReal) (o : ℕ) (inb) (r : Fin 256) (d : Fin 1024) :
    View.ld (Val := Elt Ideal) (e' := .f32) x (Rect.unit ![o, 0] ![256, 1024] inb) (ix2 r d) = el2 x (o + r.val) d.val := by
  have ho : o + 256 ≤ 1024 := inb 0
  rw [el2_of x (show o + r.val < 1024 by have := r.isLt; omega) d.isLt]
  refine View.ld_unit_apply_of _ _ _ _ _ _ ?_
  intro a
  match a with
  | 0 => simp [ix2]
  | 1 => simp [ix2]

section rows
variable (w0 w2 w7 : Vec Ideal S1x704x1024 .bf16) (x4 : Vec Ideal S1x1024 .f32) (g u : Vec Ideal S1x256x704 .bf16) (y : Vec Ideal S256x1024 .f32)

/-- The product's gradient, of a group of rows. -/
def cda (r : Fin 256) (f : Fin 704) : EReal := ∑ d : Fin 1024, y (ix2 r d) * x4 (ix2 0 d) * w7 (ix3 0 f d)

/-- A group's gradients at the two factors, the product and the scaled gradient. -/
def cdg (r : Fin 256) (f : Fin 704) : EReal := dgate (g (ix3 0 r f)) (u (ix3 0 r f)) (cda w7 x4 y r f)
def cdu (r : Fin 256) (f : Fin 704) : EReal := dup (g (ix3 0 r f)) (cda w7 x4 y r f)
def cac (r : Fin 256) (f : Fin 704) : EReal := act (g (ix3 0 r f)) (u (ix3 0 r f))
def cmx (r : Fin 256) (d : Fin 1024) : EReal := y (ix2 r d) * x4 (ix2 0 d)
def cdh (r : Fin 256) (d : Fin 1024) : EReal :=
  (∑ f : Fin 704, cdg w7 x4 g u y r f * w0 (ix3 0 f d)) + ∑ f : Fin 704, cdu w7 x4 g y r f * w2 (ix3 0 f d)

theorem dg0 (r : Fin 256) (f : Fin 704) :
    k0_pay31 (k0_pay26 w7 x4 g u y) (ix2 r f) = cdg w7 x4 g u y r f := by
  open_payloads; pointwise; rfl

theorem dg1 (r : Fin 256) (f : Fin 704) :
    k0_pay46 (k0_pay34 g) (k0_pay35 u) (k0_pay36 g) (k0_pay37 g) (k0_pay41 (k0_pay18 w7) x4 y) (ix2 r f) = cdg w7 x4 g u y r f := by
  open_payloads; pointwise; rfl

theorem dg2 (r : Fin 256) (f : Fin 704) :
    k0_pay59 (k0_pay18 w7) x4 (k0_pay49 g) (k0_pay50 u) (k0_pay51 g) (FloatOps.ofBits (F := Ideal) FTy.f32 1065353216#32) y (ix2 r f) = cdg w7 x4 g u y r f := by
  open_payloads; pointwise; rfl

theorem dg3 (r : Fin 256) (f : Fin 704) :
    k0_pay72 (k0_pay18 w7) x4 g u y (ix2 r f) = cdg w7 x4 g u y r f := by
  open_payloads; pointwise; rfl

theorem du0 (r : Fin 256) (f : Fin 704) :
    k0_pay32 (k0_pay27 w7 x4 g y) (ix2 r f) = cdu w7 x4 g y r f := by
  open_payloads; pointwise; rfl

theorem du1 (r : Fin 256) (f : Fin 704) :
    k0_pay47 (k0_pay38 g) (k0_pay41 (k0_pay18 w7) x4 y) (ix2 r f) = cdu w7 x4 g y r f := by
  open_payloads; pointwise; rfl

theorem du2 (r : Fin 256) (f : Fin 704) :
    k0_pay60 (k0_pay18 w7) x4 (k0_pay49 g) (k0_pay51 g) y (ix2 r f) = cdu w7 x4 g y r f := by
  open_payloads; pointwise; rfl

theorem du3 (r : Fin 256) (f : Fin 704) :
    k0_pay1 (k0_pay69 (k0_pay18 w7) x4 g y) (ix2 r f) = cdu w7 x4 g y r f := by
  open_payloads; pointwise; rfl

theorem ac0 (r : Fin 256) (f : Fin 704) :
    k0_pay30 (k0_pay23 g u) (ix2 r f) = cac g u r f := by
  open_payloads; pointwise; rfl

theorem ac1 (r : Fin 256) (f : Fin 704) :
    k0_pay45 (k0_pay39 g u) (ix2 r f) = cac g u r f := by
  open_payloads; pointwise; rfl

theorem ac2 (r : Fin 256) (f : Fin 704) :
    k0_pay58 (k0_pay49 g) (k0_pay50 u) (k0_pay51 g) (ix2 r f) = cac g u r f := by
  open_payloads; pointwise; rfl

theorem ac3 (r : Fin 256) (f : Fin 704) :
    k0_pay71 g u (ix2 r f) = cac g u r f := by
  open_payloads; pointwise; rfl

theorem mx0 (r : Fin 256) (d : Fin 1024) :
    k0_pay33 (k0_pay24 x4 y) (ix2 r d) = cmx x4 y r d := by
  open_payloads; pointwise; rfl

theorem mx1 (r : Fin 256) (d : Fin 1024) :
    k0_pay48 (k0_pay40 x4 y) (ix2 r d) = cmx x4 y r d := by
  open_payloads; pointwise; rfl

theorem mx2 (r : Fin 256) (d : Fin 1024) :
    k0_pay61 x4 y (ix2 r d) = cmx x4 y r d := by
  open_payloads; pointwise; rfl

theorem mx3 (r : Fin 256) (d : Fin 1024) :
    k0_pay2 (k0_pay66 x4 y) (ix2 r d) = cmx x4 y r d := by
  open_payloads; pointwise; rfl

theorem dh0 (z : Fin 1) (r : Fin 256) (d : Fin 1024) :
    k0_pay29 (k0_pay28 w0 w2 w7 x4 g u y) (ix3 z r d) = cdh w0 w2 w7 x4 g u y r d := by
  open_payloads; pointwise; rfl

theorem dh1 (z : Fin 1) (r : Fin 256) (d : Fin 1024) :
    k0_pay44 (k0_pay16 w0) (k0_pay17 w2) (k0_pay34 g) (k0_pay35 u) (k0_pay36 g) (k0_pay37 g) (k0_pay38 g) (k0_pay41 (k0_pay18 w7) x4 y) (ix3 z r d) = cdh w0 w2 w7 x4 g u y r d := by
  open_payloads; pointwise; rfl

theorem dh2 (z : Fin 1) (r : Fin 256) (d : Fin 1024) :
    k0_pay57 (k0_pay16 w0) (k0_pay17 w2) (k0_pay18 w7) x4 (k0_pay49 g) (k0_pay50 u) (k0_pay51 g) (FloatOps.ofBits (F := Ideal) FTy.f32 1065353216#32) y (ix3 z r d) = cdh w0 w2 w7 x4 g u y r d := by
  open_payloads; pointwise; rfl

theorem dh3 (z : Fin 1) (r : Fin 256) (d : Fin 1024) :
    k0_pay70 (k0_pay16 w0) (k0_pay17 w2) (k0_pay18 w7) x4 g u y (ix3 z r d) = cdh w0 w2 w7 x4 g u y r d := by
  open_payloads; pointwise; rfl

end rows

/-! ## Blocks -/

/-- The block's gradient at the gate. -/
def bDg (x1 : Vec Ideal S1024x1024 .f32) (x2 x3 : Vec Ideal S1x1024x704 .bf16) (x4 : Vec Ideal S1x1024 .f32) (x7 : Vec Ideal S1x704x1024 .bf16) : Vec Ideal S1024x704 .bf16 :=
  (View.whole cc0_scratch4).readCov
    [⟨Rect.unit ![768, 0] ![256, 704] inb_S1024x704_S256x704_768_0,
        k0_pay72 (k0_pay18 x7) x4 (View.ld x2 (Rect.unit ![0, 768, 0] ![1, 256, 704] inb_S1x1024x704_S1x256x704_0_768_0)) (View.ld x3 (Rect.unit ![0, 768, 0] ![1, 256, 704] inb_S1x1024x704_S1x256x704_0_768_0)) (View.ld x1 (Rect.unit ![768, 0] ![256, 1024] inb_S1024x1024_S256x1024_768_0))⟩,
      ⟨Rect.unit ![512, 0] ![256, 704] inb_S1024x704_S256x704_512_0,
        k0_pay59 (k0_pay18 x7) x4 (k0_pay49 (View.ld x2 (Rect.unit ![0, 512, 0] ![1, 256, 704] inb_S1x1024x704_S1x256x704_0_512_0))) (k0_pay50 (View.ld x3 (Rect.unit ![0, 512, 0] ![1, 256, 704] inb_S1x1024x704_S1x256x704_0_512_0))) (k0_pay51 (View.ld x2 (Rect.unit ![0, 512, 0] ![1, 256, 704] inb_S1x1024x704_S1x256x704_0_512_0))) (FloatOps.ofBits FTy.f32 1065353216#32) (View.ld x1 (Rect.unit ![512, 0] ![256, 1024] inb_S1024x1024_S256x1024_512_0))⟩,
      ⟨Rect.unit ![256, 0] ![256, 704] inb_S1024x704_S256x704_256_0,
        k0_pay46 (k0_pay34 (View.ld x2 (Rect.unit ![0, 256, 0] ![1, 256, 704] inb_S1x1024x704_S1x256x704_0_256_0))) (k0_pay35 (View.ld x3 (Rect.unit ![0, 256, 0] ![1, 256, 704] inb_S1x1024x704_S1x256x704_0_256_0))) (k0_pay36 (View.ld x2 (Rect.unit ![0, 256, 0] ![1, 256, 704] inb_S1x1024x704_S1x256x704_0_256_0))) (k0_pay37 (View.ld x2 (Rect.unit ![0, 256, 0] ![1, 256, 704] inb_S1x1024x704_S1x256x704_0_256_0))) (k0_pay41 (k0_pay18 x7) x4 (View.ld x1 (Rect.unit ![256, 0] ![256, 1024] inb_S1024x1024_S256x1024_256_0)))⟩,
      ⟨Rect.unit ![0, 0] ![256, 704] inb_S1024x704_S256x704_0_0,
        k0_pay31 (k0_pay26 x7 x4 (View.ld x2 (Rect.unit ![0, 0, 0] ![1, 256, 704] inb_S1x1024x704_S1x256x704_0_0_0)) (View.ld x3 (Rect.unit ![0, 0, 0] ![1, 256, 704] inb_S1x1024x704_S1x256x704_0_0_0)) (View.ld x1 (Rect.unit ![0, 0] ![256, 1024] inb_S1024x1024_S256x1024_0_0)))⟩]
    (Rect.unit ![0, 0] ![1024, 704] inb_S1024x704_S1024x704_0_0).toLoadRect

/-- The block's gradient at the other factor. -/
def bDu (x1 : Vec Ideal S1024x1024 .f32) (x2 : Vec Ideal S1x1024x704 .bf16) (x4 : Vec Ideal S1x1024 .f32) (x7 : Vec Ideal S1x704x1024 .bf16) : Vec Ideal S1024x704 .bf16 :=
  (View.whole cc0_scratch5).readCov
    [⟨Rect.unit ![768, 0] ![256, 704] inb_S1024x704_S256x704_768_0,
        k0_pay1 (k0_pay69 (k0_pay18 x7) x4 (View.ld x2 (Rect.unit ![0, 768, 0] ![1, 256, 704] inb_S1x1024x704_S1x256x704_0_768_0)) (View.ld x1 (Rect.unit ![768, 0] ![256, 1024] inb_S1024x1024_S256x1024_768_0)))⟩,
      ⟨Rect.unit ![512, 0] ![256, 704] inb_S1024x704_S256x704_512_0,
        k0_pay60 (k0_pay18 x7) x4 (k0_pay49 (View.ld x2 (Rect.unit ![0, 512, 0] ![1, 256, 704] inb_S1x1024x704_S1x256x704_0_512_0))) (k0_pay51 (View.ld x2 (Rect.unit ![0, 512, 0] ![1, 256, 704] inb_S1x1024x704_S1x256x704_0_512_0))) (View.ld x1 (Rect.unit ![512, 0] ![256, 1024] inb_S1024x1024_S256x1024_512_0))⟩,
      ⟨Rect.unit ![256, 0] ![256, 704] inb_S1024x704_S256x704_256_0,
        k0_pay47 (k0_pay38 (View.ld x2 (Rect.unit ![0, 256, 0] ![1, 256, 704] inb_S1x1024x704_S1x256x704_0_256_0))) (k0_pay41 (k0_pay18 x7) x4 (View.ld x1 (Rect.unit ![256, 0] ![256, 1024] inb_S1024x1024_S256x1024_256_0)))⟩,
      ⟨Rect.unit ![0, 0] ![256, 704] inb_S1024x704_S256x704_0_0,
        k0_pay32 (k0_pay27 x7 x4 (View.ld x2 (Rect.unit ![0, 0, 0] ![1, 256, 704] inb_S1x1024x704_S1x256x704_0_0_0)) (View.ld x1 (Rect.unit ![0, 0] ![256, 1024] inb_S1024x1024_S256x1024_0_0)))⟩]
    (Rect.unit ![0, 0] ![1024, 704] inb_S1024x704_S1024x704_0_0).toLoadRect

/-- The block's product. -/
def bAc (x2 x3 : Vec Ideal S1x1024x704 .bf16) : Vec Ideal S1024x704 .bf16 :=
  (View.whole cc0_scratch3).readCov
    [⟨Rect.unit ![768, 0] ![256, 704] inb_S1024x704_S256x704_768_0,
        k0_pay71 (View.ld x2 (Rect.unit ![0, 768, 0] ![1, 256, 704] inb_S1x1024x704_S1x256x704_0_768_0)) (View.ld x3 (Rect.unit ![0, 768, 0] ![1, 256, 704] inb_S1x1024x704_S1x256x704_0_768_0))⟩,
      ⟨Rect.unit ![512, 0] ![256, 704] inb_S1024x704_S256x704_512_0,
        k0_pay58 (k0_pay49 (View.ld x2 (Rect.unit ![0, 512, 0] ![1, 256, 704] inb_S1x1024x704_S1x256x704_0_512_0))) (k0_pay50 (View.ld x3 (Rect.unit ![0, 512, 0] ![1, 256, 704] inb_S1x1024x704_S1x256x704_0_512_0))) (k0_pay51 (View.ld x2 (Rect.unit ![0, 512, 0] ![1, 256, 704] inb_S1x1024x704_S1x256x704_0_512_0)))⟩,
      ⟨Rect.unit ![256, 0] ![256, 704] inb_S1024x704_S256x704_256_0,
        k0_pay45 (k0_pay39 (View.ld x2 (Rect.unit ![0, 256, 0] ![1, 256, 704] inb_S1x1024x704_S1x256x704_0_256_0)) (View.ld x3 (Rect.unit ![0, 256, 0] ![1, 256, 704] inb_S1x1024x704_S1x256x704_0_256_0)))⟩,
      ⟨Rect.unit ![0, 0] ![256, 704] inb_S1024x704_S256x704_0_0,
        k0_pay30 (k0_pay23 (View.ld x2 (Rect.unit ![0, 0, 0] ![1, 256, 704] inb_S1x1024x704_S1x256x704_0_0_0)) (View.ld x3 (Rect.unit ![0, 0, 0] ![1, 256, 704] inb_S1x1024x704_S1x256x704_0_0_0)))⟩]
    (Rect.unit ![0, 0] ![1024, 704] inb_S1024x704_S1024x704_0_0).toLoadRect

/-- The block's scaled gradient. -/
def bMx (x1 : Vec Ideal S1024x1024 .f32) (x4 : Vec Ideal S1x1024 .f32) : Vec Ideal S1024x1024 .bf16 :=
  (View.whole cc0_scratch6).readCov
    [⟨Rect.unit ![768, 0] ![256, 1024] inb_S1024x1024_S256x1024_768_0,
        k0_pay2 (k0_pay66 x4 (View.ld x1 (Rect.unit ![768, 0] ![256, 1024] inb_S1024x1024_S256x1024_768_0)))⟩,
      ⟨Rect.unit ![512, 0] ![256, 1024] inb_S1024x1024_S256x1024_512_0,
        k0_pay61 x4 (View.ld x1 (Rect.unit ![512, 0] ![256, 1024] inb_S1024x1024_S256x1024_512_0))⟩,
      ⟨Rect.unit ![256, 0] ![256, 1024] inb_S1024x1024_S256x1024_256_0,
        k0_pay48 (k0_pay40 x4 (View.ld x1 (Rect.unit ![256, 0] ![256, 1024] inb_S1024x1024_S256x1024_256_0)))⟩,
      ⟨Rect.unit ![0, 0] ![256, 1024] inb_S1024x1024_S256x1024_0_0,
        k0_pay33 (k0_pay24 x4 (View.ld x1 (Rect.unit ![0, 0] ![256, 1024] inb_S1024x1024_S256x1024_0_0)))⟩]
    (Rect.unit ![0, 0] ![1024, 1024] inb_S1024x1024_S1024x1024_0_0).toLoadRect

/-- The block's gradient of the input. -/
def bDh (x1 : Vec Ideal S1024x1024 .f32) (x2 x3 : Vec Ideal S1x1024x704 .bf16) (x4 : Vec Ideal S1x1024 .f32) (x5 x6 x7 : Vec Ideal S1x704x1024 .bf16) : Vec Ideal S1x1024x1024 .bf16 :=
  View.canon
    [⟨Rect.unit ![0, 768, 0] ![1, 256, 1024] inb_S1x1024x1024_S1x256x1024_0_768_0,
        k0_pay70 (k0_pay16 x5) (k0_pay17 x6) (k0_pay18 x7) x4 (View.ld x2 (Rect.unit ![0, 768, 0] ![1, 256, 704] inb_S1x1024x704_S1x256x704_0_768_0)) (View.ld x3 (Rect.unit ![0, 768, 0] ![1, 256, 704] inb_S1x1024x704_S1x256x704_0_768_0)) (View.ld x1 (Rect.unit ![768, 0] ![256, 1024] inb_S1024x1024_S256x1024_768_0))⟩,
      ⟨Rect.unit ![0, 512, 0] ![1, 256, 1024] inb_S1x1024x1024_S1x256x1024_0_512_0,
        k0_pay57 (k0_pay16 x5) (k0_pay17 x6) (k0_pay18 x7) x4 (k0_pay49 (View.ld x2 (Rect.unit ![0, 512, 0] ![1, 256, 704] inb_S1x1024x704_S1x256x704_0_512_0))) (k0_pay50 (View.ld x3 (Rect.unit ![0, 512, 0] ![1, 256, 704] inb_S1x1024x704_S1x256x704_0_512_0))) (k0_pay51 (View.ld x2 (Rect.unit ![0, 512, 0] ![1, 256, 704] inb_S1x1024x704_S1x256x704_0_512_0))) (FloatOps.ofBits FTy.f32 1065353216#32) (View.ld x1 (Rect.unit ![512, 0] ![256, 1024] inb_S1024x1024_S256x1024_512_0))⟩,
      ⟨Rect.unit ![0, 256, 0] ![1, 256, 1024] inb_S1x1024x1024_S1x256x1024_0_256_0,
        k0_pay44 (k0_pay16 x5) (k0_pay17 x6) (k0_pay34 (View.ld x2 (Rect.unit ![0, 256, 0] ![1, 256, 704] inb_S1x1024x704_S1x256x704_0_256_0))) (k0_pay35 (View.ld x3 (Rect.unit ![0, 256, 0] ![1, 256, 704] inb_S1x1024x704_S1x256x704_0_256_0))) (k0_pay36 (View.ld x2 (Rect.unit ![0, 256, 0] ![1, 256, 704] inb_S1x1024x704_S1x256x704_0_256_0))) (k0_pay37 (View.ld x2 (Rect.unit ![0, 256, 0] ![1, 256, 704] inb_S1x1024x704_S1x256x704_0_256_0))) (k0_pay38 (View.ld x2 (Rect.unit ![0, 256, 0] ![1, 256, 704] inb_S1x1024x704_S1x256x704_0_256_0))) (k0_pay41 (k0_pay18 x7) x4 (View.ld x1 (Rect.unit ![256, 0] ![256, 1024] inb_S1024x1024_S256x1024_256_0)))⟩,
      ⟨Rect.unit ![0, 0, 0] ![1, 256, 1024] inb_S1x1024x1024_S1x256x1024_0_0_0,
        k0_pay29 (k0_pay28 x5 x6 x7 x4 (View.ld x2 (Rect.unit ![0, 0, 0] ![1, 256, 704] inb_S1x1024x704_S1x256x704_0_0_0)) (View.ld x3 (Rect.unit ![0, 0, 0] ![1, 256, 704] inb_S1x1024x704_S1x256x704_0_0_0)) (View.ld x1 (Rect.unit ![0, 0] ![256, 1024] inb_S1024x1024_S256x1024_0_0)))⟩]

/-! ## Blocks at an index -/

theorem exists_ix2 {A B : ℕ} (x : (⟨2, ![A, B]⟩ : Shape).Idx) : ∃ a b, x = ix2 a b :=
  ⟨x 0, x 1, funext fun d => match d with | 0 => rfl | 1 => rfl⟩

theorem exists_ix3 {A B C : ℕ} (x : (⟨3, ![A, B, C]⟩ : Shape).Idx) : ∃ a b c, x = ix3 a b c :=
  ⟨x 0, x 1, x 2, funext fun d => match d with | 0 => rfl | 1 => rfl | 2 => rfl⟩

/-- The whole rectangle places an index at itself. -/
theorem whole0 {A B : ℕ} (inb) (r : Fin A) (f : Fin B) : ((Rect.unit (s := ⟨2, ![A, B]⟩) ![0, 0] ![A, B] inb).idx (ix2 r f) 0).val = r.val :=
  (Rect.idx_unit_val _ _ _ _ _).trans (Nat.zero_add _)
theorem whole1 {A B : ℕ} (inb) (r : Fin A) (f : Fin B) : ((Rect.unit (s := ⟨2, ![A, B]⟩) ![0, 0] ![A, B] inb).idx (ix2 r f) 1).val = f.val :=
  (Rect.idx_unit_val _ _ _ _ _).trans (Nat.zero_add _)

theorem cda_ld {x1 : Vec Ideal S1024x1024 .f32} {x4 : Vec Ideal S1x1024 .f32} {x7 : Vec Ideal S1x704x1024 .bf16} {o : ℕ} {inb} (r : Fin 256) (f : Fin 704) :
    cda x7 x4 (View.ld (Val := Elt Ideal) (e' := .f32) x1 (Rect.unit ![o, 0] ![256, 1024] inb)) r f = Da (el2 x1) (el2 x4 0) (el3 x7) 0 (o + r.val) f.val :=
  Finset.sum_congr rfl fun d _ => by rw [ld2, el2_ix x4, el3_ix x7]; rfl

theorem bDg_at (x1 : Vec Ideal S1024x1024 .f32) (x2 x3 : Vec Ideal S1x1024x704 .bf16) (x4 : Vec Ideal S1x1024 .f32) (x7 : Vec Ideal S1x704x1024 .bf16) (r : Fin 1024) (f : Fin 704) :
    bDg x1 x2 x3 x4 x7 (ix2 r f) = dgate (el3 x2 0 r.val f.val) (el3 x3 0 r.val f.val) (Da (el2 x1) (el2 x4 0) (el3 x7) 0 r.val f.val) := by
  unfold bDg
  rw [View.readCov_eq_canon']
  canon_tiles x h
  all_goals
    obtain ⟨a, b, rfl⟩ := exists_ix2 x
    replace h0 : r.val = _ := (whole0 _ r f).symm.trans h0
    replace h1 : f.val = _ := (whole1 _ r f).symm.trans h1
    first | rw [dg3] | rw [dg2] | rw [dg1] | rw [dg0]
    unfold cdg
    rw [ld3, ld3, cda_ld, h0, h1]
    first | rfl | simp [ix2]

theorem bDu_at (x1 : Vec Ideal S1024x1024 .f32) (x2 : Vec Ideal S1x1024x704 .bf16) (x4 : Vec Ideal S1x1024 .f32) (x7 : Vec Ideal S1x704x1024 .bf16) (r : Fin 1024) (f : Fin 704) :
    bDu x1 x2 x4 x7 (ix2 r f) = dup (el3 x2 0 r.val f.val) (Da (el2 x1) (el2 x4 0) (el3 x7) 0 r.val f.val) := by
  unfold bDu
  rw [View.readCov_eq_canon']
  canon_tiles x h
  all_goals
    obtain ⟨a, b, rfl⟩ := exists_ix2 x
    replace h0 : r.val = _ := (whole0 _ r f).symm.trans h0
    replace h1 : f.val = _ := (whole1 _ r f).symm.trans h1
    first | rw [du3] | rw [du2] | rw [du1] | rw [du0]
    unfold cdu
    rw [ld3, cda_ld, h0, h1]
    first | rfl | simp [ix2]

theorem bAc_at (x2 x3 : Vec Ideal S1x1024x704 .bf16) (r : Fin 1024) (f : Fin 704) :
    bAc x2 x3 (ix2 r f) = act (el3 x2 0 r.val f.val) (el3 x3 0 r.val f.val) := by
  unfold bAc
  rw [View.readCov_eq_canon']
  canon_tiles x h
  all_goals
    obtain ⟨a, b, rfl⟩ := exists_ix2 x
    replace h0 : r.val = _ := (whole0 _ r f).symm.trans h0
    replace h1 : f.val = _ := (whole1 _ r f).symm.trans h1
    first | rw [ac3] | rw [ac2] | rw [ac1] | rw [ac0]
    unfold cac
    rw [ld3, ld3, h0, h1]
    first | rfl | simp [ix2]

theorem bMx_at (x1 : Vec Ideal S1024x1024 .f32) (x4 : Vec Ideal S1x1024 .f32) (r : Fin 1024) (f : Fin 1024) :
    bMx x1 x4 (ix2 r f) = Mx (el2 x1) (el2 x4 0) r.val f.val := by
  unfold bMx
  rw [View.readCov_eq_canon']
  canon_tiles x h
  all_goals
    obtain ⟨a, b, rfl⟩ := exists_ix2 x
    replace h0 : r.val = _ := (whole0 _ r f).symm.trans h0
    replace h1 : f.val = _ := (whole1 _ r f).symm.trans h1
    first | rw [mx3] | rw [mx2] | rw [mx1] | rw [mx0]
    unfold cmx Mx
    rw [ld2, el2_ix x4, h0, h1]
    first | rfl | simp [ix2]

theorem bDh_at (x1 : Vec Ideal S1024x1024 .f32) (x2 x3 : Vec Ideal S1x1024x704 .bf16) (x4 : Vec Ideal S1x1024 .f32) (x5 x6 x7 : Vec Ideal S1x704x1024 .bf16) (z : Fin 1) (r d : Fin 1024) :
    bDh x1 x2 x3 x4 x5 x6 x7 (ix3 z r d)
      = (∑ f : Fin 704, dgate (el3 x2 0 r.val f.val) (el3 x3 0 r.val f.val) (Da (el2 x1) (el2 x4 0) (el3 x7) 0 r.val f.val) * el3 x5 0 f.val d.val)
        + ∑ f : Fin 704, dup (el3 x2 0 r.val f.val) (Da (el2 x1) (el2 x4 0) (el3 x7) 0 r.val f.val) * el3 x6 0 f.val d.val := by
  unfold bDh
  canon_tiles x h
  all_goals
    obtain ⟨e, a, b, rfl⟩ := exists_ix3 x
    replace h1 : r.val = _ := h1
    replace h2 : d.val = _ := h2
    first | rw [dh3] | rw [dh2] | rw [dh1] | rw [dh0]
    unfold cdh cdg cdu
    refine congrArg₂ (· + ·) (Finset.sum_congr rfl fun f _ => ?_) (Finset.sum_congr rfl fun f _ => ?_)
    · rw [ld3, ld3, cda_ld, el3_ix x5, h1, h2]
      first | rfl | simp [ix3]
    · rw [ld3, cda_ld, el3_ix x6, h1, h2]
      first | rfl | simp [ix3]

end Cert.Mlp

end
-- ==== Proof.MlpPoint.lean ====
/-
  What the points of the gated layer's gradient leave in their buffers, over what the point before left: the gradient of the
  input block by block, and the weights' gradients as running sums.
-/
module

public import proofs.«01_k».proof.Proof.MlpBlock

@[expose] public section

set_option maxRecDepth 16384

noncomputable section

namespace Cert.Mlp

open Cert.Kernel2Ideal Cert.Kernel2Ideal.Gen
open Idealize.ShloMosaic Idealize.ShloMosaic.TcCoe Idealize.ShloMosaic.Tactic

/-! ## Products of blocks -/

section products
variable (h : Vec Ideal S1024x1024 .bf16) (g : Vec Ideal S1024x704 .bf16) (s : Vec Ideal S704x1024 .f32) (f : Fin 704) (d : Fin 1024) (z : Fin 1)

theorem pay7_at : k0_pay7 h g (ix2 f d) = ∑ r : Fin 1024, g (ix2 r f) * h (ix2 r d) := by
  open_payloads; pointwise
theorem pay8_at : k0_pay8 h g (ix2 f d) = ∑ r : Fin 1024, g (ix2 r f) * h (ix2 r d) := by
  open_payloads; pointwise
theorem pay9_at : k0_pay9 g h (ix2 f d) = ∑ r : Fin 1024, g (ix2 r f) * h (ix2 r d) := by
  open_payloads; pointwise
theorem pay10_at : k0_pay10 h g s (ix2 f d) = s (ix2 f d) + ∑ r : Fin 1024, g (ix2 r f) * h (ix2 r d) := by
  open_payloads; pointwise
theorem pay11_at : k0_pay11 h g s (ix2 f d) = s (ix2 f d) + ∑ r : Fin 1024, g (ix2 r f) * h (ix2 r d) := by
  open_payloads; pointwise
theorem pay12_at : k0_pay12 g h s (ix2 f d) = s (ix2 f d) + ∑ r : Fin 1024, g (ix2 r f) * h (ix2 r d) := by
  open_payloads; pointwise
theorem pay13_at : k0_pay13 s (ix3 z f d) = s (ix2 f d) := by
  open_payloads; pointwise
theorem pay14_at : k0_pay14 s (ix3 z f d) = s (ix2 f d) := by
  open_payloads; pointwise
theorem pay15_at : k0_pay15 s (ix3 z f d) = s (ix2 f d) := by
  open_payloads; pointwise

end products

/-! ## The points -/

variable (m : (ℓ : Loc nD τ sig) → Buf (Elt Ideal) ℓ) (c : Dev nD) (t : Fin cfg0.N)

/-- The blocks of a point: the gradients at the two factors, the product, the scaled gradient, the gradient of the input. -/
def pDg : Vec Ideal S1024x704 .bf16 := bDg (iblk m c 1 t) (iblk m c 2 t) (iblk m c 3 t) (iblk m c 4 t) (iblk m c 7 t)
def pDu : Vec Ideal S1024x704 .bf16 := bDu (iblk m c 1 t) (iblk m c 2 t) (iblk m c 4 t) (iblk m c 7 t)
def pAc : Vec Ideal S1024x704 .bf16 := bAc (iblk m c 2 t) (iblk m c 3 t)
def pMx : Vec Ideal S1024x1024 .bf16 := bMx (iblk m c 1 t) (iblk m c 4 t)
def pDh : Vec Ideal S1x1024x1024 .bf16 :=
  bDh (iblk m c 1 t) (iblk m c 2 t) (iblk m c 3 t) (iblk m c 4 t) (iblk m c 5 t) (iblk m c 6 t) (iblk m c 7 t)

/-- The point before. -/
abbrev prev : Fin cfg0.N := ⟨t.val - 1, Nat.lt_of_le_of_lt (Nat.sub_le _ _) t.isLt⟩

theorem o8_A (h0 : t.val % 4 = 0) (h1 : ¬1 ≤ t.val % 4) (h2 : ¬t.val % 4 = 3) :
    (outsAt0 m c t.val t.isLt).1 = pDh m c t := by
  rw [outsAt0_A m c t h0 h1 h2]
  dsimp only [prev]
  frame_out
  try simp only [read_unread_whole]
  rfl

theorem s0_A (h0 : t.val % 4 = 0) (h1 : ¬1 ≤ t.val % 4) (h2 : ¬t.val % 4 = 3) :
    (outsAt0 m c t.val t.isLt).2.2.2.2.1 = k0_pay7 (iblk m c 0 t) (pDg m c t) := by
  rw [outsAt0_A m c t h0 h1 h2]
  dsimp only [prev]
  frame_out
  try simp only [read_unread_whole]
  rfl

theorem s1_A (h0 : t.val % 4 = 0) (h1 : ¬1 ≤ t.val % 4) (h2 : ¬t.val % 4 = 3) :
    (outsAt0 m c t.val t.isLt).2.2.2.2.2.1 = k0_pay8 (iblk m c 0 t) (pDu m c t) := by
  rw [outsAt0_A m c t h0 h1 h2]
  dsimp only [prev]
  frame_out
  try simp only [read_unread_whole]
  rfl

theorem s2_A (h0 : t.val % 4 = 0) (h1 : ¬1 ≤ t.val % 4) (h2 : ¬t.val % 4 = 3) :
    (outsAt0 m c t.val t.isLt).2.2.2.2.2.2 = k0_pay9 (pAc m c t) (pMx m c t) := by
  rw [outsAt0_A m c t h0 h1 h2]
  dsimp only [prev]
  frame_out
  try simp only [read_unread_whole]
  rfl

theorem o8_B (h0 : ¬t.val % 4 = 0) (h1 : 1 ≤ t.val % 4) (h2 : ¬t.val % 4 = 3) :
    (outsAt0 m c t.val t.isLt).1 = pDh m c t := by
  rw [outsAt0_B m c t h0 h1 h2]
  dsimp only [prev]
  frame_out
  try simp only [read_unread_whole]
  rfl

theorem s0_B (h0 : ¬t.val % 4 = 0) (h1 : 1 ≤ t.val % 4) (h2 : ¬t.val % 4 = 3) :
    (outsAt0 m c t.val t.isLt).2.2.2.2.1 = k0_pay10 (iblk m c 0 t) (pDg m c t) (outsAt0 m c (prev t).val (prev t).isLt).2.2.2.2.1 := by
  rw [outsAt0_B m c t h0 h1 h2]
  dsimp only [prev]
  frame_out
  try simp only [read_unread_whole]
  rfl

theorem s1_B (h0 : ¬t.val % 4 = 0) (h1 : 1 ≤ t.val % 4) (h2 : ¬t.val % 4 = 3) :
    (outsAt0 m c t.val t.isLt).2.2.2.2.2.1 = k0_pay11 (iblk m c 0 t) (pDu m c t) (outsAt0 m c (prev t).val (prev t).isLt).2.2.2.2.2.1 := by
  rw [outsAt0_B m c t h0 h1 h2]
  dsimp only [prev]
  frame_out
  try simp only [read_unread_whole]
  rfl

theorem s2_B (h0 : ¬t.val % 4 = 0) (h1 : 1 ≤ t.val % 4) (h2 : ¬t.val % 4 = 3) :
    (outsAt0 m c t.val t.isLt).2.2.2.2.2.2 = k0_pay12 (pAc m c t) (pMx m c t) (outsAt0 m c (prev t).val (prev t).isLt).2.2.2.2.2.2 := by
  rw [outsAt0_B m c t h0 h1 h2]
  dsimp only [prev]
  frame_out
  try simp only [read_unread_whole]
  rfl

theorem o8_C (h0 : ¬t.val % 4 = 0) (h1 : 1 ≤ t.val % 4) (h2 : t.val % 4 = 3) :
    (outsAt0 m c t.val t.isLt).1 = pDh m c t := by
  rw [outsAt0_C m c t h0 h1 h2]
  dsimp only [prev]
  frame_out
  try simp only [read_unread_whole]
  rfl

theorem s0_C (h0 : ¬t.val % 4 = 0) (h1 : 1 ≤ t.val % 4) (h2 : t.val % 4 = 3) :
    (outsAt0 m c t.val t.isLt).2.2.2.2.1 = k0_pay10 (iblk m c 0 t) (pDg m c t) (outsAt0 m c (prev t).val (prev t).isLt).2.2.2.2.1 := by
  rw [outsAt0_C m c t h0 h1 h2]
  dsimp only [prev]
  frame_out
  try simp only [read_unread_whole]
  rfl

theorem s1_C (h0 : ¬t.val % 4 = 0) (h1 : 1 ≤ t.val % 4) (h2 : t.val % 4 = 3) :
    (outsAt0 m c t.val t.isLt).2.2.2.2.2.1 = k0_pay11 (iblk m c 0 t) (pDu m c t) (outsAt0 m c (prev t).val (prev t).isLt).2.2.2.2.2.1 := by
  rw [outsAt0_C m c t h0 h1 h2]
  dsimp only [prev]
  frame_out
  try simp only [read_unread_whole]
  rfl

theorem s2_C (h0 : ¬t.val % 4 = 0) (h1 : 1 ≤ t.val % 4) (h2 : t.val % 4 = 3) :
    (outsAt0 m c t.val t.isLt).2.2.2.2.2.2 = k0_pay12 (pAc m c t) (pMx m c t) (outsAt0 m c (prev t).val (prev t).isLt).2.2.2.2.2.2 := by
  rw [outsAt0_C m c t h0 h1 h2]
  dsimp only [prev]
  frame_out
  try simp only [read_unread_whole]
  rfl

theorem o9_C (h0 : ¬t.val % 4 = 0) (h1 : 1 ≤ t.val % 4) (h2 : t.val % 4 = 3) :
    (outsAt0 m c t.val t.isLt).2.1 = k0_pay13 (k0_pay10 (iblk m c 0 t) (pDg m c t) (outsAt0 m c (prev t).val (prev t).isLt).2.2.2.2.1) := by
  rw [outsAt0_C m c t h0 h1 h2]
  dsimp only [prev]
  frame_out
  try simp only [read_unread_whole]
  rfl

theorem o10_C (h0 : ¬t.val % 4 = 0) (h1 : 1 ≤ t.val % 4) (h2 : t.val % 4 = 3) :
    (outsAt0 m c t.val t.isLt).2.2.1 = k0_pay14 (k0_pay11 (iblk m c 0 t) (pDu m c t) (outsAt0 m c (prev t).val (prev t).isLt).2.2.2.2.2.1) := by
  rw [outsAt0_C m c t h0 h1 h2]
  dsimp only [prev]
  frame_out
  try simp only [read_unread_whole]
  rfl

theorem o11_C (h0 : ¬t.val % 4 = 0) (h1 : 1 ≤ t.val % 4) (h2 : t.val % 4 = 3) :
    (outsAt0 m c t.val t.isLt).2.2.2.1 = k0_pay15 (k0_pay12 (pAc m c t) (pMx m c t) (outsAt0 m c (prev t).val (prev t).isLt).2.2.2.2.2.2) := by
  rw [outsAt0_C m c t h0 h1 h2]
  dsimp only [prev]
  frame_out
  try simp only [read_unread_whole]
  rfl

end Cert.Mlp

end
-- ==== Proof.MlpArr.lean ====
/-
  What the gated layer's gradient leaves in its four result arrays: the gradient of the input per shard, and the weights' gradients.
-/
module

public import proofs.«01_k».proof.Proof.MlpPoint
public import Idealize.ShloMosaic.Lib.Claim
public import Idealize.ShloMosaic.Lib.Pipeline.ValueKit.Geometry
public import Idealize.ShloMosaic.Lib.Pipeline.ValueKit.Point

@[expose] public section

set_option maxRecDepth 16384

noncomputable section

namespace Cert.Mlp

open Cert.Kernel2Ideal Cert.Kernel2Ideal.Gen
open Idealize.ShloMosaic Idealize.ShloMosaic.TcCoe Idealize.ShloMosaic.Tactic

/-! ## The host's lines -/

section host
variable (a0 : FVec Ideal S4096x1024 .f32) (a3 : FVec Ideal S8x704x1024 .f32)

/-- The gate and the other factor, as the host computes them. -/
def hGate : FVec Ideal S4x4096x704 .bf16 :=
  truncf .bf16 (transpose S4x4096x704 [0, 2, 1] (Host.dotGeneral dot_S4x704x1024_S4096x1024_S4x704x4096_2_1_01_0_n_n none
    (extractStridedSlice S4x704x1024 ![0, 0, 0] a3 slices_S8x704x1024_S4x704x1024_0_0_0) a0) transposes_S4x704x4096_S4x4096x704_0_2_1) bitsLt_bf16_f32
def hUp : FVec Ideal S4x4096x704 .bf16 :=
  truncf .bf16 (transpose S4x4096x704 [0, 2, 1] (Host.dotGeneral dot_S4x704x1024_S4096x1024_S4x704x4096_2_1_01_0_n_n none
    (extractStridedSlice S4x704x1024 ![4, 0, 0] a3 slices_S8x704x1024_S4x704x1024_4_0_0) a0) transposes_S4x704x4096_S4x4096x704_0_2_1) bitsLt_bf16_f32

theorem hGate_at (j : Fin 4) (r : Fin 4096) (f : Fin 704) : hGate a0 a3 (ix3 j r f) = Ga (el2 a0) (el3 a3) j.val r.val f.val := by
  pointwise [hGate]
  unfold Ga
  refine Finset.sum_congr rfl fun d _ => ?_
  rw [mul_comm, el2_ix a0, el3_ix a3]

theorem hUp_at (j : Fin 4) (r : Fin 4096) (f : Fin 704) : hUp a0 a3 (ix3 j r f) = Up (el2 a0) (el3 a3) j.val r.val f.val := by
  pointwise [hUp]
  unfold Up
  refine Finset.sum_congr rfl fun d _ => ?_
  rw [mul_comm, el2_ix a0, el3_ix a3]

end host

variable (m : (ℓ : Loc nD τ sig) → Buf (Elt Ideal) ℓ) (c : Dev nD)

/-- The arguments. -/
abbrev A0 : FVec Ideal S4096x1024 .f32 := m ((c : Thread nD τ).loc main_arg0)
abbrev A1 : FVec Ideal S4096x1024 .f32 := m ((c : Thread nD τ).loc main_arg1)
abbrev A2 : FVec Ideal S1x1024 .f32 := m ((c : Thread nD τ).loc main_arg2)
abbrev A3 : FVec Ideal S8x704x1024 .f32 := m ((c : Thread nD τ).loc main_arg3)
abbrev A4 : FVec Ideal S4x704x1024 .f32 := m ((c : Thread nD τ).loc main_arg4)

theorem V_gate : V m c main_v3 = hGate (A0 m c) (A3 m c) := by
  entry_read
  rfl
theorem V_up : V m c main_v7 = hUp (A0 m c) (A3 m c) := by
  entry_read
  rfl
theorem V_h : V m c main_v8 = truncf .bf16 (A0 m c) bitsLt_bf16_f32 := by
  entry_read
  rfl
theorem V_wgu : V m c main_v9 = truncf .bf16 (A3 m c) bitsLt_bf16_f32 := by
  entry_read
  rfl
theorem V_wd : V m c main_v10 = truncf .bf16 (A4 m c) bitsLt_bf16_f32 := by
  entry_read
  rfl

/-! ## The blocks of a point -/

theorem lt16 (t : Fin cfg0.N) : t.val < 16 := Nat.lt_of_lt_of_eq t.isLt N_0

theorem sh_lt (t : Fin cfg0.N) : t.val / 4 < 4 := by have := lt16 t; omega
theorem sh_lt8 (t : Fin cfg0.N) : t.val / 4 < 8 := by have := lt16 t; omega
theorem up_lt (t : Fin cfg0.N) : 4 + t.val / 4 < 8 := by have := lt16 t; omega
theorem row_lt (t : Fin cfg0.N) (r : Fin 1024) : 1024 * (t.val % 4) + r.val < 4096 := by have := r.isLt; omega

theorem idx_0 : ∀ t : Fin cfg0.N, win0_0.index t = ![t.val % 4, 0] := by decide +kernel
theorem idx_1 : ∀ t : Fin cfg0.N, win0_1.index t = ![t.val % 4, 0] := by decide +kernel
theorem idx_2 : ∀ t : Fin cfg0.N, win0_2.index t = ![t.val / 4, t.val % 4, 0] := by decide +kernel
theorem idx_3 : ∀ t : Fin cfg0.N, win0_3.index t = ![t.val / 4, t.val % 4, 0] := by decide +kernel
theorem idx_4 : ∀ t : Fin cfg0.N, win0_4.index t = ![0, 0] := by decide +kernel
theorem idx_5 : ∀ t : Fin cfg0.N, win0_5.index t = ![t.val / 4, 0, 0] := by decide +kernel
theorem idx_6 : ∀ t : Fin cfg0.N, win0_6.index t = ![4 + t.val / 4, 0, 0] := by decide +kernel
theorem idx_7 : ∀ t : Fin cfg0.N, win0_7.index t = ![t.val / 4, 0, 0] := by decide +kernel
theorem idx_8 : ∀ t : Fin cfg0.N, win0_8.index t = ![t.val / 4, t.val % 4, 0] := by decide +kernel
theorem idx_9 : ∀ t : Fin cfg0.N, win0_9.index t = ![t.val / 4, 0, 0] := by decide +kernel
theorem idx_10 : ∀ t : Fin cfg0.N, win0_10.index t = ![t.val / 4, 0, 0] := by decide +kernel
theorem idx_11 : ∀ t : Fin cfg0.N, win0_11.index t = ![t.val / 4, 0, 0] := by decide +kernel

theorem blk_0 (t : Fin cfg0.N) (r d : Fin 1024) : (iblk m c 0 t : S1024x1024.Idx → EReal) (ix2 r d) = el2 (A0 m c) (1024 * (t.val % 4) + r.val) d.val := by
  have e : (iblk m c 0 t : S1024x1024.Idx → EReal) (ix2 r d) = (V m c main_v8 : S4096x1024.Idx → EReal) (ix2 ⟨1024 * (t.val % 4) + r.val, row_lt t r⟩ d) := by
    blk_point [iblk, idx_0 t] <;> (simp; try omega)
  rw [e, V_h, ← el2_ix (A0 m c) ⟨1024 * (t.val % 4) + r.val, row_lt t r⟩ d]
  rfl

theorem blk_1 (t : Fin cfg0.N) (r d : Fin 1024) : (iblk m c 1 t : S1024x1024.Idx → EReal) (ix2 r d) = el2 (A1 m c) (1024 * (t.val % 4) + r.val) d.val := by
  have e : (iblk m c 1 t : S1024x1024.Idx → EReal) (ix2 r d) = (V m c main_arg1 : S4096x1024.Idx → EReal) (ix2 ⟨1024 * (t.val % 4) + r.val, row_lt t r⟩ d) := by
    blk_point [iblk, idx_1 t] <;> (simp; try omega)
  rw [e, V_main_arg1, ← el2_ix (A1 m c) ⟨1024 * (t.val % 4) + r.val, row_lt t r⟩ d]

theorem blk_2 (t : Fin cfg0.N) (z : Fin 1) (r : Fin 1024) (f : Fin 704) : (iblk m c 2 t : S1x1024x704.Idx → EReal) (ix3 z r f) = Ga (el2 (A0 m c)) (el3 (A3 m c)) (t.val / 4) (1024 * (t.val % 4) + r.val) f.val := by
  have e : (iblk m c 2 t : S1x1024x704.Idx → EReal) (ix3 z r f) = (V m c main_v3 : S4x4096x704.Idx → EReal) (ix3 ⟨t.val / 4, sh_lt t⟩ ⟨1024 * (t.val % 4) + r.val, row_lt t r⟩ f) := by
    blk_point [iblk, idx_2 t] <;> (simp; try omega)
  rw [e, V_gate, hGate_at]

theorem blk_3 (t : Fin cfg0.N) (z : Fin 1) (r : Fin 1024) (f : Fin 704) : (iblk m c 3 t : S1x1024x704.Idx → EReal) (ix3 z r f) = Up (el2 (A0 m c)) (el3 (A3 m c)) (t.val / 4) (1024 * (t.val % 4) + r.val) f.val := by
  have e : (iblk m c 3 t : S1x1024x704.Idx → EReal) (ix3 z r f) = (V m c main_v7 : S4x4096x704.Idx → EReal) (ix3 ⟨t.val / 4, sh_lt t⟩ ⟨1024 * (t.val % 4) + r.val, row_lt t r⟩ f) := by
    blk_point [iblk, idx_3 t] <;> (simp; try omega)
  rw [e, V_up, hUp_at]

theorem blk_4 (t : Fin cfg0.N) (z : Fin 1) (d : Fin 1024) : (iblk m c 4 t : S1x1024.Idx → EReal) (ix2 z d) = el2 (A2 m c) 0 d.val := by
  have e : (iblk m c 4 t : S1x1024.Idx → EReal) (ix2 z d) = (V m c main_arg2 : S1x1024.Idx → EReal) (ix2 0 d) := by
    blk_point [iblk, idx_4 t] <;> (simp; try omega)
  rw [e, V_main_arg2]
  exact el2_ix (A2 m c) 0 d

theorem blk_5 (t : Fin cfg0.N) (z : Fin 1) (f : Fin 704) (d : Fin 1024) : (iblk m c 5 t : S1x704x1024.Idx → EReal) (ix3 z f d) = el3 (A3 m c) (t.val / 4) f.val d.val := by
  have e : (iblk m c 5 t : S1x704x1024.Idx → EReal) (ix3 z f d) = (V m c main_v9 : S8x704x1024.Idx → EReal) (ix3 ⟨t.val / 4, sh_lt8 t⟩ f d) := by
    blk_point [iblk, idx_5 t] <;> (simp; try omega)
  rw [e, V_wgu, ← el3_ix (A3 m c) ⟨t.val / 4, sh_lt8 t⟩ f d]
  rfl

theorem blk_6 (t : Fin cfg0.N) (z : Fin 1) (f : Fin 704) (d : Fin 1024) : (iblk m c 6 t : S1x704x1024.Idx → EReal) (ix3 z f d) = el3 (A3 m c) (4 + t.val / 4) f.val d.val := by
  have e : (iblk m c 6 t : S1x704x1024.Idx → EReal) (ix3 z f d) = (V m c main_v9 : S8x704x1024.Idx → EReal) (ix3 ⟨4 + t.val / 4, up_lt t⟩ f d) := by
    blk_point [iblk, idx_6 t] <;> (simp; try omega)
  rw [e, V_wgu, ← el3_ix (A3 m c) ⟨4 + t.val / 4, up_lt t⟩ f d]
  rfl

theorem blk_7 (t : Fin cfg0.N) (z : Fin 1) (f : Fin 704) (d : Fin 1024) : (iblk m c 7 t : S1x704x1024.Idx → EReal) (ix3 z f d) = el3 (A4 m c) (t.val / 4) f.val d.val := by
  have e : (iblk m c 7 t : S1x704x1024.Idx → EReal) (ix3 z f d) = (V m c main_v10 : S4x704x1024.Idx → EReal) (ix3 ⟨t.val / 4, sh_lt t⟩ f d) := by
    blk_point [iblk, idx_7 t] <;> (simp; try omega)
  rw [e, V_wd, ← el3_ix (A4 m c) ⟨t.val / 4, sh_lt t⟩ f d]
  rfl

/-! ## The layer of the arguments -/

abbrev gH := DH (el2 (A0 m c)) (el2 (A1 m c)) (el2 (A2 m c) 0) (el3 (A3 m c)) (el3 (A4 m c))
abbrev gDg := Dg (el2 (A0 m c)) (el2 (A1 m c)) (el2 (A2 m c) 0) (el3 (A3 m c)) (el3 (A4 m c))
abbrev gDu := Du (el2 (A0 m c)) (el2 (A1 m c)) (el2 (A2 m c) 0) (el3 (A3 m c)) (el3 (A4 m c))
abbrev gAc := Ac (el2 (A0 m c)) (el3 (A3 m c))
abbrev gMx := Mx (el2 (A1 m c)) (el2 (A2 m c) 0)
abbrev gDa := Da (el2 (A1 m c)) (el2 (A2 m c) 0) (el3 (A4 m c))

section point
variable (t : Fin cfg0.N) (z : Fin 1) (r d : Fin 1024) (f : Fin 704)

theorem mx_blk : Mx (el2 (iblk m c 1 t : S1024x1024.Idx → EReal)) (el2 (iblk m c 4 t : S1x1024.Idx → EReal) 0) r.val d.val = gMx m c (1024 * (t.val % 4) + r.val) d.val := by
  unfold gMx Mx
  rw [← el2_ix (iblk m c 1 t : S1024x1024.Idx → EReal), blk_1]
  have := el2_ix (iblk m c 4 t : S1x1024.Idx → EReal) 0 d
  rw [blk_4] at this
  exact congrArg _ this.symm

theorem da_blk : Da (el2 (iblk m c 1 t : S1024x1024.Idx → EReal)) (el2 (iblk m c 4 t : S1x1024.Idx → EReal) 0) (el3 (iblk m c 7 t : S1x704x1024.Idx → EReal)) 0 r.val f.val
    = gDa m c (t.val / 4) (1024 * (t.val % 4) + r.val) f.val := by
  unfold gDa Da
  refine Finset.sum_congr rfl fun d _ => ?_
  have := el3_ix (iblk m c 7 t : S1x704x1024.Idx → EReal) 0 f d
  rw [blk_7] at this
  rw [mx_blk m c t r d]
  exact congrArg _ this.symm

theorem ga_blk : el3 (iblk m c 2 t : S1x1024x704.Idx → EReal) 0 r.val f.val = Ga (el2 (A0 m c)) (el3 (A3 m c)) (t.val / 4) (1024 * (t.val % 4) + r.val) f.val :=
  (el3_ix (iblk m c 2 t : S1x1024x704.Idx → EReal) 0 r f).symm.trans (blk_2 m c t 0 r f)

theorem up_blk : el3 (iblk m c 3 t : S1x1024x704.Idx → EReal) 0 r.val f.val = Up (el2 (A0 m c)) (el3 (A3 m c)) (t.val / 4) (1024 * (t.val % 4) + r.val) f.val :=
  (el3_ix (iblk m c 3 t : S1x1024x704.Idx → EReal) 0 r f).symm.trans (blk_3 m c t 0 r f)

theorem wg_blk : el3 (iblk m c 5 t : S1x704x1024.Idx → EReal) 0 f.val d.val = el3 (A3 m c) (t.val / 4) f.val d.val :=
  (el3_ix (iblk m c 5 t : S1x704x1024.Idx → EReal) 0 f d).symm.trans (blk_5 m c t 0 f d)

theorem wu_blk : el3 (iblk m c 6 t : S1x704x1024.Idx → EReal) 0 f.val d.val = el3 (A3 m c) (4 + t.val / 4) f.val d.val :=
  (el3_ix (iblk m c 6 t : S1x704x1024.Idx → EReal) 0 f d).symm.trans (blk_6 m c t 0 f d)

theorem pMx_at : pMx m c t (ix2 r d) = gMx m c (1024 * (t.val % 4) + r.val) d.val := by
  unfold pMx; rw [bMx_at]; exact mx_blk m c t r d

theorem pDg_at : pDg m c t (ix2 r f) = gDg m c (t.val / 4) (1024 * (t.val % 4) + r.val) f.val := by
  unfold pDg; rw [bDg_at, ga_blk, up_blk, da_blk]; rfl

theorem pDu_at : pDu m c t (ix2 r f) = gDu m c (t.val / 4) (1024 * (t.val % 4) + r.val) f.val := by
  unfold pDu; rw [bDu_at, ga_blk, da_blk]; rfl

theorem pAc_at : pAc m c t (ix2 r f) = gAc m c (t.val / 4) (1024 * (t.val % 4) + r.val) f.val := by
  unfold pAc; rw [bAc_at, ga_blk, up_blk]; rfl

theorem pDh_at : pDh m c t (ix3 z r d) = gH m c (t.val / 4) (1024 * (t.val % 4) + r.val) d.val := by
  unfold pDh; rw [bDh_at]
  unfold gH DH
  refine congrArg₂ (· + ·) (Finset.sum_congr rfl fun f _ => ?_) (Finset.sum_congr rfl fun f _ => ?_)
  · rw [ga_blk, up_blk, da_blk, wg_blk]; rfl
  · rw [ga_blk, da_blk, wu_blk]; rfl

end point

/-! ## The running sums -/

theorem own_0 (t : Fin cfg0.N) (f : Fin 704) (d : Fin 1024) :
    (∑ r : Fin 1024, pDg m c t (ix2 r f) * (iblk m c 0 t : S1024x1024.Idx → EReal) (ix2 r d))
      = ∑ r : Fin 1024, (fun x => gDg m c (t.val / 4) x f.val * el2 (A0 m c) x d.val) (1024 * (t.val % 4) + r.val) :=
  Finset.sum_congr rfl fun r _ => by rw [pDg_at, blk_0]

theorem run_0 (f : Fin 704) (d : Fin 1024) : ∀ (n : ℕ) (h : n < cfg0.N),
    (outsAt0 m c n h).2.2.2.2.1 (ix2 f d) = ∑ x ∈ Finset.range (1024 * (n % 4 + 1)), gDg m c (n / 4) x f.val * el2 (A0 m c) x d.val := by
  intro n
  induction n with
  | zero =>
    intro h
    rw [s0_A m c ⟨0, h⟩ (by simp) (by simp) (by simp), pay7_at, own_0]
    exact blocks_zero fun x => gDg m c (0 / 4) x f.val * el2 (A0 m c) x d.val
  | succ n ih =>
    intro h
    have hn := lt16 ⟨n + 1, h⟩
    by_cases h0 : (n + 1) % 4 = 0
    · rw [s0_A m c ⟨n + 1, h⟩ h0 (by simp only; omega) (by simp only; omega), pay7_at, own_0]
      simp only [h0]
      exact blocks_zero fun x => gDg m c ((n + 1) / 4) x f.val * el2 (A0 m c) x d.val
    · have e : (outsAt0 m c (n + 1) h).2.2.2.2.1 (ix2 f d) = (outsAt0 m c n (Nat.lt_of_succ_lt h)).2.2.2.2.1 (ix2 f d)
          + ∑ r : Fin 1024, (fun x => gDg m c ((n + 1) / 4) x f.val * el2 (A0 m c) x d.val) (1024 * ((n + 1) % 4) + r.val) := by
        rw [← own_0 m c ⟨n + 1, h⟩ f d]
        by_cases h2 : (n + 1) % 4 = 3
        · rw [s0_C m c ⟨n + 1, h⟩ h0 (by simp only; omega) h2, pay10_at]; rfl
        · rw [s0_B m c ⟨n + 1, h⟩ h0 (by simp only; omega) h2, pay10_at]; rfl
      rw [e, ih]
      have e1 : n / 4 = (n + 1) / 4 := by omega
      have e2 : n % 4 + 1 = (n + 1) % 4 := by omega
      rw [e1, e2]
      exact blocks_succ (fun x => gDg m c ((n + 1) / 4) x f.val * el2 (A0 m c) x d.val) _

theorem own_1 (t : Fin cfg0.N) (f : Fin 704) (d : Fin 1024) :
    (∑ r : Fin 1024, pDu m c t (ix2 r f) * (iblk m c 0 t : S1024x1024.Idx → EReal) (ix2 r d))
      = ∑ r : Fin 1024, (fun x => gDu m c (t.val / 4) x f.val * el2 (A0 m c) x d.val) (1024 * (t.val % 4) + r.val) :=
  Finset.sum_congr rfl fun r _ => by rw [pDu_at, blk_0]

theorem run_1 (f : Fin 704) (d : Fin 1024) : ∀ (n : ℕ) (h : n < cfg0.N),
    (outsAt0 m c n h).2.2.2.2.2.1 (ix2 f d) = ∑ x ∈ Finset.range (1024 * (n % 4 + 1)), gDu m c (n / 4) x f.val * el2 (A0 m c) x d.val := by
  intro n
  induction n with
  | zero =>
    intro h
    rw [s1_A m c ⟨0, h⟩ (by simp) (by simp) (by simp), pay8_at, own_1]
    exact blocks_zero fun x => gDu m c (0 / 4) x f.val * el2 (A0 m c) x d.val
  | succ n ih =>
    intro h
    have hn := lt16 ⟨n + 1, h⟩
    by_cases h0 : (n + 1) % 4 = 0
    · rw [s1_A m c ⟨n + 1, h⟩ h0 (by simp only; omega) (by simp only; omega), pay8_at, own_1]
      simp only [h0]
      exact blocks_zero fun x => gDu m c ((n + 1) / 4) x f.val * el2 (A0 m c) x d.val
    · have e : (outsAt0 m c (n + 1) h).2.2.2.2.2.1 (ix2 f d) = (outsAt0 m c n (Nat.lt_of_succ_lt h)).2.2.2.2.2.1 (ix2 f d)
          + ∑ r : Fin 1024, (fun x => gDu m c ((n + 1) / 4) x f.val * el2 (A0 m c) x d.val) (1024 * ((n + 1) % 4) + r.val) := by
        rw [← own_1 m c ⟨n + 1, h⟩ f d]
        by_cases h2 : (n + 1) % 4 = 3
        · rw [s1_C m c ⟨n + 1, h⟩ h0 (by simp only; omega) h2, pay11_at]; rfl
        · rw [s1_B m c ⟨n + 1, h⟩ h0 (by simp only; omega) h2, pay11_at]; rfl
      rw [e, ih]
      have e1 : n / 4 = (n + 1) / 4 := by omega
      have e2 : n % 4 + 1 = (n + 1) % 4 := by omega
      rw [e1, e2]
      exact blocks_succ (fun x => gDu m c ((n + 1) / 4) x f.val * el2 (A0 m c) x d.val) _

theorem own_2 (t : Fin cfg0.N) (f : Fin 704) (d : Fin 1024) :
    (∑ r : Fin 1024, pAc m c t (ix2 r f) * pMx m c t (ix2 r d))
      = ∑ r : Fin 1024, (fun x => gAc m c (t.val / 4) x f.val * gMx m c x d.val) (1024 * (t.val % 4) + r.val) :=
  Finset.sum_congr rfl fun r _ => by rw [pAc_at, pMx_at]

theorem run_2 (f : Fin 704) (d : Fin 1024) : ∀ (n : ℕ) (h : n < cfg0.N),
    (outsAt0 m c n h).2.2.2.2.2.2 (ix2 f d) = ∑ x ∈ Finset.range (1024 * (n % 4 + 1)), gAc m c (n / 4) x f.val * gMx m c x d.val := by
  intro n
  induction n with
  | zero =>
    intro h
    rw [s2_A m c ⟨0, h⟩ (by simp) (by simp) (by simp), pay9_at, own_2]
    exact blocks_zero fun x => gAc m c (0 / 4) x f.val * gMx m c x d.val
  | succ n ih =>
    intro h
    have hn := lt16 ⟨n + 1, h⟩
    by_cases h0 : (n + 1) % 4 = 0
    · rw [s2_A m c ⟨n + 1, h⟩ h0 (by simp only; omega) (by simp only; omega), pay9_at, own_2]
      simp only [h0]
      exact blocks_zero fun x => gAc m c ((n + 1) / 4) x f.val * gMx m c x d.val
    · have e : (outsAt0 m c (n + 1) h).2.2.2.2.2.2 (ix2 f d) = (outsAt0 m c n (Nat.lt_of_succ_lt h)).2.2.2.2.2.2 (ix2 f d)
          + ∑ r : Fin 1024, (fun x => gAc m c ((n + 1) / 4) x f.val * gMx m c x d.val) (1024 * ((n + 1) % 4) + r.val) := by
        rw [← own_2 m c ⟨n + 1, h⟩ f d]
        by_cases h2 : (n + 1) % 4 = 3
        · rw [s2_C m c ⟨n + 1, h⟩ h0 (by simp only; omega) h2, pay12_at]; rfl
        · rw [s2_B m c ⟨n + 1, h⟩ h0 (by simp only; omega) h2, pay12_at]; rfl
      rw [e, ih]
      have e1 : n / 4 = (n + 1) / 4 := by omega
      have e2 : n % 4 + 1 = (n + 1) % 4 := by omega
      rw [e1, e2]
      exact blocks_succ (fun x => gAc m c ((n + 1) / 4) x f.val * gMx m c x d.val) _

theorem last_0 (t : Fin cfg0.N) (h3 : t.val % 4 = 3) (z : Fin 1) (f : Fin 704) (d : Fin 1024) :
    (outsAt0 m c t.val t.isLt).2.1 (ix3 z f d) = WG (el2 (A0 m c)) (el2 (A1 m c)) (el2 (A2 m c) 0) (el3 (A3 m c)) (el3 (A4 m c)) (t.val / 4) f.val d.val := by
  rw [o9_C m c t (by omega) (by omega) h3, pay13_at, ← s0_C m c t (by omega) (by omega) h3, run_0, h3]
  exact blocks_all fun x => gDg m c (t.val / 4) x f.val * el2 (A0 m c) x d.val

theorem last_1 (t : Fin cfg0.N) (h3 : t.val % 4 = 3) (z : Fin 1) (f : Fin 704) (d : Fin 1024) :
    (outsAt0 m c t.val t.isLt).2.2.1 (ix3 z f d) = WU (el2 (A0 m c)) (el2 (A1 m c)) (el2 (A2 m c) 0) (el3 (A3 m c)) (el3 (A4 m c)) (t.val / 4) f.val d.val := by
  rw [o10_C m c t (by omega) (by omega) h3, pay14_at, ← s1_C m c t (by omega) (by omega) h3, run_1, h3]
  exact blocks_all fun x => gDu m c (t.val / 4) x f.val * el2 (A0 m c) x d.val

theorem last_2 (t : Fin cfg0.N) (h3 : t.val % 4 = 3) (z : Fin 1) (f : Fin 704) (d : Fin 1024) :
    (outsAt0 m c t.val t.isLt).2.2.2.1 (ix3 z f d) = WD (el2 (A0 m c)) (el2 (A1 m c)) (el2 (A2 m c) 0) (el3 (A3 m c)) (t.val / 4) f.val d.val := by
  rw [o11_C m c t (by omega) (by omega) h3, pay15_at, ← s2_C m c t (by omega) (by omega) h3, run_2, h3]
  exact blocks_all fun x => gAc m c (t.val / 4) x f.val * gMx m c x d.val

theorem dh_point (t : Fin cfg0.N) : (outsAt0 m c t.val t.isLt).1 = pDh m c t := by
  by_cases h0 : t.val % 4 = 0
  · exact o8_A m c t h0 (by omega) (by omega)
  · by_cases h2 : t.val % 4 = 3
    · exact o8_C m c t h0 (by omega) h2
    · exact o8_B m c t h0 (by omega) h2

/-! ## The arrays -/

theorem arr_8 : (dats m 0 c).arrAt 8 cfg0.N = (of3 (gH m c) : S4x4096x1024.Idx → EReal) := by
  refine (dats m 0 c).arrAt_eq_of_covers 8 _ (by decide +kernel) fun t hf y => ?_
  blk_simp
  rw [after0_8, dh_point]
  have e0 : ((win0_8.blk t).view.emb y 0).val = t.val / 4 := by blk_simp [idx_8 t] <;> (simp; try omega)
  have e1 : ((win0_8.blk t).view.emb y 1).val = 1024 * (t.val % 4) + (y 1).val := by blk_simp [idx_8 t] <;> (simp; try omega)
  have e2 : ((win0_8.blk t).view.emb y 2).val = (y 2).val := by blk_simp [idx_8 t] <;> (simp; try omega)
  unfold of3
  rw [e0, e1, e2]
  obtain ⟨z, r, d, rfl⟩ := exists_ix3 y
  exact pDh_at m c t z r d

theorem arr_9 : (dats m 0 c).arrAt 9 cfg0.N = (of3 (WG (el2 (A0 m c)) (el2 (A1 m c)) (el2 (A2 m c) 0) (el3 (A3 m c)) (el3 (A4 m c))) : S4x704x1024.Idx → EReal) := by
  refine (dats m 0 c).arrAt_eq_of_covers 9 _ (by decide +kernel) fun t hf y => ?_
  blk_simp
  rw [after0_9]
  have e0 : ((win0_9.blk t).view.emb y 0).val = t.val / 4 := by blk_simp [idx_9 t] <;> (simp; try omega)
  have e1 : ((win0_9.blk t).view.emb y 1).val = (y 1).val := by blk_simp [idx_9 t] <;> (simp; try omega)
  have e2 : ((win0_9.blk t).view.emb y 2).val = (y 2).val := by blk_simp [idx_9 t] <;> (simp; try omega)
  unfold of3
  rw [e0, e1, e2]
  obtain ⟨z, f, d, rfl⟩ := exists_ix3 y
  exact last_0 m c t ((flush0_9 t).mp hf) z f d

theorem arr_10 : (dats m 0 c).arrAt 10 cfg0.N = (of3 (WU (el2 (A0 m c)) (el2 (A1 m c)) (el2 (A2 m c) 0) (el3 (A3 m c)) (el3 (A4 m c))) : S4x704x1024.Idx → EReal) := by
  refine (dats m 0 c).arrAt_eq_of_covers 10 _ (by decide +kernel) fun t hf y => ?_
  blk_simp
  rw [after0_10]
  have e0 : ((win0_10.blk t).view.emb y 0).val = t.val / 4 := by blk_simp [idx_10 t] <;> (simp; try omega)
  have e1 : ((win0_10.blk t).view.emb y 1).val = (y 1).val := by blk_simp [idx_10 t] <;> (simp; try omega)
  have e2 : ((win0_10.blk t).view.emb y 2).val = (y 2).val := by blk_simp [idx_10 t] <;> (simp; try omega)
  unfold of3
  rw [e0, e1, e2]
  obtain ⟨z, f, d, rfl⟩ := exists_ix3 y
  exact last_1 m c t ((flush0_10 t).mp hf) z f d

theorem arr_11 : (dats m 0 c).arrAt 11 cfg0.N = (of3 (WD (el2 (A0 m c)) (el2 (A1 m c)) (el2 (A2 m c) 0) (el3 (A3 m c))) : S4x704x1024.Idx → EReal) := by
  refine (dats m 0 c).arrAt_eq_of_covers 11 _ (by decide +kernel) fun t hf y => ?_
  blk_simp
  rw [after0_11]
  have e0 : ((win0_11.blk t).view.emb y 0).val = t.val / 4 := by blk_simp [idx_11 t] <;> (simp; try omega)
  have e1 : ((win0_11.blk t).view.emb y 1).val = (y 1).val := by blk_simp [idx_11 t] <;> (simp; try omega)
  have e2 : ((win0_11.blk t).view.emb y 2).val = (y 2).val := by blk_simp [idx_11 t] <;> (simp; try omega)
  unfold of3
  rw [e0, e1, e2]
  obtain ⟨z, f, d, rfl⟩ := exists_ix3 y
  exact last_2 m c t ((flush0_11 t).mp hf) z f d

end Cert.Mlp

end
-- ==== Proof.MlpRef.lean ====
/-
  The reference's gradients of the gated layer at an index.
-/
module

public import proofs.«01_k».proof.Proof.Gen.Reference2Ideal.Run
public import proofs.«01_k».proof.Proof.MlpMath

@[expose] public section

set_option maxRecDepth 16384

noncomputable section

namespace Cert.Mlp

open Cert.Reference2Ideal Cert.Reference2Ideal.Gen
open Idealize.ShloMosaic Idealize.ShloMosaic.TcCoe Idealize.ShloMosaic.Tactic

section terms
variable (a0 a1 : FVec Ideal S4096x1024 .f32) (a2 : FVec Ideal S1x1024 .f32) (a3 : FVec Ideal S8x704x1024 .f32) (a4 : FVec Ideal S4x704x1024 .f32)

/-- The input before every shard, and the two halves of the first weight. -/
def rH : FVec Ideal S4x4096x1024 .f32 := broadcastInDim S4x4096x1024 ![1, 2] bcast_S4096x1024_S4x4096x1024_1_2 a0
def rW : FVec Ideal S4x704x1024 .f32 := extractStridedSlice S4x704x1024 ![0, 0, 0] a3 slices_S8x704x1024_S4x704x1024_0_0_0
def rX : FVec Ideal S4x704x1024 .f32 := extractStridedSlice S4x704x1024 ![4, 0, 0] a3 slices_S8x704x1024_S4x704x1024_4_0_0

/-- The gate, the other factor, the logistic of the gate. -/
def rG : FVec Ideal S4x4096x704 .f32 := Host.dotGeneral dot_S4x4096x1024_S4x704x1024_S4x4096x704_2_2_1_1_0_0 none (rH a0) (rW a3)
def rU : FVec Ideal S4x4096x704 .f32 := Host.dotGeneral dot_S4x4096x1024_S4x704x1024_S4x4096x704_2_2_1_1_0_0 none (rH a0) (rX a3)
def rOne : FVec Ideal S4x4096x704 .f32 := broadcastInDim S4x4096x704 ![] bcast_S_S4x4096x704 (constant S_ .f32 0x3F800000#32)
def rS : FVec Ideal S4x4096x704 .f32 := Host.divf rOne (addf rOne (Host.exp (Host.negf (rG a0 a3))))

/-- The scaled gradient of the output, and of the product. -/
def rM : FVec Ideal S4096x1024 .f32 := mulf (broadcastInDim S4096x1024 ![0, 1] bcast_S1x1024_S4096x1024_0_1 a2) a1
def rA : FVec Ideal S4x4096x704 .f32 :=
  transpose S4x4096x704 [1, 0, 2] (Host.dotGeneral dot_S4096x1024_S4x704x1024_S4096x4x704_1_2_0_01_n_n none (rM a1 a2) a4) transposes_S4096x4x704_S4x4096x704_1_0_2

/-- The product, and the gradients at its factors. -/
def rP : FVec Ideal S4x4096x704 .f32 := mulf (mulf (rG a0 a3) (rS a0 a3)) (rU a0 a3)
def rDu : FVec Ideal S4x4096x704 .f32 := mulf (mulf (rG a0 a3) (rS a0 a3)) (rA a1 a2 a4)
def rDg : FVec Ideal S4x4096x704 .f32 :=
  addf (mulf (mulf (rA a1 a2 a4) (rU a0 a3)) (rS a0 a3)) (mulf (mulf (rG a0 a3) (mulf (rA a1 a2 a4) (rU a0 a3))) (mulf (rS a0 a3) (subf rOne (rS a0 a3))))

/-- The four gradients. -/
def refH : FVec Ideal S4x4096x1024 .bf16 :=
  truncf .bf16 (addf (Host.dotGeneral dot_S4x4096x704_S4x704x1024_S4x4096x1024_2_1_1_2_0_0 none (rDu a0 a1 a2 a3 a4) (rX a3))
    (Host.dotGeneral dot_S4x4096x704_S4x704x1024_S4x4096x1024_2_1_1_2_0_0 none (rDg a0 a1 a2 a3 a4) (rW a3))) bitsLt_bf16_f32
def refG : FVec Ideal S4x704x1024 .bf16 :=
  truncf .bf16 (Host.dotGeneral dot_S4x4096x704_S4x4096x1024_S4x704x1024_1_1_2_2_0_0 none (rDg a0 a1 a2 a3 a4) (rH a0)) bitsLt_bf16_f32
def refU : FVec Ideal S4x704x1024 .bf16 :=
  truncf .bf16 (Host.dotGeneral dot_S4x4096x704_S4x4096x1024_S4x704x1024_1_1_2_2_0_0 none (rDu a0 a1 a2 a3 a4) (rH a0)) bitsLt_bf16_f32
def refD : FVec Ideal S4x704x1024 .bf16 :=
  truncf .bf16 (transpose S4x704x1024 [1, 2, 0] (Host.dotGeneral dot_S4096x1024_S4x4096x704_S1024x4x704_0_1_1_02_n_n none (rM a1 a2) (rP a0 a3))
    transposes_S1024x4x704_S4x704x1024_1_2_0) bitsLt_bf16_f32

/-! ## At an index -/

theorem rG_at (j : Fin 4) (r : Fin 4096) (f : Fin 704) : rG a0 a3 (ix3 j r f) = Ga (el2 a0) (el3 a3) j.val r.val f.val := by
  pointwise [rG, rH, rW]
  simp only [el2_ix, el3_ix]; simp [Ga]

theorem rU_at (j : Fin 4) (r : Fin 4096) (f : Fin 704) : rU a0 a3 (ix3 j r f) = Up (el2 a0) (el3 a3) j.val r.val f.val := by
  pointwise [rU, rH, rX]
  simp only [el2_ix, el3_ix]; simp [Up]

theorem rS_at (j : Fin 4) (r : Fin 4096) (f : Fin 704) : rS a0 a3 (ix3 j r f) = sg (Ga (el2 a0) (el3 a3) j.val r.val f.val) := by
  pointwise [rS, rOne]
  rw [rG_at]; rfl

theorem rM_at (r : Fin 4096) (d : Fin 1024) : rM a1 a2 (ix2 r d) = Mx (el2 a1) (el2 a2 0) r.val d.val := by
  pointwise [rM]
  rw [el2_ix a1 r d, el2_ix a2, mul_comm]; rfl

theorem rA_at (j : Fin 4) (r : Fin 4096) (f : Fin 704) : rA a1 a2 a4 (ix3 j r f) = Da (el2 a1) (el2 a2 0) (el3 a4) j.val r.val f.val := by
  pointwise [rA]
  simp only [rM_at, el3_ix]; rfl

theorem rP_at (j : Fin 4) (r : Fin 4096) (f : Fin 704) : rP a0 a3 (ix3 j r f) = Ac (el2 a0) (el3 a3) j.val r.val f.val := by
  pointwise [rP]
  rw [rG_at, rS_at, rU_at]; rfl

theorem rDu_at (j : Fin 4) (r : Fin 4096) (f : Fin 704) :
    rDu a0 a1 a2 a3 a4 (ix3 j r f) = Du (el2 a0) (el2 a1) (el2 a2 0) (el3 a3) (el3 a4) j.val r.val f.val := by
  pointwise [rDu]
  rw [rG_at, rS_at, rA_at]; rfl

theorem rDg_at (j : Fin 4) (r : Fin 4096) (f : Fin 704) :
    rDg a0 a1 a2 a3 a4 (ix3 j r f) = Dg (el2 a0) (el2 a1) (el2 a2 0) (el3 a3) (el3 a4) j.val r.val f.val := by
  pointwise [rDg, rOne]
  rw [rG_at, rS_at, rA_at, rU_at]; rfl

theorem refH_eq : refH a0 a1 a2 a3 a4 = of3 (DH (el2 a0) (el2 a1) (el2 a2 0) (el3 a3) (el3 a4)) :=
  eq_of3 _ _ fun j r d => by
    pointwise [refH, rX, rW]
    simp only [rDu_at, rDg_at, el3_ix a3]
    rw [add_comm]; simp [DH]

theorem refG_eq : refG a0 a1 a2 a3 a4 = of3 (WG (el2 a0) (el2 a1) (el2 a2 0) (el3 a3) (el3 a4)) :=
  eq_of3 _ _ fun j r d => by
    pointwise [refG, rH]
    simp only [rDg_at, el2_ix]; rfl

theorem refU_eq : refU a0 a1 a2 a3 a4 = of3 (WU (el2 a0) (el2 a1) (el2 a2 0) (el3 a3) (el3 a4)) :=
  eq_of3 _ _ fun j r d => by
    pointwise [refU, rH]
    simp only [rDu_at, el2_ix]; rfl

theorem refD_eq : refD a0 a1 a2 a3 = of3 (WD (el2 a0) (el2 a1) (el2 a2 0) (el3 a3)) :=
  eq_of3 _ _ fun j r d => by
    pointwise [refD]
    simp only [rM_at, rP_at]
    exact Finset.sum_congr rfl fun x _ => mul_comm _ _

end terms

theorem res_H (m : (ℓ : Loc nD τ sig) → Buf (Elt Ideal) ℓ) (c : Dev nD) : Cert.Reference2Ideal.Value.res_main_v24 m c
    = refH (m ((c : Thread nD τ).loc main_arg0)) (m ((c : Thread nD τ).loc main_arg1)) (m ((c : Thread nD τ).loc main_arg2)) (m ((c : Thread nD τ).loc main_arg3))
      (m ((c : Thread nD τ).loc main_arg4)) := rfl

end Cert.Mlp

end
-- ==== Proof.MlpClaims.lean ====
/-
  The claims on the gated layer's gradient: the frames and the equality of its results with the reference's.
-/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Value
public import proofs.«01_k».proof.Proof.MlpArr
public import proofs.«01_k».proof.Proof.MlpRef

@[expose] public section

set_option maxRecDepth 16384

noncomputable section

namespace Cert.Mlp

open Idealize.ShloMosaic Idealize.ShloMosaic.TcCoe Idealize.ShloMosaic.Tactic Idealize.SL.Sem

/-! ## The frames -/

theorem frame_p : Cert.quiescent_Kernel2 := fun m ρ _ => Cert.Kernel2.Gen.frame (F := Bits) m ρ

theorem frame_pi : Cert.quiescent_Kernel2Ideal := fun m ρ _ => Cert.Kernel2Ideal.Gen.frame (F := Ideal) m ρ

theorem frame_ri : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-! ## The constants -/

theorem preserves : Cert.preserves_Kernel2_Kernel2Ideal := trivial

/-! ## The values -/

theorem same5 {α β γ δ ζ : Type} (f : α → α → β → γ → δ → ζ) {a a' b b' : α} {x x' : β} {y y' : γ} {z z' : δ}
    (e0 : a = a') (e1 : b = b') (e2 : x = x') (e3 : y = y') (e4 : z = z') : f a b x y z = f a' b' x' y' z' := by subst e0 e1 e2 e3 e4; rfl

theorem algebraic : Cert.algebraic_Kernel2Ideal_Reference2Ideal := fun m ρ m' ρ' _ hag => by
  refine ⟨fun c => of3 (gH m c),
    fun c => of3 (WG (el2 (A0 m c)) (el2 (A1 m c)) (el2 (A2 m c) 0) (el3 (A3 m c)) (el3 (A4 m c))),
    fun c => of3 (WU (el2 (A0 m c)) (el2 (A1 m c)) (el2 (A2 m c) 0) (el3 (A3 m c)) (el3 (A4 m c))),
    fun c => of3 (WD (el2 (A0 m c)) (el2 (A1 m c)) (el2 (A2 m c) 0) (el3 (A3 m c))), ?_, ?_⟩
  · refine (θ_run Cert.Kernel2Ideal.defs _ _).mono (fun r h c => ?_) (Cert.Kernel2Ideal.Value.run_blocks (F := Ideal) m ρ)
    exact ⟨(h c).1.trans (arr_8 m c), (h c).2.1.trans (arr_9 m c), (h c).2.2.1.trans (arr_10 m c), (h c).2.2.2.1.trans (arr_11 m c), (h c).2.2.2.2⟩
  · refine (θ_run Cert.Reference2Ideal.defs _ _).mono (fun r h c => ?_) (Cert.Reference2Ideal.Value.run (F := Ideal) m' ρ')
    obtain ⟨e0, e1, e2, e3, e4⟩ := hag c
    refine ⟨(h c).1.trans ?_, (h c).2.1.trans ?_, (h c).2.2.1.trans ?_, (h c).2.2.2.1.trans ?_, (h c).2.2.2.2⟩
    · exact (res_H m' c).trans ((same5 refH e0 e1 e2 e3 e4).trans (refH_eq _ _ _ _ _))
    · exact (same5 refG e0 e1 e2 e3 e4).trans (refG_eq _ _ _ _ _)
    · exact (same5 refU e0 e1 e2 e3 e4).trans (refU_eq _ _ _ _ _)
    · exact (same5 (fun a b x y _ => refD a b x y) e0 e1 e2 e3 e4).trans (refD_eq _ _ _ _)

end Cert.Mlp

end
-- ==== Proof.ProjMath.lean ====
/-
  The gradient of a normed, modulated and projected row, written as sums: one row at a time, and summed over the rows.
-/
module

public import proofs.«01_k».proof.Proof.MlpMath

@[expose] public section

noncomputable section

namespace Cert.Proj

open Idealize.ShloMosaic Cert.Mlp

/-- An array from a function of two numbers. -/
def of2 {A B : ℕ} (f : ℕ → ℕ → EReal) : (⟨2, ![A, B]⟩ : Shape).Idx → EReal := fun x => f (x 0).val (x 1).val

theorem eq_of2 {A B : ℕ} (x : (⟨2, ![A, B]⟩ : Shape).Idx → EReal) (f : ℕ → ℕ → EReal)
    (e : ∀ (r : Fin A) (l : Fin B), x (ix2 r l) = f r.val l.val) : x = of2 f := by
  funext i
  refine Eq.trans (congrArg x (funext fun d => ?_)) (e (i 0) (i 1))
  match d with
  | 0 => rfl
  | 1 => rfl

theorem exists_ix2 {A B : ℕ} (x : (⟨2, ![A, B]⟩ : Shape).Idx) : ∃ a b, x = ix2 a b :=
  ⟨x 0, x 1, funext fun d => match d with | 0 => rfl | 1 => rfl⟩

/-- Two arrays of the same width with a row in common. -/
theorem el2_row {A A' B : ℕ} (x : (⟨2, ![A, B]⟩ : Shape).Idx → EReal) (y : (⟨2, ![A', B]⟩ : Shape).Idx → EReal) (r : Fin A) (r' : Fin A')
    (e : ∀ l : Fin B, x (ix2 r l) = y (ix2 r' l)) : el2 x r.val = el2 y r'.val := by
  funext l
  by_cases h : l < B
  · rw [el2_of x r.isLt h, el2_of y r'.isLt h]; exact e ⟨l, h⟩
  · unfold el2; rw [dif_neg fun p => h p.2, dif_neg fun p => h p.2]

/-- Four rows behind one another, the last the sum of two. -/
def cat (a b e p q : ℕ → EReal) (l : ℕ) : EReal :=
  if l < 384 then a l else if l - 384 < 512 then b (l - 384) else if l - 384 - 512 < 1024 then e (l - 384 - 512)
    else p (l - 384 - 512 - 1024) + q (l - 384 - 512 - 1024)

/-! ## One row -/

section row
variable (x n s k g u : ℕ → EReal) (w : ℕ → ℕ → EReal)

/-- The mean of the squares and the small number, its inverse root, and the factor of the root's derivative. -/
def Va : EReal := Ideal.div (∑ d : Fin 1024, x d.val * x d.val) (Ideal.ofBits .f32 0x44800000#32) + Ideal.ofBits .f32 0x358637BD#32
def R : EReal := Ideal.rsqrt (Va x)
def T : EReal := Ideal.ofBits .f32 0xBF000000#32 * Ideal.div (R x) (Va x)

/-- The normed row, weighted, modulated. -/
def X (d : ℕ) : EReal := x d * R x
def Y (d : ℕ) : EReal := X x d * n d
def H (d : ℕ) : EReal := Y x n d * (1 + k d) + s d

/-- The gradients: at the modulated row, at the weighted one, at the normed one. -/
def M (d : ℕ) : EReal := ∑ p : Fin 2048, g p.val * w p.val d
def K (d : ℕ) : EReal := M g w d * (1 + k d)
def L (d : ℕ) : EReal := K k g w d * n d

/-- The part that goes through the mean, and the gradient at the row. -/
def Q : EReal := Ideal.div ((∑ d : Fin 1024, x d.val * L n k g w d.val) * T x) (Ideal.ofBits .f32 0x44800000#32)
def DX (d : ℕ) : EReal := L n k g w d * R x + x d * Q x n k g w + Q x n k g w * x d + u d

end row

/-! ## All rows -/

section rows
variable (x g : ℕ → ℕ → EReal) (n s k : ℕ → EReal) (w : ℕ → ℕ → EReal)

/-- The gradients of the norm's weight, of the shift, of the scale and of the projection. -/
def DN (d : ℕ) : EReal := ∑ r : Fin 4096, X (x r.val) d * K k (g r.val) w d
def DS (d : ℕ) : EReal := ∑ r : Fin 4096, M (g r.val) w d
def DK (d : ℕ) : EReal := ∑ r : Fin 4096, Y (x r.val) n d * M (g r.val) w d
def DW (p d : ℕ) : EReal := ∑ r : Fin 4096, g r.val p * H (x r.val) n s k d

end rows

/-- A sum over blocks of rows, one block further. -/
theorem rows_succ (f : ℕ → EReal) (i : ℕ) :
    (∑ x ∈ Finset.range (512 * i), f x) + ∑ x : Fin 512, f (512 * i + x.val) = ∑ x ∈ Finset.range (512 * (i + 1)), f x := by
  rw [mul_add, mul_one, Finset.sum_range_add, Fin.sum_univ_eq_sum_range (fun x => f (512 * i + x)) 512]

theorem rows_zero (f : ℕ → EReal) : ∑ x : Fin 512, f (512 * 0 + x.val) = ∑ x ∈ Finset.range (512 * (0 + 1)), f x := by
  rw [← rows_succ]; simp

theorem rows_all (f : ℕ → EReal) : ∑ x ∈ Finset.range (512 * (7 + 1)), f x = ∑ x : Fin 4096, f x.val :=
  (Fin.sum_univ_eq_sum_range f 4096).symm

end Cert.Proj

end
-- ==== Proof.ProjBlock.lean ====
/-
  The values a point of the projection's gradient computes on its block of rows, element by element.
-/
module

public import proofs.«01_k».proof.Proof.Gen.Kernel3Ideal.Frame
public import proofs.«01_k».proof.Proof.ProjMath
public import Idealize.ShloMosaic.Lib.Pipeline.ValueKit
public import Idealize.ShloMosaic.Lib.Pipeline.ReadBack

@[expose] public section

set_option maxRecDepth 16384

noncomputable section

namespace Cert.Proj

open Cert.Mlp
open Cert.Kernel3Ideal Cert.Kernel3Ideal.Gen
open Idealize.ShloMosaic Idealize.ShloMosaic.TcCoe Idealize.ShloMosaic.Tactic

variable (x : Vec Ideal S512x1024 .f32) (n s k : Vec Ideal S1x1024 .f32) (w : Vec Ideal S2048x1024 .bf16)
  (a5 : Vec Ideal S512x384 .f32) (a6 : Vec Ideal S512x512 .f32) (a7 : Vec Ideal S512x1024 .f32) (a8 a9 : Vec Ideal S512x128 .f32)
  (u : Vec Ideal S512x1024 .f32)

/-- A row of a block of the projection's gradient. -/
abbrev rowB (r : ℕ) : ℕ → EReal := cat (el2 a5 r) (el2 a6 r) (el2 a7 r) (el2 a8 r) (el2 a9 r)

theorem bG_at (r : Fin 512) (p : Fin 2048) : k0_pay4 a5 a6 a7 a8 a9 (ix2 r p) = rowB a5 a6 a7 a8 a9 r.val p.val := by
  open_payloads; pointwise
  unfold rowB cat
  by_cases h0 : p.val < 384
  · rw [dif_pos h0, if_pos h0]
    exact (el2_of a5 r.isLt h0).symm
  rw [dif_neg h0, if_neg h0]
  by_cases h1 : p.val - 384 < 512
  · rw [dif_pos h1, if_pos h1]
    exact (el2_of a6 r.isLt h1).symm
  rw [dif_neg h1, if_neg h1]
  by_cases h2 : p.val - 384 - 512 < 1024
  · rw [dif_pos h2, if_pos h2]
    exact (el2_of a7 r.isLt h2).symm
  · rw [dif_neg h2, if_neg h2]
    have h3 : p.val - 384 - 512 - 1024 < 128 := by omega
    exact congrArg₂ (· + ·) (el2_of a8 r.isLt h3).symm (el2_of a9 r.isLt h3).symm

theorem bW_at (p : Fin 2048) (d : Fin 1024) : k0_pay5 w (ix2 p d) = el2 w p.val d.val := by
  open_payloads; pointwise
  exact el2_ix w p d

theorem pay7_at (r : Fin 512) (z : Fin 1) : k0_pay7 x (ix2 r z) = R (el2 x r.val) := by
  open_payloads; pointwise
  simp only [el2_ix x]
  rfl

theorem pay8_at (r : Fin 512) (z : Fin 1) : k0_pay8 x (ix2 r z) = T (el2 x r.val) := by
  open_payloads; pointwise
  simp only [el2_ix x]
  rfl

theorem pay9_at (r : Fin 512) (d : Fin 1024) : k0_pay9 x (ix2 r d) = X (el2 x r.val) d.val := by
  open_payloads; pointwise
  simp only [el2_ix x]
  rfl

theorem pay10_at (r : Fin 512) (d : Fin 1024) : k0_pay10 x n (ix2 r d) = Y (el2 x r.val) (el2 n 0) d.val := by
  open_payloads; pointwise
  simp only [el2_ix x, el2_ix n]
  rfl

theorem pay11_at (z : Fin 1) (d : Fin 1024) : k0_pay11 k (ix2 z d) = 1 + el2 k 0 d.val := by
  have hz : z = 0 := Subsingleton.elim _ _
  subst hz
  open_payloads; pointwise
  simp only [el2_ix k]
  rfl

theorem pay12_at (r : Fin 512) (d : Fin 1024) :
    k0_pay12 x n s k (ix2 r d) = H (el2 x r.val) (el2 n 0) (el2 s 0) (el2 k 0) d.val := by
  open_payloads; pointwise
  simp only [el2_ix x, el2_ix n, el2_ix s, el2_ix k]
  rfl

section products
variable (g : FVec Ideal S512x2048 .f32) (v : FVec Ideal S2048x1024 .bf16)

theorem pay13_at (r : Fin 512) (d : Fin 1024) : k0_pay13 g v (ix2 r d) = M (el2 g r.val) (el2 v) d.val := by
  open_payloads; pointwise
  simp only [el2_ix g, el2_ix v]
  rfl

theorem pay14_at (h : FVec Ideal S512x1024 .f32) (p : Fin 2048) (d : Fin 1024) :
    k0_pay14 g h (ix2 p d) = ∑ r : Fin 512, g (ix2 r p) * h (ix2 r d) := by
  open_payloads; pointwise

theorem pay15_at (z : Fin 1) (d : Fin 1024) : k0_pay15 g v (ix2 z d) = ∑ r : Fin 512, k0_pay13 g v (ix2 r d) := by
  unfold k0_pay15; pointwise

theorem pay16_at (y : FVec Ideal S512x1024 .f32) (z : Fin 1) (d : Fin 1024) :
    k0_pay16 g v y (ix2 z d) = ∑ r : Fin 512, y (ix2 r d) * k0_pay13 g v (ix2 r d) := by
  unfold k0_pay16; pointwise

theorem pay17_at (k' : FVec Ideal S1x1024 .f32) (r : Fin 512) (d : Fin 1024) :
    k0_pay17 g v k' (ix2 r d) = k0_pay13 g v (ix2 r d) * k' (ix2 0 d) := by
  unfold k0_pay17; pointwise

theorem pay18_at (y : FVec Ideal S512x1024 .f32) (k' : FVec Ideal S1x1024 .f32) (z : Fin 1) (d : Fin 1024) :
    k0_pay18 g v y k' (ix2 z d) = ∑ r : Fin 512, y (ix2 r d) * k0_pay17 g v k' (ix2 r d) := by
  unfold k0_pay18; pointwise

theorem pay19_at (ro tf : FVec Ideal S512x1 .f32) (k' : FVec Ideal S1x1024 .f32) (r : Fin 512) (d : Fin 1024) :
    k0_pay19 g v x n ro tf k' u (ix2 r d)
      = k0_pay17 g v k' (ix2 r d) * n (ix2 0 d) * ro (ix2 r 0)
        + x (ix2 r d) * Ideal.div ((∑ e : Fin 1024, x (ix2 r e) * (k0_pay17 g v k' (ix2 r e) * n (ix2 0 e))) * tf (ix2 r 0)) (Ideal.ofBits .f32 0x44800000#32)
        + Ideal.div ((∑ e : Fin 1024, x (ix2 r e) * (k0_pay17 g v k' (ix2 r e) * n (ix2 0 e))) * tf (ix2 r 0)) (Ideal.ofBits .f32 0x44800000#32) * x (ix2 r d)
        + u (ix2 r d) := by
  unfold k0_pay19; pointwise
  simp only [Fin.sum_univ_one]

theorem pay19_row (ro tf : FVec Ideal S512x1 .f32) (k' : FVec Ideal S1x1024 .f32) (r : Fin 512) (d : Fin 1024) (xr lr : ℕ → EReal)
    (hx : ∀ e : Fin 1024, x (ix2 r e) = xr e.val) (hl : ∀ e : Fin 1024, k0_pay17 g v k' (ix2 r e) * n (ix2 0 e) = lr e.val) :
    k0_pay19 g v x n ro tf k' u (ix2 r d)
      = lr d.val * ro (ix2 r 0)
        + xr d.val * Ideal.div ((∑ e : Fin 1024, xr e.val * lr e.val) * tf (ix2 r 0)) (Ideal.ofBits .f32 0x44800000#32)
        + Ideal.div ((∑ e : Fin 1024, xr e.val * lr e.val) * tf (ix2 r 0)) (Ideal.ofBits .f32 0x44800000#32) * xr d.val
        + u (ix2 r d) := by
  rw [pay19_at]
  simp only [hx, hl]

theorem pay20_at (y : FVec Ideal S512x1024 .f32) (k' o : FVec Ideal S1x1024 .f32) (z : Fin 1) (d : Fin 1024) :
    k0_pay20 g v y k' o (ix2 z d) = o (ix2 z d) + k0_pay18 g v y k' (ix2 z d) := by
  unfold k0_pay20; pointwise

theorem pay21_at (o : FVec Ideal S1x1024 .f32) (z : Fin 1) (d : Fin 1024) :
    k0_pay21 g v o (ix2 z d) = o (ix2 z d) + k0_pay15 g v (ix2 z d) := by
  unfold k0_pay21; pointwise

theorem pay22_at (y : FVec Ideal S512x1024 .f32) (o : FVec Ideal S1x1024 .f32) (z : Fin 1) (d : Fin 1024) :
    k0_pay22 g v y o (ix2 z d) = o (ix2 z d) + k0_pay16 g v y (ix2 z d) := by
  unfold k0_pay22; pointwise

theorem pay1_at (o : FVec Ideal S2048x1024 .f32) (p : Fin 2048) (d : Fin 1024) : k0_pay1 o (ix2 p d) = o (ix2 p d) := by
  open_payloads; pointwise
theorem pay2_at (o a : FVec Ideal S2048x1024 .f32) (p : Fin 2048) (d : Fin 1024) : k0_pay2 o a (ix2 p d) = a (ix2 p d) + o (ix2 p d) := by
  open_payloads; pointwise
theorem pay3_at (o : FVec Ideal S2048x1024 .f32) (p : Fin 2048) (d : Fin 1024) : (k0_pay3 (F := Ideal) o (ix2 p d) : EReal) = o (ix2 p d) := by
  open_payloads; pointwise

end products

end Cert.Proj

end
-- ==== Proof.ProjPoint.lean ====
/-
  What the points of the projection's gradient leave in their buffers, over what the point before left: the gradient of the rows
  block by block, and the other gradients as running sums.
-/
module

public import proofs.«01_k».proof.Proof.ProjBlock

@[expose] public section

set_option maxRecDepth 16384

noncomputable section

namespace Cert.Proj

open Cert.Mlp
open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD) (t : Fin cfg0.N)

/-- The blocks of a point: the projection's gradient and weight, and the four parts of the point's share. -/
def pG : FVec Ideal S512x2048 .f32 := k0_pay4 (iblk m c 5 t) (iblk m c 6 t) (iblk m c 7 t) (iblk m c 8 t) (iblk m c 9 t)
def pW : FVec Ideal S2048x1024 .bf16 := k0_pay5 (iblk m c 4 t)
def pX : FVec Ideal S512x1024 .f32 := k0_pay9 (iblk m c 0 t)
def pY : FVec Ideal S512x1024 .f32 := k0_pay10 (iblk m c 0 t) (iblk m c 1 t)
def pC : FVec Ideal S1x1024 .f32 := k0_pay11 (iblk m c 3 t)
def pH : FVec Ideal S512x1024 .f32 := k0_pay12 (iblk m c 0 t) (iblk m c 1 t) (iblk m c 2 t) (iblk m c 3 t)
def pDX : FVec Ideal S512x1024 .f32 :=
  k0_pay19 (pG m c t) (pW m c t) (iblk m c 0 t) (iblk m c 1 t) (k0_pay7 (iblk m c 0 t)) (k0_pay8 (iblk m c 0 t)) (pC m c t) (iblk m c 10 t)

/-- The point before. -/
abbrev prev : Fin cfg0.N := ⟨t.val - 1, Nat.lt_of_le_of_lt (Nat.sub_le _ _) t.isLt⟩

theorem o11_A (h0 : t.val % 8 = 0) (h1 : ¬1 ≤ t.val) (h4 : ¬t.val % 8 = 7) :
    (outsAt0 m c t.val t.isLt).1 = pDX m c t := by
  rw [outsAt0_A m c t h0 h1 h0 h1 h4]
  dsimp only [prev]
  frame_out
  try simp only [read_unread_whole]
  rfl

theorem o12_A (h0 : t.val % 8 = 0) (h1 : ¬1 ≤ t.val) (h4 : ¬t.val % 8 = 7) :
    (outsAt0 m c t.val t.isLt).2.1 = k0_pay18 (pG m c t) (pW m c t) (pX m c t) (pC m c t) := by
  rw [outsAt0_A m c t h0 h1 h0 h1 h4]
  dsimp only [prev]
  frame_out
  try simp only [read_unread_whole]
  rfl

theorem o13_A (h0 : t.val % 8 = 0) (h1 : ¬1 ≤ t.val) (h4 : ¬t.val % 8 = 7) :
    (outsAt0 m c t.val t.isLt).2.2.1 = k0_pay15 (pG m c t) (pW m c t) := by
  rw [outsAt0_A m c t h0 h1 h0 h1 h4]
  dsimp only [prev]
  frame_out
  try simp only [read_unread_whole]
  rfl

theorem o14_A (h0 : t.val % 8 = 0) (h1 : ¬1 ≤ t.val) (h4 : ¬t.val % 8 = 7) :
    (outsAt0 m c t.val t.isLt).2.2.2.1 = k0_pay16 (pG m c t) (pW m c t) (pY m c t) := by
  rw [outsAt0_A m c t h0 h1 h0 h1 h4]
  dsimp only [prev]
  frame_out
  try simp only [read_unread_whole]
  rfl

theorem s0_A (h0 : t.val % 8 = 0) (h1 : ¬1 ≤ t.val) (h4 : ¬t.val % 8 = 7) :
    (outsAt0 m c t.val t.isLt).2.2.2.2.2 = k0_pay1 (k0_pay14 (pG m c t) (pH m c t)) := by
  rw [outsAt0_A m c t h0 h1 h0 h1 h4]
  dsimp only [prev]
  frame_out
  try simp only [read_unread_whole]
  rfl

theorem o11_B (h0 : ¬t.val % 8 = 0) (h1 : 1 ≤ t.val) (h4 : ¬t.val % 8 = 7) :
    (outsAt0 m c t.val t.isLt).1 = pDX m c t := by
  rw [outsAt0_B m c t h0 h1 h0 h1 h4]
  dsimp only [prev]
  frame_out
  try simp only [read_unread_whole]
  rfl

theorem o12_B (h0 : ¬t.val % 8 = 0) (h1 : 1 ≤ t.val) (h4 : ¬t.val % 8 = 7) :
    (outsAt0 m c t.val t.isLt).2.1 = k0_pay20 (pG m c t) (pW m c t) (pX m c t) (pC m c t) (outsAt0 m c (prev t).val (prev t).isLt).2.1 := by
  rw [outsAt0_B m c t h0 h1 h0 h1 h4]
  dsimp only [prev]
  frame_out
  try simp only [read_unread_whole]
  rfl

theorem o13_B (h0 : ¬t.val % 8 = 0) (h1 : 1 ≤ t.val) (h4 : ¬t.val % 8 = 7) :
    (outsAt0 m c t.val t.isLt).2.2.1 = k0_pay21 (pG m c t) (pW m c t) (outsAt0 m c (prev t).val (prev t).isLt).2.2.1 := by
  rw [outsAt0_B m c t h0 h1 h0 h1 h4]
  dsimp only [prev]
  frame_out
  try simp only [read_unread_whole]
  rfl

theorem o14_B (h0 : ¬t.val % 8 = 0) (h1 : 1 ≤ t.val) (h4 : ¬t.val % 8 = 7) :
    (outsAt0 m c t.val t.isLt).2.2.2.1 = k0_pay22 (pG m c t) (pW m c t) (pY m c t) (outsAt0 m c (prev t).val (prev t).isLt).2.2.2.1 := by
  rw [outsAt0_B m c t h0 h1 h0 h1 h4]
  dsimp only [prev]
  frame_out
  try simp only [read_unread_whole]
  rfl

theorem s0_B (h0 : ¬t.val % 8 = 0) (h1 : 1 ≤ t.val) (h4 : ¬t.val % 8 = 7) :
    (outsAt0 m c t.val t.isLt).2.2.2.2.2 = k0_pay2 (k0_pay14 (pG m c t) (pH m c t)) (outsAt0 m c (prev t).val (prev t).isLt).2.2.2.2.2 := by
  rw [outsAt0_B m c t h0 h1 h0 h1 h4]
  dsimp only [prev]
  frame_out
  try simp only [read_unread_whole]
  rfl

theorem o11_C (h0 : ¬t.val % 8 = 0) (h1 : 1 ≤ t.val) (h4 : t.val % 8 = 7) :
    (outsAt0 m c t.val t.isLt).1 = pDX m c t := by
  rw [outsAt0_C m c t h0 h1 h0 h1 h4]
  dsimp only [prev]
  frame_out
  try simp only [read_unread_whole]
  rfl

theorem o12_C (h0 : ¬t.val % 8 = 0) (h1 : 1 ≤ t.val) (h4 : t.val % 8 = 7) :
    (outsAt0 m c t.val t.isLt).2.1 = k0_pay20 (pG m c t) (pW m c t) (pX m c t) (pC m c t) (outsAt0 m c (prev t).val (prev t).isLt).2.1 := by
  rw [outsAt0_C m c t h0 h1 h0 h1 h4]
  dsimp only [prev]
  frame_out
  try simp only [read_unread_whole]
  rfl

theorem o13_C (h0 : ¬t.val % 8 = 0) (h1 : 1 ≤ t.val) (h4 : t.val % 8 = 7) :
    (outsAt0 m c t.val t.isLt).2.2.1 = k0_pay21 (pG m c t) (pW m c t) (outsAt0 m c (prev t).val (prev t).isLt).2.2.1 := by
  rw [outsAt0_C m c t h0 h1 h0 h1 h4]
  dsimp only [prev]
  frame_out
  try simp only [read_unread_whole]
  rfl

theorem o14_C (h0 : ¬t.val % 8 = 0) (h1 : 1 ≤ t.val) (h4 : t.val % 8 = 7) :
    (outsAt0 m c t.val t.isLt).2.2.2.1 = k0_pay22 (pG m c t) (pW m c t) (pY m c t) (outsAt0 m c (prev t).val (prev t).isLt).2.2.2.1 := by
  rw [outsAt0_C m c t h0 h1 h0 h1 h4]
  dsimp only [prev]
  frame_out
  try simp only [read_unread_whole]
  rfl

theorem s0_C (h0 : ¬t.val % 8 = 0) (h1 : 1 ≤ t.val) (h4 : t.val % 8 = 7) :
    (outsAt0 m c t.val t.isLt).2.2.2.2.2 = k0_pay2 (k0_pay14 (pG m c t) (pH m c t)) (outsAt0 m c (prev t).val (prev t).isLt).2.2.2.2.2 := by
  rw [outsAt0_C m c t h0 h1 h0 h1 h4]
  dsimp only [prev]
  frame_out
  try simp only [read_unread_whole]
  rfl

theorem o15_C (h0 : ¬t.val % 8 = 0) (h1 : 1 ≤ t.val) (h4 : t.val % 8 = 7) :
    (outsAt0 m c t.val t.isLt).2.2.2.2.1 = k0_pay3 (k0_pay2 (k0_pay14 (pG m c t) (pH m c t)) (outsAt0 m c (prev t).val (prev t).isLt).2.2.2.2.2) := by
  rw [outsAt0_C m c t h0 h1 h0 h1 h4]
  dsimp only [prev]
  frame_out
  try simp only [read_unread_whole]
  rfl

end Cert.Proj

end
-- ==== Proof.ProjArr.lean ====
/-
  What the projection's gradient leaves in its five result arrays.
-/
module

public import proofs.«01_k».proof.Proof.ProjPoint
public import Idealize.ShloMosaic.Lib.Claim
public import Idealize.ShloMosaic.Lib.Pipeline.ValueKit.Geometry
public import Idealize.ShloMosaic.Lib.Pipeline.ValueKit.Point

@[expose] public section

set_option maxRecDepth 16384

noncomputable section

namespace Cert.Proj

open Cert.Mlp
open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

/-- The arguments. -/
abbrev A0 : FVec Ideal S4096x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S1x1024 .f32 := m ((c : Thread nD τ).loc main_arg3)
abbrev A4 : FVec Ideal S2048x1024 .f32 := m ((c : Thread nD τ).loc main_arg4)
abbrev A5 : FVec Ideal S4096x384 .f32 := m ((c : Thread nD τ).loc main_arg5)
abbrev A6 : FVec Ideal S4096x512 .f32 := m ((c : Thread nD τ).loc main_arg6)
abbrev A7 : FVec Ideal S4096x1024 .f32 := m ((c : Thread nD τ).loc main_arg7)
abbrev A8 : FVec Ideal S4096x128 .f32 := m ((c : Thread nD τ).loc main_arg8)
abbrev A9 : FVec Ideal S4096x128 .f32 := m ((c : Thread nD τ).loc main_arg9)
abbrev A10 : FVec Ideal S4096x1024 .f32 := m ((c : Thread nD τ).loc main_arg10)

theorem V_w : V m c main_v0 = truncf .bf16 (A4 m c) bitsLt_bf16_f32 := by
  entry_read
  rfl

/-! ## The blocks of a point -/

theorem lt8 (t : Fin cfg0.N) : t.val < 8 := Nat.lt_of_lt_of_eq t.isLt N_0

theorem row_lt (t : Fin cfg0.N) (r : Fin 512) : 512 * t.val + r.val < 4096 := by have := r.isLt; have := lt8 t; omega

/-- A row of a block, as a row of its array. -/
abbrev row (t : Fin cfg0.N) (r : Fin 512) : Fin 4096 := ⟨512 * t.val + r.val, row_lt t r⟩

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![t.val, 0] := by decide +kernel
theorem idx_6 : ∀ t : Fin cfg0.N, win0_6.index t = ![t.val, 0] := by decide +kernel
theorem idx_7 : ∀ t : Fin cfg0.N, win0_7.index t = ![t.val, 0] := by decide +kernel
theorem idx_8 : ∀ t : Fin cfg0.N, win0_8.index t = ![t.val, 0] := by decide +kernel
theorem idx_9 : ∀ t : Fin cfg0.N, win0_9.index t = ![t.val, 0] := by decide +kernel
theorem idx_10 : ∀ t : Fin cfg0.N, win0_10.index t = ![t.val, 0] := by decide +kernel
theorem idx_11 : ∀ t : Fin cfg0.N, win0_11.index t = ![t.val, 0] := by decide +kernel
theorem idx_12 : ∀ t : Fin cfg0.N, win0_12.index t = ![0, 0] := by decide +kernel
theorem idx_13 : ∀ t : Fin cfg0.N, win0_13.index t = ![0, 0] := by decide +kernel
theorem idx_14 : ∀ t : Fin cfg0.N, win0_14.index t = ![0, 0] := by decide +kernel
theorem idx_15 : ∀ t : Fin cfg0.N, win0_15.index t = ![0, 0] := by decide +kernel

theorem row_0 (t : Fin cfg0.N) (r : Fin 512) : el2 (iblk m c 0 t : S512x1024.Idx → EReal) r.val = el2 (A0 m c) (512 * t.val + r.val) := by
  refine el2_row _ (A0 m c) r (row t r) fun l => ?_
  have e : (iblk m c 0 t : S512x1024.Idx → EReal) (ix2 r l) = (V m c main_arg0 : S4096x1024.Idx → EReal) (ix2 (row t r) l) := by
    blk_point [iblk, idx_0 t] <;> (simp; try omega)
  rw [e, V_main_arg0]

theorem row_5 (t : Fin cfg0.N) (r : Fin 512) : el2 (iblk m c 5 t : S512x384.Idx → EReal) r.val = el2 (A5 m c) (512 * t.val + r.val) := by
  refine el2_row _ (A5 m c) r (row t r) fun l => ?_
  have e : (iblk m c 5 t : S512x384.Idx → EReal) (ix2 r l) = (V m c main_arg5 : S4096x384.Idx → EReal) (ix2 (row t r) l) := by
    blk_point [iblk, idx_5 t] <;> (simp; try omega)
  rw [e, V_main_arg5]

theorem row_6 (t : Fin cfg0.N) (r : Fin 512) : el2 (iblk m c 6 t : S512x512.Idx → EReal) r.val = el2 (A6 m c) (512 * t.val + r.val) := by
  refine el2_row _ (A6 m c) r (row t r) fun l => ?_
  have e : (iblk m c 6 t : S512x512.Idx → EReal) (ix2 r l) = (V m c main_arg6 : S4096x512.Idx → EReal) (ix2 (row t r) l) := by
    blk_point [iblk, idx_6 t] <;> (simp; try omega)
  rw [e, V_main_arg6]

theorem row_7 (t : Fin cfg0.N) (r : Fin 512) : el2 (iblk m c 7 t : S512x1024.Idx → EReal) r.val = el2 (A7 m c) (512 * t.val + r.val) := by
  refine el2_row _ (A7 m c) r (row t r) fun l => ?_
  have e : (iblk m c 7 t : S512x1024.Idx → EReal) (ix2 r l) = (V m c main_arg7 : S4096x1024.Idx → EReal) (ix2 (row t r) l) := by
    blk_point [iblk, idx_7 t] <;> (simp; try omega)
  rw [e, V_main_arg7]

theorem row_8 (t : Fin cfg0.N) (r : Fin 512) : el2 (iblk m c 8 t : S512x128.Idx → EReal) r.val = el2 (A8 m c) (512 * t.val + r.val) := by
  refine el2_row _ (A8 m c) r (row t r) fun l => ?_
  have e : (iblk m c 8 t : S512x128.Idx → EReal) (ix2 r l) = (V m c main_arg8 : S4096x128.Idx → EReal) (ix2 (row t r) l) := by
    blk_point [iblk, idx_8 t] <;> (simp; try omega)
  rw [e, V_main_arg8]

theorem row_9 (t : Fin cfg0.N) (r : Fin 512) : el2 (iblk m c 9 t : S512x128.Idx → EReal) r.val = el2 (A9 m c) (512 * t.val + r.val) := by
  refine el2_row _ (A9 m c) r (row t r) fun l => ?_
  have e : (iblk m c 9 t : S512x128.Idx → EReal) (ix2 r l) = (V m c main_arg9 : S4096x128.Idx → EReal) (ix2 (row t r) l) := by
    blk_point [iblk, idx_9 t] <;> (simp; try omega)
  rw [e, V_main_arg9]

theorem row_10 (t : Fin cfg0.N) (r : Fin 512) : el2 (iblk m c 10 t : S512x1024.Idx → EReal) r.val = el2 (A10 m c) (512 * t.val + r.val) := by
  refine el2_row _ (A10 m c) r (row t r) fun l => ?_
  have e : (iblk m c 10 t : S512x1024.Idx → EReal) (ix2 r l) = (V m c main_arg10 : S4096x1024.Idx → EReal) (ix2 (row t r) l) := by
    blk_point [iblk, idx_10 t] <;> (simp; try omega)
  rw [e, V_main_arg10]

theorem row_1 (t : Fin cfg0.N) : el2 (iblk m c 1 t : S1x1024.Idx → EReal) 0 = el2 (A1 m c) 0 := by
  refine el2_row _ (A1 m c) 0 0 fun l => ?_
  have e : (iblk m c 1 t : S1x1024.Idx → EReal) (ix2 0 l) = (V m c main_arg1 : S1x1024.Idx → EReal) (ix2 0 l) := by
    blk_point [iblk, idx_1 t] <;> (simp; try omega)
  rw [e, V_main_arg1]

theorem row_2 (t : Fin cfg0.N) : el2 (iblk m c 2 t : S1x1024.Idx → EReal) 0 = el2 (A2 m c) 0 := by
  refine el2_row _ (A2 m c) 0 0 fun l => ?_
  have e : (iblk m c 2 t : S1x1024.Idx → EReal) (ix2 0 l) = (V m c main_arg2 : S1x1024.Idx → EReal) (ix2 0 l) := by
    blk_point [iblk, idx_2 t] <;> (simp; try omega)
  rw [e, V_main_arg2]

theorem row_3 (t : Fin cfg0.N) : el2 (iblk m c 3 t : S1x1024.Idx → EReal) 0 = el2 (A3 m c) 0 := by
  refine el2_row _ (A3 m c) 0 0 fun l => ?_
  have e : (iblk m c 3 t : S1x1024.Idx → EReal) (ix2 0 l) = (V m c main_arg3 : S1x1024.Idx → EReal) (ix2 0 l) := by
    blk_point [iblk, idx_3 t] <;> (simp; try omega)
  rw [e, V_main_arg3]

theorem blk_4 (t : Fin cfg0.N) (p : Fin 2048) (d : Fin 1024) : (iblk m c 4 t : S2048x1024.Idx → EReal) (ix2 p d) = el2 (A4 m c) p.val d.val := by
  have e : (iblk m c 4 t : S2048x1024.Idx → EReal) (ix2 p d) = (V m c main_v0 : S2048x1024.Idx → EReal) (ix2 p d) := by
    blk_point [iblk, idx_4 t] <;> (simp; try omega)
  rw [e, V_w, ← el2_ix (A4 m c) p d]
  rfl

/-! ## The values of a point, of the arguments -/

/-- A row of the projection's gradient. -/
abbrev gG (r : ℕ) : ℕ → EReal := cat (el2 (A5 m c) r) (el2 (A6 m c) r) (el2 (A7 m c) r) (el2 (A8 m c) r) (el2 (A9 m c) r)

/-- The row's own part of each sum. -/
abbrev tN (d x : ℕ) : EReal := X (el2 (A0 m c) x) d * K (el2 (A3 m c) 0) (gG m c x) (el2 (A4 m c)) d
abbrev tS (d x : ℕ) : EReal := M (gG m c x) (el2 (A4 m c)) d
abbrev tK (d x : ℕ) : EReal := Y (el2 (A0 m c) x) (el2 (A1 m c) 0) d * M (gG m c x) (el2 (A4 m c)) d
abbrev tW (p d x : ℕ) : EReal := gG m c x p * H (el2 (A0 m c) x) (el2 (A1 m c) 0) (el2 (A2 m c) 0) (el2 (A3 m c) 0) d

section point
variable (t : Fin cfg0.N) (r : Fin 512) (p : Fin 2048) (d : Fin 1024) (z : Fin 1)

theorem pG_at : pG m c t (ix2 r p) = gG m c (512 * t.val + r.val) p.val := by
  unfold pG; rw [bG_at]
  unfold rowB gG
  rw [row_5, row_6, row_7, row_8, row_9]

theorem pW_at : pW m c t (ix2 p d) = el2 (A4 m c) p.val d.val := by
  unfold pW; rw [bW_at]
  exact (el2_ix (iblk m c 4 t : S2048x1024.Idx → EReal) p d).symm.trans (blk_4 m c t p d)

theorem pM_at : k0_pay13 (pG m c t) (pW m c t) (ix2 r d) = M (gG m c (512 * t.val + r.val)) (el2 (A4 m c)) d.val := by
  rw [pay13_at]
  unfold M
  refine Finset.sum_congr rfl fun p _ => ?_
  rw [← el2_ix (pG m c t), ← el2_ix (pW m c t), pG_at, pW_at]

theorem pX_at : pX m c t (ix2 r d) = X (el2 (A0 m c) (512 * t.val + r.val)) d.val := by
  unfold pX; rw [pay9_at, row_0]

theorem pY_at : pY m c t (ix2 r d) = Y (el2 (A0 m c) (512 * t.val + r.val)) (el2 (A1 m c) 0) d.val := by
  unfold pY; rw [pay10_at, row_0, row_1]

theorem pC_at : pC m c t (ix2 z d) = 1 + el2 (A3 m c) 0 d.val := by
  unfold pC; rw [pay11_at, row_3]

theorem pH_at : pH m c t (ix2 r d) = H (el2 (A0 m c) (512 * t.val + r.val)) (el2 (A1 m c) 0) (el2 (A2 m c) 0) (el2 (A3 m c) 0) d.val := by
  unfold pH; rw [pay12_at, row_0, row_1, row_2, row_3]

theorem pK_at : k0_pay17 (pG m c t) (pW m c t) (pC m c t) (ix2 r d) = K (el2 (A3 m c) 0) (gG m c (512 * t.val + r.val)) (el2 (A4 m c)) d.val := by
  rw [pay17_at, pM_at, pC_at]; rfl

theorem x_at : (iblk m c 0 t : S512x1024.Idx → EReal) (ix2 r d) = el2 (A0 m c) (512 * t.val + r.val) d.val := by
  rw [← row_0 m c t r]; exact el2_ix (iblk m c 0 t : S512x1024.Idx → EReal) r d

theorem u_at : (iblk m c 10 t : S512x1024.Idx → EReal) (ix2 r d) = el2 (A10 m c) (512 * t.val + r.val) d.val := by
  rw [← row_10 m c t r]; exact el2_ix (iblk m c 10 t : S512x1024.Idx → EReal) r d

theorem n_at : (iblk m c 1 t : S1x1024.Idx → EReal) (ix2 0 d) = el2 (A1 m c) 0 d.val := by
  rw [← row_1 m c t]; exact el2_ix (iblk m c 1 t : S1x1024.Idx → EReal) 0 d

theorem pL_at : k0_pay17 (pG m c t) (pW m c t) (pC m c t) (ix2 r d) * (iblk m c 1 t : S1x1024.Idx → EReal) (ix2 0 d)
    = L (el2 (A1 m c) 0) (el2 (A3 m c) 0) (gG m c (512 * t.val + r.val)) (el2 (A4 m c)) d.val := by
  rw [pK_at, n_at]; rfl

theorem pDX_at : pDX m c t (ix2 r d) = DX (el2 (A0 m c) (512 * t.val + r.val)) (el2 (A1 m c) 0) (el2 (A3 m c) 0)
    (gG m c (512 * t.val + r.val)) (el2 (A10 m c) (512 * t.val + r.val)) (el2 (A4 m c)) d.val := by
  unfold pDX
  rw [pay19_row _ _ _ _ _ _ _ _ r d _ _ (fun e => x_at m c t r e) (fun e => pL_at m c t r e), u_at, pay7_at, pay8_at, row_0]
  rfl

theorem own_N : k0_pay18 (pG m c t) (pW m c t) (pX m c t) (pC m c t) (ix2 z d) = ∑ r : Fin 512, tN m c d.val (512 * t.val + r.val) := by
  rw [pay18_at]
  exact Finset.sum_congr rfl fun r _ => by rw [pX_at, pK_at]

theorem own_S : k0_pay15 (pG m c t) (pW m c t) (ix2 z d) = ∑ r : Fin 512, tS m c d.val (512 * t.val + r.val) := by
  rw [pay15_at]
  exact Finset.sum_congr rfl fun r _ => by rw [pM_at]

theorem own_K : k0_pay16 (pG m c t) (pW m c t) (pY m c t) (ix2 z d) = ∑ r : Fin 512, tK m c d.val (512 * t.val + r.val) := by
  rw [pay16_at]
  exact Finset.sum_congr rfl fun r _ => by rw [pY_at, pM_at]

theorem own_W : k0_pay14 (pG m c t) (pH m c t) (ix2 p d) = ∑ r : Fin 512, tW m c p.val d.val (512 * t.val + r.val) := by
  rw [pay14_at]
  exact Finset.sum_congr rfl fun r _ => by rw [pG_at, pH_at]

end point

/-! ## The running sums -/

theorem run_N (z : Fin 1) (d : Fin 1024) : ∀ (n : ℕ) (h : n < cfg0.N),
    (outsAt0 m c n h).2.1 (ix2 z d) = ∑ x ∈ Finset.range (512 * (n + 1)), tN m c d.val x := by
  intro n
  induction n with
  | zero =>
    intro h
    rw [o12_A m c ⟨0, h⟩ (by simp) (by simp) (by simp), own_N]
    exact rows_zero (tN m c d.val)
  | succ n ih =>
    intro h
    have hn := lt8 ⟨n + 1, h⟩
    have h0 : ¬(n + 1) % 8 = 0 := by simp only at hn; omega
    have e : (outsAt0 m c (n + 1) h).2.1 (ix2 z d) = (outsAt0 m c n (Nat.lt_of_succ_lt h)).2.1 (ix2 z d)
        + ∑ r : Fin 512, tN m c d.val (512 * (n + 1) + r.val) := by
      rw [← own_N m c ⟨n + 1, h⟩ d z]
      by_cases h2 : (n + 1) % 8 = 7
      · rw [o12_C m c ⟨n + 1, h⟩ h0 (by simp only; omega) h2, pay20_at]; rfl
      · rw [o12_B m c ⟨n + 1, h⟩ h0 (by simp only; omega) h2, pay20_at]; rfl
    rw [e, ih]
    exact rows_succ (tN m c d.val) (n + 1)

theorem run_S (z : Fin 1) (d : Fin 1024) : ∀ (n : ℕ) (h : n < cfg0.N),
    (outsAt0 m c n h).2.2.1 (ix2 z d) = ∑ x ∈ Finset.range (512 * (n + 1)), tS m c d.val x := by
  intro n
  induction n with
  | zero =>
    intro h
    rw [o13_A m c ⟨0, h⟩ (by simp) (by simp) (by simp), own_S]
    exact rows_zero (tS m c d.val)
  | succ n ih =>
    intro h
    have hn := lt8 ⟨n + 1, h⟩
    have h0 : ¬(n + 1) % 8 = 0 := by simp only at hn; omega
    have e : (outsAt0 m c (n + 1) h).2.2.1 (ix2 z d) = (outsAt0 m c n (Nat.lt_of_succ_lt h)).2.2.1 (ix2 z d)
        + ∑ r : Fin 512, tS m c d.val (512 * (n + 1) + r.val) := by
      rw [← own_S m c ⟨n + 1, h⟩ d z]
      by_cases h2 : (n + 1) % 8 = 7
      · rw [o13_C m c ⟨n + 1, h⟩ h0 (by simp only; omega) h2, pay21_at]; rfl
      · rw [o13_B m c ⟨n + 1, h⟩ h0 (by simp only; omega) h2, pay21_at]; rfl
    rw [e, ih]
    exact rows_succ (tS m c d.val) (n + 1)

theorem run_K (z : Fin 1) (d : Fin 1024) : ∀ (n : ℕ) (h : n < cfg0.N),
    (outsAt0 m c n h).2.2.2.1 (ix2 z d) = ∑ x ∈ Finset.range (512 * (n + 1)), tK m c d.val x := by
  intro n
  induction n with
  | zero =>
    intro h
    rw [o14_A m c ⟨0, h⟩ (by simp) (by simp) (by simp), own_K]
    exact rows_zero (tK m c d.val)
  | succ n ih =>
    intro h
    have hn := lt8 ⟨n + 1, h⟩
    have h0 : ¬(n + 1) % 8 = 0 := by simp only at hn; omega
    have e : (outsAt0 m c (n + 1) h).2.2.2.1 (ix2 z d) = (outsAt0 m c n (Nat.lt_of_succ_lt h)).2.2.2.1 (ix2 z d)
        + ∑ r : Fin 512, tK m c d.val (512 * (n + 1) + r.val) := by
      rw [← own_K m c ⟨n + 1, h⟩ d z]
      by_cases h2 : (n + 1) % 8 = 7
      · rw [o14_C m c ⟨n + 1, h⟩ h0 (by simp only; omega) h2, pay22_at]; rfl
      · rw [o14_B m c ⟨n + 1, h⟩ h0 (by simp only; omega) h2, pay22_at]; rfl
    rw [e, ih]
    exact rows_succ (tK m c d.val) (n + 1)

theorem run_W (p : Fin 2048) (d : Fin 1024) : ∀ (n : ℕ) (h : n < cfg0.N),
    (outsAt0 m c n h).2.2.2.2.2 (ix2 p d) = ∑ x ∈ Finset.range (512 * (n + 1)), tW m c p.val d.val x := by
  intro n
  induction n with
  | zero =>
    intro h
    rw [s0_A m c ⟨0, h⟩ (by simp) (by simp) (by simp), pay1_at, own_W]
    exact rows_zero (tW m c p.val d.val)
  | succ n ih =>
    intro h
    have hn := lt8 ⟨n + 1, h⟩
    have h0 : ¬(n + 1) % 8 = 0 := by simp only at hn; omega
    have e : (outsAt0 m c (n + 1) h).2.2.2.2.2 (ix2 p d) = (outsAt0 m c n (Nat.lt_of_succ_lt h)).2.2.2.2.2 (ix2 p d)
        + ∑ r : Fin 512, tW m c p.val d.val (512 * (n + 1) + r.val) := by
      rw [← own_W m c ⟨n + 1, h⟩ p d]
      by_cases h2 : (n + 1) % 8 = 7
      · rw [s0_C m c ⟨n + 1, h⟩ h0 (by simp only; omega) h2, pay2_at]; rfl
      · rw [s0_B m c ⟨n + 1, h⟩ h0 (by simp only; omega) h2, pay2_at]; rfl
    rw [e, ih]
    exact rows_succ (tW m c p.val d.val) (n + 1)

theorem at7 (t : Fin cfg0.N) (h : t.val % 8 = 7) : t.val = 7 := by have := lt8 t; omega

theorem last_N (t : Fin cfg0.N) (h : t.val % 8 = 7) (z : Fin 1) (d : Fin 1024) :
    (outsAt0 m c t.val t.isLt).2.1 (ix2 z d) = DN (el2 (A0 m c)) (gG m c) (el2 (A3 m c) 0) (el2 (A4 m c)) d.val := by
  rw [run_N, at7 t h]; exact rows_all (tN m c d.val)

theorem last_S (t : Fin cfg0.N) (h : t.val % 8 = 7) (z : Fin 1) (d : Fin 1024) :
    (outsAt0 m c t.val t.isLt).2.2.1 (ix2 z d) = DS (gG m c) (el2 (A4 m c)) d.val := by
  rw [run_S, at7 t h]; exact rows_all (tS m c d.val)

theorem last_K (t : Fin cfg0.N) (h : t.val % 8 = 7) (z : Fin 1) (d : Fin 1024) :
    (outsAt0 m c t.val t.isLt).2.2.2.1 (ix2 z d) = DK (el2 (A0 m c)) (gG m c) (el2 (A1 m c) 0) (el2 (A4 m c)) d.val := by
  rw [run_K, at7 t h]; exact rows_all (tK m c d.val)

theorem last_W (t : Fin cfg0.N) (h : t.val % 8 = 7) (p : Fin 2048) (d : Fin 1024) :
    (outsAt0 m c t.val t.isLt).2.2.2.2.1 (ix2 p d)
      = DW (el2 (A0 m c)) (gG m c) (el2 (A1 m c) 0) (el2 (A2 m c) 0) (el2 (A3 m c) 0) p.val d.val := by
  rw [o15_C m c t (by omega) (by omega) h, ← s0_C m c t (by omega) (by omega) h, pay3_at, run_W, at7 t h]
  exact rows_all (tW m c p.val d.val)

theorem dx_point (t : Fin cfg0.N) : (outsAt0 m c t.val t.isLt).1 = pDX m c t := by
  have := lt8 t
  by_cases h0 : t.val % 8 = 0
  · exact o11_A m c t h0 (by omega) (by omega)
  · by_cases h2 : t.val % 8 = 7
    · exact o11_C m c t h0 (by omega) h2
    · exact o11_B m c t h0 (by omega) h2

/-! ## The arrays -/

/-- The results, of the arguments. -/
abbrev gX (r d : ℕ) : EReal := DX (el2 (A0 m c) r) (el2 (A1 m c) 0) (el2 (A3 m c) 0) (gG m c r) (el2 (A10 m c) r) (el2 (A4 m c)) d
abbrev gN (_ d : ℕ) : EReal := DN (el2 (A0 m c)) (gG m c) (el2 (A3 m c) 0) (el2 (A4 m c)) d
abbrev gS (_ d : ℕ) : EReal := DS (gG m c) (el2 (A4 m c)) d
abbrev gK (_ d : ℕ) : EReal := DK (el2 (A0 m c)) (gG m c) (el2 (A1 m c) 0) (el2 (A4 m c)) d
abbrev gW (p d : ℕ) : EReal := DW (el2 (A0 m c)) (gG m c) (el2 (A1 m c) 0) (el2 (A2 m c) 0) (el2 (A3 m c) 0) p d

theorem arr_11 : (dats m 0 c).arrAt 11 cfg0.N = (of2 (gX m c) : S4096x1024.Idx → EReal) := by
  refine (dats m 0 c).arrAt_eq_of_covers 11 _ (by decide +kernel) fun t hf y => ?_
  blk_simp
  rw [after0_11, dx_point]
  have e0 : ((win0_11.blk t).view.emb y 0).val = 512 * t.val + (y 0).val := by blk_simp [idx_11 t] <;> (simp; try omega)
  have e1 : ((win0_11.blk t).view.emb y 1).val = (y 1).val := by blk_simp [idx_11 t] <;> (simp; try omega)
  unfold of2
  rw [e0, e1]
  obtain ⟨r, d, rfl⟩ := exists_ix2 y
  exact pDX_at m c t r d

theorem arr_12 : (dats m 0 c).arrAt 12 cfg0.N = (of2 (gN m c) : S1x1024.Idx → EReal) := by
  refine (dats m 0 c).arrAt_eq_of_covers 12 _ (by decide +kernel) fun t hf y => ?_
  blk_simp
  rw [after0_12]
  have e0 : ((win0_12.blk t).view.emb y 0).val = (y 0).val := by blk_simp [idx_12 t] <;> (simp; try omega)
  have e1 : ((win0_12.blk t).view.emb y 1).val = (y 1).val := by blk_simp [idx_12 t] <;> (simp; try omega)
  unfold of2
  rw [e0, e1]
  obtain ⟨r, d, rfl⟩ := exists_ix2 y
  exact last_N m c t ((flush0_12 t).mp hf) r d

theorem arr_13 : (dats m 0 c).arrAt 13 cfg0.N = (of2 (gS m c) : S1x1024.Idx → EReal) := by
  refine (dats m 0 c).arrAt_eq_of_covers 13 _ (by decide +kernel) fun t hf y => ?_
  blk_simp
  rw [after0_13]
  have e0 : ((win0_13.blk t).view.emb y 0).val = (y 0).val := by blk_simp [idx_13 t] <;> (simp; try omega)
  have e1 : ((win0_13.blk t).view.emb y 1).val = (y 1).val := by blk_simp [idx_13 t] <;> (simp; try omega)
  unfold of2
  rw [e0, e1]
  obtain ⟨r, d, rfl⟩ := exists_ix2 y
  exact last_S m c t ((flush0_13 t).mp hf) r d

theorem arr_14 : (dats m 0 c).arrAt 14 cfg0.N = (of2 (gK m c) : S1x1024.Idx → EReal) := by
  refine (dats m 0 c).arrAt_eq_of_covers 14 _ (by decide +kernel) fun t hf y => ?_
  blk_simp
  rw [after0_14]
  have e0 : ((win0_14.blk t).view.emb y 0).val = (y 0).val := by blk_simp [idx_14 t] <;> (simp; try omega)
  have e1 : ((win0_14.blk t).view.emb y 1).val = (y 1).val := by blk_simp [idx_14 t] <;> (simp; try omega)
  unfold of2
  rw [e0, e1]
  obtain ⟨r, d, rfl⟩ := exists_ix2 y
  exact last_K m c t ((flush0_14 t).mp hf) r d

theorem arr_15 : (dats m 0 c).arrAt 15 cfg0.N = (of2 (gW m c) : S2048x1024.Idx → EReal) := by
  refine (dats m 0 c).arrAt_eq_of_covers 15 _ (by decide +kernel) fun t hf y => ?_
  blk_simp
  rw [after0_15]
  have e0 : ((win0_15.blk t).view.emb y 0).val = (y 0).val := by blk_simp [idx_15 t] <;> (simp; try omega)
  have e1 : ((win0_15.blk t).view.emb y 1).val = (y 1).val := by blk_simp [idx_15 t] <;> (simp; try omega)
  unfold of2
  rw [e0, e1]
  obtain ⟨r, d, rfl⟩ := exists_ix2 y
  exact last_W m c t ((flush0_15 t).mp hf) r d

end Cert.Proj

end
-- ==== Proof.ProjRef.lean ====
/-
  The derivative of the plain projection: the reference's lines as functions of the eleven arguments, and their elements.
-/
module

public import proofs.«01_k».proof.Proof.Gen.Reference3Ideal.Run
public import proofs.«01_k».proof.Proof.ProjMath
public import Idealize.ShloMosaic.Lib.Claim

@[expose] public section

set_option maxRecDepth 16384

noncomputable section

namespace Cert.Proj

open Cert.Mlp
open Cert.Reference3Ideal Cert.Reference3Ideal.Gen
open Idealize.ShloMosaic Idealize.ShloMosaic.TcCoe Idealize.ShloMosaic.Tactic

section terms
variable (a0 : FVec Ideal S4096x1024 .f32) (a1 a2 a3 : FVec Ideal S1x1024 .f32) (a4 : FVec Ideal S2048x1024 .f32)
  (a5 : FVec Ideal S4096x384 .f32) (a6 : FVec Ideal S4096x512 .f32) (a7 : FVec Ideal S4096x1024 .f32) (a8 a9 : FVec Ideal S4096x128 .f32)
  (a10 : FVec Ideal S4096x1024 .f32)

/-- The mean of the squares, the inverse root, the derivative's factor. -/
def rV : FVec Ideal S4096x1 .f32 :=
  addf (Host.divf (broadcastInDim S4096x1 ![0] bcast_S4096_S4096x1_0 (Host.reduceAdd (mulf a0 a0) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def rR : FVec Ideal S4096x1 .f32 := Host.rsqrt (rV a0)
def rT : FVec Ideal S4096x1 .f32 := mulf (broadcastInDim S4096x1 ![] bcast_S_S4096x1 (constant S_ .f32 0xBF000000#32)) (Host.divf (rR a0) (rV a0))

/-- The normed array, weighted, modulated. -/
def rRow (a : FVec Ideal S1x1024 .f32) : FVec Ideal S4096x1024 .f32 := broadcastInDim S4096x1024 ![0, 1] bcast_S1x1024_S4096x1024_0_1 a
def rSc : FVec Ideal S4096x1024 .f32 := rRow (addf (broadcastInDim S1x1024 ![] bcast_S_S1x1024 (constant S_ .f32 0x3F800000#32)) a3)
def rRb : FVec Ideal S4096x1024 .f32 := broadcastInDim S4096x1024 ![0, 1] bcast_S4096x1_S4096x1024_0_1 (rR a0)
def rX : FVec Ideal S4096x1024 .f32 := mulf a0 (rRb a0)
def rY : FVec Ideal S4096x1024 .f32 := mulf (rX a0) (rRow a1)
def rH : FVec Ideal S4096x1024 .f32 := addf (mulf (rY a0 a1) (rSc a3)) (rRow a2)

/-- The gradient of the projection's output, and the gradients behind it. -/
def rG : FVec Ideal S4096x2048 .f32 :=
  (concatenate S4096x2048 1 [⟨S4096x384, (a5 : (⟨S4096x384, .f32⟩ : BufTy).Contents (Elt Ideal))⟩, ⟨S4096x512, (a6 : (⟨S4096x512, .f32⟩ : BufTy).Contents (Elt Ideal))⟩,
    ⟨S4096x1024, (a7 : (⟨S4096x1024, .f32⟩ : BufTy).Contents (Elt Ideal))⟩, ⟨S4096x128, ((addf a8 a9) : (⟨S4096x128, .f32⟩ : BufTy).Contents (Elt Ideal))⟩]
    concatenates_S4096x384_S4096x512_S4096x1024_S4096x128_S4096x2048_d1 : (⟨S4096x2048, .f32⟩ : BufTy).Contents (Elt Ideal))
def rM : FVec Ideal S4096x1024 .f32 :=
  Host.dotGeneral dot_S4096x2048_S1024x2048_S4096x1024_1_1_0_0_n_n none (rG a5 a6 a7 a8 a9) (transpose S1024x2048 [1, 0] a4 transposes_S2048x1024_S1024x2048_1_0)
def rK : FVec Ideal S4096x1024 .f32 := mulf (rM a4 a5 a6 a7 a8 a9) (rSc a3)
def rL : FVec Ideal S4096x1024 .f32 := mulf (rK a3 a4 a5 a6 a7 a8 a9) (rRow a1)
def rQ : FVec Ideal S4096 .f32 :=
  Host.reduceAdd (Host.divf (mulf (shapeCast _ (Host.reduceAdd (mulf a0 (rL a1 a3 a4 a5 a6 a7 a8 a9)) (constant S_ .f32 0x00000000#32) reducesTo_S4096x1024_S4096_d1 h_S_) shapeCasts_S4096_S4096x1) (rT a0))
    (broadcastInDim S4096x1 ![] bcast_S_S4096x1 (constant S_ .f32 0x44800000#32))) (constant S_ .f32 0x00000000#32) reducesTo_S4096x1_S4096_d1 h_S_
def rQb : FVec Ideal S4096x1024 .f32 := broadcastInDim S4096x1024 ![0] bcast_S4096_S4096x1024_0 (rQ a0 a1 a3 a4 a5 a6 a7 a8 a9)

/-- The five gradients. -/
def refX : FVec Ideal S4096x1024 .f32 :=
  addf (addf (addf a10 (mulf (rL a1 a3 a4 a5 a6 a7 a8 a9) (rRb a0))) (mulf a0 (rQb a0 a1 a3 a4 a5 a6 a7 a8 a9))) (mulf (rQb a0 a1 a3 a4 a5 a6 a7 a8 a9) a0)
def rSum (a : FVec Ideal S4096x1024 .f32) : FVec Ideal S1x1024 .f32 :=
  shapeCast _ (Host.reduceAdd a (constant S_ .f32 0x00000000#32) reducesTo_S4096x1024_S1024_d0 h_S_) shapeCasts_S1024_S1x1024
def refN : FVec Ideal S1x1024 .f32 := rSum (mulf (rX a0) (rK a3 a4 a5 a6 a7 a8 a9))
def refS : FVec Ideal S1x1024 .f32 := rSum (rM a4 a5 a6 a7 a8 a9)
def refK : FVec Ideal S1x1024 .f32 := rSum (mulf (rY a0 a1) (rM a4 a5 a6 a7 a8 a9))
def refW : FVec Ideal S2048x1024 .bf16 :=
  truncf .bf16 (transpose S2048x1024 [1, 0] (transpose S1024x2048 [1, 0] (Host.dotGeneral dot_S4096x2048_S4096x1024_S2048x1024_0_0_1_1_n_n none
    (rG a5 a6 a7 a8 a9) (rH a0 a1 a2 a3)) transposes_S2048x1024_S1024x2048_1_0) transposes_S1024x2048_S2048x1024_1_0) bitsLt_bf16_f32

/-! ## At an index -/

theorem rV_at (r : Fin 4096) (z : Fin 1) : rV a0 (ix2 r z) = Va (el2 a0 r.val) := by
  pointwise [rV]
  simp only [el2_ix a0]
  rfl

theorem rR_at (r : Fin 4096) (z : Fin 1) : rR a0 (ix2 r z) = R (el2 a0 r.val) := by
  pointwise [rR]
  rw [rV_at]; rfl

theorem rT_at (r : Fin 4096) (z : Fin 1) : rT a0 (ix2 r z) = T (el2 a0 r.val) := by
  pointwise [rT]
  rw [rV_at, rR_at]; rfl

theorem rRow_at (a : FVec Ideal S1x1024 .f32) (r : Fin 4096) (d : Fin 1024) : rRow a (ix2 r d) = el2 a 0 d.val := by
  pointwise [rRow]
  exact el2_ix a 0 d

theorem rSc_at (r : Fin 4096) (d : Fin 1024) : rSc a3 (ix2 r d) = 1 + el2 a3 0 d.val := by
  pointwise [rSc, rRow]
  rw [el2_ix a3]; rfl

theorem rX_at (r : Fin 4096) (d : Fin 1024) : rX a0 (ix2 r d) = X (el2 a0 r.val) d.val := by
  pointwise [rX, rRb]
  rw [rR_at, el2_ix a0]; rfl

theorem rY_at (r : Fin 4096) (d : Fin 1024) : rY a0 a1 (ix2 r d) = Y (el2 a0 r.val) (el2 a1 0) d.val := by
  pointwise [rY]
  rw [rX_at, rRow_at]; rfl

theorem rH_at (r : Fin 4096) (d : Fin 1024) : rH a0 a1 a2 a3 (ix2 r d) = H (el2 a0 r.val) (el2 a1 0) (el2 a2 0) (el2 a3 0) d.val := by
  pointwise [rH]
  rw [rY_at, rSc_at, rRow_at]; rfl

theorem rG_at (r : Fin 4096) (p : Fin 2048) :
    rG a5 a6 a7 a8 a9 (ix2 r p) = cat (el2 a5 r.val) (el2 a6 r.val) (el2 a7 r.val) (el2 a8 r.val) (el2 a9 r.val) p.val := by
  pointwise [rG]
  unfold cat
  by_cases h0 : p.val < 384
  · rw [dif_pos h0, if_pos h0]
    exact (el2_of a5 r.isLt h0).symm
  rw [dif_neg h0, if_neg h0]
  by_cases h1 : p.val - 384 < 512
  · rw [dif_pos h1, if_pos h1]
    exact (el2_of a6 r.isLt h1).symm
  rw [dif_neg h1, if_neg h1]
  by_cases h2 : p.val - 384 - 512 < 1024
  · rw [dif_pos h2, if_pos h2]
    exact (el2_of a7 r.isLt h2).symm
  · rw [dif_neg h2, if_neg h2]
    have h3 : p.val - 384 - 512 - 1024 < 128 := by omega
    exact congrArg₂ (· + ·) (el2_of a8 r.isLt h3).symm (el2_of a9 r.isLt h3).symm

/-- A row of the projection's gradient. -/
abbrev rowG (r : ℕ) : ℕ → EReal := cat (el2 a5 r) (el2 a6 r) (el2 a7 r) (el2 a8 r) (el2 a9 r)

theorem rM_at (r : Fin 4096) (d : Fin 1024) :
    rM a4 a5 a6 a7 a8 a9 (ix2 r d) = M (rowG a5 a6 a7 a8 a9 r.val) (el2 a4) d.val := by
  pointwise [rM]
  unfold M
  refine Finset.sum_congr rfl fun p _ => ?_
  rw [rG_at, el2_ix a4]

theorem rK_at (r : Fin 4096) (d : Fin 1024) :
    rK a3 a4 a5 a6 a7 a8 a9 (ix2 r d) = K (el2 a3 0) (rowG a5 a6 a7 a8 a9 r.val) (el2 a4) d.val := by
  pointwise [rK]
  rw [rM_at, rSc_at]; rfl

theorem rL_at (r : Fin 4096) (d : Fin 1024) :
    rL a1 a3 a4 a5 a6 a7 a8 a9 (ix2 r d) = L (el2 a1 0) (el2 a3 0) (rowG a5 a6 a7 a8 a9 r.val) (el2 a4) d.val := by
  pointwise [rL]
  rw [rK_at, rRow_at]; rfl

theorem rQb_at (r : Fin 4096) (d : Fin 1024) :
    rQb a0 a1 a3 a4 a5 a6 a7 a8 a9 (ix2 r d) = Q (el2 a0 r.val) (el2 a1 0) (el2 a3 0) (rowG a5 a6 a7 a8 a9 r.val) (el2 a4) := by
  pointwise [rQb, rQ]
  simp only [rL_at, rT_at, el2_ix a0]
  exact Fin.sum_univ_one fun _ => Q (el2 a0 r.val) (el2 a1 0) (el2 a3 0) (rowG a5 a6 a7 a8 a9 r.val) (el2 a4)

theorem refX_at (r : Fin 4096) (d : Fin 1024) : refX a0 a1 a3 a4 a5 a6 a7 a8 a9 a10 (ix2 r d)
    = DX (el2 a0 r.val) (el2 a1 0) (el2 a3 0) (rowG a5 a6 a7 a8 a9 r.val) (el2 a10 r.val) (el2 a4) d.val := by
  pointwise [refX, rRb]
  rw [rL_at, rR_at, rQb_at, el2_ix a0, el2_ix a10]
  unfold DX
  ac_rfl

theorem rSum_at (a : FVec Ideal S4096x1024 .f32) (z : Fin 1) (d : Fin 1024) : rSum a (ix2 z d) = ∑ r : Fin 4096, a (ix2 r d) := by
  pointwise [rSum]

theorem refN_at (z : Fin 1) (d : Fin 1024) : refN a0 a3 a4 a5 a6 a7 a8 a9 (ix2 z d)
    = DN (el2 a0) (rowG a5 a6 a7 a8 a9) (el2 a3 0) (el2 a4) d.val := by
  unfold refN DN
  rw [rSum_at]
  refine Finset.sum_congr rfl fun r _ => ?_
  exact congrArg₂ (· * ·) (rX_at a0 r d) (rK_at a3 a4 a5 a6 a7 a8 a9 r d)

theorem refS_at (z : Fin 1) (d : Fin 1024) : refS a4 a5 a6 a7 a8 a9 (ix2 z d) = DS (rowG a5 a6 a7 a8 a9) (el2 a4) d.val := by
  unfold refS DS
  rw [rSum_at]
  exact Finset.sum_congr rfl fun r _ => rM_at a4 a5 a6 a7 a8 a9 r d

theorem refK_at (z : Fin 1) (d : Fin 1024) : refK a0 a1 a4 a5 a6 a7 a8 a9 (ix2 z d)
    = DK (el2 a0) (rowG a5 a6 a7 a8 a9) (el2 a1 0) (el2 a4) d.val := by
  unfold refK DK
  rw [rSum_at]
  refine Finset.sum_congr rfl fun r _ => ?_
  exact congrArg₂ (· * ·) (rY_at a0 a1 r d) (rM_at a4 a5 a6 a7 a8 a9 r d)

theorem refW_at (p : Fin 2048) (d : Fin 1024) : refW a0 a1 a2 a3 a5 a6 a7 a8 a9 (ix2 p d)
    = DW (el2 a0) (rowG a5 a6 a7 a8 a9) (el2 a1 0) (el2 a2 0) (el2 a3 0) p.val d.val := by
  pointwise [refW]
  unfold DW
  refine Finset.sum_congr rfl fun r _ => ?_
  rw [rG_at, rH_at]

/-! ## As arrays -/

theorem refX_eq : refX a0 a1 a3 a4 a5 a6 a7 a8 a9 a10
    = of2 fun r d => DX (el2 a0 r) (el2 a1 0) (el2 a3 0) (rowG a5 a6 a7 a8 a9 r) (el2 a10 r) (el2 a4) d :=
  eq_of2 _ _ fun r d => refX_at a0 a1 a3 a4 a5 a6 a7 a8 a9 a10 r d
theorem refN_eq : refN a0 a3 a4 a5 a6 a7 a8 a9 = of2 fun _ d => DN (el2 a0) (rowG a5 a6 a7 a8 a9) (el2 a3 0) (el2 a4) d :=
  eq_of2 _ _ fun r d => refN_at a0 a3 a4 a5 a6 a7 a8 a9 r d
theorem refS_eq : refS a4 a5 a6 a7 a8 a9 = of2 fun _ d => DS (rowG a5 a6 a7 a8 a9) (el2 a4) d :=
  eq_of2 _ _ fun r d => refS_at a4 a5 a6 a7 a8 a9 r d
theorem refK_eq : refK a0 a1 a4 a5 a6 a7 a8 a9 = of2 fun _ d => DK (el2 a0) (rowG a5 a6 a7 a8 a9) (el2 a1 0) (el2 a4) d :=
  eq_of2 _ _ fun r d => refK_at a0 a1 a4 a5 a6 a7 a8 a9 r d
theorem refW_eq : refW a0 a1 a2 a3 a5 a6 a7 a8 a9
    = of2 fun p d => DW (el2 a0) (rowG a5 a6 a7 a8 a9) (el2 a1 0) (el2 a2 0) (el2 a3 0) p d :=
  eq_of2 _ _ fun r d => refW_at a0 a1 a2 a3 a5 a6 a7 a8 a9 r d

end terms

theorem res_X (m : (ℓ : Loc nD τ sig) → Buf (Elt Ideal) ℓ) (c : Dev nD) : Cert.Reference3Ideal.Value.res_main_v59 m c
    = refX (m ((c : Thread nD τ).loc main_arg0)) (m ((c : Thread nD τ).loc main_arg1)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) (m ((c : Thread nD τ).loc main_arg10)) := rfl

end Cert.Proj

end
-- ==== Proof.ProjClaims.lean ====
/-
  The claims on the projection's gradient: the frames and the equality of its results with the reference's.
-/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Value
public import proofs.«01_k».proof.Proof.ProjArr
public import proofs.«01_k».proof.Proof.ProjRef

@[expose] public section

set_option maxRecDepth 16384

noncomputable section

namespace Cert.Proj

open Idealize.ShloMosaic Idealize.ShloMosaic.TcCoe Idealize.ShloMosaic.Tactic Idealize.SL.Sem

/-! ## The frames -/

theorem frame_p : Cert.quiescent_Kernel3 := fun m ρ _ => Cert.Kernel3.Gen.frame (F := Bits) m ρ

theorem frame_pi : Cert.quiescent_Kernel3Ideal := fun m ρ _ => Cert.Kernel3Ideal.Gen.frame (F := Ideal) m ρ

theorem frame_ri : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-! ## The constants -/

theorem preserves : Cert.preserves_Kernel3_Kernel3Ideal := trivial

/-! ## The values -/

theorem same11 {α β γ δ ε ζ η : Type} (f : α → β → β → β → γ → δ → ε → α → ζ → ζ → α → η) {a0 b0 a7 b7 a10 b10 : α} {a1 b1 a2 b2 a3 b3 : β}
    {a4 b4 : γ} {a5 b5 : δ} {a6 b6 : ε} {a8 b8 a9 b9 : ζ} (e0 : a0 = b0) (e1 : a1 = b1) (e2 : a2 = b2) (e3 : a3 = b3) (e4 : a4 = b4) (e5 : a5 = b5)
    (e6 : a6 = b6) (e7 : a7 = b7) (e8 : a8 = b8) (e9 : a9 = b9) (e10 : a10 = b10) :
    f a0 a1 a2 a3 a4 a5 a6 a7 a8 a9 a10 = f b0 b1 b2 b3 b4 b5 b6 b7 b8 b9 b10 := by subst e0 e1 e2 e3 e4 e5 e6 e7 e8 e9 e10; rfl

theorem algebraic : Cert.algebraic_Kernel3Ideal_Reference3Ideal := fun m ρ m' ρ' _ hag => by
  refine ⟨fun c => of2 (gX m c), fun c => of2 (gN m c), fun c => of2 (gS m c), fun c => of2 (gK m c), fun c => of2 (gW m c), ?_, ?_⟩
  · refine (θ_run Cert.Kernel3Ideal.defs _ _).mono (fun r h c => ?_) (Cert.Kernel3Ideal.Value.run_blocks (F := Ideal) m ρ)
    exact ⟨(h c).1.trans (arr_11 m c), (h c).2.1.trans (arr_12 m c), (h c).2.2.1.trans (arr_13 m c), (h c).2.2.2.1.trans (arr_14 m c),
      (h c).2.2.2.2.1.trans (arr_15 m c), (h c).2.2.2.2.2⟩
  · refine (θ_run Cert.Reference3Ideal.defs _ _).mono (fun r h c => ?_) (Cert.Reference3Ideal.Value.run (F := Ideal) m' ρ')
    obtain ⟨e0, e1, e2, e3, e4, e5, e6, e7, e8, e9, e10⟩ := hag c
    refine ⟨(h c).1.trans ?_, (h c).2.1.trans ?_, (h c).2.2.1.trans ?_, (h c).2.2.2.1.trans ?_, (h c).2.2.2.2.1.trans ?_, (h c).2.2.2.2.2⟩
    · exact (res_X m' c).trans ((same11 (fun a0 a1 _ a3 a4 a5 a6 a7 a8 a9 a10 => refX a0 a1 a3 a4 a5 a6 a7 a8 a9 a10)
        e0 e1 e2 e3 e4 e5 e6 e7 e8 e9 e10).trans (refX_eq _ _ _ _ _ _ _ _ _ _))
    · exact (same11 (fun a0 _ _ a3 a4 a5 a6 a7 a8 a9 _ => refN a0 a3 a4 a5 a6 a7 a8 a9)
        e0 e1 e2 e3 e4 e5 e6 e7 e8 e9 e10).trans (refN_eq _ _ _ _ _ _ _ _)
    · exact (same11 (fun _ _ _ _ a4 a5 a6 a7 a8 a9 _ => refS a4 a5 a6 a7 a8 a9)
        e0 e1 e2 e3 e4 e5 e6 e7 e8 e9 e10).trans (refS_eq _ _ _ _ _ _)
    · exact (same11 (fun a0 a1 _ _ a4 a5 a6 a7 a8 a9 _ => refK a0 a1 a4 a5 a6 a7 a8 a9)
        e0 e1 e2 e3 e4 e5 e6 e7 e8 e9 e10).trans (refK_eq _ _ _ _ _ _ _ _)
    · exact (same11 (fun a0 a1 a2 a3 _ a5 a6 a7 a8 a9 _ => refW a0 a1 a2 a3 a5 a6 a7 a8 a9)
        e0 e1 e2 e3 e4 e5 e6 e7 e8 e9 e10).trans (refW_eq _ _ _ _ _ _ _ _ _)

end Cert.Proj

end
-- ==== Proof.FwdFirst.lean ====
/-
  What one grid point of the gated layer's forward kernel leaves in its buffers, at any float values: the body run at
  a row block's first weight shard, the written buffers' contents found by the run as lists of stores.
-/
module

public import proofs.«01_k».proof.Proof.Gen.Kernel4Ideal.Frame
public import proofs.«01_k».proof.Proof.Gen.Kernel4Ideal.Skeleton

@[expose] public section

set_option maxRecDepth 16384

noncomputable section

namespace Cert.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a row block's first shard: the modulated rows are stored and the mixture is zeroed first. -/
noncomputable def atFirst (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1024 .f32) (harg6 : arg6.IsWhole) (arg7 : Memref sig .tc .vmem S1x704x1024 .bf16) (harg7 : arg7.IsWhole)
    (arg8 : Memref sig .tc .vmem S1x704x1024 .bf16) (harg8 : arg8.IsWhole) (arg9 : Memref sig .tc .vmem S1x704x1024 .bf16) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1024 .bf16) (harg12 : arg12.IsWhole) (arg13 : Memref sig .tc .vmem S1x1024x704 .bf16) (harg13 : arg13.IsWhole)
    (arg14 : Memref sig .tc .vmem S1x1024x704 .bf16) (harg14 : arg14.IsWhole)
    (hc0 : k0_cond1 i = 1#1) (hc1 : ¬k0_cond2 i = 1#1)
    (x0 : Vec F S1024x1024 .f32) (x1 : Vec F S1x1024 .f32) (x2 : Vec F S1x1024 .f32) (x3 : Vec F S1x1024 .f32) (x4 : Vec F S1x1024 .f32) (x5 : Vec F S1x704x1024 .bf16) (x6 : Vec F S1x704x1024 .bf16) (x7 : Vec F S1x704x1024 .bf16) (y10 : Vec F S1024x1024 .f32) :
    Σ' (L11 : List (View.Piece (Elt F) S1024x1024 .f32)) (L12 : List (View.Piece (Elt F) S1024x1024 .bf16)) (L13 : List (View.Piece (Elt F) S1x1024x704 .bf16)),
      { L14 : List (View.Piece (Elt F) S1x1024x704 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare y10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
              ∗ owns (c : Thread nD τ) arg10 fullShare y10
              ∗ (∃ f, arg11.view.loc (c : Thread nD τ) ↦[arg11.view.set]{fullShare} arg11.view.writes (Elt F) f L11)
              ∗ (∃ f, arg12.view.loc (c : Thread nD τ) ↦[arg12.view.set]{fullShare} arg12.view.writes (Elt F) f L12)
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)) -∗ K ⟨⟩))
          ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_mlp_fwd_eq_skeleton]; unfold cc0_mlp_fwd_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    iexists _; iexact H14

end Cert.Fwd

end
-- ==== Proof.FwdMiddle.lean ====
/-
  What one grid point of the gated layer's forward kernel leaves in its buffers, at any float values: the body run at
  a weight shard between the first and the last, the written buffers' contents found by the run as lists of stores.
-/
module

public import proofs.«01_k».proof.Proof.Gen.Kernel4Ideal.Frame
public import proofs.«01_k».proof.Proof.Gen.Kernel4Ideal.Skeleton

@[expose] public section

set_option maxRecDepth 16384

noncomputable section

namespace Cert.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a shard between the first and the last: the modulated rows are read, the mixture added to. -/
noncomputable def atMiddle (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1024 .f32) (harg6 : arg6.IsWhole) (arg7 : Memref sig .tc .vmem S1x704x1024 .bf16) (harg7 : arg7.IsWhole)
    (arg8 : Memref sig .tc .vmem S1x704x1024 .bf16) (harg8 : arg8.IsWhole) (arg9 : Memref sig .tc .vmem S1x704x1024 .bf16) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1024 .bf16) (harg12 : arg12.IsWhole) (arg13 : Memref sig .tc .vmem S1x1024x704 .bf16) (harg13 : arg13.IsWhole)
    (arg14 : Memref sig .tc .vmem S1x1024x704 .bf16) (harg14 : arg14.IsWhole)
    (hc0 : ¬k0_cond1 i = 1#1) (hc1 : ¬k0_cond2 i = 1#1)
    (x0 : Vec F S1024x1024 .f32) (x1 : Vec F S1x1024 .f32) (x2 : Vec F S1x1024 .f32) (x3 : Vec F S1x1024 .f32) (x4 : Vec F S1x1024 .f32) (x5 : Vec F S1x704x1024 .bf16) (x6 : Vec F S1x704x1024 .bf16) (x7 : Vec F S1x704x1024 .bf16) (y10 : Vec F S1024x1024 .f32) (y11 : Vec F S1024x1024 .f32) (y12 : Vec F S1024x1024 .bf16) :
    Σ' (L11 : List (View.Piece (Elt F) S1024x1024 .f32)) (L13 : List (View.Piece (Elt F) S1x1024x704 .bf16)),
      { L14 : List (View.Piece (Elt F) S1x1024x704 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare y10 ∗ owns (c : Thread nD τ) arg11 fullShare y11 ∗ owns (c : Thread nD τ) arg12 fullShare y12 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
              ∗ owns (c : Thread nD τ) arg10 fullShare y10
              ∗ (arg11.view.loc (c : Thread nD τ) ↦[arg11.view.set]{fullShare} arg11.view.writes (Elt F) (harg11.unread y11) L11)
              ∗ owns (c : Thread nD τ) arg12 fullShare y12
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)) -∗ K ⟨⟩))
          ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_mlp_fwd_eq_skeleton]; unfold cc0_mlp_fwd_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]
    · iexists _; isplitr; · ipureintro; exact harg12.read_unread _
      iexact H12
    isplitl [H13]; · iexists _; iexact H13
    iexists _; iexact H14

end Cert.Fwd

end
-- ==== Proof.FwdLast.lean ====
/-
  What one grid point of the gated layer's forward kernel leaves in its buffers, at any float values: the body run at
  a row block's last weight shard, the written buffers' contents found by the run as lists of stores.
-/
module

public import proofs.«01_k».proof.Proof.Gen.Kernel4Ideal.Frame
public import proofs.«01_k».proof.Proof.Gen.Kernel4Ideal.Skeleton

@[expose] public section

set_option maxRecDepth 16384

noncomputable section

namespace Cert.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the last shard: as at a middle one, and the result's rows are stored. -/
noncomputable def atLast (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1024 .f32) (harg6 : arg6.IsWhole) (arg7 : Memref sig .tc .vmem S1x704x1024 .bf16) (harg7 : arg7.IsWhole)
    (arg8 : Memref sig .tc .vmem S1x704x1024 .bf16) (harg8 : arg8.IsWhole) (arg9 : Memref sig .tc .vmem S1x704x1024 .bf16) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1024 .bf16) (harg12 : arg12.IsWhole) (arg13 : Memref sig .tc .vmem S1x1024x704 .bf16) (harg13 : arg13.IsWhole)
    (arg14 : Memref sig .tc .vmem S1x1024x704 .bf16) (harg14 : arg14.IsWhole)
    (hc0 : ¬k0_cond1 i = 1#1) (hc1 : k0_cond2 i = 1#1)
    (x0 : Vec F S1024x1024 .f32) (x1 : Vec F S1x1024 .f32) (x2 : Vec F S1x1024 .f32) (x3 : Vec F S1x1024 .f32) (x4 : Vec F S1x1024 .f32) (x5 : Vec F S1x704x1024 .bf16) (x6 : Vec F S1x704x1024 .bf16) (x7 : Vec F S1x704x1024 .bf16) (y11 : Vec F S1024x1024 .f32) (y12 : Vec F S1024x1024 .bf16) :
    Σ' (L10 : List (View.Piece (Elt F) S1024x1024 .f32)) (L11 : List (View.Piece (Elt F) S1024x1024 .f32)) (L13 : List (View.Piece (Elt F) S1x1024x704 .bf16)),
      { L14 : List (View.Piece (Elt F) S1x1024x704 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d) ∗ owns (c : Thread nD τ) arg11 fullShare y11 ∗ owns (c : Thread nD τ) arg12 fullShare y12 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
              ∗ (∃ f, arg10.view.loc (c : Thread nD τ) ↦[arg10.view.set]{fullShare} arg10.view.writes (Elt F) f L10)
              ∗ (arg11.view.loc (c : Thread nD τ) ↦[arg11.view.set]{fullShare} arg11.view.writes (Elt F) (harg11.unread y11) L11)
              ∗ owns (c : Thread nD τ) arg12 fullShare y12
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)) -∗ K ⟨⟩))
          ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_mlp_fwd_eq_skeleton]; unfold cc0_mlp_fwd_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexact H11
    isplitl [H12]
    · iexists _; isplitr; · ipureintro; exact harg12.read_unread _
      iexact H12
    isplitl [H13]; · iexists _; iexact H13
    iexists _; iexact H14

end Cert.Fwd

end
-- ==== Proof.FwdRead.lean ====
/-
  What the forward kernel's body leaves at one grid point, at any float values: each written block as its two halves of 512 rows.
-/
module

public import proofs.«01_k».proof.Proof.FwdFirst
public import proofs.«01_k».proof.Proof.FwdMiddle
public import proofs.«01_k».proof.Proof.FwdLast
public import Idealize.ShloMosaic.Lib.Pipeline.TableIdle
public import Idealize.ShloMosaic.Lib.Pipeline.ReadBack
public import Idealize.ShloMosaic.Lib.WritesUnit
public import Idealize.ShloMosaic.Lib.Pipeline.ValueKit

@[expose] public section

set_option maxRecDepth 16384

noncomputable section

namespace Cert.Fwd

open Cert.Kernel4Ideal Cert.Kernel4Ideal.Gen
open Idealize.ShloMosaic Idealize.ShloMosaic.TcCoe Idealize.ShloMosaic.Tactic

variable {F : FTy → Type} [FloatOps F]

/-- The first 512 rows of a block. -/
def top {e : EltTy} (v : Vec F S1024x1024 e) : Vec F S512x1024 e := fun y =>
  v (ix2 ⟨(y 0).val, by have : (y 0).val < 512 := (y 0).isLt; omega⟩ (y 1))
/-- The last 512 rows of a block. -/
def bot {e : EltTy} (v : Vec F S1024x1024 e) : Vec F S512x1024 e := fun y =>
  v (ix2 ⟨512 + (y 0).val, by have : (y 0).val < 512 := (y 0).isLt; omega⟩ (y 1))
/-- A block from its two halves. -/
def stack2 {e : EltTy} (a b : Vec F S512x1024 e) : Vec F S1024x1024 e := fun x =>
  if h : (x 0).val < 512 then a (ix2 ⟨(x 0).val, h⟩ (x 1))
  else b (ix2 ⟨(x 0).val - 512, by have : (x 0).val < 1024 := (x 0).isLt; omega⟩ (x 1))
/-- The same of a weight shard's columns. -/
def stack3 {e : EltTy} (a b : Vec F S1x512x704 e) : Vec F S1x1024x704 e := fun x =>
  if h : (x 1).val < 512 then a (ix3 (x 0) ⟨(x 1).val, h⟩ (x 2))
  else b (ix3 (x 0) ⟨(x 1).val - 512, by have : (x 1).val < 1024 := (x 1).isLt; omega⟩ (x 2))

/-- Two stores of half the rows leave the block of the two. -/
theorem read_halves2 {σ : RefSig} {κ : Kind} {sp : Space} {e : EltTy} (v : View σ κ sp S1024x1024 e) (f : v.ty.Contents (Elt F)) (ib it)
    (b t : Vec F S512x1024 e) (L : List (View.Piece (Elt F) S1024x1024 e)) :
    v.read (Elt F) (v.writes (Elt F) f (⟨Rect.unit ![512, 0] ![512, 1024] ib, b⟩ :: ⟨Rect.unit ![0, 0] ![512, 1024] it, t⟩ :: L))
      = stack2 t b := by
  funext y
  have hy : (y 0).val < 1024 := (y 0).isLt
  unfold stack2
  by_cases h : (y 0).val < 512
  · rw [dif_pos h]
    refine (View.read_writes_cons_unit_of_not_mem v f ib b _ y rfl 0 (Or.inl h)).trans ?_
    exact View.read_writes_cons_unit_of_mem v f it t L y (ix2 ⟨(y 0).val, h⟩ (y 1)) rfl fun d => by
      match d with
      | ⟨0, _⟩ => exact (Nat.zero_add _).symm
      | ⟨1, _⟩ => exact (Nat.zero_add _).symm
  · rw [dif_neg h]
    exact View.read_writes_cons_unit_of_mem v f ib b _ y (ix2 ⟨(y 0).val - 512, by omega⟩ (y 1)) rfl fun d => by
      match d with
      | ⟨0, _⟩ => exact (Nat.add_sub_cancel' (Nat.le_of_not_lt h)).symm
      | ⟨1, _⟩ => exact (Nat.zero_add _).symm
/-- The same of a weight shard's columns. -/
theorem read_halves3 {σ : RefSig} {κ : Kind} {sp : Space} {e : EltTy} (v : View σ κ sp S1x1024x704 e) (f : v.ty.Contents (Elt F)) (ib it)
    (b t : Vec F S1x512x704 e) (L : List (View.Piece (Elt F) S1x1024x704 e)) :
    v.read (Elt F) (v.writes (Elt F) f (⟨Rect.unit ![0, 512, 0] ![1, 512, 704] ib, b⟩ :: ⟨Rect.unit ![0, 0, 0] ![1, 512, 704] it, t⟩ :: L))
      = stack3 t b := by
  funext y
  have hy : (y 1).val < 1024 := (y 1).isLt
  unfold stack3
  by_cases h : (y 1).val < 512
  · rw [dif_pos h]
    refine (View.read_writes_cons_unit_of_not_mem v f ib b _ y rfl 1 (Or.inl h)).trans ?_
    exact View.read_writes_cons_unit_of_mem v f it t L y (ix3 (y 0) ⟨(y 1).val, h⟩ (y 2)) rfl fun d => by
      match d with
      | ⟨0, _⟩ => exact (Nat.zero_add _).symm
      | ⟨1, _⟩ => exact (Nat.zero_add _).symm
      | ⟨2, _⟩ => exact (Nat.zero_add _).symm
  · rw [dif_neg h]
    exact View.read_writes_cons_unit_of_mem v f ib b _ y (ix3 (y 0) ⟨(y 1).val - 512, by omega⟩ (y 2)) rfl fun d => by
      match d with
      | ⟨0, _⟩ => exact (Nat.zero_add _).symm
      | ⟨1, _⟩ => exact (Nat.add_sub_cancel' (Nat.le_of_not_lt h)).symm
      | ⟨2, _⟩ => exact (Nat.zero_add _).symm
/-- A store of the whole block leaves it. -/
theorem read_one {σ : RefSig} {κ : Kind} {sp : Space} {e : EltTy} (v : View σ κ sp S1024x1024 e) (f : v.ty.Contents (Elt F)) (i0)
    (w : Vec F S1024x1024 e) (L : List (View.Piece (Elt F) S1024x1024 e)) :
    v.read (Elt F) (v.writes (Elt F) f (⟨Rect.unit ![0, 0] ![1024, 1024] i0, w⟩ :: L)) = w :=
  funext fun y => View.read_writes_cons_unit_of_mem v f i0 w L y y rfl fun d => by
    match d with
    | ⟨0, _⟩ => exact (Nat.zero_add _).symm
    | ⟨1, _⟩ => exact (Nat.zero_add _).symm
/-- A load of the whole block after two such stores. -/
theorem cov_halves {σ : RefSig} {κ : Kind} {sp : Space} (v : View σ κ sp S1024x1024 .f32) (ib it i0) (b t : Vec F S512x1024 .f32) :
    v.readCov (Val := Elt F) [⟨Rect.unit ![512, 0] ![512, 1024] ib, b⟩, ⟨Rect.unit ![0, 0] ![512, 1024] it, t⟩]
      (Rect.unit ![0, 0] ![1024, 1024] i0).toLoadRect = stack2 t b :=
  (View.ld_unit_lit (S := S1024x1024) (Val := Elt F) i0 (v.read (Elt F) (v.writes (Elt F) v.junk _)) (by decide)).trans
    (read_halves2 v _ ib it b t [])
/-- A load of the first half of the rows. -/
theorem ld_top {e : EltTy} (v : Vec F S1024x1024 e) (it) : View.ld (Val := Elt F) v (Rect.unit ![0, 0] ![512, 1024] it) = top v :=
  funext fun y => View.ld_unit_apply_of (Val := Elt F) v _ _ it y _ fun a => by
    match a with
    | ⟨0, _⟩ => exact (Nat.zero_add _).symm
    | ⟨1, _⟩ => exact (Nat.zero_add _).symm
/-- A load of the last half of the rows. -/
theorem ld_bot {e : EltTy} (v : Vec F S1024x1024 e) (ib) : View.ld (Val := Elt F) v (Rect.unit ![512, 0] ![512, 1024] ib) = bot v :=
  funext fun y => View.ld_unit_apply_of (Val := Elt F) v _ _ ib y _ fun a => by
    match a with
    | ⟨0, _⟩ => rfl
    | ⟨1, _⟩ => exact (Nat.zero_add _).symm

/-- The gate's columns of one shard: the rows' product with its weights, half the rows at a time. -/
def gateOf (x5 : Vec F S1x704x1024 .bf16) (h : Vec F S1024x1024 .bf16) : Vec F S1x1024x704 .bf16 :=
  stack3 (k0_pay16 x5 (top h)) (k0_pay3 (k0_pay14 x5 (bot h)))
/-- The other factor's columns of one shard. -/
def upOf (x6 : Vec F S1x704x1024 .bf16) (h : Vec F S1024x1024 .bf16) : Vec F S1x1024x704 .bf16 :=
  stack3 (k0_pay1 (k0_pay17 x6 (top h))) (k0_pay4 (k0_pay15 x6 (bot h)))
/-- The mixture after one shard, from the mixture before it. -/
def mixOf (x5 x6 x7 : Vec F S1x704x1024 .bf16) (h : Vec F S1024x1024 .bf16) (a : Vec F S1024x1024 .f32) : Vec F S1024x1024 .f32 :=
  stack2 (k0_pay2 (k0_pay11 x7) (k0_pay12 x5 (top h)) (k0_pay13 x6 (top h)) (top a))
    (k0_pay5 (k0_pay11 x7) (k0_pay14 x5 (bot h)) (k0_pay15 x6 (bot h)) (bot a))

variable {c : Dev nD} {i : grid0.Coords}
  {arg2 : Memref sig .tc .vmem S1024x1024 .f32} {harg2 : arg2.IsWhole} {arg3 : Memref sig .tc .vmem S1x1024 .f32} {harg3 : arg3.IsWhole}
  {arg4 : Memref sig .tc .vmem S1x1024 .f32} {harg4 : arg4.IsWhole} {arg5 : Memref sig .tc .vmem S1x1024 .f32} {harg5 : arg5.IsWhole}
  {arg6 : Memref sig .tc .vmem S1x1024 .f32} {harg6 : arg6.IsWhole} {arg7 : Memref sig .tc .vmem S1x704x1024 .bf16} {harg7 : arg7.IsWhole}
  {arg8 : Memref sig .tc .vmem S1x704x1024 .bf16} {harg8 : arg8.IsWhole} {arg9 : Memref sig .tc .vmem S1x704x1024 .bf16} {harg9 : arg9.IsWhole}
  {arg10 : Memref sig .tc .vmem S1024x1024 .f32} {harg10 : arg10.IsWhole} {arg11 : Memref sig .tc .vmem S1024x1024 .f32} {harg11 : arg11.IsWhole}
  {arg12 : Memref sig .tc .vmem S1024x1024 .bf16} {harg12 : arg12.IsWhole} {arg13 : Memref sig .tc .vmem S1x1024x704 .bf16} {harg13 : arg13.IsWhole}
  {arg14 : Memref sig .tc .vmem S1x1024x704 .bf16} {harg14 : arg14.IsWhole}
  {x0 : Vec F S1024x1024 .f32} {x1 x2 x3 x4 : Vec F S1x1024 .f32} {x5 x6 x7 : Vec F S1x704x1024 .bf16}
  {y10 y11 : Vec F S1024x1024 .f32} {y12 : Vec F S1024x1024 .bf16}

/-- What the first shard leaves of the mixture. -/
theorem readFirst_11 (hc0 : k0_cond1 i = 1#1) (hc1 : ¬k0_cond2 i = 1#1) (f : arg11.view.ty.Contents (Elt F)) :
    arg11.view.read (Elt F) (arg11.view.writes (Elt F) f (atFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y10).1) = mixOf x5 x6 x7 (k0_pay7 x0 x1 x2 x3) (k0_pay8 (F := F)) := by
  unfold atFirst; dsimp only
  frame_out
  simp (disch := decide) only [View.readCov_fill, View.readCov_skip, ld_top, ld_bot]
  exact read_halves2 _ _ _ _ _ _ _
/-- What the first shard leaves of the modulated rows. -/
theorem readFirst_12 (hc0 : k0_cond1 i = 1#1) (hc1 : ¬k0_cond2 i = 1#1) (f : arg12.view.ty.Contents (Elt F)) :
    arg12.view.read (Elt F) (arg12.view.writes (Elt F) f (atFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y10).2.1) = k0_pay7 (F := F) x0 x1 x2 x3 := by
  unfold atFirst; dsimp only
  frame_out
  try simp (disch := decide) only [View.readCov_fill, View.readCov_skip, ld_top, ld_bot]
  exact read_one _ _ _ _ _
/-- What the first shard leaves of the gate. -/
theorem readFirst_13 (hc0 : k0_cond1 i = 1#1) (hc1 : ¬k0_cond2 i = 1#1) (f : arg13.view.ty.Contents (Elt F)) :
    arg13.view.read (Elt F) (arg13.view.writes (Elt F) f (atFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y10).2.2.1) = gateOf x5 (k0_pay7 x0 x1 x2 x3) := by
  unfold atFirst; dsimp only
  frame_out
  simp (disch := decide) only [View.readCov_fill, View.readCov_skip, ld_top, ld_bot]
  exact read_halves3 _ _ _ _ _ _ _
/-- What the first shard leaves of the other factor. -/
theorem readFirst_14 (hc0 : k0_cond1 i = 1#1) (hc1 : ¬k0_cond2 i = 1#1) (f : arg14.view.ty.Contents (Elt F)) :
    arg14.view.read (Elt F) (arg14.view.writes (Elt F) f (atFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y10).2.2.2.1) = upOf x6 (k0_pay7 x0 x1 x2 x3) := by
  unfold atFirst; dsimp only
  frame_out
  simp (disch := decide) only [View.readCov_fill, View.readCov_skip, ld_top, ld_bot]
  exact read_halves3 _ _ _ _ _ _ _
/-- What the middle shard leaves of the mixture. -/
theorem readMiddle_11 (hc0 : ¬k0_cond1 i = 1#1) (hc1 : ¬k0_cond2 i = 1#1) :
    arg11.view.read (Elt F) (arg11.view.writes (Elt F) (harg11.unread y11) (atMiddle c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y10 y11 y12).1) = mixOf x5 x6 x7 y12 y11 := by
  unfold atMiddle; dsimp only
  frame_out
  simp (disch := decide) only [View.readCov_fill, View.readCov_skip, ld_top, ld_bot]
  exact read_halves2 _ _ _ _ _ _ _
/-- What the middle shard leaves of the gate. -/
theorem readMiddle_13 (hc0 : ¬k0_cond1 i = 1#1) (hc1 : ¬k0_cond2 i = 1#1) (f : arg13.view.ty.Contents (Elt F)) :
    arg13.view.read (Elt F) (arg13.view.writes (Elt F) f (atMiddle c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y10 y11 y12).2.1) = gateOf x5 y12 := by
  unfold atMiddle; dsimp only
  frame_out
  simp (disch := decide) only [View.readCov_fill, View.readCov_skip, ld_top, ld_bot]
  exact read_halves3 _ _ _ _ _ _ _
/-- What the middle shard leaves of the other factor. -/
theorem readMiddle_14 (hc0 : ¬k0_cond1 i = 1#1) (hc1 : ¬k0_cond2 i = 1#1) (f : arg14.view.ty.Contents (Elt F)) :
    arg14.view.read (Elt F) (arg14.view.writes (Elt F) f (atMiddle c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y10 y11 y12).2.2.1) = upOf x6 y12 := by
  unfold atMiddle; dsimp only
  frame_out
  simp (disch := decide) only [View.readCov_fill, View.readCov_skip, ld_top, ld_bot]
  exact read_halves3 _ _ _ _ _ _ _
/-- What the last shard leaves of the result. -/
theorem readLast_10 (hc0 : ¬k0_cond1 i = 1#1) (hc1 : k0_cond2 i = 1#1) (f : arg10.view.ty.Contents (Elt F)) :
    arg10.view.read (Elt F) (arg10.view.writes (Elt F) f (atLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y11 y12).1) = k0_pay6 x0 x4 (mixOf x5 x6 x7 y12 y11) := by
  unfold atLast; dsimp only
  frame_out
  try simp (disch := decide) only [View.readCov_fill, View.readCov_skip, ld_top, ld_bot, cov_halves]
  exact read_one _ _ _ _ _
/-- What the last shard leaves of the mixture. -/
theorem readLast_11 (hc0 : ¬k0_cond1 i = 1#1) (hc1 : k0_cond2 i = 1#1) :
    arg11.view.read (Elt F) (arg11.view.writes (Elt F) (harg11.unread y11) (atLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y11 y12).2.1) = mixOf x5 x6 x7 y12 y11 := by
  unfold atLast; dsimp only
  frame_out
  simp (disch := decide) only [View.readCov_fill, View.readCov_skip, ld_top, ld_bot]
  exact read_halves2 _ _ _ _ _ _ _
/-- What the last shard leaves of the gate. -/
theorem readLast_13 (hc0 : ¬k0_cond1 i = 1#1) (hc1 : k0_cond2 i = 1#1) (f : arg13.view.ty.Contents (Elt F)) :
    arg13.view.read (Elt F) (arg13.view.writes (Elt F) f (atLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y11 y12).2.2.1) = gateOf x5 y12 := by
  unfold atLast; dsimp only
  frame_out
  simp (disch := decide) only [View.readCov_fill, View.readCov_skip, ld_top, ld_bot]
  exact read_halves3 _ _ _ _ _ _ _
/-- What the last shard leaves of the other factor. -/
theorem readLast_14 (hc0 : ¬k0_cond1 i = 1#1) (hc1 : k0_cond2 i = 1#1) (f : arg14.view.ty.Contents (Elt F)) :
    arg14.view.read (Elt F) (arg14.view.writes (Elt F) f (atLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y11 y12).2.2.2.1) = upOf x6 y12 := by
  unfold atLast; dsimp only
  frame_out
  simp (disch := decide) only [View.readCov_fill, View.readCov_skip, ld_top, ld_bot]
  exact read_halves3 _ _ _ _ _ _ _

end Cert.Fwd

end
-- ==== Proof.FwdFrame.lean ====
/-
  The run of the gated layer's forward kernel, at any float values: what each output block holds after each grid point, the
  body's triple at every point, and the run of the whole program with the outputs' arrays named.
-/
module

public import proofs.«01_k».proof.Proof.FwdRead
public import Idealize.ShloMosaic.Lib.Claim

@[expose] public section

set_option maxRecDepth 16384

noncomputable section

namespace Cert.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of a row block -/

theorem lt16 (t : Fin cfg0.N) : t.val < 16 := Nat.lt_of_lt_of_eq t.isLt N_0

theorem first_iff (t : Fin cfg0.N) : k0_cond1 (grid0.coords t) = 1#1 ↔ t.val % 4 = 0 := by
  have ht : t.val < 16 := lt16 t
  have e1 : (grid0.coords t 1).val = t.val / 1 % 4 := Pipeline.Grid.coords_val t 1 (by decide) rfl
  simp only [k0_cond1, e1]
  word_cmp
theorem last_iff (t : Fin cfg0.N) : k0_cond2 (grid0.coords t) = 1#1 ↔ t.val % 4 = 3 := by
  have ht : t.val < 16 := lt16 t
  have e1 : (grid0.coords t 1).val = t.val / 1 % 4 := Pipeline.Grid.coords_val t 1 (by decide) rfl
  simp only [k0_cond2, e1]
  word_cmp

theorem idle8 : ∀ t : Fin cfg0.N, cfg0.idle 8 (cfg0.grid.coords t) = !decide (t.val % 4 = 3) := by decide +kernel
theorem idle10 : ∀ t : Fin cfg0.N, cfg0.idle 10 (cfg0.grid.coords t) = !decide (t.val % 4 = 0) := by decide +kernel
theorem flush8 : ∀ t : Fin cfg0.N, (cfg0.win 8).flush t = decide (t.val % 4 = 3) := by decide +kernel
theorem flush10 : ∀ t : Fin cfg0.N, (cfg0.win 10).flush t = decide (t.val % 4 = 3) := by decide +kernel
theorem fresh10 : ∀ t : Fin cfg0.N, cfg0.fresh 10 t.val = decide (t.val % 4 = 0) := by decide +kernel

/-- The point before. -/
abbrev prev (t : Fin cfg0.N) : Fin cfg0.N := ⟨t.val - 1, Nat.lt_of_le_of_lt (Nat.sub_le _ _) t.isLt⟩
/-- The first point of the row block of `t`. -/
def base (t : Fin cfg0.N) : Fin cfg0.N := ⟨t.val - t.val % 4, Nat.lt_of_le_of_lt (Nat.sub_le _ _) t.isLt⟩

theorem base_first (t : Fin cfg0.N) (h : t.val % 4 = 0) : base t = t := Fin.ext (by show t.val - t.val % 4 = t.val; omega)
theorem base_prev (t : Fin cfg0.N) (h : ¬t.val % 4 = 0) : base (prev t) = base t :=
  Fin.ext (by show t.val - 1 - (t.val - 1) % 4 = t.val - t.val % 4; omega)

/-! ## What the outputs hold -/

/-- The modulated rows of point `t`'s row block. -/
def hV (c : Dev nD) (t : Fin cfg0.N) : Vec F S1024x1024 .bf16 :=
  k0_pay7 (iblk m c 0 (base t)) (iblk m c 1 (base t)) (iblk m c 2 (base t)) (iblk m c 3 (base t))
theorem hV_first (c : Dev nD) (t : Fin cfg0.N) (h : t.val % 4 = 0) :
    hV m c t = k0_pay7 (iblk m c 0 t) (iblk m c 1 t) (iblk m c 2 t) (iblk m c 3 t) := by unfold hV; rw [base_first t h]
theorem hV_prev (c : Dev nD) (t : Fin cfg0.N) (h : ¬t.val % 4 = 0) : hV m c (prev t) = hV m c t := by
  unfold hV; rw [base_prev t h]

/-- The mixture after point `n`: the shares of the row block's shards so far. -/
def mixN (c : Dev nD) : ∀ n, n < cfg0.N → Vec F S1024x1024 .f32
  | 0, p => mixOf (iblk m c 5 ⟨0, p⟩) (iblk m c 6 ⟨0, p⟩) (iblk m c 7 ⟨0, p⟩) (hV m c ⟨0, p⟩) (k0_pay8 (F := F))
  | n + 1, p => mixOf (iblk m c 5 ⟨n + 1, p⟩) (iblk m c 6 ⟨n + 1, p⟩) (iblk m c 7 ⟨n + 1, p⟩) (hV m c ⟨n + 1, p⟩)
      (if (n + 1) % 4 = 0 then k0_pay8 (F := F) else mixN c n (Nat.lt_of_succ_lt p))
def mixV (c : Dev nD) (t : Fin cfg0.N) : Vec F S1024x1024 .f32 := mixN m c t.val t.isLt

theorem mix_first (c : Dev nD) (t : Fin cfg0.N) (h : t.val % 4 = 0) :
    mixV m c t = mixOf (iblk m c 5 t) (iblk m c 6 t) (iblk m c 7 t) (hV m c t) (k0_pay8 (F := F)) := by
  obtain ⟨n, p⟩ := t
  cases n with
  | zero => rfl
  | succ n => unfold mixV; rw [mixN, if_pos h]
theorem mix_next (c : Dev nD) (t : Fin cfg0.N) (h : ¬t.val % 4 = 0) :
    mixV m c t = mixOf (iblk m c 5 t) (iblk m c 6 t) (iblk m c 7 t) (hV m c t) (mixV m c (prev t)) := by
  obtain ⟨n, p⟩ := t
  cases n with
  | zero => exact absurd rfl h
  | succ n => unfold mixV; rw [mixN, if_neg h]; rfl

def gateV (c : Dev nD) (t : Fin cfg0.N) : Vec F S1x1024x704 .bf16 := gateOf (iblk m c 5 t) (hV m c t)
def upV (c : Dev nD) (t : Fin cfg0.N) : Vec F S1x1024x704 .bf16 := upOf (iblk m c 6 t) (hV m c t)
def outV (c : Dev nD) (t : Fin cfg0.N) : Vec F S1024x1024 .f32 := k0_pay6 (iblk m c 0 t) (iblk m c 4 t) (mixV m c t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outV m c t
    | ⟨9, _⟩ => mixV m c t
    | ⟨10, _⟩ => hV m c t
    | ⟨11, _⟩ => gateV m c t
    | ⟨12, _⟩ => upV m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outV m c t := by dsimp only [dats]
theorem after_9 (c : Dev nD) (t : Fin cfg0.N) : (dats m 0 c).after 9 t = mixV m c t := by dsimp only [dats]
theorem after_10 (c : Dev nD) (t : Fin cfg0.N) : (dats m 0 c).after 10 t = hV m c t := by dsimp only [dats]
theorem after_11 (c : Dev nD) (t : Fin cfg0.N) : (dats m 0 c).after 11 t = gateV m c t := by dsimp only [dats]
theorem after_12 (c : Dev nD) (t : Fin cfg0.N) : (dats m 0 c).after 12 t = upV m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Past a row block's first shard the mixture holds what the point before left. -/
theorem before_9 (c : Dev nD) (t : Fin cfg0.N) (h0 : ¬t.val % 4 = 0) (d) : (dats m 0 c).before 9 t d = mixV m c (prev t) :=
  ((dats m 0 c).before_out_kept 9 rfl t (by omega) (Bool.eq_false_iff.mpr fun hf => by
    have := (flush0_9 _).mp hf
    simp only at this; omega) (fun _ => rfl) (fun _ _ => rfl) d).trans (after_9 m c _)
/-- Past a row block's first shard the modulated rows are kept. -/
theorem before_10 (c : Dev nD) (t : Fin cfg0.N) (h0 : ¬t.val % 4 = 0) (d) : (dats m 0 c).before 10 t d = hV m c t := by
  refine ((dats m 0 c).before_out_traj 10 rfl (fun _ _ => rfl) (fun s hs hi _ => ?_) t.val t rfl d).trans ?_
  · rw [after_10, after_10]
    rw [idle10] at hi
    exact (hV_prev m c s (by simpa using hi)).symm
  · rw [fresh10, decide_eq_false h0, if_neg (by decide), after_10]
    exact hV_prev m c t h0

/-! ## The body at a point -/

abbrev mem0 (t : Fin cfg0.N) : Memref sig .tc .vmem S1024x1024 .f32 := win0_0.stage (cfg0.slots t 0)
abbrev mem1 (t : Fin cfg0.N) : Memref sig .tc .vmem S1x1024 .f32 := win0_1.stage (cfg0.slots t 1)
abbrev mem2 (t : Fin cfg0.N) : Memref sig .tc .vmem S1x1024 .f32 := win0_2.stage (cfg0.slots t 2)
abbrev mem3 (t : Fin cfg0.N) : Memref sig .tc .vmem S1x1024 .f32 := win0_3.stage (cfg0.slots t 3)
abbrev mem4 (t : Fin cfg0.N) : Memref sig .tc .vmem S1x1024 .f32 := win0_4.stage (cfg0.slots t 4)
abbrev mem5 (t : Fin cfg0.N) : Memref sig .tc .vmem S1x704x1024 .bf16 := win0_5.stage (cfg0.slots t 5)
abbrev mem6 (t : Fin cfg0.N) : Memref sig .tc .vmem S1x704x1024 .bf16 := win0_6.stage (cfg0.slots t 6)
abbrev mem7 (t : Fin cfg0.N) : Memref sig .tc .vmem S1x704x1024 .bf16 := win0_7.stage (cfg0.slots t 7)
abbrev mem8 (t : Fin cfg0.N) : Memref sig .tc .vmem S1024x1024 .f32 := win0_8.stage (cfg0.slots t 8)
abbrev mem9 (t : Fin cfg0.N) : Memref sig .tc .vmem S1024x1024 .f32 := win0_9.stage (cfg0.slots t 9)
abbrev mem10 (t : Fin cfg0.N) : Memref sig .tc .vmem S1024x1024 .bf16 := win0_10.stage (cfg0.slots t 10)
abbrev mem11 (t : Fin cfg0.N) : Memref sig .tc .vmem S1x1024x704 .bf16 := win0_11.stage (cfg0.slots t 11)
abbrev mem12 (t : Fin cfg0.N) : Memref sig .tc .vmem S1x1024x704 .bf16 := win0_12.stage (cfg0.slots t 12)

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d))
    ∗ (∃ d, owns (c : Thread nD τ) (mem12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ (match cfg0.idle 8 (cfg0.grid.coords t) with
      | true => match (cfg0.win 8).flush t with
        | false => iprop(∃ d, owns (c : Thread nD τ) (mem8 t) fullShare ((dats m 0 c).before 8 t d))
        | true => owns (c : Thread nD τ) (mem8 t) fullShare ((dats m 0 c).after 8 t)
      | false => owns (c : Thread nD τ) (mem8 t) fullShare ((dats m 0 c).after 8 t))
    ∗ owns (c : Thread nD τ) (mem9 t) fullShare ((dats m 0 c).after 9 t)
    ∗ (match cfg0.idle 10 (cfg0.grid.coords t) with
      | true => match (cfg0.win 10).flush t with
        | false => iprop(∃ d, owns (c : Thread nD τ) (mem10 t) fullShare ((dats m 0 c).before 10 t d))
        | true => owns (c : Thread nD τ) (mem10 t) fullShare ((dats m 0 c).after 10 t)
      | false => owns (c : Thread nD τ) (mem10 t) fullShare ((dats m 0 c).after 10 t))
    ∗ owns (c : Thread nD τ) (mem11 t) fullShare ((dats m 0 c).after 11 t)
    ∗ owns (c : Thread nD τ) (mem12 t) fullShare ((dats m 0 c).after 12 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [idle8, idle10, flush8, flush10]
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  have hN : t.val < 16 := lt16 t
  by_cases h0 : t.val % 4 = 0
  · have h1 : ¬t.val % 4 = 3 := by omega
    rw [decide_eq_false h1, decide_eq_true h0]; simp only [Bool.not_true, Bool.not_false]
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((atFirst (F := F) c (grid0.coords t) _ _ _ _ _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) (iblk m c 6 t) (iblk m c 7 t) ((dats m 0 c).before 8 t d8)).2.2.2.property Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, ⟨%f9, H9⟩, ⟨%f10, H10⟩, ⟨%f11, H11⟩, ⟨%f12, H12⟩⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists d8; iexact H8
    isplitl [H9]
    · unfold owns; iexists _; isplitr
      swap
      · iexact H9
      ipureintro; exact (readFirst_11 ((first_iff t).mpr h0) (fun h => h1 ((last_iff t).mp h)) _).trans (by rw [mix_first m c t h0, hV_first m c t h0])
    isplitl [H10]
    · unfold owns; iexists _; isplitr
      swap
      · iexact H10
      ipureintro; exact (readFirst_12 ((first_iff t).mpr h0) (fun h => h1 ((last_iff t).mp h)) _).trans (hV_first m c t h0).symm
    isplitl [H11]
    · unfold owns; iexists _; isplitr
      swap
      · iexact H11
      ipureintro; exact (readFirst_13 ((first_iff t).mpr h0) (fun h => h1 ((last_iff t).mp h)) _).trans (by unfold gateV; rw [hV_first m c t h0])
    unfold owns; iexists _; isplitr
    swap
    · iexact H12
    ipureintro; exact (readFirst_14 ((first_iff t).mpr h0) (fun h => h1 ((last_iff t).mp h)) _).trans (by unfold upV; rw [hV_first m c t h0])
  · simp only [before_9 m c t h0]
    by_cases h1 : t.val % 4 = 3
    · rw [decide_eq_true h1, decide_eq_false h0]; simp only [Bool.not_true, Bool.not_false]
      simp only [before_10 m c t h0]
      iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((atLast (F := F) c (grid0.coords t) _ _ _ _ _ _ _ _ _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (iblk m c 6 t) (iblk m c 7 t) (mixV m c (prev t)) (hV m c t)).2.2.2.property Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexists _; iexact H11
      isplitl [H12]; · iexists _; iexact H12
      iintro ⟨H0, H1, H2, H3, H4, H5, H6, H7, ⟨%f8, H8⟩, H9, H10, ⟨%f11, H11⟩, ⟨%f12, H12⟩⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap
        · iexact H8
        ipureintro; exact (readLast_10 (fun h => h0 ((first_iff t).mp h)) ((last_iff t).mpr h1) _).trans (by unfold outV; rw [mix_next m c t h0])
      isplitl [H9]
      · unfold owns; iexists _; isplitr
        swap
        · iexact H9
        ipureintro; exact (readLast_11 (fun h => h0 ((first_iff t).mp h)) ((last_iff t).mpr h1)).trans (mix_next m c t h0).symm
      isplitl [H10]
      · iexact H10
      isplitl [H11]
      · unfold owns; iexists _; isplitr
        swap
        · iexact H11
        ipureintro; exact (readLast_13 (fun h => h0 ((first_iff t).mp h)) ((last_iff t).mpr h1) _).trans rfl
      unfold owns; iexists _; isplitr
      swap
      · iexact H12
      ipureintro; exact (readLast_14 (fun h => h0 ((first_iff t).mp h)) ((last_iff t).mpr h1) _).trans rfl
    · rw [decide_eq_false h1, decide_eq_false h0]; simp only [Bool.not_true, Bool.not_false]
      iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      rw [before_10 m c t h0]
      iapply ((atMiddle (F := F) c (grid0.coords t) _ _ _ _ _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) ((dats m 0 c).before 8 t d8) (mixV m c (prev t)) (hV m c t)).2.2.property Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iintro ⟨H0, H1, H2, H3, H4, H5, H6, H7, H8, H9, H10, ⟨%f11, H11⟩, ⟨%f12, H12⟩⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · iexists d8; iexact H8
      isplitl [H9]
      · unfold owns; iexists _; isplitr
        swap
        · iexact H9
        ipureintro; exact (readMiddle_11 (fun h => h0 ((first_iff t).mp h)) (fun h => h1 ((last_iff t).mp h))).trans (mix_next m c t h0).symm
      isplitl [H10]
      · iexists d10; rw [before_10 m c t h0]; iexact H10
      isplitl [H11]
      · unfold owns; iexists _; isplitr
        swap
        · iexact H11
        ipureintro; exact (readMiddle_13 (fun h => h0 ((first_iff t).mp h)) (fun h => h1 ((last_iff t).mp h)) _).trans rfl
      unfold owns; iexists _; isplitr
      swap
      · iexact H12
      ipureintro; exact (readMiddle_14 (fun h => h0 ((first_iff t).mp h)) (fun h => h1 ((last_iff t).mp h)) _).trans rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The program runs; its arrays end as the proof data say; and every counter is zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, its arguments end unchanged, every counter is zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Fwd

end
-- ==== Proof.FwdBlock.lean ====
/-
  The forward kernel's values at an index of a block, over the reals with their infinities.
-/
module

public import proofs.«01_k».proof.Proof.FwdRead
public import proofs.«01_k».proof.Proof.MlpMath
public import proofs.«01_k».proof.Proof.ProjMath

@[expose] public section

set_option maxRecDepth 16384

noncomputable section

namespace Cert.Fwd

open Cert.Mlp Cert.Proj
open Cert.Kernel4Ideal Cert.Kernel4Ideal.Gen
open Idealize.ShloMosaic Idealize.ShloMosaic.TcCoe Idealize.ShloMosaic.Tactic

variable (x a : Vec Ideal S1024x1024 .f32) (n s k : Vec Ideal S1x1024 .f32) (w v p : Vec Ideal S1x704x1024 .bf16) (h : Vec Ideal S1024x1024 .bf16)
  (b : Vec Ideal S512x1024 .bf16) (e : Vec Ideal S512x1024 .f32) (g u : FVec Ideal S512x704 .f32)

theorem pay7_at (r d : Fin 1024) : k0_pay7 x n s k (ix2 r d) = H (el2 x r.val) (el2 n 0) (el2 s 0) (el2 k 0) d.val := by
  open_payloads; pointwise
  simp only [el2_ix x, el2_ix n, el2_ix s, el2_ix k]
  rfl

theorem pay8_at (r d : Fin 1024) : k0_pay8 (F := Ideal) (ix2 r d) = (0 : EReal) := by
  open_payloads; pointwise

theorem pay6_at (r d : Fin 1024) : k0_pay6 x n a (ix2 r d) = x (ix2 r d) + n (ix2 0 d) * a (ix2 r d) := by
  open_payloads; pointwise

/-! ## Half the rows -/

theorem pay12_at (r : Fin 512) (f : Fin 704) : k0_pay12 w b (ix2 r f) = ∑ d : Fin 1024, b (ix2 r d) * w (ix3 0 f d) := by
  open_payloads; pointwise
theorem pay13_at (r : Fin 512) (f : Fin 704) : k0_pay13 w b (ix2 r f) = ∑ d : Fin 1024, b (ix2 r d) * w (ix3 0 f d) := by
  open_payloads; pointwise
theorem pay14_at (r : Fin 512) (f : Fin 704) : k0_pay14 w b (ix2 r f) = ∑ d : Fin 1024, b (ix2 r d) * w (ix3 0 f d) := by
  open_payloads; pointwise
theorem pay15_at (r : Fin 512) (f : Fin 704) : k0_pay15 w b (ix2 r f) = ∑ d : Fin 1024, b (ix2 r d) * w (ix3 0 f d) := by
  open_payloads; pointwise

theorem pay16_at (z : Fin 1) (r : Fin 512) (f : Fin 704) : k0_pay16 w b (ix3 z r f) = ∑ d : Fin 1024, b (ix2 r d) * w (ix3 0 f d) := by
  open_payloads; pointwise
theorem pay1_at (z : Fin 1) (r : Fin 512) (f : Fin 704) : k0_pay1 (k0_pay17 w b) (ix3 z r f) = ∑ d : Fin 1024, b (ix2 r d) * w (ix3 0 f d) := by
  open_payloads; pointwise
theorem pay3_at (z : Fin 1) (r : Fin 512) (f : Fin 704) : k0_pay3 g (ix3 z r f) = g (ix2 r f) := by
  open_payloads; pointwise
theorem pay4_at (z : Fin 1) (r : Fin 512) (f : Fin 704) : k0_pay4 g (ix3 z r f) = g (ix2 r f) := by
  open_payloads; pointwise

theorem pay2_at (r : Fin 512) (d : Fin 1024) :
    k0_pay2 (k0_pay11 p) g u e (ix2 r d) = e (ix2 r d) + ∑ f : Fin 704, act (g (ix2 r f)) (u (ix2 r f)) * p (ix3 0 f d) := by
  open_payloads; pointwise; rfl
theorem pay5_at (r : Fin 512) (d : Fin 1024) :
    k0_pay5 (k0_pay11 p) g u e (ix2 r d) = e (ix2 r d) + ∑ f : Fin 704, act (g (ix2 r f)) (u (ix2 r f)) * p (ix3 0 f d) := by
  open_payloads; pointwise; rfl

/-! ## All the rows of a block -/

theorem top_at {t : EltTy} (q : Vec Ideal S1024x1024 t) (r : Fin 1024) (hr : r.val < 512) (d : Fin 1024) : top q (ix2 ⟨r.val, hr⟩ d) = q (ix2 r d) := rfl

theorem bot_at {t : EltTy} (q : Vec Ideal S1024x1024 t) (r : Fin 1024) (hr : ¬r.val < 512) (d : Fin 1024) :
    bot q (ix2 ⟨r.val - 512, by have := r.isLt; omega⟩ d) = q (ix2 r d) :=
  congrArg (fun i => q (ix2 i d)) (Fin.ext (by show 512 + (r.val - 512) = r.val; omega))

/-- A row of a block through a weight shard. -/
def prod (r : Fin 1024) (f : Fin 704) : EReal := ∑ d : Fin 1024, h (ix2 r d) * w (ix3 0 f d)

theorem half_top (r : Fin 1024) (hr : r.val < 512) (f : Fin 704) :
    (∑ d : Fin 1024, top h (ix2 ⟨r.val, hr⟩ d) * w (ix3 0 f d)) = prod w h r f := rfl

theorem half_bot (r : Fin 1024) (hr : ¬r.val < 512) (f : Fin 704) :
    (∑ d : Fin 1024, bot h (ix2 ⟨r.val - 512, by have := r.isLt; omega⟩ d) * w (ix3 0 f d)) = prod w h r f :=
  Finset.sum_congr rfl fun d _ => congrArg (· * w (ix3 0 f d)) (bot_at h r hr d)

theorem gate_at (z : Fin 1) (r : Fin 1024) (f : Fin 704) : gateOf w h (ix3 z r f) = prod w h r f := by
  unfold gateOf stack3
  by_cases hr : r.val < 512
  · refine (dif_pos hr).trans ?_
    exact (pay16_at w (top h) z ⟨r.val, hr⟩ f).trans (half_top w h r hr f)
  · refine (dif_neg hr).trans ?_
    refine (pay3_at (k0_pay14 w (bot h)) z ⟨r.val - 512, by have := r.isLt; omega⟩ f).trans ?_
    exact (pay14_at w (bot h) _ f).trans (half_bot w h r hr f)

theorem up_at (z : Fin 1) (r : Fin 1024) (f : Fin 704) : upOf w h (ix3 z r f) = prod w h r f := by
  unfold upOf stack3
  by_cases hr : r.val < 512
  · refine (dif_pos hr).trans ?_
    exact (pay1_at w (top h) z ⟨r.val, hr⟩ f).trans (half_top w h r hr f)
  · refine (dif_neg hr).trans ?_
    refine (pay4_at (k0_pay15 w (bot h)) z ⟨r.val - 512, by have := r.isLt; omega⟩ f).trans ?_
    exact (pay15_at w (bot h) _ f).trans (half_bot w h r hr f)

theorem mixOf_at (r d : Fin 1024) :
    mixOf w v p h a (ix2 r d) = a (ix2 r d) + ∑ f : Fin 704, act (prod w h r f) (prod v h r f) * p (ix3 0 f d) := by
  unfold mixOf stack2
  by_cases hr : r.val < 512
  · refine (dif_pos hr).trans ?_
    refine (pay2_at p (top a) _ _ ⟨r.val, hr⟩ d).trans ?_
    simp only [pay12_at, pay13_at, half_top]
    rfl
  · refine (dif_neg hr).trans ?_
    refine (pay5_at p (bot a) _ _ ⟨r.val - 512, by have := r.isLt; omega⟩ d).trans ?_
    rw [bot_at a r hr d]
    refine congrArg (a (ix2 r d) + ·) (Finset.sum_congr rfl fun f _ => ?_)
    rw [pay14_at, pay15_at, half_bot w h r hr f, half_bot v h r hr f]

end Cert.Fwd

end
-- ==== Proof.FwdMath.lean ====
/-
  The forward pass of the gated layer over the reals with their infinities, as a function of indices.
-/
module

public import proofs.«01_k».proof.Proof.MlpMath
public import proofs.«01_k».proof.Proof.ProjMath

@[expose] public section

noncomputable section

namespace Cert.Fwd

open Cert.Mlp
open Idealize.ShloMosaic Idealize.ShloMosaic.TcCoe Idealize.ShloMosaic.Tactic

variable (h : ℕ → ℕ → EReal) (w p : ℕ → ℕ → ℕ → EReal)

/-- What one shard adds to a row of the mixture, and the mixture. -/
def Share (r d j : ℕ) : EReal := ∑ f : Fin 704, Ac h w j r f.val * p j f.val d
def Mix (r d : ℕ) : EReal := ∑ j : Fin 4, Share h w p r d j.val

theorem exists_ix3 {A B C : ℕ} (x : (⟨3, ![A, B, C]⟩ : Shape).Idx) : ∃ a b c, x = ix3 a b c :=
  ⟨x 0, x 1, x 2, funext fun d => match d with | 0 => rfl | 1 => rfl | 2 => rfl⟩

end Cert.Fwd

end
-- ==== Proof.FwdArr.lean ====
/-
  What the forward kernel leaves in its five result arrays.
-/
module

public import proofs.«01_k».proof.Proof.FwdFrame
public import proofs.«01_k».proof.Proof.FwdBlock
public import proofs.«01_k».proof.Proof.FwdMath
public import Idealize.ShloMosaic.Lib.Claim
public import Idealize.ShloMosaic.Lib.Pipeline.ValueKit.Geometry
public import Idealize.ShloMosaic.Lib.Pipeline.ValueKit.Point

@[expose] public section

set_option maxRecDepth 16384

noncomputable section

namespace Cert.Fwd

open Cert.Mlp Cert.Proj
open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- The arguments. -/
abbrev A0 : FVec Ideal S4096x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S1x1024 .f32 := m ((c : Thread nD τ).loc main_arg3)
abbrev A4 : FVec Ideal S1x1024 .f32 := m ((c : Thread nD τ).loc main_arg4)
abbrev A5 : FVec Ideal S8x704x1024 .f32 := m ((c : Thread nD τ).loc main_arg5)
abbrev A6 : FVec Ideal S4x704x1024 .f32 := m ((c : Thread nD τ).loc main_arg6)

theorem V_wgu : V m c main_v0 = truncf .bf16 (A5 m c) bitsLt_bf16_f32 := by
  entry_read
  rfl
theorem V_wd : V m c main_v1 = truncf .bf16 (A6 m c) bitsLt_bf16_f32 := by
  entry_read
  rfl

/-! ## The blocks of a point -/

theorem j_lt (t : Fin cfg0.N) : t.val % 4 < 4 := by omega
theorem j_lt8 (t : Fin cfg0.N) : t.val % 4 < 8 := by omega
theorem up_lt (t : Fin cfg0.N) : 4 + t.val % 4 < 8 := by omega
theorem row_lt (t : Fin cfg0.N) (r : Fin 1024) : 1024 * (t.val / 4) + r.val < 4096 := by have := r.isLt; have := lt16 t; omega

/-- A row of a block, as a row of its array. -/
abbrev row (t : Fin cfg0.N) (r : Fin 1024) : Fin 4096 := ⟨1024 * (t.val / 4) + r.val, row_lt t r⟩

theorem idx_0 : ∀ t : Fin cfg0.N, win0_0.index t = ![t.val / 4, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![t.val % 4, 0, 0] := by decide +kernel
theorem idx_6 : ∀ t : Fin cfg0.N, win0_6.index t = ![4 + t.val % 4, 0, 0] := by decide +kernel
theorem idx_7 : ∀ t : Fin cfg0.N, win0_7.index t = ![t.val % 4, 0, 0] := by decide +kernel
theorem idx_8 : ∀ t : Fin cfg0.N, win0_8.index t = ![t.val / 4, 0] := by decide +kernel
theorem idx_9 : ∀ t : Fin cfg0.N, win0_9.index t = ![t.val / 4, 0] := by decide +kernel
theorem idx_10 : ∀ t : Fin cfg0.N, win0_10.index t = ![t.val / 4, 0] := by decide +kernel
theorem idx_11 : ∀ t : Fin cfg0.N, win0_11.index t = ![t.val % 4, t.val / 4, 0] := by decide +kernel
theorem idx_12 : ∀ t : Fin cfg0.N, win0_12.index t = ![t.val % 4, t.val / 4, 0] := by decide +kernel

theorem blk_0 (t : Fin cfg0.N) (r d : Fin 1024) : (iblk m c 0 t : S1024x1024.Idx → EReal) (ix2 r d) = A0 m c (ix2 (row t r) d) := by
  have e : (iblk m c 0 t : S1024x1024.Idx → EReal) (ix2 r d) = (V m c main_arg0 : S4096x1024.Idx → EReal) (ix2 (row t r) d) := by
    blk_point [iblk, idx_0 t] <;> (simp; try omega)
  rw [e, V_main_arg0]

theorem row_0 (t : Fin cfg0.N) (r : Fin 1024) : el2 (iblk m c 0 t : S1024x1024.Idx → EReal) r.val = el2 (A0 m c) (1024 * (t.val / 4) + r.val) :=
  el2_row (iblk m c 0 t : S1024x1024.Idx → EReal) (A0 m c) r (row t r) fun l => blk_0 m c t r l

theorem row_1 (t : Fin cfg0.N) : el2 (iblk m c 1 t : S1x1024.Idx → EReal) 0 = el2 (A1 m c) 0 := by
  refine el2_row _ (A1 m c) 0 0 fun l => ?_
  have e : (iblk m c 1 t : S1x1024.Idx → EReal) (ix2 0 l) = (V m c main_arg1 : S1x1024.Idx → EReal) (ix2 0 l) := by
    blk_point [iblk, idx_1 t] <;> (simp; try omega)
  rw [e, V_main_arg1]

theorem row_2 (t : Fin cfg0.N) : el2 (iblk m c 2 t : S1x1024.Idx → EReal) 0 = el2 (A2 m c) 0 := by
  refine el2_row _ (A2 m c) 0 0 fun l => ?_
  have e : (iblk m c 2 t : S1x1024.Idx → EReal) (ix2 0 l) = (V m c main_arg2 : S1x1024.Idx → EReal) (ix2 0 l) := by
    blk_point [iblk, idx_2 t] <;> (simp; try omega)
  rw [e, V_main_arg2]

theorem row_3 (t : Fin cfg0.N) : el2 (iblk m c 3 t : S1x1024.Idx → EReal) 0 = el2 (A3 m c) 0 := by
  refine el2_row _ (A3 m c) 0 0 fun l => ?_
  have e : (iblk m c 3 t : S1x1024.Idx → EReal) (ix2 0 l) = (V m c main_arg3 : S1x1024.Idx → EReal) (ix2 0 l) := by
    blk_point [iblk, idx_3 t] <;> (simp; try omega)
  rw [e, V_main_arg3]

theorem blk_4 (t : Fin cfg0.N) (d : Fin 1024) : (iblk m c 4 t : S1x1024.Idx → EReal) (ix2 0 d) = el2 (A4 m c) 0 d.val := by
  have e : (iblk m c 4 t : S1x1024.Idx → EReal) (ix2 0 d) = (V m c main_arg4 : S1x1024.Idx → EReal) (ix2 0 d) := by
    blk_point [iblk, idx_4 t] <;> (simp; try omega)
  rw [e, V_main_arg4]
  exact el2_ix (A4 m c) 0 d

theorem blk_5 (t : Fin cfg0.N) (z : Fin 1) (f : Fin 704) (d : Fin 1024) :
    (iblk m c 5 t : S1x704x1024.Idx → EReal) (ix3 z f d) = el3 (A5 m c) (t.val % 4) f.val d.val := by
  have e : (iblk m c 5 t : S1x704x1024.Idx → EReal) (ix3 z f d) = (V m c main_v0 : S8x704x1024.Idx → EReal) (ix3 ⟨t.val % 4, j_lt8 t⟩ f d) := by
    blk_point [iblk, idx_5 t] <;> (simp; try omega)
  rw [e, V_wgu, ← el3_ix (A5 m c) ⟨t.val % 4, j_lt8 t⟩ f d]
  rfl

theorem blk_6 (t : Fin cfg0.N) (z : Fin 1) (f : Fin 704) (d : Fin 1024) :
    (iblk m c 6 t : S1x704x1024.Idx → EReal) (ix3 z f d) = el3 (A5 m c) (4 + t.val % 4) f.val d.val := by
  have e : (iblk m c 6 t : S1x704x1024.Idx → EReal) (ix3 z f d) = (V m c main_v0 : S8x704x1024.Idx → EReal) (ix3 ⟨4 + t.val % 4, up_lt t⟩ f d) := by
    blk_point [iblk, idx_6 t] <;> (simp; try omega)
  rw [e, V_wgu, ← el3_ix (A5 m c) ⟨4 + t.val % 4, up_lt t⟩ f d]
  rfl

theorem blk_7 (t : Fin cfg0.N) (z : Fin 1) (f : Fin 704) (d : Fin 1024) :
    (iblk m c 7 t : S1x704x1024.Idx → EReal) (ix3 z f d) = el3 (A6 m c) (t.val % 4) f.val d.val := by
  have e : (iblk m c 7 t : S1x704x1024.Idx → EReal) (ix3 z f d) = (V m c main_v1 : S4x704x1024.Idx → EReal) (ix3 ⟨t.val % 4, j_lt t⟩ f d) := by
    blk_point [iblk, idx_7 t] <;> (simp; try omega)
  rw [e, V_wd, ← el3_ix (A6 m c) ⟨t.val % 4, j_lt t⟩ f d]
  rfl

/-! ## The layer of the arguments -/

/-- The results: the modulated rows, the gate, the other factor, the mixture, the sum with the input. -/
abbrev gH (r d : ℕ) : EReal := H (el2 (A0 m c) r) (el2 (A1 m c) 0) (el2 (A2 m c) 0) (el2 (A3 m c) 0) d
abbrev gG (j r f : ℕ) : EReal := Ga (gH m c) (el3 (A5 m c)) j r f
abbrev gU (j r f : ℕ) : EReal := Up (gH m c) (el3 (A5 m c)) j r f
abbrev gM (r d : ℕ) : EReal := Mix (gH m c) (el3 (A5 m c)) (el3 (A6 m c)) r d
abbrev gO (r d : ℕ) : EReal := el2 (A0 m c) r d + el2 (A4 m c) 0 d * gM m c r d

section point
variable (t : Fin cfg0.N) (z : Fin 1) (r d : Fin 1024) (f : Fin 704)

theorem hV_at : hV m c t (ix2 r d) = gH m c (1024 * (t.val / 4) + r.val) d.val := by
  have e : (base t).val / 4 = t.val / 4 := by show (t.val - t.val % 4) / 4 = t.val / 4; omega
  unfold hV
  rw [pay7_at, row_0, row_1, row_2, row_3, e]

theorem gate_point : prod (iblk m c 5 t) (hV m c t) r f = gG m c (t.val % 4) (1024 * (t.val / 4) + r.val) f.val :=
  Finset.sum_congr rfl fun d _ => by rw [hV_at, blk_5]

theorem up_point : prod (iblk m c 6 t) (hV m c t) r f = gU m c (t.val % 4) (1024 * (t.val / 4) + r.val) f.val :=
  Finset.sum_congr rfl fun d _ => by rw [hV_at, blk_6]

theorem share_point (a : Vec Ideal S1024x1024 .f32) : mixOf (iblk m c 5 t) (iblk m c 6 t) (iblk m c 7 t) (hV m c t) a (ix2 r d)
    = a (ix2 r d) + Share (gH m c) (el3 (A5 m c)) (el3 (A6 m c)) (1024 * (t.val / 4) + r.val) d.val (t.val % 4) := by
  rw [mixOf_at]
  refine congrArg (a (ix2 r d) + ·) (Finset.sum_congr rfl fun f _ => ?_)
  rw [gate_point, up_point, blk_7]
  rfl

end point

/-! ## The running mixture -/

theorem mix_run (r d : Fin 1024) : ∀ (n : ℕ) (h : n < cfg0.N), mixV m c ⟨n, h⟩ (ix2 r d)
    = ∑ j ∈ Finset.range (n % 4 + 1), Share (gH m c) (el3 (A5 m c)) (el3 (A6 m c)) (1024 * (n / 4) + r.val) d.val j := by
  intro n
  induction n with
  | zero =>
    intro h
    rw [mix_first m c ⟨0, h⟩ rfl, share_point, pay8_at, zero_add]
    simp
  | succ n ih =>
    intro h
    by_cases h0 : (n + 1) % 4 = 0
    · rw [mix_first m c ⟨n + 1, h⟩ h0, share_point, pay8_at, zero_add, h0]
      simp [h0]
    · rw [mix_next m c ⟨n + 1, h⟩ h0, share_point]
      have e1 : (n + 1) / 4 = n / 4 := by omega
      have e2 : (n + 1) % 4 = n % 4 + 1 := by omega
      refine (congrArg (· + _) (ih (Nat.lt_of_succ_lt h))).trans ?_
      show _ + Share _ _ _ (1024 * ((n + 1) / 4) + r.val) d.val ((n + 1) % 4) = _
      rw [e1, e2, Finset.sum_range_succ _ (n % 4 + 1)]

theorem mix_last (t : Fin cfg0.N) (h : t.val % 4 = 3) (r d : Fin 1024) : mixV m c t (ix2 r d) = gM m c (1024 * (t.val / 4) + r.val) d.val := by
  rw [mix_run m c r d t.val t.isLt, h]
  exact (Fin.sum_univ_eq_sum_range (fun j => Share (gH m c) (el3 (A5 m c)) (el3 (A6 m c)) (1024 * (t.val / 4) + r.val) d.val j) 4).symm

theorem out_last (t : Fin cfg0.N) (h : t.val % 4 = 3) (r d : Fin 1024) : outV m c t (ix2 r d) = gO m c (1024 * (t.val / 4) + r.val) d.val := by
  unfold outV
  rw [pay6_at, mix_last m c t h, blk_4, blk_0, el2_ix (A0 m c) (row t r) d]

/-! ## The arrays -/

theorem arr_8 : (dats m 0 c).arrAt 8 cfg0.N = (of2 (gO m c) : S4096x1024.Idx → EReal) := by
  refine (dats m 0 c).arrAt_eq_of_covers 8 _ (by decide +kernel) fun t hf y => ?_
  blk_simp
  rw [after_8]
  have e0 : ((win0_8.blk t).view.emb y 0).val = 1024 * (t.val / 4) + (y 0).val := by blk_simp [idx_8 t] <;> (simp; try omega)
  have e1 : ((win0_8.blk t).view.emb y 1).val = (y 1).val := by blk_simp [idx_8 t] <;> (simp; try omega)
  unfold of2
  rw [e0, e1]
  obtain ⟨r, d, rfl⟩ := exists_ix2 y
  exact out_last m c t ((flush0_8 t).mp hf) r d

theorem arr_9 : (dats m 0 c).arrAt 9 cfg0.N = (of2 (gM m c) : S4096x1024.Idx → EReal) := by
  refine (dats m 0 c).arrAt_eq_of_covers 9 _ (by decide +kernel) fun t hf y => ?_
  blk_simp
  rw [after_9]
  have e0 : ((win0_9.blk t).view.emb y 0).val = 1024 * (t.val / 4) + (y 0).val := by blk_simp [idx_9 t] <;> (simp; try omega)
  have e1 : ((win0_9.blk t).view.emb y 1).val = (y 1).val := by blk_simp [idx_9 t] <;> (simp; try omega)
  unfold of2
  rw [e0, e1]
  obtain ⟨r, d, rfl⟩ := exists_ix2 y
  exact mix_last m c t ((flush0_9 t).mp hf) r d

theorem arr_10 : (dats m 0 c).arrAt 10 cfg0.N = (of2 (gH m c) : S4096x1024.Idx → EReal) := by
  refine (dats m 0 c).arrAt_eq_of_covers 10 _ (by decide +kernel) fun t hf y => ?_
  blk_simp
  rw [after_10]
  have e0 : ((win0_10.blk t).view.emb y 0).val = 1024 * (t.val / 4) + (y 0).val := by blk_simp [idx_10 t] <;> (simp; try omega)
  have e1 : ((win0_10.blk t).view.emb y 1).val = (y 1).val := by blk_simp [idx_10 t] <;> (simp; try omega)
  unfold of2
  rw [e0, e1]
  obtain ⟨r, d, rfl⟩ := exists_ix2 y
  exact hV_at m c t r d

theorem arr_11 : (dats m 0 c).arrAt 11 cfg0.N = (of3 (gG m c) : S4x4096x704.Idx → EReal) := by
  refine (dats m 0 c).arrAt_eq_of_covers 11 _ (by decide +kernel) fun t hf y => ?_
  blk_simp
  rw [after_11]
  have e0 : ((win0_11.blk t).view.emb y 0).val = t.val % 4 := by blk_simp [idx_11 t] <;> (simp; try omega)
  have e1 : ((win0_11.blk t).view.emb y 1).val = 1024 * (t.val / 4) + (y 1).val := by blk_simp [idx_11 t] <;> (simp; try omega)
  have e2 : ((win0_11.blk t).view.emb y 2).val = (y 2).val := by blk_simp [idx_11 t] <;> (simp; try omega)
  unfold of3
  rw [e0, e1, e2]
  obtain ⟨z, r, f, rfl⟩ := exists_ix3 y
  exact (gate_at (iblk m c 5 t) (hV m c t) z r f).trans (gate_point m c t r f)

theorem arr_12 : (dats m 0 c).arrAt 12 cfg0.N = (of3 (gU m c) : S4x4096x704.Idx → EReal) := by
  refine (dats m 0 c).arrAt_eq_of_covers 12 _ (by decide +kernel) fun t hf y => ?_
  blk_simp
  rw [after_12]
  have e0 : ((win0_12.blk t).view.emb y 0).val = t.val % 4 := by blk_simp [idx_12 t] <;> (simp; try omega)
  have e1 : ((win0_12.blk t).view.emb y 1).val = 1024 * (t.val / 4) + (y 1).val := by blk_simp [idx_12 t] <;> (simp; try omega)
  have e2 : ((win0_12.blk t).view.emb y 2).val = (y 2).val := by blk_simp [idx_12 t] <;> (simp; try omega)
  unfold of3
  rw [e0, e1, e2]
  obtain ⟨z, r, f, rfl⟩ := exists_ix3 y
  exact (up_at (iblk m c 6 t) (hV m c t) z r f).trans (up_point m c t r f)

end Cert.Fwd

end
-- ==== Proof.FwdRef.lean ====
/-
  The plain layer: the reference's lines as functions of the seven arguments, and their elements.
-/
module

public import proofs.«01_k».proof.Proof.Gen.Reference4Ideal.Run
public import proofs.«01_k».proof.Proof.FwdMath
public import Idealize.ShloMosaic.Lib.Claim

@[expose] public section

set_option maxRecDepth 16384

noncomputable section

namespace Cert.Fwd

open Cert.Mlp Cert.Proj
open Cert.Reference4Ideal Cert.Reference4Ideal.Gen
open Idealize.ShloMosaic Idealize.ShloMosaic.TcCoe Idealize.ShloMosaic.Tactic

section terms
variable (a0 : FVec Ideal S4096x1024 .f32) (a1 a2 a3 a4 : FVec Ideal S1x1024 .f32) (a5 : FVec Ideal S8x704x1024 .f32) (a6 : FVec Ideal S4x704x1024 .f32)

/-- The mean of the squares and the inverse root; a row before all rows; the modulated rows. -/
def fV : FVec Ideal S4096x1 .f32 :=
  addf (Host.divf (broadcastInDim S4096x1 ![0] bcast_S4096_S4096x1_0 (Host.reduceAdd (mulf a0 a0) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def fRow (a : FVec Ideal S1x1024 .f32) : FVec Ideal S4096x1024 .f32 := broadcastInDim S4096x1024 ![0, 1] bcast_S1x1024_S4096x1024_0_1 a
def fSc : FVec Ideal S1x1024 .f32 := addf (broadcastInDim S1x1024 ![] bcast_S_S1x1024 (constant S_ .f32 0x3F800000#32)) a3
def fX : FVec Ideal S4096x1024 .f32 := mulf a0 (broadcastInDim S4096x1024 ![0, 1] bcast_S4096x1_S4096x1024_0_1 (Host.rsqrt (fV a0)))
def fH : FVec Ideal S4096x1024 .f32 := addf (mulf (mulf (fX a0) (fRow a1)) (fRow (fSc a3))) (fRow a2)

/-- The gate and the other factor, the logistic of the gate, the product. -/
def fG : FVec Ideal S4x4096x704 .f32 :=
  transpose S4x4096x704 [0, 2, 1] (Host.dotGeneral dot_S4x704x1024_S4096x1024_S4x704x4096_2_1_01_0_n_n none
    (extractStridedSlice S4x704x1024 ![0, 0, 0] a5 slices_S8x704x1024_S4x704x1024_0_0_0) (fH a0 a1 a2 a3)) transposes_S4x704x4096_S4x4096x704_0_2_1
def fU : FVec Ideal S4x4096x704 .f32 :=
  transpose S4x4096x704 [0, 2, 1] (Host.dotGeneral dot_S4x704x1024_S4096x1024_S4x704x4096_2_1_01_0_n_n none
    (extractStridedSlice S4x704x1024 ![4, 0, 0] a5 slices_S8x704x1024_S4x704x1024_4_0_0) (fH a0 a1 a2 a3)) transposes_S4x704x4096_S4x4096x704_0_2_1
def fOne : FVec Ideal S4x4096x704 .f32 := broadcastInDim S4x4096x704 ![] bcast_S_S4x4096x704 (constant S_ .f32 0x3F800000#32)
def fS : FVec Ideal S4x4096x704 .f32 := Host.divf fOne (addf fOne (Host.exp (Host.negf (fG a0 a1 a2 a3 a5))))
def fP : FVec Ideal S4x4096x704 .f32 := mulf (mulf (fG a0 a1 a2 a3 a5) (fS a0 a1 a2 a3 a5)) (fU a0 a1 a2 a3 a5)

/-- The results. -/
def fM : FVec Ideal S4096x1024 .f32 := Host.dotGeneral dot_S4x4096x704_S4x704x1024_S4096x1024_20_10_1_2_n_n none (fP a0 a1 a2 a3 a5) a6
def fO : FVec Ideal S4096x1024 .f32 := addf a0 (mulf (fRow a4) (fM a0 a1 a2 a3 a5 a6))

def oH : FVec Ideal S4096x1024 .bf16 := truncf .bf16 (fH a0 a1 a2 a3) bitsLt_bf16_f32
def oG : FVec Ideal S4x4096x704 .bf16 := truncf .bf16 (fG a0 a1 a2 a3 a5) bitsLt_bf16_f32
def oU : FVec Ideal S4x4096x704 .bf16 := truncf .bf16 (fU a0 a1 a2 a3 a5) bitsLt_bf16_f32

/-! ## At an index -/

/-- The modulated rows of the arguments. -/
abbrev rows (r d : ℕ) : EReal := H (el2 a0 r) (el2 a1 0) (el2 a2 0) (el2 a3 0) d

theorem fV_at (r : Fin 4096) (z : Fin 1) : fV a0 (ix2 r z) = Va (el2 a0 r.val) := by
  pointwise [fV]
  simp only [el2_ix a0]
  rfl

theorem fRow_at (a : FVec Ideal S1x1024 .f32) (r : Fin 4096) (d : Fin 1024) : fRow a (ix2 r d) = el2 a 0 d.val := by
  pointwise [fRow]
  exact el2_ix a 0 d

theorem fX_at (r : Fin 4096) (d : Fin 1024) : fX a0 (ix2 r d) = X (el2 a0 r.val) d.val := by
  pointwise [fX]
  rw [fV_at, el2_ix a0]; rfl

theorem fSc_at (d : Fin 1024) : el2 (fSc a3) 0 d.val = 1 + el2 a3 0 d.val := by
  refine (el2_ix (fSc a3) 0 d).symm.trans ?_
  pointwise [fSc]
  rw [el2_ix a3]; rfl

theorem fH_at (r : Fin 4096) (d : Fin 1024) : fH a0 a1 a2 a3 (ix2 r d) = rows a0 a1 a2 a3 r.val d.val := by
  pointwise [fH]
  rw [fX_at, fRow_at, fRow_at, fRow_at, fSc_at]; rfl

theorem fG_at (j : Fin 4) (r : Fin 4096) (f : Fin 704) : fG a0 a1 a2 a3 a5 (ix3 j r f) = Ga (rows a0 a1 a2 a3) (el3 a5) j.val r.val f.val := by
  pointwise [fG]
  refine Finset.sum_congr rfl fun d _ => ?_
  rw [mul_comm, fH_at, el3_ix a5]

theorem fU_at (j : Fin 4) (r : Fin 4096) (f : Fin 704) : fU a0 a1 a2 a3 a5 (ix3 j r f) = Up (rows a0 a1 a2 a3) (el3 a5) j.val r.val f.val := by
  pointwise [fU]
  refine Finset.sum_congr rfl fun d _ => ?_
  rw [mul_comm, fH_at, el3_ix a5]

theorem fP_at (j : Fin 4) (r : Fin 4096) (f : Fin 704) : fP a0 a1 a2 a3 a5 (ix3 j r f) = Ac (rows a0 a1 a2 a3) (el3 a5) j.val r.val f.val := by
  pointwise [fP, fS, fOne]
  rw [fG_at, fU_at]; rfl

theorem fM_at (r : Fin 4096) (d : Fin 1024) : fM a0 a1 a2 a3 a5 a6 (ix2 r d) = Mix (rows a0 a1 a2 a3) (el3 a5) (el3 a6) r.val d.val := by
  pointwise [fM]
  rw [Finset.sum_comm]
  refine Finset.sum_congr rfl fun j _ => Finset.sum_congr rfl fun f _ => ?_
  rw [fP_at, el3_ix a6]

theorem fO_at (r : Fin 4096) (d : Fin 1024) :
    fO a0 a1 a2 a3 a4 a5 a6 (ix2 r d) = el2 a0 r.val d.val + el2 a4 0 d.val * Mix (rows a0 a1 a2 a3) (el3 a5) (el3 a6) r.val d.val := by
  pointwise [fO]
  rw [fRow_at, fM_at, el2_ix a0]

/-! ## The results -/

theorem ref_O : fO a0 a1 a2 a3 a4 a5 a6 = of2 fun r d => el2 a0 r d + el2 a4 0 d * Mix (rows a0 a1 a2 a3) (el3 a5) (el3 a6) r d :=
  eq_of2 _ _ fun r d => fO_at a0 a1 a2 a3 a4 a5 a6 r d
theorem ref_M : fM a0 a1 a2 a3 a5 a6 = of2 (Mix (rows a0 a1 a2 a3) (el3 a5) (el3 a6)) :=
  eq_of2 _ _ fun r d => fM_at a0 a1 a2 a3 a5 a6 r d
theorem ref_H : oH a0 a1 a2 a3 = of2 (rows a0 a1 a2 a3) :=
  eq_of2 _ _ fun r d => fH_at a0 a1 a2 a3 r d
theorem ref_G : oG a0 a1 a2 a3 a5 = of3 (Ga (rows a0 a1 a2 a3) (el3 a5)) :=
  eq_of3 _ _ fun j r f => fG_at a0 a1 a2 a3 a5 j r f
theorem ref_U : oU a0 a1 a2 a3 a5 = of3 (Up (rows a0 a1 a2 a3) (el3 a5)) :=
  eq_of3 _ _ fun j r f => fU_at a0 a1 a2 a3 a5 j r f

end terms

theorem res_O (m : (ℓ : Loc nD τ sig) → Buf (Elt Ideal) ℓ) (c : Dev nD) : Cert.Reference4Ideal.Value.res_main_v29 m c
    = fO (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := rfl

theorem res_M (m : (ℓ : Loc nD τ sig) → Buf (Elt Ideal) ℓ) (c : Dev nD) : Cert.Reference4Ideal.Value.res_main_v26 m c
    = fM (m ((c : Thread nD τ).loc main_arg0)) (m ((c : Thread nD τ).loc main_arg1)) (m ((c : Thread nD τ).loc main_arg2)) (m ((c : Thread nD τ).loc main_arg3))
      (m ((c : Thread nD τ).loc main_arg5)) (m ((c : Thread nD τ).loc main_arg6)) := rfl

end Cert.Fwd

end
-- ==== Proof.FwdClaims.lean ====
/-
  The claims on the gated layer's forward pass: the frames and the equality of its results with the reference's.
-/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.FwdArr
public import proofs.«01_k».proof.Proof.FwdRef

@[expose] public section

set_option maxRecDepth 16384

noncomputable section

namespace Cert.Fwd

open Idealize.ShloMosaic Idealize.ShloMosaic.TcCoe Idealize.ShloMosaic.Tactic Idealize.SL.Sem
open Cert.Mlp (of3)
open Cert.Proj (of2)

/-! ## The frames -/

section same
variable {F : FTy → Type} [FloatOps F]

theorem body_same : @Cert.Kernel4.cc0_mlp_fwd F _ _ = @Cert.Kernel4Ideal.cc0_mlp_fwd F _ _ := rfl

/-- The two programs have the same body at every point, -/
theorem rows_same : Cert.Kernel4.defs₀ (F := F) = Cert.Kernel4Ideal.defs₀ (F := F) := by
  refine congrArg Defs.onTc (funext fun l => funext fun a => ?_)
  match l, a with
  | 0, (t, s) =>
    dsimp only
    rw [body_same]
    rfl
  | ⟨_ + 1, h⟩, _ => exact absurd h (Nat.not_lt.2 (Nat.le_add_left _ _))

/-- and the same pipeline around it. -/
theorem defs_same : Cert.Kernel4.defs (F := F) = Cert.Kernel4Ideal.defs (F := F) :=
  congrArg (Pipeline.defs Cert.Kernel4Ideal.pcfgs) rows_same

end same

theorem frame_p : Cert.quiescent_Kernel4 := fun m ρ _ => by
  rw [defs_same]
  exact frame_all (F := Bits) m ρ

theorem frame_pi : Cert.quiescent_Kernel4Ideal := fun m ρ _ => frame_all (F := Ideal) m ρ

theorem frame_ri : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-! ## The constants -/

theorem preserves : Cert.preserves_Kernel4_Kernel4Ideal := trivial

/-! ## The values -/

theorem same7 {α β γ δ η : Type} (f : α → β → β → β → β → γ → δ → η) {a0 b0 : α} {a1 b1 a2 b2 a3 b3 a4 b4 : β} {a5 b5 : γ} {a6 b6 : δ}
    (e0 : a0 = b0) (e1 : a1 = b1) (e2 : a2 = b2) (e3 : a3 = b3) (e4 : a4 = b4) (e5 : a5 = b5) (e6 : a6 = b6) :
    f a0 a1 a2 a3 a4 a5 a6 = f b0 b1 b2 b3 b4 b5 b6 := by subst e0 e1 e2 e3 e4 e5 e6; rfl

theorem algebraic : Cert.algebraic_Kernel4Ideal_Reference4Ideal := fun m ρ m' ρ' _ hag => by
  refine ⟨fun c => of2 (gO m c), fun c => of2 (gM m c), fun c => of2 (gH m c), fun c => of3 (gG m c), fun c => of3 (gU m c), ?_, ?_⟩
  · refine (θ_run Cert.Kernel4Ideal.defs _ _).mono (fun r h c => ?_)
      (θ_run_and (Cert.Kernel4Ideal.Gen.frame_of m ρ (dats m) (A_eq m) (run_main m ρ)) (run_main m ρ))
    exact ⟨((h.2 c).1 8).trans (arr_8 m c), ((h.2 c).1 9).trans (arr_9 m c), ((h.2 c).1 10).trans (arr_10 m c),
      ((h.2 c).1 11).trans (arr_11 m c), ((h.2 c).1 12).trans (arr_12 m c), h.1 c⟩
  · refine (θ_run Cert.Reference4Ideal.defs _ _).mono (fun r h c => ?_) (Cert.Reference4Ideal.Value.run (F := Ideal) m' ρ')
    obtain ⟨e0, e1, e2, e3, e4, e5, e6⟩ := hag c
    refine ⟨(h c).1.trans ?_, (h c).2.1.trans ?_, (h c).2.2.1.trans ?_, (h c).2.2.2.1.trans ?_, (h c).2.2.2.2.1.trans ?_, (h c).2.2.2.2.2⟩
    · exact (res_O m' c).trans ((same7 fO e0 e1 e2 e3 e4 e5 e6).trans (ref_O _ _ _ _ _ _ _))
    · exact (res_M m' c).trans ((same7 (fun a0 a1 a2 a3 _ a5 a6 => fM a0 a1 a2 a3 a5 a6) e0 e1 e2 e3 e4 e5 e6).trans (ref_M _ _ _ _ _ _))
    · exact (same7 (fun a0 a1 a2 a3 _ _ _ => oH a0 a1 a2 a3) e0 e1 e2 e3 e4 e5 e6).trans (ref_H _ _ _ _)
    · exact (same7 (fun a0 a1 a2 a3 _ a5 _ => oG a0 a1 a2 a3 a5) e0 e1 e2 e3 e4 e5 e6).trans (ref_G _ _ _ _ _)
    · exact (same7 (fun a0 a1 a2 a3 _ a5 _ => oU a0 a1 a2 a3 a5) e0 e1 e2 e3 e4 e5 e6).trans (ref_U _ _ _ _ _)

end Cert.Fwd

end
-- ==== Proof.LossFirst.lean ====
/-
  What one grid point of the last layer's forward kernel leaves in its buffers, at any float values: the body run at
  a row block's first weight shard, the written buffers' contents found by the run as lists of stores.
-/
module

public import proofs.«01_k».proof.Proof.Gen.Kernel5Ideal.Frame
public import proofs.«01_k».proof.Proof.Gen.Kernel5Ideal.Skeleton

@[expose] public section

set_option maxRecDepth 16384

noncomputable section

namespace Cert.Loss

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a row block's first shard: the modulated rows are stored and the mixture is zeroed first. -/
noncomputable def atFirst (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1024 .f32) (harg6 : arg6.IsWhole) (arg7 : Memref sig .tc .vmem S1x704x1024 .bf16) (harg7 : arg7.IsWhole)
    (arg8 : Memref sig .tc .vmem S1x704x1024 .bf16) (harg8 : arg8.IsWhole) (arg9 : Memref sig .tc .vmem S1x704x1024 .bf16) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole)
    (arg14 : Memref sig .tc .vmem S1x1024x704 .bf16) (harg14 : arg14.IsWhole) (arg15 : Memref sig .tc .vmem S1x1024x704 .bf16) (harg15 : arg15.IsWhole) (arg16 : Memref sig .tc .vmem S8x128 .f32) (harg16 : arg16.IsWhole)
    (hc0 : k0_cond1 i = 1#1) (hc1 : ¬k0_cond2 i = 1#1)
    (x0 : Vec F S1024x1024 .f32) (x1 : Vec F S1x1024 .f32) (x2 : Vec F S1x1024 .f32) (x3 : Vec F S1x1024 .f32) (x4 : Vec F S1x1024 .f32) (x5 : Vec F S1x704x1024 .bf16) (x6 : Vec F S1x704x1024 .bf16) (x7 : Vec F S1x704x1024 .bf16) (x8 : Vec F S1024x1024 .f32) (y11 : Vec F S1024x1024 .f32) (y16 : Vec F S8x128 .f32) :
    Σ' (L12 : List (View.Piece (Elt F) S1024x1024 .f32)) (L13 : List (View.Piece (Elt F) S1024x1024 .bf16)) (L14 : List (View.Piece (Elt F) S1x1024x704 .bf16)),
      { L15 : List (View.Piece (Elt F) S1x1024x704 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare y11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare y16
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
              ∗ owns (c : Thread nD τ) arg11 fullShare y11
              ∗ (∃ f, arg12.view.loc (c : Thread nD τ) ↦[arg12.view.set]{fullShare} arg12.view.writes (Elt F) f L12)
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ owns (c : Thread nD τ) arg16 fullShare y16) -∗ K ⟨⟩))
          ⊢ wp frame (wpE (defs₀ (F := F)) Variants.none c none) E (cc0_mlp_fwd_loss i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_mlp_fwd_loss_eq_skeleton]; unfold cc0_mlp_fwd_loss_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg16.eq_unread hf16
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexists _; iexact H15
    iexists _; isplitr; · ipureintro; exact harg16.read_unread _
    iexact H16

end Cert.Loss

end
-- ==== Proof.LossMiddle.lean ====
/-
  What one grid point of the last layer's forward kernel leaves in its buffers, at any float values: the body run at
  a weight shard between the first and the last, the written buffers' contents found by the run as lists of stores.
-/
module

public import proofs.«01_k».proof.Proof.Gen.Kernel5Ideal.Frame
public import proofs.«01_k».proof.Proof.Gen.Kernel5Ideal.Skeleton

@[expose] public section

set_option maxRecDepth 16384

noncomputable section

namespace Cert.Loss

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a shard between the first and the last: the modulated rows are read, the mixture added to. -/
noncomputable def atMiddle (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1024 .f32) (harg6 : arg6.IsWhole) (arg7 : Memref sig .tc .vmem S1x704x1024 .bf16) (harg7 : arg7.IsWhole)
    (arg8 : Memref sig .tc .vmem S1x704x1024 .bf16) (harg8 : arg8.IsWhole) (arg9 : Memref sig .tc .vmem S1x704x1024 .bf16) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole)
    (arg14 : Memref sig .tc .vmem S1x1024x704 .bf16) (harg14 : arg14.IsWhole) (arg15 : Memref sig .tc .vmem S1x1024x704 .bf16) (harg15 : arg15.IsWhole) (arg16 : Memref sig .tc .vmem S8x128 .f32) (harg16 : arg16.IsWhole)
    (hc0 : ¬k0_cond1 i = 1#1) (hc1 : ¬k0_cond2 i = 1#1)
    (x0 : Vec F S1024x1024 .f32) (x1 : Vec F S1x1024 .f32) (x2 : Vec F S1x1024 .f32) (x3 : Vec F S1x1024 .f32) (x4 : Vec F S1x1024 .f32) (x5 : Vec F S1x704x1024 .bf16) (x6 : Vec F S1x704x1024 .bf16) (x7 : Vec F S1x704x1024 .bf16) (x8 : Vec F S1024x1024 .f32) (y11 : Vec F S1024x1024 .f32) (y12 : Vec F S1024x1024 .f32) (y13 : Vec F S1024x1024 .bf16) (y16 : Vec F S8x128 .f32) :
    Σ' (L12 : List (View.Piece (Elt F) S1024x1024 .f32)) (L14 : List (View.Piece (Elt F) S1x1024x704 .bf16)),
      { L15 : List (View.Piece (Elt F) S1x1024x704 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare y11 ∗ owns (c : Thread nD τ) arg12 fullShare y12 ∗ owns (c : Thread nD τ) arg13 fullShare y13 ∗ (∃ d, owns (c : Thread nD τ) arg14 fullShare d) ∗ (∃ d, owns (c : Thread nD τ) arg15 fullShare d) ∗ owns (c : Thread nD τ) arg16 fullShare y16
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
              ∗ owns (c : Thread nD τ) arg11 fullShare y11
              ∗ (arg12.view.loc (c : Thread nD τ) ↦[arg12.view.set]{fullShare} arg12.view.writes (Elt F) (harg12.unread y12) L12)
              ∗ owns (c : Thread nD τ) arg13 fullShare y13
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ owns (c : Thread nD τ) arg16 fullShare y16) -∗ K ⟨⟩))
          ⊢ wp frame (wpE (defs₀ (F := F)) Variants.none c none) E (cc0_mlp_fwd_loss i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_mlp_fwd_loss_eq_skeleton]; unfold cc0_mlp_fwd_loss_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]
    · iexists _; isplitr; · ipureintro; exact harg13.read_unread _
      iexact H13
    isplitl [H14]; · iexists _; iexact H14
    isplitl [H15]; · iexists _; iexact H15
    iexists _; isplitr; · ipureintro; exact harg16.read_unread _
    iexact H16

end Cert.Loss

end
-- ==== Proof.LossStart.lean ====
/-
  What one grid point of the last layer's forward kernel leaves in its buffers, at any float values: the body run at
  the first row block's last weight shard, the written buffers' contents found by the run as lists of stores.
-/
module

public import proofs.«01_k».proof.Proof.Gen.Kernel5Ideal.Frame
public import proofs.«01_k».proof.Proof.Gen.Kernel5Ideal.Skeleton

@[expose] public section

set_option maxRecDepth 16384

noncomputable section

namespace Cert.Loss

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the first row block's last shard: as at a middle one, and the difference's rows and the loss are stored. -/
noncomputable def atStart (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1024 .f32) (harg6 : arg6.IsWhole) (arg7 : Memref sig .tc .vmem S1x704x1024 .bf16) (harg7 : arg7.IsWhole)
    (arg8 : Memref sig .tc .vmem S1x704x1024 .bf16) (harg8 : arg8.IsWhole) (arg9 : Memref sig .tc .vmem S1x704x1024 .bf16) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole)
    (arg14 : Memref sig .tc .vmem S1x1024x704 .bf16) (harg14 : arg14.IsWhole) (arg15 : Memref sig .tc .vmem S1x1024x704 .bf16) (harg15 : arg15.IsWhole) (arg16 : Memref sig .tc .vmem S8x128 .f32) (harg16 : arg16.IsWhole)
    (hc0 : ¬k0_cond1 i = 1#1) (hc1 : k0_cond2 i = 1#1) (hc2 : k0_cond3 i = 1#1) (hc3 : ¬k0_cond4 i = 1#1)
    (x0 : Vec F S1024x1024 .f32) (x1 : Vec F S1x1024 .f32) (x2 : Vec F S1x1024 .f32) (x3 : Vec F S1x1024 .f32) (x4 : Vec F S1x1024 .f32) (x5 : Vec F S1x704x1024 .bf16) (x6 : Vec F S1x704x1024 .bf16) (x7 : Vec F S1x704x1024 .bf16) (x8 : Vec F S1024x1024 .f32) (y12 : Vec F S1024x1024 .f32) (y13 : Vec F S1024x1024 .bf16) :
    Σ' (L11 : List (View.Piece (Elt F) S1024x1024 .f32)) (L12 : List (View.Piece (Elt F) S1024x1024 .f32)) (L14 : List (View.Piece (Elt F) S1x1024x704 .bf16)) (L15 : List (View.Piece (Elt F) S1x1024x704 .bf16)),
      { L16 : List (View.Piece (Elt F) S8x128 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg11 fullShare d) ∗ owns (c : Thread nD τ) arg12 fullShare y12 ∗ owns (c : Thread nD τ) arg13 fullShare y13 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
              ∗ (∃ f, arg11.view.loc (c : Thread nD τ) ↦[arg11.view.set]{fullShare} arg11.view.writes (Elt F) f L11)
              ∗ (arg12.view.loc (c : Thread nD τ) ↦[arg12.view.set]{fullShare} arg12.view.writes (Elt F) (harg12.unread y12) L12)
              ∗ owns (c : Thread nD τ) arg13 fullShare y13
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)) -∗ K ⟨⟩))
          ⊢ wp frame (wpE (defs₀ (F := F)) Variants.none c none) E (cc0_mlp_fwd_loss i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_mlp_fwd_loss_eq_skeleton]; unfold cc0_mlp_fwd_loss_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexact H12
    isplitl [H13]
    · iexists _; isplitr; · ipureintro; exact harg13.read_unread _
      iexact H13
    isplitl [H14]; · iexists _; iexact H14
    isplitl [H15]; · iexists _; iexact H15
    iexists _; iexact H16

end Cert.Loss

end
-- ==== Proof.LossLast.lean ====
/-
  What one grid point of the last layer's forward kernel leaves in its buffers, at any float values: the body run at
  a later row block's last weight shard, the written buffers' contents found by the run as lists of stores.
-/
module

public import proofs.«01_k».proof.Proof.Gen.Kernel5Ideal.Frame
public import proofs.«01_k».proof.Proof.Gen.Kernel5Ideal.Skeleton

@[expose] public section

set_option maxRecDepth 16384

noncomputable section

namespace Cert.Loss

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a later row block's last shard: as at the first block's, the loss added to. -/
noncomputable def atLast (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1024 .f32) (harg6 : arg6.IsWhole) (arg7 : Memref sig .tc .vmem S1x704x1024 .bf16) (harg7 : arg7.IsWhole)
    (arg8 : Memref sig .tc .vmem S1x704x1024 .bf16) (harg8 : arg8.IsWhole) (arg9 : Memref sig .tc .vmem S1x704x1024 .bf16) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole)
    (arg14 : Memref sig .tc .vmem S1x1024x704 .bf16) (harg14 : arg14.IsWhole) (arg15 : Memref sig .tc .vmem S1x1024x704 .bf16) (harg15 : arg15.IsWhole) (arg16 : Memref sig .tc .vmem S8x128 .f32) (harg16 : arg16.IsWhole)
    (hc0 : ¬k0_cond1 i = 1#1) (hc1 : k0_cond2 i = 1#1) (hc2 : ¬k0_cond3 i = 1#1) (hc3 : k0_cond4 i = 1#1)
    (x0 : Vec F S1024x1024 .f32) (x1 : Vec F S1x1024 .f32) (x2 : Vec F S1x1024 .f32) (x3 : Vec F S1x1024 .f32) (x4 : Vec F S1x1024 .f32) (x5 : Vec F S1x704x1024 .bf16) (x6 : Vec F S1x704x1024 .bf16) (x7 : Vec F S1x704x1024 .bf16) (x8 : Vec F S1024x1024 .f32) (y12 : Vec F S1024x1024 .f32) (y13 : Vec F S1024x1024 .bf16) (y16 : Vec F S8x128 .f32) :
    Σ' (L11 : List (View.Piece (Elt F) S1024x1024 .f32)) (L12 : List (View.Piece (Elt F) S1024x1024 .f32)) (L14 : List (View.Piece (Elt F) S1x1024x704 .bf16)) (L15 : List (View.Piece (Elt F) S1x1024x704 .bf16)),
      { L16 : List (View.Piece (Elt F) S8x128 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg11 fullShare d) ∗ owns (c : Thread nD τ) arg12 fullShare y12 ∗ owns (c : Thread nD τ) arg13 fullShare y13 ∗ (∃ d, owns (c : Thread nD τ) arg14 fullShare d) ∗ (∃ d, owns (c : Thread nD τ) arg15 fullShare d) ∗ owns (c : Thread nD τ) arg16 fullShare y16
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
              ∗ (∃ f, arg11.view.loc (c : Thread nD τ) ↦[arg11.view.set]{fullShare} arg11.view.writes (Elt F) f L11)
              ∗ (arg12.view.loc (c : Thread nD τ) ↦[arg12.view.set]{fullShare} arg12.view.writes (Elt F) (harg12.unread y12) L12)
              ∗ owns (c : Thread nD τ) arg13 fullShare y13
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ (arg16.view.loc (c : Thread nD τ) ↦[arg16.view.set]{fullShare} arg16.view.writes (Elt F) (harg16.unread y16) L16)) -∗ K ⟨⟩))
          ⊢ wp frame (wpE (defs₀ (F := F)) Variants.none c none) E (cc0_mlp_fwd_loss i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_mlp_fwd_loss_eq_skeleton]; unfold cc0_mlp_fwd_loss_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%d15, %f15, -, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg16.eq_unread hf16
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexact H12
    isplitl [H13]
    · iexists _; isplitr; · ipureintro; exact harg13.read_unread _
      iexact H13
    isplitl [H14]; · iexists _; iexact H14
    isplitl [H15]; · iexists _; iexact H15
    iexact H16

end Cert.Loss

end
-- ==== Proof.LossRead.lean ====
/-
  What the last layer's forward kernel leaves at one grid point, at any float values: the plain layer's blocks, the difference
  from the target, and the loss.
-/
module

public import proofs.«01_k».proof.Proof.FwdRead
public import proofs.«01_k».proof.Proof.LossFirst
public import proofs.«01_k».proof.Proof.LossMiddle
public import proofs.«01_k».proof.Proof.LossStart
public import proofs.«01_k».proof.Proof.LossLast

@[expose] public section

set_option maxRecDepth 16384

noncomputable section

namespace Cert.Loss

open Cert.Fwd (gateOf upOf mixOf stack2 read_halves2 read_halves3 read_one cov_halves ld_top ld_bot)
open Cert.Kernel5Ideal Cert.Kernel5Ideal.Gen
open Idealize.ShloMosaic Idealize.ShloMosaic.TcCoe Idealize.ShloMosaic.Tactic

variable {F : FTy → Type} [FloatOps F]

/-- The modulated rows and the zeroed mixture of the plain layer. -/
abbrev rowsOf (x0 : Vec F S1024x1024 .f32) (x1 x2 x3 : Vec F S1x1024 .f32) : Vec F S1024x1024 .bf16 := Cert.Kernel4Ideal.Gen.k0_pay7 x0 x1 x2 x3
abbrev zeros : Vec F S1024x1024 .f32 := Cert.Kernel4Ideal.Gen.k0_pay8

/-- A store of the whole loss block leaves it, and a load of the whole block reads it. -/
theorem read_loss {κ : Kind} {sp : Space} (v : View sig κ sp S8x128 .f32) (f : v.ty.Contents (Elt F)) (i0)
    (w : Vec F S8x128 .f32) (L : List (View.Piece (Elt F) S8x128 .f32)) :
    v.read (Elt F) (v.writes (Elt F) f (⟨Rect.unit ![0, 0] ![8, 128] i0, w⟩ :: L)) = w :=
  funext fun y => View.read_writes_cons_unit_of_mem v f i0 w L y y rfl fun d => by
    match d with
    | ⟨0, _⟩ => exact (Nat.zero_add _).symm
    | ⟨1, _⟩ => exact (Nat.zero_add _).symm

variable {c : Dev nD} {i : grid0.Coords}
  {arg2 : Memref sig .tc .vmem S1024x1024 .f32} {harg2 : arg2.IsWhole} {arg3 : Memref sig .tc .vmem S1x1024 .f32} {harg3 : arg3.IsWhole}
  {arg4 : Memref sig .tc .vmem S1x1024 .f32} {harg4 : arg4.IsWhole} {arg5 : Memref sig .tc .vmem S1x1024 .f32} {harg5 : arg5.IsWhole}
  {arg6 : Memref sig .tc .vmem S1x1024 .f32} {harg6 : arg6.IsWhole} {arg7 : Memref sig .tc .vmem S1x704x1024 .bf16} {harg7 : arg7.IsWhole}
  {arg8 : Memref sig .tc .vmem S1x704x1024 .bf16} {harg8 : arg8.IsWhole} {arg9 : Memref sig .tc .vmem S1x704x1024 .bf16} {harg9 : arg9.IsWhole}
  {arg10 : Memref sig .tc .vmem S1024x1024 .f32} {harg10 : arg10.IsWhole} {arg11 : Memref sig .tc .vmem S1024x1024 .f32} {harg11 : arg11.IsWhole}
  {arg12 : Memref sig .tc .vmem S1024x1024 .f32} {harg12 : arg12.IsWhole} {arg13 : Memref sig .tc .vmem S1024x1024 .bf16} {harg13 : arg13.IsWhole}
  {arg14 : Memref sig .tc .vmem S1x1024x704 .bf16} {harg14 : arg14.IsWhole} {arg15 : Memref sig .tc .vmem S1x1024x704 .bf16} {harg15 : arg15.IsWhole}
  {arg16 : Memref sig .tc .vmem S8x128 .f32} {harg16 : arg16.IsWhole}
  {x0 x8 : Vec F S1024x1024 .f32} {x1 x2 x3 x4 : Vec F S1x1024 .f32} {x5 x6 x7 : Vec F S1x704x1024 .bf16}
  {y11 y12 : Vec F S1024x1024 .f32} {y13 : Vec F S1024x1024 .bf16} {y16 : Vec F S8x128 .f32}

/-- What the first shard leaves of the mixture. -/
theorem readFirst_12 (hc0 : k0_cond1 i = 1#1) (hc1 : ¬k0_cond2 i = 1#1) (f : arg12.view.ty.Contents (Elt F)) :
    arg12.view.read (Elt F) (arg12.view.writes (Elt F) f (atFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y11 y16).1) = mixOf x5 x6 x7 (rowsOf x0 x1 x2 x3) zeros := by
  unfold atFirst; dsimp only
  frame_out
  simp (disch := decide) only [View.readCov_fill, View.readCov_skip, ld_top, ld_bot]
  exact read_halves2 _ _ _ _ _ _ _
/-- What the first shard leaves of the modulated rows. -/
theorem readFirst_13 (hc0 : k0_cond1 i = 1#1) (hc1 : ¬k0_cond2 i = 1#1) (f : arg13.view.ty.Contents (Elt F)) :
    arg13.view.read (Elt F) (arg13.view.writes (Elt F) f (atFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y11 y16).2.1) = rowsOf x0 x1 x2 x3 := by
  unfold atFirst; dsimp only
  frame_out
  try simp (disch := decide) only [View.readCov_fill, View.readCov_skip, ld_top, ld_bot]
  exact read_one _ _ _ _ _
/-- What the first shard leaves of the gate. -/
theorem readFirst_14 (hc0 : k0_cond1 i = 1#1) (hc1 : ¬k0_cond2 i = 1#1) (f : arg14.view.ty.Contents (Elt F)) :
    arg14.view.read (Elt F) (arg14.view.writes (Elt F) f (atFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y11 y16).2.2.1) = gateOf x5 (rowsOf x0 x1 x2 x3) := by
  unfold atFirst; dsimp only
  frame_out
  simp (disch := decide) only [View.readCov_fill, View.readCov_skip, ld_top, ld_bot]
  exact read_halves3 _ _ _ _ _ _ _
/-- What the first shard leaves of the other factor. -/
theorem readFirst_15 (hc0 : k0_cond1 i = 1#1) (hc1 : ¬k0_cond2 i = 1#1) (f : arg15.view.ty.Contents (Elt F)) :
    arg15.view.read (Elt F) (arg15.view.writes (Elt F) f (atFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y11 y16).2.2.2.1) = upOf x6 (rowsOf x0 x1 x2 x3) := by
  unfold atFirst; dsimp only
  frame_out
  simp (disch := decide) only [View.readCov_fill, View.readCov_skip, ld_top, ld_bot]
  exact read_halves3 _ _ _ _ _ _ _
/-- What the middle shard leaves of the mixture. -/
theorem readMiddle_12 (hc0 : ¬k0_cond1 i = 1#1) (hc1 : ¬k0_cond2 i = 1#1) :
    arg12.view.read (Elt F) (arg12.view.writes (Elt F) (harg12.unread y12) (atMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y11 y12 y13 y16).1) = mixOf x5 x6 x7 y13 y12 := by
  unfold atMiddle; dsimp only
  frame_out
  simp (disch := decide) only [View.readCov_fill, View.readCov_skip, ld_top, ld_bot]
  exact read_halves2 _ _ _ _ _ _ _
/-- What the middle shard leaves of the gate. -/
theorem readMiddle_14 (hc0 : ¬k0_cond1 i = 1#1) (hc1 : ¬k0_cond2 i = 1#1) (f : arg14.view.ty.Contents (Elt F)) :
    arg14.view.read (Elt F) (arg14.view.writes (Elt F) f (atMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y11 y12 y13 y16).2.1) = gateOf x5 y13 := by
  unfold atMiddle; dsimp only
  frame_out
  simp (disch := decide) only [View.readCov_fill, View.readCov_skip, ld_top, ld_bot]
  exact read_halves3 _ _ _ _ _ _ _
/-- What the middle shard leaves of the other factor. -/
theorem readMiddle_15 (hc0 : ¬k0_cond1 i = 1#1) (hc1 : ¬k0_cond2 i = 1#1) (f : arg15.view.ty.Contents (Elt F)) :
    arg15.view.read (Elt F) (arg15.view.writes (Elt F) f (atMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 y11 y12 y13 y16).2.2.1) = upOf x6 y13 := by
  unfold atMiddle; dsimp only
  frame_out
  simp (disch := decide) only [View.readCov_fill, View.readCov_skip, ld_top, ld_bot]
  exact read_halves3 _ _ _ _ _ _ _
/-- What the first row block's last shard leaves of the difference. -/
theorem readStart_11 (hc0 : ¬k0_cond1 i = 1#1) (hc1 : k0_cond2 i = 1#1) (hc2 : k0_cond3 i = 1#1) (hc3 : ¬k0_cond4 i = 1#1) (f : arg11.view.ty.Contents (Elt F)) :
    arg11.view.read (Elt F) (arg11.view.writes (Elt F) f (atStart c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13).1) = k0_pay7 x0 x4 (mixOf x5 x6 x7 y13 y12) x8 := by
  unfold atStart; dsimp only
  frame_out
  try simp (disch := decide) only [View.readCov_fill, View.readCov_skip, ld_top, ld_bot, cov_halves]
  exact read_one _ _ _ _ _
/-- What the first row block's last shard leaves of the mixture. -/
theorem readStart_12 (hc0 : ¬k0_cond1 i = 1#1) (hc1 : k0_cond2 i = 1#1) (hc2 : k0_cond3 i = 1#1) (hc3 : ¬k0_cond4 i = 1#1) :
    arg12.view.read (Elt F) (arg12.view.writes (Elt F) (harg12.unread y12) (atStart c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13).2.1) = mixOf x5 x6 x7 y13 y12 := by
  unfold atStart; dsimp only
  frame_out
  simp (disch := decide) only [View.readCov_fill, View.readCov_skip, ld_top, ld_bot]
  exact read_halves2 _ _ _ _ _ _ _
/-- What the first row block's last shard leaves of the gate. -/
theorem readStart_14 (hc0 : ¬k0_cond1 i = 1#1) (hc1 : k0_cond2 i = 1#1) (hc2 : k0_cond3 i = 1#1) (hc3 : ¬k0_cond4 i = 1#1) (f : arg14.view.ty.Contents (Elt F)) :
    arg14.view.read (Elt F) (arg14.view.writes (Elt F) f (atStart c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13).2.2.1) = gateOf x5 y13 := by
  unfold atStart; dsimp only
  frame_out
  simp (disch := decide) only [View.readCov_fill, View.readCov_skip, ld_top, ld_bot]
  exact read_halves3 _ _ _ _ _ _ _
/-- What the first row block's last shard leaves of the other factor. -/
theorem readStart_15 (hc0 : ¬k0_cond1 i = 1#1) (hc1 : k0_cond2 i = 1#1) (hc2 : k0_cond3 i = 1#1) (hc3 : ¬k0_cond4 i = 1#1) (f : arg15.view.ty.Contents (Elt F)) :
    arg15.view.read (Elt F) (arg15.view.writes (Elt F) f (atStart c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13).2.2.2.1) = upOf x6 y13 := by
  unfold atStart; dsimp only
  frame_out
  simp (disch := decide) only [View.readCov_fill, View.readCov_skip, ld_top, ld_bot]
  exact read_halves3 _ _ _ _ _ _ _
/-- What the first row block's last shard leaves of the loss. -/
theorem readStart_16 (hc0 : ¬k0_cond1 i = 1#1) (hc1 : k0_cond2 i = 1#1) (hc2 : k0_cond3 i = 1#1) (hc3 : ¬k0_cond4 i = 1#1) (f : arg16.view.ty.Contents (Elt F)) :
    arg16.view.read (Elt F) (arg16.view.writes (Elt F) f (atStart c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13).2.2.2.2.1) = k0_pay8 x0 x4 (mixOf x5 x6 x7 y13 y12) x8 := by
  unfold atStart; dsimp only
  frame_out
  try simp (disch := decide) only [View.readCov_fill, View.readCov_skip, ld_top, ld_bot, cov_halves]
  exact read_loss _ _ _ _ _
/-- What the later row block's last shard leaves of the difference. -/
theorem readLast_11 (hc0 : ¬k0_cond1 i = 1#1) (hc1 : k0_cond2 i = 1#1) (hc2 : ¬k0_cond3 i = 1#1) (hc3 : k0_cond4 i = 1#1) (f : arg11.view.ty.Contents (Elt F)) :
    arg11.view.read (Elt F) (arg11.view.writes (Elt F) f (atLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13 y16).1) = k0_pay7 x0 x4 (mixOf x5 x6 x7 y13 y12) x8 := by
  unfold atLast; dsimp only
  frame_out
  try simp (disch := decide) only [View.readCov_fill, View.readCov_skip, ld_top, ld_bot, cov_halves]
  exact read_one _ _ _ _ _
/-- What the later row block's last shard leaves of the mixture. -/
theorem readLast_12 (hc0 : ¬k0_cond1 i = 1#1) (hc1 : k0_cond2 i = 1#1) (hc2 : ¬k0_cond3 i = 1#1) (hc3 : k0_cond4 i = 1#1) :
    arg12.view.read (Elt F) (arg12.view.writes (Elt F) (harg12.unread y12) (atLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13 y16).2.1) = mixOf x5 x6 x7 y13 y12 := by
  unfold atLast; dsimp only
  frame_out
  simp (disch := decide) only [View.readCov_fill, View.readCov_skip, ld_top, ld_bot]
  exact read_halves2 _ _ _ _ _ _ _
/-- What the later row block's last shard leaves of the gate. -/
theorem readLast_14 (hc0 : ¬k0_cond1 i = 1#1) (hc1 : k0_cond2 i = 1#1) (hc2 : ¬k0_cond3 i = 1#1) (hc3 : k0_cond4 i = 1#1) (f : arg14.view.ty.Contents (Elt F)) :
    arg14.view.read (Elt F) (arg14.view.writes (Elt F) f (atLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13 y16).2.2.1) = gateOf x5 y13 := by
  unfold atLast; dsimp only
  frame_out
  simp (disch := decide) only [View.readCov_fill, View.readCov_skip, ld_top, ld_bot]
  exact read_halves3 _ _ _ _ _ _ _
/-- What the later row block's last shard leaves of the other factor. -/
theorem readLast_15 (hc0 : ¬k0_cond1 i = 1#1) (hc1 : k0_cond2 i = 1#1) (hc2 : ¬k0_cond3 i = 1#1) (hc3 : k0_cond4 i = 1#1) (f : arg15.view.ty.Contents (Elt F)) :
    arg15.view.read (Elt F) (arg15.view.writes (Elt F) f (atLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13 y16).2.2.2.1) = upOf x6 y13 := by
  unfold atLast; dsimp only
  frame_out
  simp (disch := decide) only [View.readCov_fill, View.readCov_skip, ld_top, ld_bot]
  exact read_halves3 _ _ _ _ _ _ _
/-- What the later row block's last shard leaves of the loss. -/
theorem readLast_16 (hc0 : ¬k0_cond1 i = 1#1) (hc1 : k0_cond2 i = 1#1) (hc2 : ¬k0_cond3 i = 1#1) (hc3 : k0_cond4 i = 1#1) :
    arg16.view.read (Elt F) (arg16.view.writes (Elt F) (harg16.unread y16) (atLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 y12 y13 y16).2.2.2.2.1) = k0_pay9 x0 x4 (mixOf x5 x6 x7 y13 y12) x8 y16 := by
  unfold atLast; dsimp only
  frame_out
  try simp (disch := decide) only [View.readCov_fill, View.readCov_skip, ld_top, ld_bot, cov_halves]
  exact read_loss _ _ _ _ _

end Cert.Loss

end
-- ==== Proof.LossFrame.lean ====
/-
  The run of the last layer's forward kernel, at any float values: what each output block holds after each grid point, the
  body's triple at every point, and the run of the whole program with the outputs' arrays named.
-/
module

public import proofs.«01_k».proof.Proof.LossRead
public import Idealize.ShloMosaic.Lib.Claim

@[expose] public section

set_option maxRecDepth 16384

noncomputable section

namespace Cert.Loss

open Cert.Fwd (gateOf upOf mixOf)
open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of a row block -/

theorem lt16 (t : Fin cfg0.N) : t.val < 16 := Nat.lt_of_lt_of_eq t.isLt N_0

theorem first_iff (t : Fin cfg0.N) : k0_cond1 (grid0.coords t) = 1#1 ↔ t.val % 4 = 0 := by
  have ht : t.val < 16 := lt16 t
  have e1 : (grid0.coords t 1).val = t.val / 1 % 4 := Pipeline.Grid.coords_val t 1 (by decide) rfl
  simp only [k0_cond1, e1]
  word_cmp
theorem last_iff (t : Fin cfg0.N) : k0_cond2 (grid0.coords t) = 1#1 ↔ t.val % 4 = 3 := by
  have ht : t.val < 16 := lt16 t
  have e1 : (grid0.coords t 1).val = t.val / 1 % 4 := Pipeline.Grid.coords_val t 1 (by decide) rfl
  simp only [k0_cond2, e1]
  word_cmp

theorem start_iff (t : Fin cfg0.N) : k0_cond3 (grid0.coords t) = 1#1 ↔ t.val < 4 := by
  have ht : t.val < 16 := lt16 t
  have e0 : (grid0.coords t 0).val = t.val / 4 % 4 := Pipeline.Grid.coords_val t 0 (by decide) rfl
  simp only [k0_cond3, e0]
  word_cmp
theorem later_iff (t : Fin cfg0.N) : k0_cond4 (grid0.coords t) = 1#1 ↔ ¬t.val < 4 := by
  revert t; decide +kernel

theorem idle9 : ∀ t : Fin cfg0.N, cfg0.idle 9 (cfg0.grid.coords t) = !decide (t.val % 4 = 3) := by decide +kernel
theorem idle11 : ∀ t : Fin cfg0.N, cfg0.idle 11 (cfg0.grid.coords t) = !decide (t.val % 4 = 0) := by decide +kernel
theorem flush9 : ∀ t : Fin cfg0.N, (cfg0.win 9).flush t = decide (t.val % 4 = 3) := by decide +kernel
theorem flush11 : ∀ t : Fin cfg0.N, (cfg0.win 11).flush t = decide (t.val % 4 = 3) := by decide +kernel
theorem idle14 : ∀ t : Fin cfg0.N, cfg0.idle 14 (cfg0.grid.coords t) = !decide (t.val % 4 = 3) := by decide +kernel
theorem flush14 : ∀ t : Fin cfg0.N, (cfg0.win 14).flush t = decide (t.val = 15) := by decide +kernel
theorem fresh14 : ∀ t : Fin cfg0.N, cfg0.fresh 14 t.val = decide (t.val < 4) := by decide +kernel
theorem fresh11 : ∀ t : Fin cfg0.N, cfg0.fresh 11 t.val = decide (t.val % 4 = 0) := by decide +kernel

/-- The point before. -/
abbrev prev (t : Fin cfg0.N) : Fin cfg0.N := ⟨t.val - 1, Nat.lt_of_le_of_lt (Nat.sub_le _ _) t.isLt⟩
/-- The first point of the row block of `t`. -/
def base (t : Fin cfg0.N) : Fin cfg0.N := ⟨t.val - t.val % 4, Nat.lt_of_le_of_lt (Nat.sub_le _ _) t.isLt⟩

theorem base_first (t : Fin cfg0.N) (h : t.val % 4 = 0) : base t = t := Fin.ext (by show t.val - t.val % 4 = t.val; omega)
theorem base_prev (t : Fin cfg0.N) (h : ¬t.val % 4 = 0) : base (prev t) = base t :=
  Fin.ext (by show t.val - 1 - (t.val - 1) % 4 = t.val - t.val % 4; omega)

/-! ## What the outputs hold -/

/-- The modulated rows of point `t`'s row block. -/
def hV (c : Dev nD) (t : Fin cfg0.N) : Vec F S1024x1024 .bf16 :=
  rowsOf (iblk m c 0 (base t)) (iblk m c 1 (base t)) (iblk m c 2 (base t)) (iblk m c 3 (base t))
theorem hV_first (c : Dev nD) (t : Fin cfg0.N) (h : t.val % 4 = 0) :
    hV m c t = rowsOf (iblk m c 0 t) (iblk m c 1 t) (iblk m c 2 t) (iblk m c 3 t) := by unfold hV; rw [base_first t h]
theorem hV_prev (c : Dev nD) (t : Fin cfg0.N) (h : ¬t.val % 4 = 0) : hV m c (prev t) = hV m c t := by
  unfold hV; rw [base_prev t h]

/-- The mixture after point `n`: the shares of the row block's shards so far. -/
def mixN (c : Dev nD) : ∀ n, n < cfg0.N → Vec F S1024x1024 .f32
  | 0, p => mixOf (iblk m c 5 ⟨0, p⟩) (iblk m c 6 ⟨0, p⟩) (iblk m c 7 ⟨0, p⟩) (hV m c ⟨0, p⟩) zeros
  | n + 1, p => mixOf (iblk m c 5 ⟨n + 1, p⟩) (iblk m c 6 ⟨n + 1, p⟩) (iblk m c 7 ⟨n + 1, p⟩) (hV m c ⟨n + 1, p⟩)
      (if (n + 1) % 4 = 0 then zeros else mixN c n (Nat.lt_of_succ_lt p))
def mixV (c : Dev nD) (t : Fin cfg0.N) : Vec F S1024x1024 .f32 := mixN m c t.val t.isLt

theorem mix_first (c : Dev nD) (t : Fin cfg0.N) (h : t.val % 4 = 0) :
    mixV m c t = mixOf (iblk m c 5 t) (iblk m c 6 t) (iblk m c 7 t) (hV m c t) zeros := by
  obtain ⟨n, p⟩ := t
  cases n with
  | zero => rfl
  | succ n => unfold mixV; rw [mixN, if_pos h]
theorem mix_next (c : Dev nD) (t : Fin cfg0.N) (h : ¬t.val % 4 = 0) :
    mixV m c t = mixOf (iblk m c 5 t) (iblk m c 6 t) (iblk m c 7 t) (hV m c t) (mixV m c (prev t)) := by
  obtain ⟨n, p⟩ := t
  cases n with
  | zero => exact absurd rfl h
  | succ n => unfold mixV; rw [mixN, if_neg h]; rfl

def gateV (c : Dev nD) (t : Fin cfg0.N) : Vec F S1x1024x704 .bf16 := gateOf (iblk m c 5 t) (hV m c t)
def upV (c : Dev nD) (t : Fin cfg0.N) : Vec F S1x1024x704 .bf16 := upOf (iblk m c 6 t) (hV m c t)
def outV (c : Dev nD) (t : Fin cfg0.N) : Vec F S1024x1024 .f32 := k0_pay7 (iblk m c 0 t) (iblk m c 4 t) (mixV m c t) (iblk m c 8 t)

/-- The loss of a row block, alone and added to the loss before it. -/
def partV (c : Dev nD) (t : Fin cfg0.N) : Vec F S8x128 .f32 := k0_pay8 (iblk m c 0 t) (iblk m c 4 t) (mixV m c t) (iblk m c 8 t)
def addV (c : Dev nD) (t : Fin cfg0.N) (b : Vec F S8x128 .f32) : Vec F S8x128 .f32 :=
  k0_pay9 (iblk m c 0 t) (iblk m c 4 t) (mixV m c t) (iblk m c 8 t) b

/-- The loss after point `n`: the losses of the row blocks done so far; before the first is done, nothing of it is read. -/
def lossN (c : Dev nD) : ∀ n, n < cfg0.N → Vec F S8x128 .f32
  | 0, p => partV m c ⟨0, p⟩
  | n + 1, p => if (n + 1) % 4 = 3 then (if n + 1 < 4 then partV m c ⟨n + 1, p⟩ else addV m c ⟨n + 1, p⟩ (lossN c n (Nat.lt_of_succ_lt p)))
      else lossN c n (Nat.lt_of_succ_lt p)
def lossV (c : Dev nD) (t : Fin cfg0.N) : Vec F S8x128 .f32 := lossN m c t.val t.isLt

theorem loss_start (c : Dev nD) (t : Fin cfg0.N) (h1 : t.val % 4 = 3) (h2 : t.val < 4) : lossV m c t = partV m c t := by
  obtain ⟨n, p⟩ := t
  cases n with
  | zero => rfl
  | succ n => unfold lossV; rw [lossN, if_pos h1, if_pos h2]
theorem loss_next (c : Dev nD) (t : Fin cfg0.N) (h1 : t.val % 4 = 3) (h2 : ¬t.val < 4) : lossV m c t = addV m c t (lossV m c (prev t)) := by
  obtain ⟨n, p⟩ := t
  cases n with
  | zero => exact absurd (Nat.zero_lt_succ 3) h2
  | succ n => unfold lossV; rw [lossN, if_pos h1, if_neg h2]; rfl
theorem loss_keep (c : Dev nD) (t : Fin cfg0.N) (h0 : t.val ≠ 0) (h1 : ¬t.val % 4 = 3) : lossV m c t = lossV m c (prev t) := by
  obtain ⟨n, p⟩ := t
  cases n with
  | zero => exact absurd rfl h0
  | succ n => unfold lossV; rw [lossN, if_neg h1]; rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outV m c t
    | ⟨10, _⟩ => mixV m c t
    | ⟨11, _⟩ => hV m c t
    | ⟨12, _⟩ => gateV m c t
    | ⟨13, _⟩ => upV m c t
    | ⟨14, _⟩ => lossV m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outV m c t := by dsimp only [dats]
theorem after_10 (c : Dev nD) (t : Fin cfg0.N) : (dats m 0 c).after 10 t = mixV m c t := by dsimp only [dats]
theorem after_11 (c : Dev nD) (t : Fin cfg0.N) : (dats m 0 c).after 11 t = hV m c t := by dsimp only [dats]
theorem after_12 (c : Dev nD) (t : Fin cfg0.N) : (dats m 0 c).after 12 t = gateV m c t := by dsimp only [dats]
theorem after_13 (c : Dev nD) (t : Fin cfg0.N) : (dats m 0 c).after 13 t = upV m c t := by dsimp only [dats]
theorem after_14 (c : Dev nD) (t : Fin cfg0.N) : (dats m 0 c).after 14 t = lossV m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- Past a row block's first shard the mixture holds what the point before left. -/
theorem before_10 (c : Dev nD) (t : Fin cfg0.N) (h0 : ¬t.val % 4 = 0) (d) : (dats m 0 c).before 10 t d = mixV m c (prev t) :=
  ((dats m 0 c).before_out_kept 10 rfl t (by omega) (Bool.eq_false_iff.mpr fun hf => by
    have := (flush0_10 _).mp hf
    simp only at this; omega) (fun _ => rfl) (fun _ _ => rfl) d).trans (after_10 m c _)
/-- Past a row block's first shard the modulated rows are kept. -/
theorem before_11 (c : Dev nD) (t : Fin cfg0.N) (h0 : ¬t.val % 4 = 0) (d) : (dats m 0 c).before 11 t d = hV m c t := by
  refine ((dats m 0 c).before_out_traj 11 rfl (fun _ _ => rfl) (fun s hs hi _ => ?_) t.val t rfl d).trans ?_
  · rw [after_11, after_11]
    rw [idle11] at hi
    exact (hV_prev m c s (by simpa using hi)).symm
  · rw [fresh11, decide_eq_false h0, if_neg (by decide), after_11]
    exact hV_prev m c t h0

/-- Past the first row block the loss holds what the point before left. -/
theorem before_14 (c : Dev nD) (t : Fin cfg0.N) (h0 : ¬t.val < 4) (d) : (dats m 0 c).before 14 t d = lossV m c (prev t) := by
  refine ((dats m 0 c).before_out_traj 14 rfl (fun _ _ => rfl) (fun s hs hi _ => ?_) t.val t rfl d).trans ?_
  · rw [after_14, after_14]
    rw [idle14] at hi
    exact loss_keep m c s hs (by simpa using hi)
  · rw [fresh14, decide_eq_false h0, if_neg (by decide), after_14]

/-! ## The body at a point -/

abbrev mem0 (t : Fin cfg0.N) : Memref sig .tc .vmem S1024x1024 .f32 := win0_0.stage (cfg0.slots t 0)
abbrev mem1 (t : Fin cfg0.N) : Memref sig .tc .vmem S1x1024 .f32 := win0_1.stage (cfg0.slots t 1)
abbrev mem2 (t : Fin cfg0.N) : Memref sig .tc .vmem S1x1024 .f32 := win0_2.stage (cfg0.slots t 2)
abbrev mem3 (t : Fin cfg0.N) : Memref sig .tc .vmem S1x1024 .f32 := win0_3.stage (cfg0.slots t 3)
abbrev mem4 (t : Fin cfg0.N) : Memref sig .tc .vmem S1x1024 .f32 := win0_4.stage (cfg0.slots t 4)
abbrev mem5 (t : Fin cfg0.N) : Memref sig .tc .vmem S1x704x1024 .bf16 := win0_5.stage (cfg0.slots t 5)
abbrev mem6 (t : Fin cfg0.N) : Memref sig .tc .vmem S1x704x1024 .bf16 := win0_6.stage (cfg0.slots t 6)
abbrev mem7 (t : Fin cfg0.N) : Memref sig .tc .vmem S1x704x1024 .bf16 := win0_7.stage (cfg0.slots t 7)
abbrev mem8 (t : Fin cfg0.N) : Memref sig .tc .vmem S1024x1024 .f32 := win0_8.stage (cfg0.slots t 8)
abbrev mem9 (t : Fin cfg0.N) : Memref sig .tc .vmem S1024x1024 .f32 := win0_9.stage (cfg0.slots t 9)
abbrev mem10 (t : Fin cfg0.N) : Memref sig .tc .vmem S1024x1024 .f32 := win0_10.stage (cfg0.slots t 10)
abbrev mem11 (t : Fin cfg0.N) : Memref sig .tc .vmem S1024x1024 .bf16 := win0_11.stage (cfg0.slots t 11)
abbrev mem12 (t : Fin cfg0.N) : Memref sig .tc .vmem S1x1024x704 .bf16 := win0_12.stage (cfg0.slots t 12)
abbrev mem13 (t : Fin cfg0.N) : Memref sig .tc .vmem S1x1024x704 .bf16 := win0_13.stage (cfg0.slots t 13)
abbrev mem14 (t : Fin cfg0.N) : Memref sig .tc .vmem S8x128 .f32 := win0_14.stage (cfg0.slots t 14)

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d))
    ∗ (∃ d, owns (c : Thread nD τ) (mem12 t) fullShare ((dats m 0 c).before 12 t d))
    ∗ (∃ d, owns (c : Thread nD τ) (mem13 t) fullShare ((dats m 0 c).before 13 t d))
    ∗ (∃ d, owns (c : Thread nD τ) (mem14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t)
    ∗ (match cfg0.idle 9 (cfg0.grid.coords t) with
      | true => match (cfg0.win 9).flush t with
        | false => iprop(∃ d, owns (c : Thread nD τ) (mem9 t) fullShare ((dats m 0 c).before 9 t d))
        | true => owns (c : Thread nD τ) (mem9 t) fullShare ((dats m 0 c).after 9 t)
      | false => owns (c : Thread nD τ) (mem9 t) fullShare ((dats m 0 c).after 9 t))
    ∗ owns (c : Thread nD τ) (mem10 t) fullShare ((dats m 0 c).after 10 t)
    ∗ (match cfg0.idle 11 (cfg0.grid.coords t) with
      | true => match (cfg0.win 11).flush t with
        | false => iprop(∃ d, owns (c : Thread nD τ) (mem11 t) fullShare ((dats m 0 c).before 11 t d))
        | true => owns (c : Thread nD τ) (mem11 t) fullShare ((dats m 0 c).after 11 t)
      | false => owns (c : Thread nD τ) (mem11 t) fullShare ((dats m 0 c).after 11 t))
    ∗ owns (c : Thread nD τ) (mem12 t) fullShare ((dats m 0 c).after 12 t)
    ∗ owns (c : Thread nD τ) (mem13 t) fullShare ((dats m 0 c).after 13 t)
    ∗ (match cfg0.idle 14 (cfg0.grid.coords t) with
      | true => match (cfg0.win 14).flush t with
        | false => iprop(∃ d, owns (c : Thread nD τ) (mem14 t) fullShare ((dats m 0 c).before 14 t d))
        | true => owns (c : Thread nD τ) (mem14 t) fullShare ((dats m 0 c).after 14 t)
      | false => owns (c : Thread nD τ) (mem14 t) fullShare ((dats m 0 c).after 14 t)))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [idle9, idle11, idle14, flush9, flush11, flush14]
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  have hN : t.val < 16 := lt16 t
  by_cases h0 : t.val % 4 = 0
  · have h1 : ¬t.val % 4 = 3 := by omega
    have h15 : ¬t.val = 15 := by omega
    rw [decide_eq_false h1, decide_eq_true h0, decide_eq_false h15]; simp only [Bool.not_true, Bool.not_false]
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((atFirst (F := F) c (grid0.coords t) _ _ _ _ _ _ _ _ _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) ((dats m 0 c).before 14 t d14)).2.2.2.property Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexact H14
    iintro ⟨H0, H1, H2, H3, H4, H5, H6, H7, H8, H9, ⟨%f10, H10⟩, ⟨%f11, H11⟩, ⟨%f12, H12⟩, ⟨%f13, H13⟩, H14⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9; iexact H9
    isplitl [H10]
    · unfold owns; iexists _; isplitr
      swap
      · iexact H10
      ipureintro; exact (readFirst_12 ((first_iff t).mpr h0) (fun h => h1 ((last_iff t).mp h)) _).trans (by rw [mix_first m c t h0, hV_first m c t h0])
    isplitl [H11]
    · unfold owns; iexists _; isplitr
      swap
      · iexact H11
      ipureintro; exact (readFirst_13 ((first_iff t).mpr h0) (fun h => h1 ((last_iff t).mp h)) _).trans (hV_first m c t h0).symm
    isplitl [H12]
    · unfold owns; iexists _; isplitr
      swap
      · iexact H12
      ipureintro; exact (readFirst_14 ((first_iff t).mpr h0) (fun h => h1 ((last_iff t).mp h)) _).trans (by unfold gateV; rw [hV_first m c t h0])
    isplitl [H13]
    · unfold owns; iexists _; isplitr
      swap
      · iexact H13
      ipureintro; exact (readFirst_15 ((first_iff t).mpr h0) (fun h => h1 ((last_iff t).mp h)) _).trans (by unfold upV; rw [hV_first m c t h0])
    iexists d14; iexact H14
  · simp only [before_10 m c t h0]
    by_cases h1 : t.val % 4 = 3
    · by_cases h2 : t.val < 4
      · rw [decide_eq_true h1, decide_eq_false h0]; simp only [Bool.not_true, Bool.not_false]
        simp only [before_11 m c t h0]
        iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((atStart (F := F) c (grid0.coords t) _ _ _ _ _ _ _ _ _ _ _ _ _ _ _ _ _ _ _ _ _ _ _ _ _ _ _ _ _ _ (fun h => h0 ((first_iff t).mp h)) ((last_iff t).mpr h1) ((start_iff t).mpr h2) (fun h => (later_iff t).mp h h2) (iblk m c 0 t) (iblk m c 1 t) (iblk m c 2 t) (iblk m c 3 t) (iblk m c 4 t) (iblk m c 5 t) (iblk m c 6 t) (iblk m c 7 t) (iblk m c 8 t) (mixV m c (prev t)) (hV m c t)).2.2.2.2.property Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [H11]; · iexact H11
        isplitl [H12]; · iexists _; iexact H12
        isplitl [H13]; · iexists _; iexact H13
        isplitl [H14]; · iexists _; iexact H14
        iintro ⟨H0, H1, H2, H3, H4, H5, H6, H7, H8, ⟨%f9, H9⟩, H10, H11, ⟨%f12, H12⟩, ⟨%f13, H13⟩, ⟨%f14, H14⟩⟩
        isplitl [Hg]; · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap
          · iexact H9
          ipureintro; exact (readStart_11 (fun h => h0 ((first_iff t).mp h)) ((last_iff t).mpr h1) ((start_iff t).mpr h2) (fun h => (later_iff t).mp h h2) _).trans (by unfold outV; rw [mix_next m c t h0])
        isplitl [H10]
        · unfold owns; iexists _; isplitr
          swap
          · iexact H10
          ipureintro; exact (readStart_12 (fun h => h0 ((first_iff t).mp h)) ((last_iff t).mpr h1) ((start_iff t).mpr h2) (fun h => (later_iff t).mp h h2)).trans (mix_next m c t h0).symm
        isplitl [H11]
        · iexact H11
        isplitl [H12]
        · unfold owns; iexists _; isplitr
          swap
          · iexact H12
          ipureintro; exact (readStart_14 (fun h => h0 ((first_iff t).mp h)) ((last_iff t).mpr h1) ((start_iff t).mpr h2) (fun h => (later_iff t).mp h h2) _).trans rfl
        isplitl [H13]
        · unfold owns; iexists _; isplitr
          swap
          · iexact H13
          ipureintro; exact (readStart_15 (fun h => h0 ((first_iff t).mp h)) ((last_iff t).mpr h1) ((start_iff t).mpr h2) (fun h => (later_iff t).mp h h2) _).trans rfl
        unfold owns; iexists _; isplitr
        swap
        · iexact H14
        ipureintro; exact (readStart_16 (fun h => h0 ((first_iff t).mp h)) ((last_iff t).mpr h1) ((start_iff t).mpr h2) (fun h => (later_iff t).mp h h2) _).trans (by rw [loss_start m c t h1 h2]; unfold partV; rw [mix_next m c t h0])
      · rw [decide_eq_true h1, decide_eq_false h0]; simp only [Bool.not_true, Bool.not_false]
        simp only [before_11 m c t h0]
        simp only [before_14 m c t h2]
        iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((atLast (F := F) c (grid0.coords t) _ _ _ _ _ _ _ _ _ _ _ _ _ _ _ _ _ _ _ _ _ _ _ _ _ _ _ _ _ _ (fun h => h0 ((first_iff t).mp h)) ((last_iff t).mpr h1) (fun h => h2 ((start_iff t).mp h)) ((later_iff t).mpr h2) (iblk m c 0 t) (iblk m c 1 t) (iblk m c 2 t) (iblk m c 3 t) (iblk m c 4 t) (iblk m c 5 t) (iblk m c 6 t) (iblk m c 7 t) (iblk m c 8 t) (mixV m c (prev t)) (hV m c t) (lossV m c (prev t))).2.2.2.2.property Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [H11]; · iexact H11
        isplitl [H12]; · iexists _; iexact H12
        isplitl [H13]; · iexists _; iexact H13
        isplitl [H14]; · iexact H14
        iintro ⟨H0, H1, H2, H3, H4, H5, H6, H7, H8, ⟨%f9, H9⟩, H10, H11, ⟨%f12, H12⟩, ⟨%f13, H13⟩, H14⟩
        isplitl [Hg]; · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap
          · iexact H9
          ipureintro; exact (readLast_11 (fun h => h0 ((first_iff t).mp h)) ((last_iff t).mpr h1) (fun h => h2 ((start_iff t).mp h)) ((later_iff t).mpr h2) _).trans (by unfold outV; rw [mix_next m c t h0])
        isplitl [H10]
        · unfold owns; iexists _; isplitr
          swap
          · iexact H10
          ipureintro; exact (readLast_12 (fun h => h0 ((first_iff t).mp h)) ((last_iff t).mpr h1) (fun h => h2 ((start_iff t).mp h)) ((later_iff t).mpr h2)).trans (mix_next m c t h0).symm
        isplitl [H11]
        · iexact H11
        isplitl [H12]
        · unfold owns; iexists _; isplitr
          swap
          · iexact H12
          ipureintro; exact (readLast_14 (fun h => h0 ((first_iff t).mp h)) ((last_iff t).mpr h1) (fun h => h2 ((start_iff t).mp h)) ((later_iff t).mpr h2) _).trans rfl
        isplitl [H13]
        · unfold owns; iexists _; isplitr
          swap
          · iexact H13
          ipureintro; exact (readLast_15 (fun h => h0 ((first_iff t).mp h)) ((last_iff t).mpr h1) (fun h => h2 ((start_iff t).mp h)) ((later_iff t).mpr h2) _).trans rfl
        unfold owns; iexists _; isplitr
        swap
        · iexact H14
        ipureintro; exact (readLast_16 (fun h => h0 ((first_iff t).mp h)) ((last_iff t).mpr h1) (fun h => h2 ((start_iff t).mp h)) ((later_iff t).mpr h2)).trans (by rw [loss_next m c t h1 h2]; unfold addV; rw [mix_next m c t h0])
    · have h15 : ¬t.val = 15 := by omega
      rw [decide_eq_false h1, decide_eq_false h0, decide_eq_false h15]; simp only [Bool.not_true, Bool.not_false]
      iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      rw [before_11 m c t h0]
      iapply ((atMiddle (F := F) c (grid0.coords t) _ _ _ _ _ _ _ _ _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) (mixV m c (prev t)) (hV m c t) ((dats m 0 c).before 14 t d14)).2.2.property Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexact H14
      iintro ⟨H0, H1, H2, H3, H4, H5, H6, H7, H8, H9, H10, H11, ⟨%f12, H12⟩, ⟨%f13, H13⟩, H14⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists d9; iexact H9
      isplitl [H10]
      · unfold owns; iexists _; isplitr
        swap
        · iexact H10
        ipureintro; exact (readMiddle_12 (fun h => h0 ((first_iff t).mp h)) (fun h => h1 ((last_iff t).mp h))).trans (mix_next m c t h0).symm
      isplitl [H11]
      · iexists d11; rw [before_11 m c t h0]; iexact H11
      isplitl [H12]
      · unfold owns; iexists _; isplitr
        swap
        · iexact H12
        ipureintro; exact (readMiddle_14 (fun h => h0 ((first_iff t).mp h)) (fun h => h1 ((last_iff t).mp h)) _).trans rfl
      isplitl [H13]
      · unfold owns; iexists _; isplitr
        swap
        · iexact H13
        ipureintro; exact (readMiddle_15 (fun h => h0 ((first_iff t).mp h)) (fun h => h1 ((last_iff t).mp h)) _).trans rfl
      iexists d14; iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The program runs; its arrays end as the proof data say; and every counter is zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, its arguments end unchanged, every counter is zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Loss

end
-- ==== Proof.LossMath.lean ====
/-
  The difference of the last layer from its target and its loss, as functions of indices.
-/
module

public import proofs.«01_k».proof.Proof.AttnAt
public import proofs.«01_k».proof.Proof.FwdMath

@[expose] public section

noncomputable section

namespace Cert.Loss

open Idealize.ShloMosaic Idealize.ShloMosaic.TcCoe Idealize.ShloMosaic.Tactic

/-! ## The constants -/

theorem ofBits_half : (Ideal.ofBits .f32 0x3F000000#32 : EReal) = ((1 / 2 : ℝ) : EReal) := by
  simp [Ideal.ofBits, Ideal.ieee, -EReal.coe_mul]; norm_num
theorem ofBits_width : (Ideal.ofBits .f32 0x44800000#32 : EReal) = ((1024 : ℝ) : EReal) := by
  simp [Ideal.ofBits, Ideal.ieee, -EReal.coe_mul]; norm_num
theorem ofBits_inv : (Ideal.ofBits .f32 0x3A800000#32 : EReal) = ((1 / 1024 : ℝ) : EReal) := by
  simp [Ideal.ofBits, Ideal.ieee, -EReal.coe_mul]; norm_num

/-! ## The gradient of the loss at one element -/

/-- Twice the difference, through the factors of the mean and of the half. -/
theorem grad_eq (d : EReal) :
    Ideal.div (Ideal.ofBits .f32 0x3F000000#32 * Ideal.ofBits .f32 0x3F800000#32) (Ideal.ofBits .f32 0x44800000#32)
      * (Ideal.ofBits .f32 0x40000000#32 * d) = d * Ideal.ofBits .f32 0x3A800000#32 := by
  rw [ofBits_half, ofBits_width, ofBits_inv, Cert.Attn.ofBits_two, Ideal.ofBits_one_f32, mul_one,
    Ideal.div_coe (by norm_num), ← mul_assoc, mul_comm d, ← EReal.coe_mul, ← EReal.coe_mul]
  norm_num

/-! ## The loss -/

section loss
variable (D : ℕ → ℕ → EReal)

/-- The mean over the features of a row's squares; half its sum over the first `n` rows, and over all. -/
def Row (r : ℕ) : EReal := (∑ d : Fin 1024, D r d.val * D r d.val) * Ideal.ofBits .f32 0x3A800000#32
def Upto (n : ℕ) : EReal := Ideal.ofBits .f32 0x3F000000#32 * ∑ r ∈ Finset.range n, Row D r
def Total : EReal := Ideal.ofBits .f32 0x3F000000#32 * ∑ r : Fin 4096, Row D r.val

theorem mul_self_nonneg (x : EReal) : 0 ≤ x * x := by
  rcases le_total 0 x with h | h
  · exact mul_nonneg h h
  · rw [← neg_mul_neg]
    exact mul_nonneg (EReal.neg_nonneg.mpr h) (EReal.neg_nonneg.mpr h)

theorem Row_nonneg (r : ℕ) : 0 ≤ Row D r := by
  unfold Row
  rw [ofBits_inv]
  exact mul_nonneg (Finset.sum_nonneg fun d _ => mul_self_nonneg _) (by exact_mod_cast (by norm_num : (0 : ℝ) ≤ 1 / 1024))

/-- One block of rows further. -/
theorem Upto_succ (n : ℕ) :
    Upto D (1024 * n) + Ideal.ofBits .f32 0x3F000000#32 * ∑ r : Fin 1024, Row D (1024 * n + r.val) = Upto D (1024 * (n + 1)) := by
  unfold Upto
  rw [← EReal.left_distrib_of_nonneg (Finset.sum_nonneg fun r _ => Row_nonneg D r) (Finset.sum_nonneg fun r _ => Row_nonneg D _),
    mul_add 1024, mul_one, Finset.sum_range_add, Fin.sum_univ_eq_sum_range (fun r => Row D (1024 * n + r)) 1024]

theorem Upto_zero : Ideal.ofBits .f32 0x3F000000#32 * ∑ r : Fin 1024, Row D (1024 * 0 + r.val) = Upto D (1024 * (0 + 1)) := by
  rw [← Upto_succ]
  simp [Upto]

theorem Upto_all : Upto D 4096 = Total D := congrArg (_ * ·) (Fin.sum_univ_eq_sum_range (Row D) 4096).symm

/-- A quotient by the width is the product with its inverse. -/
theorem Row_div (r : ℕ) : Ideal.div (∑ d : Fin 1024, D r d.val * D r d.val) (Ideal.ofBits .f32 0x44800000#32) = Row D r := by
  unfold Row
  rw [ofBits_width, ofBits_inv, Ideal.div_coe (by norm_num)]

end loss

end Cert.Loss

end
-- ==== Proof.LossBlock.lean ====
/-
  The values of the last layer's forward kernel that the plain layer's has not, at an index of a block.
-/
module

public import proofs.«01_k».proof.Proof.LossRead
public import proofs.«01_k».proof.Proof.LossMath
public import proofs.«01_k».proof.Proof.FwdBlock

@[expose] public section

set_option maxRecDepth 16384

noncomputable section

namespace Cert.Loss

open Cert.Kernel5Ideal Cert.Kernel5Ideal.Gen
open Idealize.ShloMosaic Idealize.ShloMosaic.TcCoe Idealize.ShloMosaic.Tactic

variable (x a t : Vec Ideal S1024x1024 .f32) (n : Vec Ideal S1x1024 .f32) (b : Vec Ideal S8x128 .f32)

/-- The difference of the block from the target's. -/
def diff (r d : Fin 1024) : EReal := x (ix2 r d) + n (ix2 0 d) * a (ix2 r d) - t (ix2 r d)

theorem pay7_at (r d : Fin 1024) : k0_pay7 x n a t (ix2 r d) = diff x a t n r d * Ideal.ofBits .f32 0x3A800000#32 := by
  open_payloads; pointwise; rfl

/-- The block's loss. -/
def part : EReal := Ideal.ofBits .f32 0x3F000000#32
  * ∑ r : Fin 1024, (∑ d : Fin 1024, diff x a t n r d * diff x a t n r d) * Ideal.ofBits .f32 0x3A800000#32

theorem pay8_at (p : Fin 8) (q : Fin 128) : k0_pay8 x n a t (ix2 p q) = part x a t n := by
  open_payloads; pointwise; rfl

theorem pay9_at (p : Fin 8) (q : Fin 128) : k0_pay9 x n a t b (ix2 p q) = b (ix2 p q) + part x a t n := by
  open_payloads; pointwise; rfl

end Cert.Loss

end
-- ==== Proof.LossArr.lean ====
/-
  What the last layer's forward kernel leaves in its six result arrays.
-/
module

public import proofs.«01_k».proof.Proof.LossFrame
public import proofs.«01_k».proof.Proof.LossBlock
public import Idealize.ShloMosaic.Lib.Claim
public import Idealize.ShloMosaic.Lib.Pipeline.ValueKit.Geometry
public import Idealize.ShloMosaic.Lib.Pipeline.ValueKit.Point

@[expose] public section

set_option maxRecDepth 16384

noncomputable section

namespace Cert.Loss

open Cert.Mlp Cert.Proj
open Cert.Fwd (Share Mix prod mixOf mixOf_at gate_at up_at exists_ix3)
open Cert.Kernel5Ideal Cert.Kernel5Ideal.Gen
open Idealize.ShloMosaic Idealize.ShloMosaic.TcCoe Idealize.ShloMosaic.Tactic

variable (m : (ℓ : Loc nD τ sig) → Buf (Elt Ideal) ℓ) (c : Dev nD)

/-- The arguments. -/
abbrev A0 : FVec Ideal S4096x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S1x1024 .f32 := m ((c : Thread nD τ).loc main_arg3)
abbrev A4 : FVec Ideal S1x1024 .f32 := m ((c : Thread nD τ).loc main_arg4)
abbrev A5 : FVec Ideal S8x704x1024 .f32 := m ((c : Thread nD τ).loc main_arg5)
abbrev A6 : FVec Ideal S4x704x1024 .f32 := m ((c : Thread nD τ).loc main_arg6)
abbrev A7 : FVec Ideal S4096x1024 .f32 := m ((c : Thread nD τ).loc main_arg7)

theorem V_wgu : V m c main_v0 = truncf .bf16 (A5 m c) bitsLt_bf16_f32 := by
  entry_read
  rfl
theorem V_wd : V m c main_v1 = truncf .bf16 (A6 m c) bitsLt_bf16_f32 := by
  entry_read
  rfl

/-! ## The blocks of a point -/

theorem j_lt (t : Fin cfg0.N) : t.val % 4 < 4 := by omega
theorem j_lt8 (t : Fin cfg0.N) : t.val % 4 < 8 := by omega
theorem up_lt (t : Fin cfg0.N) : 4 + t.val % 4 < 8 := by omega
theorem row_lt (t : Fin cfg0.N) (r : Fin 1024) : 1024 * (t.val / 4) + r.val < 4096 := by have := r.isLt; have := lt16 t; omega

/-- A row of a block, as a row of its array. -/
abbrev row (t : Fin cfg0.N) (r : Fin 1024) : Fin 4096 := ⟨1024 * (t.val / 4) + r.val, row_lt t r⟩

theorem idx_0 : ∀ t : Fin cfg0.N, win0_0.index t = ![t.val / 4, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![t.val % 4, 0, 0] := by decide +kernel
theorem idx_6 : ∀ t : Fin cfg0.N, win0_6.index t = ![4 + t.val % 4, 0, 0] := by decide +kernel
theorem idx_7 : ∀ t : Fin cfg0.N, win0_7.index t = ![t.val % 4, 0, 0] := by decide +kernel
theorem idx_8 : ∀ t : Fin cfg0.N, win0_8.index t = ![t.val / 4, 0] := by decide +kernel
theorem idx_9 : ∀ t : Fin cfg0.N, win0_9.index t = ![t.val / 4, 0] := by decide +kernel
theorem idx_10 : ∀ t : Fin cfg0.N, win0_10.index t = ![t.val / 4, 0] := by decide +kernel
theorem idx_11 : ∀ t : Fin cfg0.N, win0_11.index t = ![t.val / 4, 0] := by decide +kernel
theorem idx_12 : ∀ t : Fin cfg0.N, win0_12.index t = ![t.val % 4, t.val / 4, 0] := by decide +kernel
theorem idx_13 : ∀ t : Fin cfg0.N, win0_13.index t = ![t.val % 4, t.val / 4, 0] := by decide +kernel
theorem idx_14 : ∀ t : Fin cfg0.N, win0_14.index t = ![0, 0] := by decide +kernel

theorem blk_0 (t : Fin cfg0.N) (r d : Fin 1024) : (iblk m c 0 t : S1024x1024.Idx → EReal) (ix2 r d) = A0 m c (ix2 (row t r) d) := by
  have e : (iblk m c 0 t : S1024x1024.Idx → EReal) (ix2 r d) = (V m c main_arg0 : S4096x1024.Idx → EReal) (ix2 (row t r) d) := by
    blk_point [iblk, idx_0 t] <;> (simp; try omega)
  rw [e, V_main_arg0]

theorem row_0 (t : Fin cfg0.N) (r : Fin 1024) : el2 (iblk m c 0 t : S1024x1024.Idx → EReal) r.val = el2 (A0 m c) (1024 * (t.val / 4) + r.val) :=
  el2_row (iblk m c 0 t : S1024x1024.Idx → EReal) (A0 m c) r (row t r) fun l => blk_0 m c t r l

theorem row_1 (t : Fin cfg0.N) : el2 (iblk m c 1 t : S1x1024.Idx → EReal) 0 = el2 (A1 m c) 0 := by
  refine el2_row _ (A1 m c) 0 0 fun l => ?_
  have e : (iblk m c 1 t : S1x1024.Idx → EReal) (ix2 0 l) = (V m c main_arg1 : S1x1024.Idx → EReal) (ix2 0 l) := by
    blk_point [iblk, idx_1 t] <;> (simp; try omega)
  rw [e, V_main_arg1]

theorem row_2 (t : Fin cfg0.N) : el2 (iblk m c 2 t : S1x1024.Idx → EReal) 0 = el2 (A2 m c) 0 := by
  refine el2_row _ (A2 m c) 0 0 fun l => ?_
  have e : (iblk m c 2 t : S1x1024.Idx → EReal) (ix2 0 l) = (V m c main_arg2 : S1x1024.Idx → EReal) (ix2 0 l) := by
    blk_point [iblk, idx_2 t] <;> (simp; try omega)
  rw [e, V_main_arg2]

theorem row_3 (t : Fin cfg0.N) : el2 (iblk m c 3 t : S1x1024.Idx → EReal) 0 = el2 (A3 m c) 0 := by
  refine el2_row _ (A3 m c) 0 0 fun l => ?_
  have e : (iblk m c 3 t : S1x1024.Idx → EReal) (ix2 0 l) = (V m c main_arg3 : S1x1024.Idx → EReal) (ix2 0 l) := by
    blk_point [iblk, idx_3 t] <;> (simp; try omega)
  rw [e, V_main_arg3]

theorem blk_4 (t : Fin cfg0.N) (d : Fin 1024) : (iblk m c 4 t : S1x1024.Idx → EReal) (ix2 0 d) = el2 (A4 m c) 0 d.val := by
  have e : (iblk m c 4 t : S1x1024.Idx → EReal) (ix2 0 d) = (V m c main_arg4 : S1x1024.Idx → EReal) (ix2 0 d) := by
    blk_point [iblk, idx_4 t] <;> (simp; try omega)
  rw [e, V_main_arg4]
  exact el2_ix (A4 m c) 0 d

theorem blk_5 (t : Fin cfg0.N) (z : Fin 1) (f : Fin 704) (d : Fin 1024) :
    (iblk m c 5 t : S1x704x1024.Idx → EReal) (ix3 z f d) = el3 (A5 m c) (t.val % 4) f.val d.val := by
  have e : (iblk m c 5 t : S1x704x1024.Idx → EReal) (ix3 z f d) = (V m c main_v0 : S8x704x1024.Idx → EReal) (ix3 ⟨t.val % 4, j_lt8 t⟩ f d) := by
    blk_point [iblk, idx_5 t] <;> (simp; try omega)
  rw [e, V_wgu, ← el3_ix (A5 m c) ⟨t.val % 4, j_lt8 t⟩ f d]
  rfl

theorem blk_6 (t : Fin cfg0.N) (z : Fin 1) (f : Fin 704) (d : Fin 1024) :
    (iblk m c 6 t : S1x704x1024.Idx → EReal) (ix3 z f d) = el3 (A5 m c) (4 + t.val % 4) f.val d.val := by
  have e : (iblk m c 6 t : S1x704x1024.Idx → EReal) (ix3 z f d) = (V m c main_v0 : S8x704x1024.Idx → EReal) (ix3 ⟨4 + t.val % 4, up_lt t⟩ f d) := by
    blk_point [iblk, idx_6 t] <;> (simp; try omega)
  rw [e, V_wgu, ← el3_ix (A5 m c) ⟨4 + t.val % 4, up_lt t⟩ f d]
  rfl

theorem blk_7 (t : Fin cfg0.N) (z : Fin 1) (f : Fin 704) (d : Fin 1024) :
    (iblk m c 7 t : S1x704x1024.Idx → EReal) (ix3 z f d) = el3 (A6 m c) (t.val % 4) f.val d.val := by
  have e : (iblk m c 7 t : S1x704x1024.Idx → EReal) (ix3 z f d) = (V m c main_v1 : S4x704x1024.Idx → EReal) (ix3 ⟨t.val % 4, j_lt t⟩ f d) := by
    blk_point [iblk, idx_7 t] <;> (simp; try omega)
  rw [e, V_wd, ← el3_ix (A6 m c) ⟨t.val % 4, j_lt t⟩ f d]
  rfl

theorem blk_8 (t : Fin cfg0.N) (r d : Fin 1024) : (iblk m c 8 t : S1024x1024.Idx → EReal) (ix2 r d) = el2 (A7 m c) (1024 * (t.val / 4) + r.val) d.val := by
  have e : (iblk m c 8 t : S1024x1024.Idx → EReal) (ix2 r d) = (V m c main_arg7 : S4096x1024.Idx → EReal) (ix2 (row t r) d) := by
    blk_point [iblk, idx_8 t] <;> (simp; try omega)
  rw [e, V_main_arg7]
  exact el2_ix (A7 m c) (row t r) d

/-! ## The layer of the arguments -/

/-- The results: the modulated rows, the gate, the other factor, the mixture, the difference from the target. -/
abbrev gH (r d : ℕ) : EReal := H (el2 (A0 m c) r) (el2 (A1 m c) 0) (el2 (A2 m c) 0) (el2 (A3 m c) 0) d
abbrev gG (j r f : ℕ) : EReal := Ga (gH m c) (el3 (A5 m c)) j r f
abbrev gU (j r f : ℕ) : EReal := Up (gH m c) (el3 (A5 m c)) j r f
abbrev gM (r d : ℕ) : EReal := Mix (gH m c) (el3 (A5 m c)) (el3 (A6 m c)) r d
abbrev gD (r d : ℕ) : EReal := el2 (A0 m c) r d + el2 (A4 m c) 0 d * gM m c r d - el2 (A7 m c) r d
abbrev gO (r d : ℕ) : EReal := gD m c r d * Ideal.ofBits .f32 0x3A800000#32
abbrev gL (_ _ : ℕ) : EReal := Total (gD m c)

section point
variable (t : Fin cfg0.N) (z : Fin 1) (r d : Fin 1024) (f : Fin 704)

theorem hV_at : hV m c t (ix2 r d) = gH m c (1024 * (t.val / 4) + r.val) d.val := by
  have e : (base t).val / 4 = t.val / 4 := by show (t.val - t.val % 4) / 4 = t.val / 4; omega
  unfold hV
  unfold rowsOf
  rw [Cert.Fwd.pay7_at, row_0, row_1, row_2, row_3, e]

theorem gate_point : prod (iblk m c 5 t) (hV m c t) r f = gG m c (t.val % 4) (1024 * (t.val / 4) + r.val) f.val :=
  Finset.sum_congr rfl fun d _ => by rw [hV_at, blk_5]

theorem up_point : prod (iblk m c 6 t) (hV m c t) r f = gU m c (t.val % 4) (1024 * (t.val / 4) + r.val) f.val :=
  Finset.sum_congr rfl fun d _ => by rw [hV_at, blk_6]

theorem share_point (a : Vec Ideal S1024x1024 .f32) : mixOf (iblk m c 5 t) (iblk m c 6 t) (iblk m c 7 t) (hV m c t) a (ix2 r d)
    = a (ix2 r d) + Share (gH m c) (el3 (A5 m c)) (el3 (A6 m c)) (1024 * (t.val / 4) + r.val) d.val (t.val % 4) := by
  rw [mixOf_at]
  refine congrArg (a (ix2 r d) + ·) (Finset.sum_congr rfl fun f _ => ?_)
  rw [gate_point, up_point, blk_7]
  rfl

end point

/-! ## The running mixture -/

theorem zeros_at (r d : Fin 1024) : zeros (F := Ideal) (ix2 r d) = (0 : EReal) := Cert.Fwd.pay8_at r d

theorem mix_run (r d : Fin 1024) : ∀ (n : ℕ) (h : n < cfg0.N), mixV m c ⟨n, h⟩ (ix2 r d)
    = ∑ j ∈ Finset.range (n % 4 + 1), Share (gH m c) (el3 (A5 m c)) (el3 (A6 m c)) (1024 * (n / 4) + r.val) d.val j := by
  intro n
  induction n with
  | zero =>
    intro h
    rw [mix_first m c ⟨0, h⟩ rfl, share_point, zeros_at, zero_add]
    simp
  | succ n ih =>
    intro h
    by_cases h0 : (n + 1) % 4 = 0
    · rw [mix_first m c ⟨n + 1, h⟩ h0, share_point, zeros_at, zero_add, h0]
      simp [h0]
    · rw [mix_next m c ⟨n + 1, h⟩ h0, share_point]
      have e1 : (n + 1) / 4 = n / 4 := by omega
      have e2 : (n + 1) % 4 = n % 4 + 1 := by omega
      refine (congrArg (· + _) (ih (Nat.lt_of_succ_lt h))).trans ?_
      show _ + Share _ _ _ (1024 * ((n + 1) / 4) + r.val) d.val ((n + 1) % 4) = _
      rw [e1, e2, Finset.sum_range_succ _ (n % 4 + 1)]

theorem mix_last (t : Fin cfg0.N) (h : t.val % 4 = 3) (r d : Fin 1024) : mixV m c t (ix2 r d) = gM m c (1024 * (t.val / 4) + r.val) d.val := by
  rw [mix_run m c r d t.val t.isLt, h]
  exact (Fin.sum_univ_eq_sum_range (fun j => Share (gH m c) (el3 (A5 m c)) (el3 (A6 m c)) (1024 * (t.val / 4) + r.val) d.val j) 4).symm

theorem diff_last (t : Fin cfg0.N) (h : t.val % 4 = 3) (r d : Fin 1024) :
    diff (iblk m c 0 t) (mixV m c t) (iblk m c 8 t) (iblk m c 4 t) r d = gD m c (1024 * (t.val / 4) + r.val) d.val := by
  unfold diff
  rw [mix_last m c t h, blk_4, blk_0, blk_8, el2_ix (A0 m c) (row t r) d]

theorem out_last (t : Fin cfg0.N) (h : t.val % 4 = 3) (r d : Fin 1024) : outV m c t (ix2 r d) = gO m c (1024 * (t.val / 4) + r.val) d.val := by
  unfold outV
  rw [pay7_at, diff_last m c t h]

/-! ## The running loss -/

theorem part_last (t : Fin cfg0.N) (h : t.val % 4 = 3) : part (iblk m c 0 t) (mixV m c t) (iblk m c 8 t) (iblk m c 4 t)
    = Ideal.ofBits .f32 0x3F000000#32 * ∑ r : Fin 1024, Row (gD m c) (1024 * (t.val / 4) + r.val) := by
  unfold part Row
  simp only [diff_last m c t h]

theorem loss_run (p : Fin 8) (q : Fin 128) : ∀ (n : ℕ) (h : n < cfg0.N), 3 ≤ n → lossV m c ⟨n, h⟩ (ix2 p q) = Upto (gD m c) (1024 * ((n + 1) / 4)) := by
  intro n
  induction n with
  | zero => intro h hn; omega
  | succ n ih =>
    intro h hn
    by_cases h1 : (n + 1) % 4 = 3
    · have e : (n + 1 + 1) / 4 = (n + 1) / 4 + 1 := by omega
      by_cases h2 : n + 1 < 4
      · have e0 : (n + 1) / 4 = 0 := by omega
        rw [loss_start m c ⟨n + 1, h⟩ h1 h2]
        refine (pay8_at _ _ _ _ p q).trans ((part_last m c ⟨n + 1, h⟩ h1).trans ?_)
        show _ * ∑ r : Fin 1024, Row (gD m c) (1024 * ((n + 1) / 4) + r.val) = _
        rw [e, e0]
        exact Upto_zero (gD m c)
      · rw [loss_next m c ⟨n + 1, h⟩ h1 h2]
        refine (pay9_at _ _ _ _ _ p q).trans ?_
        refine (congrArg₂ (· + ·) (ih (Nat.lt_of_succ_lt h) (by omega)) (part_last m c ⟨n + 1, h⟩ h1)).trans ?_
        rw [e]
        exact Upto_succ (gD m c) ((n + 1) / 4)
    · have e : (n + 1 + 1) / 4 = (n + 1) / 4 := by omega
      rw [loss_keep m c ⟨n + 1, h⟩ (Nat.succ_ne_zero n) h1, e]
      exact ih (Nat.lt_of_succ_lt h) (by omega)

theorem loss_last (t : Fin cfg0.N) (h : t.val = 15) (p : Fin 8) (q : Fin 128) : lossV m c t (ix2 p q) = Total (gD m c) := by
  obtain ⟨n, hn⟩ := t
  obtain rfl : n = 15 := h
  exact (loss_run m c p q 15 hn (by omega)).trans (Upto_all (gD m c))

/-! ## The arrays -/

theorem arr_9 : (dats m 0 c).arrAt 9 cfg0.N = (of2 (gO m c) : S4096x1024.Idx → EReal) := by
  refine (dats m 0 c).arrAt_eq_of_covers 9 _ (by decide +kernel) fun t hf y => ?_
  blk_simp
  rw [after_9]
  have e0 : ((win0_9.blk t).view.emb y 0).val = 1024 * (t.val / 4) + (y 0).val := by blk_simp [idx_9 t] <;> (simp; try omega)
  have e1 : ((win0_9.blk t).view.emb y 1).val = (y 1).val := by blk_simp [idx_9 t] <;> (simp; try omega)
  unfold of2
  rw [e0, e1]
  obtain ⟨r, d, rfl⟩ := exists_ix2 y
  exact out_last m c t ((flush0_9 t).mp hf) r d

theorem arr_10 : (dats m 0 c).arrAt 10 cfg0.N = (of2 (gM m c) : S4096x1024.Idx → EReal) := by
  refine (dats m 0 c).arrAt_eq_of_covers 10 _ (by decide +kernel) fun t hf y => ?_
  blk_simp
  rw [after_10]
  have e0 : ((win0_10.blk t).view.emb y 0).val = 1024 * (t.val / 4) + (y 0).val := by blk_simp [idx_10 t] <;> (simp; try omega)
  have e1 : ((win0_10.blk t).view.emb y 1).val = (y 1).val := by blk_simp [idx_10 t] <;> (simp; try omega)
  unfold of2
  rw [e0, e1]
  obtain ⟨r, d, rfl⟩ := exists_ix2 y
  exact mix_last m c t ((flush0_10 t).mp hf) r d

theorem arr_11 : (dats m 0 c).arrAt 11 cfg0.N = (of2 (gH m c) : S4096x1024.Idx → EReal) := by
  refine (dats m 0 c).arrAt_eq_of_covers 11 _ (by decide +kernel) fun t hf y => ?_
  blk_simp
  rw [after_11]
  have e0 : ((win0_11.blk t).view.emb y 0).val = 1024 * (t.val / 4) + (y 0).val := by blk_simp [idx_11 t] <;> (simp; try omega)
  have e1 : ((win0_11.blk t).view.emb y 1).val = (y 1).val := by blk_simp [idx_11 t] <;> (simp; try omega)
  unfold of2
  rw [e0, e1]
  obtain ⟨r, d, rfl⟩ := exists_ix2 y
  exact hV_at m c t r d

theorem arr_12 : (dats m 0 c).arrAt 12 cfg0.N = (of3 (gG m c) : S4x4096x704.Idx → EReal) := by
  refine (dats m 0 c).arrAt_eq_of_covers 12 _ (by decide +kernel) fun t hf y => ?_
  blk_simp
  rw [after_12]
  have e0 : ((win0_12.blk t).view.emb y 0).val = t.val % 4 := by blk_simp [idx_12 t] <;> (simp; try omega)
  have e1 : ((win0_12.blk t).view.emb y 1).val = 1024 * (t.val / 4) + (y 1).val := by blk_simp [idx_12 t] <;> (simp; try omega)
  have e2 : ((win0_12.blk t).view.emb y 2).val = (y 2).val := by blk_simp [idx_12 t] <;> (simp; try omega)
  unfold of3
  rw [e0, e1, e2]
  obtain ⟨z, r, f, rfl⟩ := exists_ix3 y
  exact (gate_at (iblk m c 5 t) (hV m c t) z r f).trans (gate_point m c t r f)

theorem arr_13 : (dats m 0 c).arrAt 13 cfg0.N = (of3 (gU m c) : S4x4096x704.Idx → EReal) := by
  refine (dats m 0 c).arrAt_eq_of_covers 13 _ (by decide +kernel) fun t hf y => ?_
  blk_simp
  rw [after_13]
  have e0 : ((win0_13.blk t).view.emb y 0).val = t.val % 4 := by blk_simp [idx_13 t] <;> (simp; try omega)
  have e1 : ((win0_13.blk t).view.emb y 1).val = 1024 * (t.val / 4) + (y 1).val := by blk_simp [idx_13 t] <;> (simp; try omega)
  have e2 : ((win0_13.blk t).view.emb y 2).val = (y 2).val := by blk_simp [idx_13 t] <;> (simp; try omega)
  unfold of3
  rw [e0, e1, e2]
  obtain ⟨z, r, f, rfl⟩ := exists_ix3 y
  exact (up_at (iblk m c 6 t) (hV m c t) z r f).trans (up_point m c t r f)

theorem arr_14 : (dats m 0 c).arrAt 14 cfg0.N = (of2 (gL m c) : S8x128.Idx → EReal) := by
  refine (dats m 0 c).arrAt_eq_of_covers 14 _ (by decide +kernel) fun t hf y => ?_
  blk_simp
  rw [after_14]
  obtain ⟨p, q, rfl⟩ := exists_ix2 y
  exact loss_last m c t (of_decide_eq_true ((flush14 t).symm.trans hf)) p q

end Cert.Loss

end
-- ==== Proof.LossRef.lean ====
/-
  The plain last layer: the reference's lines as functions of the eight arguments, and their elements.
-/
module

public import proofs.«01_k».proof.Proof.Gen.Reference5Ideal.Run
public import proofs.«01_k».proof.Proof.FwdRef
public import proofs.«01_k».proof.Proof.LossMath
public import Idealize.ShloMosaic.Lib.Claim

@[expose] public section

set_option maxRecDepth 16384

noncomputable section

namespace Cert.Loss

open Cert.Mlp Cert.Proj
open Cert.Fwd (fM fO fO_at rows Mix)
open Cert.Reference5Ideal Cert.Reference5Ideal.Gen
open Idealize.ShloMosaic Idealize.ShloMosaic.TcCoe Idealize.ShloMosaic.Tactic

section terms
variable (a0 : FVec Ideal S4096x1024 .f32) (a1 a2 a3 a4 : FVec Ideal S1x1024 .f32) (a5 : FVec Ideal S8x704x1024 .f32) (a6 : FVec Ideal S4x704x1024 .f32)
  (a7 : FVec Ideal S4096x1024 .f32)

/-- The difference of the plain layer from the target; its gradient, and its loss. -/
def fD : FVec Ideal S4096x1024 .f32 := subf (fO a0 a1 a2 a3 a4 a5 a6) a7
def fWidth : FVec Ideal S4096 .f32 := broadcastInDim S4096 ![] bcast_S_S4096 (constant S_ .f32 0x44800000#32)
def fDy : FVec Ideal S4096x1024 .f32 :=
  mulf (broadcastInDim S4096x1024 ![0] bcast_S4096_S4096x1024_0 (Host.divf (broadcastInDim S4096 ![] bcast_S_S4096
      (mulf (constant S_ .f32 0x3F000000#32) (constant S_ .f32 0x3F800000#32))) fWidth))
    (mulf (broadcastInDim S4096x1024 ![] bcast_S_S4096x1024 (constant S_ .f32 0x40000000#32)) (fD a0 a1 a2 a3 a4 a5 a6 a7))
def fSq : FVec Ideal S4096 .f32 := Host.divf (Host.reduceAdd (mulf (fD a0 a1 a2 a3 a4 a5 a6 a7) (fD a0 a1 a2 a3 a4 a5 a6 a7))
  (constant S_ .f32 0x00000000#32) reducesTo_S4096x1024_S4096_d1 h_S_) fWidth
def fLoss : FVec Ideal S8x128 .f32 := broadcastInDim S8x128 ![] bcast_S_S8x128 (mulf (constant S_ .f32 0x3F000000#32)
  (Host.reduceAdd (fSq a0 a1 a2 a3 a4 a5 a6 a7) (constant S_ .f32 0x00000000#32) reducesTo_S4096_S_d0 h_S_))

/-! ## At an index -/

/-- The difference of the arguments. -/
abbrev gap (r d : ℕ) : EReal := el2 a0 r d + el2 a4 0 d * Mix (rows a0 a1 a2 a3) (el3 a5) (el3 a6) r d - el2 a7 r d

theorem fD_at (r : Fin 4096) (d : Fin 1024) : fD a0 a1 a2 a3 a4 a5 a6 a7 (ix2 r d) = gap a0 a1 a2 a3 a4 a5 a6 a7 r.val d.val := by
  pointwise [fD]
  rw [fO_at, el2_ix a7]

theorem fDy_at (r : Fin 4096) (d : Fin 1024) :
    fDy a0 a1 a2 a3 a4 a5 a6 a7 (ix2 r d) = gap a0 a1 a2 a3 a4 a5 a6 a7 r.val d.val * Ideal.ofBits .f32 0x3A800000#32 := by
  refine Eq.trans ?_ (grad_eq _)
  pointwise [fDy, fWidth]
  rw [fD_at]

theorem fSq_at (r : Fin 4096) : fSq a0 a1 a2 a3 a4 a5 a6 a7 (ix1 r) = Row (gap a0 a1 a2 a3 a4 a5 a6 a7) r.val := by
  refine Eq.trans ?_ (Row_div _ _)
  pointwise [fSq, fWidth]
  simp only [fD_at]

theorem fLoss_at (p : Fin 8) (q : Fin 128) : fLoss a0 a1 a2 a3 a4 a5 a6 a7 (ix2 p q) = Total (gap a0 a1 a2 a3 a4 a5 a6 a7) := by
  pointwise [fLoss]
  simp only [fSq_at]
  rfl

/-! ## The results -/

theorem ref_Dy : fDy a0 a1 a2 a3 a4 a5 a6 a7 = of2 fun r d => gap a0 a1 a2 a3 a4 a5 a6 a7 r d * Ideal.ofBits .f32 0x3A800000#32 :=
  eq_of2 _ _ fun r d => fDy_at a0 a1 a2 a3 a4 a5 a6 a7 r d
theorem ref_Loss : fLoss a0 a1 a2 a3 a4 a5 a6 a7 = of2 fun _ _ => Total (gap a0 a1 a2 a3 a4 a5 a6 a7) :=
  eq_of2 _ _ fun p q => fLoss_at a0 a1 a2 a3 a4 a5 a6 a7 p q

end terms

variable (m : (ℓ : Loc nD τ sig) → Buf (Elt Ideal) ℓ) (c : Dev nD)

theorem res_Dy : Cert.Reference5Ideal.Value.res_main_v47 m c
    = fDy (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := rfl

theorem res_M : Cert.Reference5Ideal.Value.res_main_v26 m c
    = fM (m ((c : Thread nD τ).loc main_arg0)) (m ((c : Thread nD τ).loc main_arg1)) (m ((c : Thread nD τ).loc main_arg2)) (m ((c : Thread nD τ).loc main_arg3))
      (m ((c : Thread nD τ).loc main_arg5)) (m ((c : Thread nD τ).loc main_arg6)) := rfl

theorem res_Loss : Cert.Reference5Ideal.Value.res_main_v48 m c
    = fLoss (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := rfl

end Cert.Loss

end
-- ==== Proof.LossClaims.lean ====
/-
  The claims on the last layer's forward pass and its loss: the frames and the equality of its results with the reference's.
-/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.LossArr
public import proofs.«01_k».proof.Proof.LossRef

@[expose] public section

set_option maxRecDepth 16384

noncomputable section

namespace Cert.Loss

open Idealize.ShloMosaic Idealize.ShloMosaic.TcCoe Idealize.ShloMosaic.Tactic Idealize.SL.Sem
open Cert.Mlp (of3)
open Cert.Proj (of2)
open Cert.Fwd (fM oH oG oU ref_M ref_H ref_G ref_U)

/-! ## The frames -/

section same
variable {F : FTy → Type} [FloatOps F]

theorem body_same : @Cert.Kernel5.cc0_mlp_fwd_loss F _ _ = @Cert.Kernel5Ideal.cc0_mlp_fwd_loss F _ _ := rfl

/-- The two programs have the same body at every point, -/
theorem rows_same : Cert.Kernel5.defs₀ (F := F) = Cert.Kernel5Ideal.defs₀ (F := F) := by
  refine congrArg Defs.onTc (funext fun l => funext fun a => ?_)
  match l, a with
  | 0, (t, s) =>
    dsimp only
    rw [body_same]
    rfl
  | ⟨_ + 1, h⟩, _ => exact absurd h (Nat.not_lt.2 (Nat.le_add_left _ _))

/-- and the same pipeline around it. -/
theorem defs_same : Cert.Kernel5.defs (F := F) = Cert.Kernel5Ideal.defs (F := F) :=
  congrArg (Pipeline.defs Cert.Kernel5Ideal.pcfgs) rows_same

end same

theorem frame_p : Cert.quiescent_Kernel5 := fun m ρ _ => by
  rw [defs_same]
  exact frame_all (F := Bits) m ρ

theorem frame_pi : Cert.quiescent_Kernel5Ideal := fun m ρ _ => frame_all (F := Ideal) m ρ

theorem frame_ri : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-! ## The constants -/

theorem preserves : Cert.preserves_Kernel5_Kernel5Ideal := trivial

/-! ## The values -/

theorem same8 {α β γ δ η : Type} (f : α → β → β → β → β → γ → δ → α → η) {a0 b0 a7 b7 : α} {a1 b1 a2 b2 a3 b3 a4 b4 : β} {a5 b5 : γ} {a6 b6 : δ}
    (e0 : a0 = b0) (e1 : a1 = b1) (e2 : a2 = b2) (e3 : a3 = b3) (e4 : a4 = b4) (e5 : a5 = b5) (e6 : a6 = b6) (e7 : a7 = b7) :
    f a0 a1 a2 a3 a4 a5 a6 a7 = f b0 b1 b2 b3 b4 b5 b6 b7 := by subst e0 e1 e2 e3 e4 e5 e6 e7; rfl

theorem algebraic : Cert.algebraic_Kernel5Ideal_Reference5Ideal := fun m ρ m' ρ' _ hag => by
  refine ⟨fun c => of2 (gO m c), fun c => of2 (gM m c), fun c => of2 (gH m c), fun c => of3 (gG m c), fun c => of3 (gU m c), fun c => of2 (gL m c), ?_, ?_⟩
  · refine (θ_run Cert.Kernel5Ideal.defs _ _).mono (fun r h c => ?_)
      (θ_run_and (Cert.Kernel5Ideal.Gen.frame_of m ρ (dats m) (A_eq m) (run_main m ρ)) (run_main m ρ))
    exact ⟨((h.2 c).1 9).trans (arr_9 m c), ((h.2 c).1 10).trans (arr_10 m c), ((h.2 c).1 11).trans (arr_11 m c),
      ((h.2 c).1 12).trans (arr_12 m c), ((h.2 c).1 13).trans (arr_13 m c), ((h.2 c).1 14).trans (arr_14 m c), h.1 c⟩
  · refine (θ_run Cert.Reference5Ideal.defs _ _).mono (fun r h c => ?_) (Cert.Reference5Ideal.Value.run (F := Ideal) m' ρ')
    obtain ⟨e0, e1, e2, e3, e4, e5, e6, e7⟩ := hag c
    obtain ⟨h0, h1, h2, h3, h4, h5, h6⟩ := h c
    refine ⟨h0.trans ?_, h1.trans ?_, h2.trans ?_, h3.trans ?_, h4.trans ?_, h5.trans ?_, h6⟩
    · exact (res_Dy m' c).trans ((same8 fDy e0 e1 e2 e3 e4 e5 e6 e7).trans (ref_Dy _ _ _ _ _ _ _ _))
    · exact (res_M m' c).trans ((same8 (fun a0 a1 a2 a3 _ a5 a6 _ => fM a0 a1 a2 a3 a5 a6) e0 e1 e2 e3 e4 e5 e6 e7).trans (ref_M _ _ _ _ _ _))
    · exact (same8 (fun a0 a1 a2 a3 _ _ _ _ => oH a0 a1 a2 a3) e0 e1 e2 e3 e4 e5 e6 e7).trans (ref_H _ _ _ _)
    · exact (same8 (fun a0 a1 a2 a3 _ a5 _ _ => oG a0 a1 a2 a3 a5) e0 e1 e2 e3 e4 e5 e6 e7).trans (ref_G _ _ _ _ _)
    · exact (same8 (fun a0 a1 a2 a3 _ a5 _ _ => oU a0 a1 a2 a3 a5) e0 e1 e2 e3 e4 e5 e6 e7).trans (ref_U _ _ _ _ _)
    · exact (res_Loss m' c).trans ((same8 fLoss e0 e1 e2 e3 e4 e5 e6 e7).trans (ref_Loss _ _ _ _ _ _ _ _))

end Cert.Loss

end
-- ==== Proof.ForeArr.lean ====
/-
  What the input projection leaves in its four result arrays: the modulated rows against the rows of the weights, in four ranges of columns.
-/
module

public import proofs.«01_k».proof.Proof.Gen.Kernel6Ideal
public import proofs.«01_k».proof.Proof.Gen.Kernel6Ideal.Value
public import proofs.«01_k».proof.Proof.ProjMath
public import Idealize.ShloMosaic.Lib.Claim
public import Idealize.ShloMosaic.Lib.Pipeline.ValueKit

@[expose] public section

set_option maxRecDepth 16384

noncomputable section

namespace Cert.Fore

open Cert.Mlp Cert.Proj
open Cert.Kernel6Ideal Cert.Kernel6Ideal.Gen
open Idealize.ShloMosaic Idealize.ShloMosaic.TcCoe Idealize.ShloMosaic.Tactic

/-- The projection: the modulated row `r` against row `p` of the weights. -/
def prj {N : ℕ} (x : (⟨2, ![N, 1024]⟩ : Shape).Idx → EReal) (n s k : S1x1024.Idx → EReal) (w : S2048x1024.Idx → EReal) (r p : ℕ) : EReal :=
  ∑ d : Fin 1024, H (el2 x r) (el2 n 0) (el2 s 0) (el2 k 0) d.val * el2 w p d.val

/-- A range of columns of an array, at an index. -/
theorem cols_at {A B n : ℕ} (o : ℕ) (v : (⟨2, ![A, B]⟩ : Shape).Idx → EReal) (h : (⟨2, ![A, B]⟩ : Shape).Slices ![0, o] ⟨2, ![A, n]⟩)
    (f : ℕ → ℕ → EReal) (e : ∀ (r : Fin A) (p : Fin B), v (ix2 r p) = f r.val p.val) (r : Fin A) (p : Fin n) :
    extractStridedSlice ⟨2, ![A, n]⟩ ![0, o] v h (ix2 r p) = f r.val (o + p.val) := by
  refine Eq.trans (congrArg v ?_) (e r ⟨o + p.val, Nat.lt_of_lt_of_le (Nat.add_lt_add_left p.isLt o) (h.2 1)⟩)
  funext a
  match a with
  | 0 => exact Fin.ext (Nat.zero_add _)
  | 1 => rfl

/-! ## One point's values, of its blocks -/

section point
variable (x : FVec Ideal S512x1024 .f32) (n s k : FVec Ideal S1x1024 .f32) (w : FVec Ideal S2048x1024 .bf16)

theorem ld_x (x : Vec Ideal S512x1024 .f32) : View.ld x r0_0 = x := View.ld_unit_lit _ x (by decide)
theorem ld_v (x : Vec Ideal S1x1024 .f32) : View.ld x r0_1 = x := View.ld_unit_lit _ x (by decide)
theorem ld_w (x : Vec Ideal S2048x1024 .bf16) : View.ld x r0_2 = x := View.ld_unit_lit _ x (by decide)

theorem pay1_at (r : Fin 512) (p : Fin 2048) : k0_pay1 (F := Ideal) x n s k w (ix2 r p) = prj x n s k w r.val p.val := by
  open_payloads; pointwise
  simp only [el2_ix x, el2_ix n, el2_ix s, el2_ix k, el2_ix w]
  rfl

theorem out_5 (r : Fin 512) (p : Fin 384) : out0_5 (F := Ideal) x n s k w (ix2 r p) = prj x n s k w r.val p.val := by
  unfold out0_5
  rw [View.canon_cons_unit_lit _ _ _ (by decide)]
  rw [ld_x, ld_v, ld_v, ld_v, ld_w]
  exact (cols_at 0 _ (by decide) _ (pay1_at x n s k w) r p).trans (by rw [Nat.zero_add])

theorem out_6 (r : Fin 512) (p : Fin 512) : out0_6 (F := Ideal) x n s k w (ix2 r p) = prj x n s k w r.val (384 + p.val) := by
  unfold out0_6
  rw [View.canon_cons_unit_lit _ _ _ (by decide)]
  rw [ld_x, ld_v, ld_v, ld_v, ld_w]
  exact cols_at 384 _ (by decide) _ (pay1_at x n s k w) r p

theorem out_7 (r : Fin 512) (p : Fin 1024) : out0_7 (F := Ideal) x n s k w (ix2 r p) = prj x n s k w r.val (896 + p.val) := by
  unfold out0_7
  rw [View.canon_cons_unit_lit _ _ _ (by decide)]
  rw [ld_x, ld_v, ld_v, ld_v, ld_w]
  exact cols_at 896 _ (by decide) _ (pay1_at x n s k w) r p

theorem out_8 (r : Fin 512) (p : Fin 128) : out0_8 (F := Ideal) x n s k w (ix2 r p) = prj x n s k w r.val (1920 + p.val) := by
  unfold out0_8
  rw [View.canon_cons_unit_lit _ _ _ (by decide)]
  rw [ld_x, ld_v, ld_v, ld_v, ld_w]
  exact cols_at 1920 _ (by decide) _ (pay1_at x n s k w) r p

end point

variable (m : (ℓ : Loc nD τ sig) → Buf (Elt Ideal) ℓ) (c : Dev nD)

/-- The arguments. -/
abbrev A0 : FVec Ideal S4096x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S1x1024 .f32 := m ((c : Thread nD τ).loc main_arg3)
abbrev A4 : FVec Ideal S2048x1024 .f32 := m ((c : Thread nD τ).loc main_arg4)

theorem V_w : V m c main_v0 = truncf .bf16 (A4 m c) bitsLt_bf16_f32 := by
  entry_read
  rfl

/-! ## The blocks of a point -/

theorem lt8 (t : Fin cfg0.N) : t.val < 8 := Nat.lt_of_lt_of_eq t.isLt N_0

/-- A row of a block, as a row of its array. -/
abbrev row (t : Fin cfg0.N) (r : Fin 512) : Fin 4096 := ⟨512 * t.val + r.val, by have := r.isLt; have := lt8 t; omega⟩

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![t.val, 0] := by decide +kernel
theorem idx_6 : ∀ t : Fin cfg0.N, win0_6.index t = ![t.val, 0] := by decide +kernel
theorem idx_7 : ∀ t : Fin cfg0.N, win0_7.index t = ![t.val, 0] := by decide +kernel
theorem idx_8 : ∀ t : Fin cfg0.N, win0_8.index t = ![t.val, 0] := by decide +kernel

theorem row_0 (t : Fin cfg0.N) (r : Fin 512) : el2 (iblk m c 0 t : S512x1024.Idx → EReal) r.val = el2 (A0 m c) (512 * t.val + r.val) := by
  refine el2_row _ (A0 m c) r (row t r) fun l => ?_
  have e : (iblk m c 0 t : S512x1024.Idx → EReal) (ix2 r l) = (V m c main_arg0 : S4096x1024.Idx → EReal) (ix2 (row t r) l) := by
    blk_point [iblk, idx_0 t] <;> (simp; try omega)
  rw [e, V_main_arg0]

theorem row_1 (t : Fin cfg0.N) : el2 (iblk m c 1 t : S1x1024.Idx → EReal) 0 = el2 (A1 m c) 0 := by
  refine el2_row (iblk m c 1 t : S1x1024.Idx → EReal) (A1 m c) 0 0 fun l => ?_
  have e : (iblk m c 1 t : S1x1024.Idx → EReal) (ix2 0 l) = (V m c main_arg1 : S1x1024.Idx → EReal) (ix2 0 l) := by
    blk_point [iblk, idx_1 t] <;> (simp; try omega)
  rw [e, V_main_arg1]

theorem row_2 (t : Fin cfg0.N) : el2 (iblk m c 2 t : S1x1024.Idx → EReal) 0 = el2 (A2 m c) 0 := by
  refine el2_row (iblk m c 2 t : S1x1024.Idx → EReal) (A2 m c) 0 0 fun l => ?_
  have e : (iblk m c 2 t : S1x1024.Idx → EReal) (ix2 0 l) = (V m c main_arg2 : S1x1024.Idx → EReal) (ix2 0 l) := by
    blk_point [iblk, idx_2 t] <;> (simp; try omega)
  rw [e, V_main_arg2]

theorem row_3 (t : Fin cfg0.N) : el2 (iblk m c 3 t : S1x1024.Idx → EReal) 0 = el2 (A3 m c) 0 := by
  refine el2_row (iblk m c 3 t : S1x1024.Idx → EReal) (A3 m c) 0 0 fun l => ?_
  have e : (iblk m c 3 t : S1x1024.Idx → EReal) (ix2 0 l) = (V m c main_arg3 : S1x1024.Idx → EReal) (ix2 0 l) := by
    blk_point [iblk, idx_3 t] <;> (simp; try omega)
  rw [e, V_main_arg3]

theorem row_4 (t : Fin cfg0.N) (p : Fin 2048) : el2 (iblk m c 4 t : S2048x1024.Idx → EReal) p.val = el2 (A4 m c) p.val := by
  refine el2_row _ (A4 m c) p p fun l => ?_
  have e : (iblk m c 4 t : S2048x1024.Idx → EReal) (ix2 p l) = (V m c main_v0 : S2048x1024.Idx → EReal) (ix2 p l) := by
    blk_point [iblk, idx_4 t] <;> (simp; try omega)
  rw [e, V_w]
  rfl

/-- The projection of the arguments. -/
abbrev P (r p : ℕ) : EReal := prj (A0 m c) (A1 m c) (A2 m c) (A3 m c) (A4 m c) r p

theorem prj_blk (t : Fin cfg0.N) (r : Fin 512) (p : ℕ) (hp : p < 2048) :
    prj (iblk m c 0 t : S512x1024.Idx → EReal) (iblk m c 1 t : S1x1024.Idx → EReal) (iblk m c 2 t : S1x1024.Idx → EReal)
      (iblk m c 3 t : S1x1024.Idx → EReal) (iblk m c 4 t : S2048x1024.Idx → EReal) r.val p = P m c (512 * t.val + r.val) p := by
  unfold P prj
  rw [row_0, row_1, row_2, row_3, row_4 m c t ⟨p, hp⟩]

/-! ## The result arrays -/

theorem arr_5 : (dats m 0 c).arrAt 5 cfg0.N = (of2 (fun r p => P m c r (p)) : S4096x384.Idx → EReal) := by
  refine (dats m 0 c).arrAt_eq_of_covers 5 _ (by decide +kernel) fun t hf y => ?_
  blk_simp
  rw [after0_5]
  have e0 : ((win0_5.blk t).view.emb y 0).val = 512 * t.val + (y 0).val := by blk_simp [idx_5 t] <;> (simp; try omega)
  have e1 : ((win0_5.blk t).view.emb y 1).val = (y 1).val := by blk_simp [idx_5 t] <;> (simp; try omega)
  unfold of2
  rw [e0, e1]
  obtain ⟨r, p, rfl⟩ := exists_ix2 y
  exact (out_5 _ _ _ _ _ r p).trans (prj_blk m c t r p.val (by have := p.isLt; omega))

theorem arr_6 : (dats m 0 c).arrAt 6 cfg0.N = (of2 (fun r p => P m c r (384 + p)) : S4096x512.Idx → EReal) := by
  refine (dats m 0 c).arrAt_eq_of_covers 6 _ (by decide +kernel) fun t hf y => ?_
  blk_simp
  rw [after0_6]
  have e0 : ((win0_6.blk t).view.emb y 0).val = 512 * t.val + (y 0).val := by blk_simp [idx_6 t] <;> (simp; try omega)
  have e1 : ((win0_6.blk t).view.emb y 1).val = (y 1).val := by blk_simp [idx_6 t] <;> (simp; try omega)
  unfold of2
  rw [e0, e1]
  obtain ⟨r, p, rfl⟩ := exists_ix2 y
  exact (out_6 _ _ _ _ _ r p).trans (prj_blk m c t r (384 + p.val) (by have := p.isLt; omega))

theorem arr_7 : (dats m 0 c).arrAt 7 cfg0.N = (of2 (fun r p => P m c r (896 + p)) : S4096x1024.Idx → EReal) := by
  refine (dats m 0 c).arrAt_eq_of_covers 7 _ (by decide +kernel) fun t hf y => ?_
  blk_simp
  rw [after0_7]
  have e0 : ((win0_7.blk t).view.emb y 0).val = 512 * t.val + (y 0).val := by blk_simp [idx_7 t] <;> (simp; try omega)
  have e1 : ((win0_7.blk t).view.emb y 1).val = (y 1).val := by blk_simp [idx_7 t] <;> (simp; try omega)
  unfold of2
  rw [e0, e1]
  obtain ⟨r, p, rfl⟩ := exists_ix2 y
  exact (out_7 _ _ _ _ _ r p).trans (prj_blk m c t r (896 + p.val) (by have := p.isLt; omega))

theorem arr_8 : (dats m 0 c).arrAt 8 cfg0.N = (of2 (fun r p => P m c r (1920 + p)) : S4096x128.Idx → EReal) := by
  refine (dats m 0 c).arrAt_eq_of_covers 8 _ (by decide +kernel) fun t hf y => ?_
  blk_simp
  rw [after0_8]
  have e0 : ((win0_8.blk t).view.emb y 0).val = 512 * t.val + (y 0).val := by blk_simp [idx_8 t] <;> (simp; try omega)
  have e1 : ((win0_8.blk t).view.emb y 1).val = (y 1).val := by blk_simp [idx_8 t] <;> (simp; try omega)
  unfold of2
  rw [e0, e1]
  obtain ⟨r, p, rfl⟩ := exists_ix2 y
  exact (out_8 _ _ _ _ _ r p).trans (prj_blk m c t r (1920 + p.val) (by have := p.isLt; omega))

end Cert.Fore

end
-- ==== Proof.ForeClaims.lean ====
/-
  The claims on the input projection's forward pass: the frames and the equality of its results with the reference's.
-/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Reference6Ideal.Run
public import proofs.«01_k».proof.Proof.ForeArr
public import proofs.«01_k».proof.Proof.FwdRef

@[expose] public section

set_option maxRecDepth 16384

noncomputable section

namespace Cert.Fore

open Cert.Mlp
open Cert.Proj (of2 eq_of2)
open Cert.Fwd (fH fH_at)
open Idealize.ShloMosaic Idealize.ShloMosaic.TcCoe Idealize.ShloMosaic.Tactic Idealize.SL.Sem

/-! ## The frames -/

theorem frame_p : Cert.quiescent_Kernel6 := fun m ρ _ => Cert.Kernel6.Gen.frame (F := Bits) m ρ

theorem frame_pi : Cert.quiescent_Kernel6Ideal := fun m ρ _ => Cert.Kernel6Ideal.Gen.frame (F := Ideal) m ρ

theorem frame_ri : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-! ## The constants -/

theorem preserves : Cert.preserves_Kernel6_Kernel6Ideal := trivial

/-! ## The values -/

section terms
open Cert.Reference6Ideal Cert.Reference6Ideal.Gen
variable (a0 : FVec Ideal S4096x1024 .f32) (a1 a2 a3 : FVec Ideal S1x1024 .f32) (a4 : FVec Ideal S2048x1024 .f32)

/-- The reference's product and its four ranges of columns. -/
def rP : FVec Ideal S4096x2048 .f32 :=
  Host.dotGeneral dot_S4096x1024_S1024x2048_S4096x2048_1_0_0_1_n_n none (fH a0 a1 a2 a3)
    (transpose S1024x2048 [1, 0] a4 transposes_S2048x1024_S1024x2048_1_0)
/-- A range of its columns. -/
def rS (n o : ℕ) (h : S4096x2048.Slices ![0, o] ⟨2, ![4096, n]⟩) : FVec Ideal ⟨2, ![4096, n]⟩ .f32 := extractStridedSlice _ ![0, o] (rP a0 a1 a2 a3 a4) h

theorem rP_at (r : Fin 4096) (p : Fin 2048) : rP a0 a1 a2 a3 a4 (ix2 r p) = prj a0 a1 a2 a3 a4 r.val p.val := by
  pointwise [rP]
  unfold prj
  refine Finset.sum_congr rfl fun d _ => ?_
  rw [fH_at, el2_ix a4]

theorem rS_eq (n o : ℕ) (h) : rS a0 a1 a2 a3 a4 n o h = of2 fun r p => prj a0 a1 a2 a3 a4 r (o + p) :=
  eq_of2 _ _ fun r p => cols_at o _ h _ (rP_at a0 a1 a2 a3 a4) r p

end terms

theorem same5 {α β γ δ : Type} (f : α → β → β → β → γ → δ) {a0 b0 : α} {a1 b1 a2 b2 a3 b3 : β} {a4 b4 : γ}
    (e0 : a0 = b0) (e1 : a1 = b1) (e2 : a2 = b2) (e3 : a3 = b3) (e4 : a4 = b4) : f a0 a1 a2 a3 a4 = f b0 b1 b2 b3 b4 := by
  subst e0 e1 e2 e3 e4; rfl

theorem algebraic : Cert.algebraic_Kernel6Ideal_Reference6Ideal := fun m ρ m' ρ' _ hag => by
  refine ⟨fun c => of2 fun r p => P m c r p, fun c => of2 fun r p => P m c r (384 + p), fun c => of2 fun r p => P m c r (896 + p),
    fun c => of2 fun r p => P m c r (1920 + p), ?_, ?_⟩
  · refine (θ_run Cert.Kernel6Ideal.defs _ _).mono (fun r h c => ?_) (Cert.Kernel6Ideal.Value.run_blocks (F := Ideal) m ρ)
    exact ⟨(h c).1.trans (arr_5 m c), (h c).2.1.trans (arr_6 m c), (h c).2.2.1.trans (arr_7 m c), (h c).2.2.2.1.trans (arr_8 m c), (h c).2.2.2.2⟩
  · refine (θ_run Cert.Reference6Ideal.defs _ _).mono (fun r h c => ?_) (Cert.Reference6Ideal.Value.run (F := Ideal) m' ρ')
    obtain ⟨e0, e1, e2, e3, e4⟩ := hag c
    refine ⟨(h c).1.trans ?_, (h c).2.1.trans ?_, (h c).2.2.1.trans ?_, (h c).2.2.2.1.trans ?_, (h c).2.2.2.2⟩
    · exact (same5 (fun a0 a1 a2 a3 a4 => rS a0 a1 a2 a3 a4 384 0 (by decide)) e0 e1 e2 e3 e4).trans ((rS_eq _ _ _ _ _ 384 0 (by decide)).trans (by simp only [Nat.zero_add]))
    · exact (same5 (fun a0 a1 a2 a3 a4 => rS a0 a1 a2 a3 a4 512 384 (by decide)) e0 e1 e2 e3 e4).trans ((rS_eq _ _ _ _ _ 512 384 (by decide)))
    · exact (same5 (fun a0 a1 a2 a3 a4 => rS a0 a1 a2 a3 a4 1024 896 (by decide)) e0 e1 e2 e3 e4).trans ((rS_eq _ _ _ _ _ 1024 896 (by decide)))
    · exact (same5 (fun a0 a1 a2 a3 a4 => rS a0 a1 a2 a3 a4 128 1920 (by decide)) e0 e1 e2 e3 e4).trans ((rS_eq _ _ _ _ _ 128 1920 (by decide)))

end Cert.Fore

end
-- ==== Proof.OutArr.lean ====
/-
  What the output projection leaves in its result array: a row of the concatenated heads and of the other branch against the weights.
-/
module

public import proofs.«01_k».proof.Proof.Gen.Kernel7Ideal
public import proofs.«01_k».proof.Proof.Gen.Kernel7Ideal.Value
public import proofs.«01_k».proof.Proof.ProjMath
public import Idealize.ShloMosaic.Lib.Claim
public import Idealize.ShloMosaic.Lib.Pipeline.ValueKit

@[expose] public section

set_option maxRecDepth 16384

noncomputable section

namespace Cert.Out

open Cert.Mlp Cert.Proj
open Cert.Kernel7Ideal Cert.Kernel7Ideal.Gen
open Idealize.ShloMosaic Idealize.ShloMosaic.TcCoe Idealize.ShloMosaic.Tactic

/-- A row of the eight heads side by side, then of the other branch. -/
def cat (o : ℕ → ℕ → ℕ → EReal) (y : ℕ → ℕ → EReal) (r l : ℕ) : EReal := if l < 512 then o (l / 64) r (l % 64) else y r (l - 512)

/-- The result: the row itself and the gated projection of the concatenated row. -/
def res (x : ℕ → ℕ → EReal) (o : ℕ → ℕ → ℕ → EReal) (y : ℕ → ℕ → EReal) (g : ℕ → EReal) (w : ℕ → ℕ → EReal) (r d : ℕ) : EReal :=
  x r d + g d * ∑ l : Fin 1024, cat o y r l.val * w l.val d

/-! ## One point's values, of its blocks -/

section point
variable (x : FVec Ideal S512x1024 .f32) (o : FVec Ideal S8x512x64 .f32) (y : FVec Ideal S512x512 .f32) (g : FVec Ideal S1x1024 .f32)
  (w : FVec Ideal S1024x1024 .bf16)

theorem ld_x (x : Vec Ideal S512x1024 .f32) : View.ld x r0_0 = x := View.ld_unit_lit _ x (by decide)
theorem ld_o (x : Vec Ideal S8x512x64 .f32) : View.ld x r0_1 = x := View.ld_unit_lit _ x (by decide)
theorem ld_y (x : Vec Ideal S512x512 .f32) : View.ld x r0_2 = x := View.ld_unit_lit _ x (by decide)
theorem ld_g (x : Vec Ideal S1x1024 .f32) : View.ld x r0_3 = x := View.ld_unit_lit _ x (by decide)
theorem ld_w (x : Vec Ideal S1024x1024 .bf16) : View.ld x r0_4 = x := View.ld_unit_lit _ x (by decide)

theorem head_at (r : Fin 512) (q : Fin 8) (l : ℕ) (e : Fin 64) (h : l = 64 * q.val + e.val) : o (ix3 q r e) = cat (el3 o) (el2 y) r.val l := by
  refine (el3_ix o q r e).trans (Eq.trans ?_ (if_pos (by omega)).symm)
  rw [show l / 64 = q.val by omega, show l % 64 = e.val by omega]

theorem pay1_at (r : Fin 512) (d : Fin 1024) :
    k0_pay1 (F := Ideal) x o y g w (ix2 r d) = res (el2 x) (el3 o) (el2 y) (el2 g 0) (el2 w) r.val d.val := by
  open_payloads; pointwise
  refine congrArg₂ (· + ·) (el2_ix x r d) (congrArg₂ (· * ·) (el2_ix g 0 d) (Finset.sum_congr rfl fun l _ => congrArg₂ (· * ·) ?_ (el2_ix w l d)))
  split
  · exact head_at o y r 0 l.val _ (by dsimp only; omega)
  split
  · exact head_at o y r 1 l.val _ (by dsimp only; omega)
  split
  · exact head_at o y r 2 l.val _ (by dsimp only; omega)
  split
  · exact head_at o y r 3 l.val _ (by dsimp only; omega)
  split
  · exact head_at o y r 4 l.val _ (by dsimp only; omega)
  split
  · exact head_at o y r 5 l.val _ (by dsimp only; omega)
  split
  · exact head_at o y r 6 l.val _ (by dsimp only; omega)
  split
  · exact head_at o y r 7 l.val _ (by dsimp only; omega)
  · refine Eq.trans ?_ (if_neg (by omega : ¬ l.val < 512)).symm
    refine (el2_ix y r _).trans (congrArg (el2 y r.val) ?_)
    dsimp only
    omega

theorem out_5 (r : Fin 512) (d : Fin 1024) :
    out0_5 (F := Ideal) x o y g w (ix2 r d) = res (el2 x) (el3 o) (el2 y) (el2 g 0) (el2 w) r.val d.val := by
  unfold out0_5
  rw [View.canon_cons_unit_lit _ _ _ (by decide)]
  rw [ld_x, ld_o, ld_y, ld_g, ld_w]
  exact pay1_at x o y g w r d

end point

variable (m : (ℓ : Loc nD τ sig) → Buf (Elt Ideal) ℓ) (c : Dev nD)

/-- The arguments. -/
abbrev A0 : FVec Ideal S4096x1024 .f32 := m ((c : Thread nD τ).loc main_arg0)
abbrev A1 : FVec Ideal S8x4096x64 .f32 := m ((c : Thread nD τ).loc main_arg1)
abbrev A2 : FVec Ideal S4096x512 .f32 := m ((c : Thread nD τ).loc main_arg2)
abbrev A3 : FVec Ideal S1x1024 .f32 := m ((c : Thread nD τ).loc main_arg3)
abbrev A4 : FVec Ideal S1024x1024 .f32 := m ((c : Thread nD τ).loc main_arg4)

theorem V_w : V m c main_v0 = truncf .bf16 (A4 m c) bitsLt_bf16_f32 := by
  entry_read
  rfl

/-! ## The blocks of a point -/

theorem lt8 (t : Fin cfg0.N) : t.val < 8 := Nat.lt_of_lt_of_eq t.isLt N_0

/-- A row of a block, as a row of its array. -/
abbrev row (t : Fin cfg0.N) (r : Fin 512) : Fin 4096 := ⟨512 * t.val + r.val, by have := r.isLt; have := lt8 t; omega⟩

theorem idx_0 : ∀ t : Fin cfg0.N, win0_0.index t = ![t.val, 0] := by decide +kernel
theorem idx_1 : ∀ t : Fin cfg0.N, win0_1.index t = ![0, t.val, 0] := by decide +kernel
theorem idx_2 : ∀ t : Fin cfg0.N, win0_2.index t = ![t.val, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![t.val, 0] := by decide +kernel

theorem row_0 (t : Fin cfg0.N) (r : Fin 512) : el2 (iblk m c 0 t : S512x1024.Idx → EReal) r.val = el2 (A0 m c) (512 * t.val + r.val) := by
  refine el2_row (iblk m c 0 t : S512x1024.Idx → EReal) (A0 m c) r (row t r) fun l => ?_
  have e : (iblk m c 0 t : S512x1024.Idx → EReal) (ix2 r l) = (V m c main_arg0 : S4096x1024.Idx → EReal) (ix2 (row t r) l) := by
    blk_point [iblk, idx_0 t] <;> (simp; try omega)
  rw [e, V_main_arg0]

theorem row_2 (t : Fin cfg0.N) (r : Fin 512) : el2 (iblk m c 2 t : S512x512.Idx → EReal) r.val = el2 (A2 m c) (512 * t.val + r.val) := by
  refine el2_row (iblk m c 2 t : S512x512.Idx → EReal) (A2 m c) r (row t r) fun l => ?_
  have e : (iblk m c 2 t : S512x512.Idx → EReal) (ix2 r l) = (V m c main_arg2 : S4096x512.Idx → EReal) (ix2 (row t r) l) := by
    blk_point [iblk, idx_2 t] <;> (simp; try omega)
  rw [e, V_main_arg2]

theorem row_1 (t : Fin cfg0.N) (r : Fin 512) (h l : ℕ) (hh : h < 8) (hl : l < 64) :
    el3 (iblk m c 1 t : S8x512x64.Idx → EReal) h r.val l = el3 (A1 m c) h (512 * t.val + r.val) l := by
  have e : (iblk m c 1 t : S8x512x64.Idx → EReal) (ix3 ⟨h, hh⟩ r ⟨l, hl⟩) = (V m c main_arg1 : S8x4096x64.Idx → EReal) (ix3 ⟨h, hh⟩ (row t r) ⟨l, hl⟩) := by
    blk_point [iblk, idx_1 t] <;> (simp; try omega)
  rw [el3_of _ hh r.isLt hl, el3_of _ hh (row t r).isLt hl, e, V_main_arg1]

theorem row_3 (t : Fin cfg0.N) : el2 (iblk m c 3 t : S1x1024.Idx → EReal) 0 = el2 (A3 m c) 0 := by
  refine el2_row _ (A3 m c) 0 0 fun l => ?_
  have e : (iblk m c 3 t : S1x1024.Idx → EReal) (ix2 0 l) = (V m c main_arg3 : S1x1024.Idx → EReal) (ix2 0 l) := by
    blk_point [iblk, idx_3 t] <;> (simp; try omega)
  rw [e, V_main_arg3]

theorem row_4 (t : Fin cfg0.N) (p : Fin 1024) : el2 (iblk m c 4 t : S1024x1024.Idx → EReal) p.val = el2 (A4 m c) p.val := by
  refine el2_row _ (A4 m c) p p fun l => ?_
  have e : (iblk m c 4 t : S1024x1024.Idx → EReal) (ix2 p l) = (V m c main_v0 : S1024x1024.Idx → EReal) (ix2 p l) := by
    blk_point [iblk, idx_4 t] <;> (simp; try omega)
  rw [e, V_w]
  rfl

/-- The result of the arguments. -/
abbrev Rs : ℕ → ℕ → EReal := res (el2 (A0 m c)) (el3 (A1 m c)) (el2 (A2 m c)) (el2 (A3 m c) 0) (el2 (A4 m c))

theorem res_blk (t : Fin cfg0.N) (r : Fin 512) (d : ℕ) :
    res (el2 (iblk m c 0 t : S512x1024.Idx → EReal)) (el3 (iblk m c 1 t : S8x512x64.Idx → EReal)) (el2 (iblk m c 2 t : S512x512.Idx → EReal))
      (el2 (iblk m c 3 t : S1x1024.Idx → EReal) 0) (el2 (iblk m c 4 t : S1024x1024.Idx → EReal)) r.val d = Rs m c (512 * t.val + r.val) d := by
  unfold Rs res
  rw [row_0, row_3]
  refine congrArg _ (congrArg _ (Finset.sum_congr rfl fun l _ => ?_))
  rw [row_4]
  refine congrArg (· * _) ?_
  unfold cat
  rw [row_2]
  by_cases h : l.val < 512
  · rw [if_pos h, if_pos h]
    exact row_1 m c t r _ _ (by omega) (by omega)
  · rw [if_neg h, if_neg h]

/-! ## The result array -/

theorem arr_5 : (dats m 0 c).arrAt 5 cfg0.N = (of2 (Rs m c) : S4096x1024.Idx → EReal) := by
  refine (dats m 0 c).arrAt_eq_of_covers 5 _ (by decide +kernel) fun t hf y => ?_
  blk_simp
  rw [after0_5]
  have e0 : ((win0_5.blk t).view.emb y 0).val = 512 * t.val + (y 0).val := by blk_simp [idx_5 t] <;> (simp; try omega)
  have e1 : ((win0_5.blk t).view.emb y 1).val = (y 1).val := by blk_simp [idx_5 t] <;> (simp; try omega)
  unfold of2
  rw [e0, e1]
  obtain ⟨r, d, rfl⟩ := exists_ix2 y
  exact (out_5 _ _ _ _ _ r d).trans (res_blk m c t r d.val)

end Cert.Out

end
-- ==== Proof.OutClaims.lean ====
/-
  The claims on the output projection's forward pass: the frames and the equality of its result with the reference's.
-/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.Gen.Reference7Ideal.Run
public import proofs.«01_k».proof.Proof.OutArr

@[expose] public section

set_option maxRecDepth 16384

noncomputable section

namespace Cert.Out

open Cert.Mlp
open Cert.Proj (of2 eq_of2)
open Idealize.ShloMosaic Idealize.ShloMosaic.TcCoe Idealize.ShloMosaic.Tactic Idealize.SL.Sem

/-! ## The frames -/

theorem frame_p : Cert.quiescent_Kernel7 := fun m ρ _ => Cert.Kernel7.Gen.frame (F := Bits) m ρ

theorem frame_pi : Cert.quiescent_Kernel7Ideal := fun m ρ _ => Cert.Kernel7Ideal.Gen.frame (F := Ideal) m ρ

theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-! ## The constants -/

theorem preserves : Cert.preserves_Kernel7_Kernel7Ideal := trivial

/-! ## The values -/

section terms
open Cert.Reference7Ideal Cert.Reference7Ideal.Gen
variable (a0 : FVec Ideal S4096x1024 .f32) (a1 : FVec Ideal S8x4096x64 .f32) (a2 : FVec Ideal S4096x512 .f32) (a3 : FVec Ideal S1x1024 .f32)
  (a4 : FVec Ideal S1024x1024 .f32)

/-- The reference's concatenated rows and its result. -/
def rC : FVec Ideal S4096x1024 .f32 :=
  concatenate S4096x1024 1 [⟨S4096x512, shapeCast _ (transpose S4096x8x64 [1, 0, 2] a1 transposes_S8x4096x64_S4096x8x64_1_0_2) shapeCasts_S4096x8x64_S4096x512⟩,
    ⟨S4096x512, a2⟩] concatenates_S4096x512_S4096x512_S4096x1024_d1
def rR : FVec Ideal S4096x1024 .f32 :=
  addf a0 (mulf (broadcastInDim S4096x1024 ![0, 1] bcast_S1x1024_S4096x1024_0_1 a3)
    (Host.dotGeneral dot_S4096x1024_S1024x1024_S4096x1024_1_0_0_1_n_n none (rC a1 a2) a4))

theorem rC_at (r : Fin 4096) (l : Fin 1024) : rC a1 a2 (ix2 r l) = cat (el3 a1) (el2 a2) r.val l.val := by
  pointwise [rC]
  unfold cat
  by_cases h : l.val < 512
  · rw [dif_pos h, if_pos h]
    exact el3_ix a1 _ r _
  · rw [dif_neg h, if_neg h]
    exact el2_ix a2 r _

theorem rR_eq : rR a0 a1 a2 a3 a4 = of2 (res (el2 a0) (el3 a1) (el2 a2) (el2 a3 0) (el2 a4)) := eq_of2 _ _ fun r d => by
  pointwise [rR]
  refine congrArg₂ (· + ·) (el2_ix a0 r d) (congrArg₂ (· * ·) (el2_ix a3 0 d) (Finset.sum_congr rfl fun l _ => ?_))
  rw [rC_at, el2_ix a4]

end terms

theorem same5 {α β γ δ ε ζ : Type} (f : α → β → γ → δ → ε → ζ) {a0 b0 : α} {a1 b1 : β} {a2 b2 : γ} {a3 b3 : δ} {a4 b4 : ε}
    (e0 : a0 = b0) (e1 : a1 = b1) (e2 : a2 = b2) (e3 : a3 = b3) (e4 : a4 = b4) : f a0 a1 a2 a3 a4 = f b0 b1 b2 b3 b4 := by
  subst e0 e1 e2 e3 e4; rfl

theorem algebraic : Cert.algebraic_Kernel7Ideal_Reference7Ideal := fun m ρ m' ρ' _ hag => by
  refine ⟨fun c => of2 (Rs m c), ?_, ?_⟩
  · refine (θ_run Cert.Kernel7Ideal.defs _ _).mono (fun r h c => ?_) (Cert.Kernel7Ideal.Value.run_blocks (F := Ideal) m ρ)
    exact ⟨(h c).1.trans (arr_5 m c), (h c).2⟩
  · refine (θ_run Cert.Reference7Ideal.defs _ _).mono (fun r h c => ?_) (Cert.Reference7Ideal.Value.run (F := Ideal) m' ρ')
    obtain ⟨e0, e1, e2, e3, e4⟩ := hag c
    exact ⟨(h c).1.trans ((same5 rR e0 e1 e2 e3 e4).trans (rR_eq _ _ _ _ _)), (h c).2⟩

end Cert.Out

end
-- ==== Proof.lean ====
module

public import proofs.«01_k».proof.Defs
public import proofs.«01_k».proof.Proof.AttnClaims
public import proofs.«01_k».proof.Proof.MlpClaims
public import proofs.«01_k».proof.Proof.ProjClaims
public import proofs.«01_k».proof.Proof.FwdClaims
public import proofs.«01_k».proof.Proof.LossClaims
public import proofs.«01_k».proof.Proof.ForeClaims
public import proofs.«01_k».proof.Proof.OutClaims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Attn.facts_pre,
    Cert.Attn.frame_p, Cert.Attn.frame_pi, Cert.Attn.frame_pi_finite, Cert.Attn.frame_ri, Cert.Attn.frame_ri_finite,
    Cert.Mlp.frame_p, Cert.Mlp.frame_pi, Cert.Mlp.frame_ri,
    Cert.Proj.frame_p, Cert.Proj.frame_pi, Cert.Proj.frame_ri,
    Cert.Fwd.frame_p, Cert.Fwd.frame_pi, Cert.Fwd.frame_ri,
    Cert.Loss.frame_p, Cert.Loss.frame_pi, Cert.Loss.frame_ri,
    Cert.Fore.frame_p, Cert.Fore.frame_pi, Cert.Fore.frame_ri, Cert.Out.frame_p, Cert.Out.frame_pi, Cert.Out.frame_ri,
    Cert.Attn.preserves, Cert.Attn.algebraic, Cert.Mlp.preserves, Cert.Mlp.algebraic,
    Cert.Proj.preserves, Cert.Proj.algebraic, Cert.Fwd.preserves, Cert.Fwd.algebraic,
    Cert.Loss.preserves, Cert.Loss.algebraic,
    Cert.Fore.preserves, Cert.Fore.algebraic, Cert.Out.preserves, Cert.Out.algebraic⟩

end Cert.Proof

end
